-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1172_0)) (v1 : (c : Dev Cert.KernelIdeal.nD) → Buf (Elt Ideal) ((c.tc : Thread Cert.KernelIdeal.nD Cert.KernelIdeal.τ).loc Cert.KernelIdeal.main_v1180)) (v2 : (c : Dev Cert.KernelIdeal.nD) → Buf (Elt Ideal) ((c.tc : Thread Cert.KernelIdeal.nD Cert.KernelIdeal.τ).loc Cert.KernelIdeal.main_v1191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1172_0) = v0 c
          ∧ r.2.mem ((c.tc : Thread Cert.KernelIdeal.nD Cert.KernelIdeal.τ).loc Cert.KernelIdeal.main_v1180) = v1 c
          ∧ r.2.mem ((c.tc : Thread Cert.KernelIdeal.nD Cert.KernelIdeal.τ).loc Cert.KernelIdeal.main_v1191) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1199) = v0 c
          ∧ r.2.mem ((c.tc : Thread Cert.ReferenceIdeal.nD Cert.ReferenceIdeal.τ).loc Cert.ReferenceIdeal.main_v1197) = v1 c
          ∧ r.2.mem ((c.tc : Thread Cert.ReferenceIdeal.nD Cert.ReferenceIdeal.τ).loc Cert.ReferenceIdeal.main_v1209) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x80 : Shape := ⟨3, ![16, 2048, 80]⟩
abbrev S4x160x80x3 : Shape := ⟨4, ![4, 160, 80, 3]⟩
abbrev S4x160 : Shape := ⟨2, ![4, 160]⟩
abbrev S3x160x80x1 : Shape := ⟨4, ![3, 160, 80, 1]⟩
abbrev S3x160 : Shape := ⟨2, ![3, 160]⟩
abbrev S80x80x1 : Shape := ⟨3, ![80, 80, 1]⟩
abbrev S80 : Shape := ⟨1, ![80]⟩
abbrev S10x80 : Shape := ⟨2, ![10, 80]⟩
abbrev S10x160x80x5 : Shape := ⟨4, ![10, 160, 80, 5]⟩
abbrev S10x160 : Shape := ⟨2, ![10, 160]⟩
abbrev S10x80x160x1 : Shape := ⟨4, ![10, 80, 160, 1]⟩
abbrev S256x80x3 : Shape := ⟨3, ![256, 80, 3]⟩
abbrev S256 : Shape := ⟨1, ![256]⟩
abbrev S128x256 : Shape := ⟨2, ![128, 256]⟩
abbrev S_ : Shape := ⟨0, ![]⟩

class Facts : Prop where
  bcast_S_S16x2048x80 : S_.BroadcastsInDim S16x2048x80 (![] : Fin 0 → Fin S16x2048x80.rank)
  bcast_S_S4x160x80x3 : S_.BroadcastsInDim S4x160x80x3 (![] : Fin 0 → Fin S4x160x80x3.rank)
  bcast_S_S4x160 : S_.BroadcastsInDim S4x160 (![] : Fin 0 → Fin S4x160.rank)
  bcast_S_S3x160x80x1 : S_.BroadcastsInDim S3x160x80x1 (![] : Fin 0 → Fin S3x160x80x1.rank)
  bcast_S_S3x160 : S_.BroadcastsInDim S3x160 (![] : Fin 0 → Fin S3x160.rank)
  bcast_S_S80x80x1 : S_.BroadcastsInDim S80x80x1 (![] : Fin 0 → Fin S80x80x1.rank)
  bcast_S_S80 : S_.BroadcastsInDim S80 (![] : Fin 0 → Fin S80.rank)
  bcast_S_S10x80 : S_.BroadcastsInDim S10x80 (![] : Fin 0 → Fin S10x80.rank)
  bcast_S_S10x160x80x5 : S_.BroadcastsInDim S10x160x80x5 (![] : Fin 0 → Fin S10x160x80x5.rank)
  bcast_S_S10x160 : S_.BroadcastsInDim S10x160 (![] : Fin 0 → Fin S10x160.rank)
  bcast_S_S10x80x160x1 : S_.BroadcastsInDim S10x80x160x1 (![] : Fin 0 → Fin S10x80x160x1.rank)
  bcast_S_S256x80x3 : S_.BroadcastsInDim S256x80x3 (![] : Fin 0 → Fin S256x80x3.rank)
  bcast_S_S256 : S_.BroadcastsInDim S256 (![] : Fin 0 → Fin S256.rank)
  bcast_S_S128x256 : S_.BroadcastsInDim S128x256 (![] : Fin 0 → Fin S128x256.rank)

variable [Facts]

def fn_part2 {F : FTy → Type} [FloatOps F] (main_arg12 : FVec F S10x80 .f32) (main_arg13 : FVec F S80 .f32) (main_arg14 : FVec F S80 .f32) (main_arg15 : FVec F S256x80x3 .f32) (main_arg16 : FVec F S256 .f32) (main_arg17 : FVec F S128x256 .f32) (main_v2 : IVec S16x2048x80 1) (main_v5 : IVec S4x160x80x3 1) (main_v8 : IVec S4x160 1) (main_v11 : IVec S3x160x80x1 1) (main_v14 : IVec S3x160 1) (main_v17 : IVec S80x80x1 1) (main_v20 : IVec S80 1) (main_v23 : IVec S10x80 1) (main_v26 : IVec S10x80 1) (main_v29 : IVec S10x160x80x5 1) (main_v32 : IVec S10x160 1) (main_v35 : IVec S10x80x160x1 1) : IVec S16x2048x80 1 × IVec S4x160x80x3 1 × IVec S4x160 1 × IVec S3x160x80x1 1 × IVec S3x160 1 × IVec S80x80x1 1 × IVec S80 1 × IVec S10x80 1 × IVec S10x80 1 × IVec S10x160x80x5 1 × IVec S10x160 1 × IVec S10x80x160x1 1 × IVec S10x80 1 × IVec S80 1 × IVec S80 1 × IVec S256x80x3 1 × IVec S256 1 × IVec S128x256 1 :=
  let main_v36 : FVec F S10x80 .f32 := Host.absf main_arg12
  let main_cst_11 : FVec F S_ .f32 := constant S_ .f32 0x7F800000#32
  let main_v37 : FVec F S10x80 .f32 := broadcastInDim S10x80 ![] bcast_S_S10x80 main_cst_11
  let main_v38 : IVec S10x80 1 := cmpf .olt main_v36 main_v37
  let main_v39 : FVec F S80 .f32 := Host.absf main_arg13
  let main_cst_12 : FVec F S_ .f32 := constant S_ .f32 0x7F800000#32
  let main_v40 : FVec F S80 .f32 := broadcastInDim S80 ![] bcast_S_S80 main_cst_12
  let main_v41 : IVec S80 1 := cmpf .olt main_v39 main_v40
  let main_v42 : FVec F S80 .f32 := Host.absf main_arg14
  let main_cst_13 : FVec F S_ .f32 := constant S_ .f32 0x7F800000#32
  let main_v43 : FVec F S80 .f32 := broadcastInDim S80 ![] bcast_S_S80 main_cst_13
  let main_v44 : IVec S80 1 := cmpf .olt main_v42 main_v43
  let main_v45 : FVec F S256x80x3 .f32 := Host.absf main_arg15
  let main_cst_14 : FVec F S_ .f32 := constant S_ .f32 0x7F800000#32
  let main_v46 : FVec F S256x80x3 .f32 := broadcastInDim S256x80x3 ![] bcast_S_S256x80x3 main_cst_14
  let main_v47 : IVec S256x80x3 1 := cmpf .olt main_v45 main_v46
  let main_v48 : FVec F S256 .f32 := Host.absf main_arg16
  let main_cst_15 : FVec F S_ .f32 := constant S_ .f32 0x7F800000#32
  let main_v49 : FVec F S256 .f32 := broadcastInDim S256 ![] bcast_S_S256 main_cst_15
  let main_v50 : IVec S256 1 := cmpf .olt main_v48 main_v49
  let main_v51 : FVec F S128x256 .f32 := Host.absf main_arg17
  let main_cst_16 : FVec F S_ .f32 := constant S_ .f32 0x7F800000#32
  let main_v52 : FVec F S128x256 .f32 := broadcastInDim S128x256 ![] bcast_S_S128x256 main_cst_16
  let main_v53 : IVec S128x256 1 := cmpf .olt main_v51 main_v52
  (main_v2, main_v5, main_v8, main_v11, main_v14, main_v17, main_v20, main_v23, main_v26, main_v29, main_v32, main_v35, main_v38, main_v41, main_v44, main_v47, main_v50, main_v53)

def fn_part1 {F : FTy → Type} [FloatOps F] (main_arg6 : FVec F S80 .f32) (main_arg7 : FVec F S10x80 .f32) (main_arg8 : FVec F S10x80 .f32) (main_arg9 : FVec F S10x160x80x5 .f32) (main_arg10 : FVec F S10x160 .f32) (main_arg11 : FVec F S10x80x160x1 .f32) (main_arg12 : FVec F S10x80 .f32) (main_arg13 : FVec F S80 .f32) (main_arg14 : FVec F S80 .f32) (main_arg15 : FVec F S256x80x3 .f32) (main_arg16 : FVec F S256 .f32) (main_arg17 : FVec F S128x256 .f32) (main_v2 : IVec S16x2048x80 1) (main_v5 : IVec S4x160x80x3 1) (main_v8 : IVec S4x160 1) (main_v11 : IVec S3x160x80x1 1) (main_v14 : IVec S3x160 1) (main_v17 : IVec S80x80x1 1) : IVec S16x2048x80 1 × IVec S4x160x80x3 1 × IVec S4x160 1 × IVec S3x160x80x1 1 × IVec S3x160 1 × IVec S80x80x1 1 × IVec S80 1 × IVec S10x80 1 × IVec S10x80 1 × IVec S10x160x80x5 1 × IVec S10x160 1 × IVec S10x80x160x1 1 × IVec S10x80 1 × IVec S80 1 × IVec S80 1 × IVec S256x80x3 1 × IVec S256 1 × IVec S128x256 1 :=
  let main_v18 : FVec F S80 .f32 := Host.absf main_arg6
  let main_cst_5 : FVec F S_ .f32 := constant S_ .f32 0x7F800000#32
  let main_v19 : FVec F S80 .f32 := broadcastInDim S80 ![] bcast_S_S80 main_cst_5
  let main_v20 : IVec S80 1 := cmpf .olt main_v18 main_v19
  let main_v21 : FVec F S10x80 .f32 := Host.absf main_arg7
  let main_cst_6 : FVec F S_ .f32 := constant S_ .f32 0x7F800000#32
  let main_v22 : FVec F S10x80 .f32 := broadcastInDim S10x80 ![] bcast_S_S10x80 main_cst_6
  let main_v23 : IVec S10x80 1 := cmpf .olt main_v21 main_v22
  let main_v24 : FVec F S10x80 .f32 := Host.absf main_arg8
  let main_cst_7 : FVec F S_ .f32 := constant S_ .f32 0x7F800000#32
  let main_v25 : FVec F S10x80 .f32 := broadcastInDim S10x80 ![] bcast_S_S10x80 main_cst_7
  let main_v26 : IVec S10x80 1 := cmpf .olt main_v24 main_v25
  let main_v27 : FVec F S10x160x80x5 .f32 := Host.absf main_arg9
  let main_cst_8 : FVec F S_ .f32 := constant S_ .f32 0x7F800000#32
  let main_v28 : FVec F S10x160x80x5 .f32 := broadcastInDim S10x160x80x5 ![] bcast_S_S10x160x80x5 main_cst_8
  let main_v29 : IVec S10x160x80x5 1 := cmpf .olt main_v27 main_v28
  let main_v30 : FVec F S10x160 .f32 := Host.absf main_arg10
  let main_cst_9 : FVec F S_ .f32 := constant S_ .f32 0x7F800000#32
  let main_v31 : FVec F S10x160 .f32 := broadcastInDim S10x160 ![] bcast_S_S10x160 main_cst_9
  let main_v32 : IVec S10x160 1 := cmpf .olt main_v30 main_v31
  let main_v33 : FVec F S10x80x160x1 .f32 := Host.absf main_arg11
  let main_cst_10 : FVec F S_ .f32 := constant S_ .f32 0x7F800000#32
  let main_v34 : FVec F S10x80x160x1 .f32 := broadcastInDim S10x80x160x1 ![] bcast_S_S10x80x160x1 main_cst_10
  let main_v35 : IVec S10x80x160x1 1 := cmpf .olt main_v33 main_v34
  fn_part2 (F := F) main_arg12 main_arg13 main_arg14 main_arg15 main_arg16 main_arg17 main_v2 main_v5 main_v8 main_v11 main_v14 main_v17 main_v20 main_v23 main_v26 main_v29 main_v32 main_v35

def fn {F : FTy → Type} [FloatOps F] (main_arg0 : FVec F S16x2048x80 .f32) (main_arg1 : FVec F S4x160x80x3 .f32) (main_arg2 : FVec F S4x160 .f32) (main_arg3 : FVec F S3x160x80x1 .f32) (main_arg4 : FVec F S3x160 .f32) (main_arg5 : FVec F S80x80x1 .f32) (main_arg6 : FVec F S80 .f32) (main_arg7 : FVec F S10x80 .f32) (main_arg8 : FVec F S10x80 .f32) (main_arg9 : FVec F S10x160x80x5 .f32) (main_arg10 : FVec F S10x160 .f32) (main_arg11 : FVec F S10x80x160x1 .f32) (main_arg12 : FVec F S10x80 .f32) (main_arg13 : FVec F S80 .f32) (main_arg14 : FVec F S80 .f32) (main_arg15 : FVec F S256x80x3 .f32) (main_arg16 : FVec F S256 .f32) (main_arg17 : FVec F S128x256 .f32) : IVec S16x2048x80 1 × IVec S4x160x80x3 1 × IVec S4x160 1 × IVec S3x160x80x1 1 × IVec S3x160 1 × IVec S80x80x1 1 × IVec S80 1 × IVec S10x80 1 × IVec S10x80 1 × IVec S10x160x80x5 1 × IVec S10x160 1 × IVec S10x80x160x1 1 × IVec S10x80 1 × IVec S80 1 × IVec S80 1 × IVec S256x80x3 1 × IVec S256 1 × IVec S128x256 1 :=
  let main_v0 : FVec F S16x2048x80 .f32 := Host.absf main_arg0
  let main_cst : FVec F S_ .f32 := constant S_ .f32 0x7F800000#32
  let main_v1 : FVec F S16x2048x80 .f32 := broadcastInDim S16x2048x80 ![] bcast_S_S16x2048x80 main_cst
  let main_v2 : IVec S16x2048x80 1 := cmpf .olt main_v0 main_v1
  let main_v3 : FVec F S4x160x80x3 .f32 := Host.absf main_arg1
  let main_cst_0 : FVec F S_ .f32 := constant S_ .f32 0x7F800000#32
  let main_v4 : FVec F S4x160x80x3 .f32 := broadcastInDim S4x160x80x3 ![] bcast_S_S4x160x80x3 main_cst_0
  let main_v5 : IVec S4x160x80x3 1 := cmpf .olt main_v3 main_v4
  let main_v6 : FVec F S4x160 .f32 := Host.absf main_arg2
  let main_cst_1 : FVec F S_ .f32 := constant S_ .f32 0x7F800000#32
  let main_v7 : FVec F S4x160 .f32 := broadcastInDim S4x160 ![] bcast_S_S4x160 main_cst_1
  let main_v8 : IVec S4x160 1 := cmpf .olt main_v6 main_v7
  let main_v9 : FVec F S3x160x80x1 .f32 := Host.absf main_arg3
  let main_cst_2 : FVec F S_ .f32 := constant S_ .f32 0x7F800000#32
  let main_v10 : FVec F S3x160x80x1 .f32 := broadcastInDim S3x160x80x1 ![] bcast_S_S3x160x80x1 main_cst_2
  let main_v11 : IVec S3x160x80x1 1 := cmpf .olt main_v9 main_v10
  let main_v12 : FVec F S3x160 .f32 := Host.absf main_arg4
  let main_cst_3 : FVec F S_ .f32 := constant S_ .f32 0x7F800000#32
  let main_v13 : FVec F S3x160 .f32 := broadcastInDim S3x160 ![] bcast_S_S3x160 main_cst_3
  let main_v14 : IVec S3x160 1 := cmpf .olt main_v12 main_v13
  let main_v15 : FVec F S80x80x1 .f32 := Host.absf main_arg5
  let main_cst_4 : FVec F S_ .f32 := constant S_ .f32 0x7F800000#32
  let main_v16 : FVec F S80x80x1 .f32 := broadcastInDim S80x80x1 ![] bcast_S_S80x80x1 main_cst_4
  let main_v17 : IVec S80x80x1 1 := cmpf .olt main_v15 main_v16
  fn_part1 (F := F) main_arg6 main_arg7 main_arg8 main_arg9 main_arg10 main_arg11 main_arg12 main_arg13 main_arg14 main_arg15 main_arg16 main_arg17 main_v2 main_v5 main_v8 main_v11 main_v14 main_v17
-- ==== Kernel.lean ====
abbrev S16x2048x80 : Shape := ⟨3, ![16, 2048, 80]⟩
abbrev S4x160x80x3 : Shape := ⟨4, ![4, 160, 80, 3]⟩
abbrev S4x160 : Shape := ⟨2, ![4, 160]⟩
abbrev S3x160x80x1 : Shape := ⟨4, ![3, 160, 80, 1]⟩
abbrev S3x160 : Shape := ⟨2, ![3, 160]⟩
abbrev S80x80x1 : Shape := ⟨3, ![80, 80, 1]⟩
abbrev S80 : Shape := ⟨1, ![80]⟩
abbrev S10x80 : Shape := ⟨2, ![10, 80]⟩
abbrev S10x160x80x5 : Shape := ⟨4, ![10, 160, 80, 5]⟩
abbrev S10x160 : Shape := ⟨2, ![10, 160]⟩
abbrev S10x80x160x1 : Shape := ⟨4, ![10, 80, 160, 1]⟩
abbrev S256x80x3 : Shape := ⟨3, ![256, 80, 3]⟩
abbrev S256 : Shape := ⟨1, ![256]⟩
abbrev S128x256 : Shape := ⟨2, ![128, 256]⟩
abbrev S16x2048x1 : Shape := ⟨3, ![16, 2048, 1]⟩
abbrev S16x2048 : Shape := ⟨2, ![16, 2048]⟩
abbrev S_ : Shape := ⟨0, ![]⟩
abbrev S16x1x2048 : Shape := ⟨3, ![16, 1, 2048]⟩
abbrev S16x80x2048 : Shape := ⟨3, ![16, 80, 2048]⟩
abbrev S1x160x80x3 : Shape := ⟨4, ![1, 160, 80, 3]⟩
abbrev S160x80x3 : Shape := ⟨3, ![160, 80, 3]⟩
abbrev S1x160 : Shape := ⟨2, ![1, 160]⟩
abbrev S160 : Shape := ⟨1, ![160]⟩
abbrev S16x80x2050 : Shape := ⟨3, ![16, 80, 2050]⟩
abbrev S160x80x1 : Shape := ⟨3, ![160, 80, 1]⟩
abbrev S160x80 : Shape := ⟨2, ![160, 80]⟩
abbrev S16x2048x160 : Shape := ⟨3, ![16, 2048, 160]⟩
abbrev S16x160x2048 : Shape := ⟨3, ![16, 160, 2048]⟩
abbrev S1x160x1 : Shape := ⟨3, ![1, 160, 1]⟩
abbrev S1x160x80x1 : Shape := ⟨4, ![1, 160, 80, 1]⟩
abbrev S80x80 : Shape := ⟨2, ![80, 80]⟩
abbrev S1x80x1 : Shape := ⟨3, ![1, 80, 1]⟩
abbrev S1x80 : Shape := ⟨2, ![1, 80]⟩
abbrev S1x160x80x5 : Shape := ⟨4, ![1, 160, 80, 5]⟩
abbrev S160x80x5 : Shape := ⟨3, ![160, 80, 5]⟩
abbrev S16x80x2052 : Shape := ⟨3, ![16, 80, 2052]⟩
abbrev S1x80x160x1 : Shape := ⟨4, ![1, 80, 160, 1]⟩
abbrev S80x160x1 : Shape := ⟨3, ![80, 160, 1]⟩
abbrev S80x160 : Shape := ⟨2, ![80, 160]⟩
abbrev S256x80x1 : Shape := ⟨3, ![256, 80, 1]⟩
abbrev S256x80 : Shape := ⟨2, ![256, 80]⟩
abbrev S16x2048x256 : Shape := ⟨3, ![16, 2048, 256]⟩
abbrev S16x256x2048 : Shape := ⟨3, ![16, 256, 2048]⟩
abbrev S1x256x1 : Shape := ⟨3, ![1, 256, 1]⟩
abbrev S256x128 : Shape := ⟨2, ![256, 128]⟩
abbrev S16x1x128 : Shape := ⟨3, ![16, 1, 128]⟩
abbrev S1x2048x256 : Shape := ⟨3, ![1, 2048, 256]⟩
abbrev S1x1x128 : Shape := ⟨3, ![1, 1, 128]⟩
abbrev S2048x256 : Shape := ⟨2, ![2048, 256]⟩
abbrev S2048x128 : Shape := ⟨2, ![2048, 128]⟩
abbrev S128 : Shape := ⟨1, ![128]⟩
abbrev S1x128 : Shape := ⟨2, ![1, 128]⟩
abbrev S2048 : Shape := ⟨1, ![2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩
abbrev S16x128 : Shape := ⟨2, ![16, 128]⟩

abbrev nBuf : Space → Nat
  | .hbm => 1356
  | .vmem => 12
  | .smem => 0
  | _ => 0

abbrev hbmTy0_0 (i : Nat) : BufTy := match i % 128 with
  | 0 => ⟨S16x2048x80, .f32⟩
  | 1 => ⟨S4x160x80x3, .f32⟩
  | 2 => ⟨S4x160, .f32⟩
  | 3 => ⟨S3x160x80x1, .f32⟩
  | 4 => ⟨S3x160, .f32⟩
  | 5 => ⟨S80x80x1, .f32⟩
  | 6 => ⟨S80, .f32⟩
  | 7 => ⟨S10x80, .f32⟩
  | 8 => ⟨S10x80, .f32⟩
  | 9 => ⟨S10x160x80x5, .f32⟩
  | 10 => ⟨S10x160, .f32⟩
  | 11 => ⟨S10x80x160x1, .f32⟩
  | 12 => ⟨S10x80, .f32⟩
  | 13 => ⟨S80, .f32⟩
  | 14 => ⟨S80, .f32⟩
  | 15 => ⟨S256x80x3, .f32⟩
  | 16 => ⟨S256, .f32⟩
  | 17 => ⟨S128x256, .f32⟩
  | 18 => ⟨S16x2048x1, .f32⟩
  | 19 => ⟨S16x2048, .f32⟩
  | 20 => ⟨S_, .f32⟩
  | 21 => ⟨S16x2048, .f32⟩
  | 22 => ⟨S16x2048, .i1⟩
  | 23 => ⟨S16x2048, .i1⟩
  | 24 => ⟨S16x2048, .f32⟩
  | 25 => ⟨S16x1x2048, .f32⟩
  | 26 => ⟨S16x80x2048, .f32⟩
  | 27 => ⟨S_, .f32⟩
  | 28 => ⟨S16x80x2048, .f32⟩
  | 29 => ⟨S1x160x80x3, .f32⟩
  | 30 => ⟨S160x80x3, .f32⟩
  | 31 => ⟨S1x160, .f32⟩
  | 32 => ⟨S160, .f32⟩
  | 33 => ⟨S_, .i32⟩
  | 34 => ⟨S_, .f32⟩
  | 35 => ⟨S16x80x2050, .f32⟩
  | 36 => ⟨S160x80x1, .f32⟩
  | 37 => ⟨S160x80, .f32⟩
  | 38 => ⟨S16x80x2048, .f32⟩
  | 39 => ⟨S16x2048x160, .f32⟩
  | 40 => ⟨S16x160x2048, .f32⟩
  | 41 => ⟨S160x80x1, .f32⟩
  | 42 => ⟨S160x80, .f32⟩
  | 43 => ⟨S16x80x2048, .f32⟩
  | 44 => ⟨S16x2048x160, .f32⟩
  | 45 => ⟨S16x160x2048, .f32⟩
  | 46 => ⟨S16x160x2048, .f32⟩
  | 47 => ⟨S160x80x1, .f32⟩
  | 48 => ⟨S160x80, .f32⟩
  | 49 => ⟨S16x80x2048, .f32⟩
  | 50 => ⟨S16x2048x160, .f32⟩
  | 51 => ⟨S16x160x2048, .f32⟩
  | 52 => ⟨S16x160x2048, .f32⟩
  | 53 => ⟨S1x160x1, .f32⟩
  | 54 => ⟨S16x160x2048, .f32⟩
  | 55 => ⟨S16x160x2048, .f32⟩
  | 56 => ⟨S16x80x2048, .f32⟩
  | 57 => ⟨S16x80x2048, .f32⟩
  | 58 => ⟨S16x80x2048, .f32⟩
  | 59 => ⟨S16x80x2048, .f32⟩
  | 60 => ⟨S16x80x2048, .f32⟩
  | 61 => ⟨S_, .f32⟩
  | 62 => ⟨S16x80x2048, .f32⟩
  | 63 => ⟨S16x80x2048, .f32⟩
  | 64 => ⟨S_, .f32⟩
  | 65 => ⟨S16x80x2048, .f32⟩
  | 66 => ⟨S16x80x2048, .f32⟩
  | 67 => ⟨S16x80x2048, .f32⟩
  | 68 => ⟨S1x160x80x1, .f32⟩
  | 69 => ⟨S160x80x1, .f32⟩
  | 70 => ⟨S1x160, .f32⟩
  | 71 => ⟨S160, .f32⟩
  | 72 => ⟨S160x80, .f32⟩
  | 73 => ⟨S16x2048x160, .f32⟩
  | 74 => ⟨S16x160x2048, .f32⟩
  | 75 => ⟨S1x160x1, .f32⟩
  | 76 => ⟨S16x160x2048, .f32⟩
  | 77 => ⟨S16x160x2048, .f32⟩
  | 78 => ⟨S16x80x2048, .f32⟩
  | 79 => ⟨S16x80x2048, .f32⟩
  | 80 => ⟨S16x80x2048, .f32⟩
  | 81 => ⟨S16x80x2048, .f32⟩
  | 82 => ⟨S16x80x2048, .f32⟩
  | 83 => ⟨S16x80x2048, .f32⟩
  | 84 => ⟨S1x160x80x3, .f32⟩
  | 85 => ⟨S160x80x3, .f32⟩
  | 86 => ⟨S1x160, .f32⟩
  | 87 => ⟨S160, .f32⟩
  | 88 => ⟨S_, .i32⟩
  | 89 => ⟨S_, .f32⟩
  | 90 => ⟨S16x80x2050, .f32⟩
  | 91 => ⟨S160x80x1, .f32⟩
  | 92 => ⟨S160x80, .f32⟩
  | 93 => ⟨S16x80x2048, .f32⟩
  | 94 => ⟨S16x2048x160, .f32⟩
  | 95 => ⟨S16x160x2048, .f32⟩
  | 96 => ⟨S160x80x1, .f32⟩
  | 97 => ⟨S160x80, .f32⟩
  | 98 => ⟨S16x80x2048, .f32⟩
  | 99 => ⟨S16x2048x160, .f32⟩
  | 100 => ⟨S16x160x2048, .f32⟩
  | 101 => ⟨S16x160x2048, .f32⟩
  | 102 => ⟨S160x80x1, .f32⟩
  | 103 => ⟨S160x80, .f32⟩
  | 104 => ⟨S16x80x2048, .f32⟩
  | 105 => ⟨S16x2048x160, .f32⟩
  | 106 => ⟨S16x160x2048, .f32⟩
  | 107 => ⟨S16x160x2048, .f32⟩
  | 108 => ⟨S1x160x1, .f32⟩
  | 109 => ⟨S16x160x2048, .f32⟩
  | 110 => ⟨S16x160x2048, .f32⟩
  | 111 => ⟨S16x80x2048, .f32⟩
  | 112 => ⟨S16x80x2048, .f32⟩
  | 113 => ⟨S16x80x2048, .f32⟩
  | 114 => ⟨S16x80x2048, .f32⟩
  | 115 => ⟨S16x80x2048, .f32⟩
  | 116 => ⟨S_, .f32⟩
  | 117 => ⟨S16x80x2048, .f32⟩
  | 118 => ⟨S16x80x2048, .f32⟩
  | 119 => ⟨S_, .f32⟩
  | 120 => ⟨S16x80x2048, .f32⟩
  | 121 => ⟨S16x80x2048, .f32⟩
  | 122 => ⟨S16x80x2048, .f32⟩
  | 123 => ⟨S1x160x80x1, .f32⟩
  | 124 => ⟨S160x80x1, .f32⟩
  | 125 => ⟨S1x160, .f32⟩
  | 126 => ⟨S160, .f32⟩
  | 127 => ⟨S160x80, .f32⟩
  | _ => ⟨S16x2048x80, .f32⟩

abbrev hbmTy0_1 (i : Nat) : BufTy := match i % 128 with
  | 0 => ⟨S16x2048x160, .f32⟩
  | 1 => ⟨S16x160x2048, .f32⟩
  | 2 => ⟨S1x160x1, .f32⟩
  | 3 => ⟨S16x160x2048, .f32⟩
  | 4 => ⟨S16x160x2048, .f32⟩
  | 5 => ⟨S16x80x2048, .f32⟩
  | 6 => ⟨S16x80x2048, .f32⟩
  | 7 => ⟨S16x80x2048, .f32⟩
  | 8 => ⟨S16x80x2048, .f32⟩
  | 9 => ⟨S16x80x2048, .f32⟩
  | 10 => ⟨S16x80x2048, .f32⟩
  | 11 => ⟨S1x160x80x3, .f32⟩
  | 12 => ⟨S160x80x3, .f32⟩
  | 13 => ⟨S1x160, .f32⟩
  | 14 => ⟨S160, .f32⟩
  | 15 => ⟨S_, .i32⟩
  | 16 => ⟨S_, .f32⟩
  | 17 => ⟨S16x80x2050, .f32⟩
  | 18 => ⟨S160x80x1, .f32⟩
  | 19 => ⟨S160x80, .f32⟩
  | 20 => ⟨S16x80x2048, .f32⟩
  | 21 => ⟨S16x2048x160, .f32⟩
  | 22 => ⟨S16x160x2048, .f32⟩
  | 23 => ⟨S160x80x1, .f32⟩
  | 24 => ⟨S160x80, .f32⟩
  | 25 => ⟨S16x80x2048, .f32⟩
  | 26 => ⟨S16x2048x160, .f32⟩
  | 27 => ⟨S16x160x2048, .f32⟩
  | 28 => ⟨S16x160x2048, .f32⟩
  | 29 => ⟨S160x80x1, .f32⟩
  | 30 => ⟨S160x80, .f32⟩
  | 31 => ⟨S16x80x2048, .f32⟩
  | 32 => ⟨S16x2048x160, .f32⟩
  | 33 => ⟨S16x160x2048, .f32⟩
  | 34 => ⟨S16x160x2048, .f32⟩
  | 35 => ⟨S1x160x1, .f32⟩
  | 36 => ⟨S16x160x2048, .f32⟩
  | 37 => ⟨S16x160x2048, .f32⟩
  | 38 => ⟨S16x80x2048, .f32⟩
  | 39 => ⟨S16x80x2048, .f32⟩
  | 40 => ⟨S16x80x2048, .f32⟩
  | 41 => ⟨S16x80x2048, .f32⟩
  | 42 => ⟨S16x80x2048, .f32⟩
  | 43 => ⟨S_, .f32⟩
  | 44 => ⟨S16x80x2048, .f32⟩
  | 45 => ⟨S16x80x2048, .f32⟩
  | 46 => ⟨S_, .f32⟩
  | 47 => ⟨S16x80x2048, .f32⟩
  | 48 => ⟨S16x80x2048, .f32⟩
  | 49 => ⟨S16x80x2048, .f32⟩
  | 50 => ⟨S1x160x80x1, .f32⟩
  | 51 => ⟨S160x80x1, .f32⟩
  | 52 => ⟨S1x160, .f32⟩
  | 53 => ⟨S160, .f32⟩
  | 54 => ⟨S160x80, .f32⟩
  | 55 => ⟨S16x2048x160, .f32⟩
  | 56 => ⟨S16x160x2048, .f32⟩
  | 57 => ⟨S1x160x1, .f32⟩
  | 58 => ⟨S16x160x2048, .f32⟩
  | 59 => ⟨S16x160x2048, .f32⟩
  | 60 => ⟨S16x80x2048, .f32⟩
  | 61 => ⟨S16x80x2048, .f32⟩
  | 62 => ⟨S16x80x2048, .f32⟩
  | 63 => ⟨S16x80x2048, .f32⟩
  | 64 => ⟨S16x80x2048, .f32⟩
  | 65 => ⟨S16x80x2048, .f32⟩
  | 66 => ⟨S1x160x80x3, .f32⟩
  | 67 => ⟨S160x80x3, .f32⟩
  | 68 => ⟨S1x160, .f32⟩
  | 69 => ⟨S160, .f32⟩
  | 70 => ⟨S_, .i32⟩
  | 71 => ⟨S_, .f32⟩
  | 72 => ⟨S16x80x2050, .f32⟩
  | 73 => ⟨S160x80x1, .f32⟩
  | 74 => ⟨S160x80, .f32⟩
  | 75 => ⟨S16x80x2048, .f32⟩
  | 76 => ⟨S16x2048x160, .f32⟩
  | 77 => ⟨S16x160x2048, .f32⟩
  | 78 => ⟨S160x80x1, .f32⟩
  | 79 => ⟨S160x80, .f32⟩
  | 80 => ⟨S16x80x2048, .f32⟩
  | 81 => ⟨S16x2048x160, .f32⟩
  | 82 => ⟨S16x160x2048, .f32⟩
  | 83 => ⟨S16x160x2048, .f32⟩
  | 84 => ⟨S160x80x1, .f32⟩
  | 85 => ⟨S160x80, .f32⟩
  | 86 => ⟨S16x80x2048, .f32⟩
  | 87 => ⟨S16x2048x160, .f32⟩
  | 88 => ⟨S16x160x2048, .f32⟩
  | 89 => ⟨S16x160x2048, .f32⟩
  | 90 => ⟨S1x160x1, .f32⟩
  | 91 => ⟨S16x160x2048, .f32⟩
  | 92 => ⟨S16x160x2048, .f32⟩
  | 93 => ⟨S16x80x2048, .f32⟩
  | 94 => ⟨S16x80x2048, .f32⟩
  | 95 => ⟨S16x80x2048, .f32⟩
  | 96 => ⟨S16x80x2048, .f32⟩
  | 97 => ⟨S16x80x2048, .f32⟩
  | 98 => ⟨S_, .f32⟩
  | 99 => ⟨S16x80x2048, .f32⟩
  | 100 => ⟨S16x80x2048, .f32⟩
  | 101 => ⟨S_, .f32⟩
  | 102 => ⟨S16x80x2048, .f32⟩
  | 103 => ⟨S16x80x2048, .f32⟩
  | 104 => ⟨S16x80x2048, .f32⟩
  | 105 => ⟨S80x80, .f32⟩
  | 106 => ⟨S16x2048x80, .f32⟩
  | 107 => ⟨S16x80x2048, .f32⟩
  | 108 => ⟨S1x80x1, .f32⟩
  | 109 => ⟨S16x80x2048, .f32⟩
  | 110 => ⟨S16x80x2048, .f32⟩
  | 111 => ⟨S16x80x2048, .f32⟩
  | 112 => ⟨S16x80x2048, .f32⟩
  | 113 => ⟨S16x80x2048, .f32⟩
  | 114 => ⟨S16x80x2048, .f32⟩
  | 115 => ⟨S_, .f32⟩
  | 116 => ⟨S16x2048, .f32⟩
  | 117 => ⟨S_, .f32⟩
  | 118 => ⟨S16x2048, .f32⟩
  | 119 => ⟨S16x2048, .i1⟩
  | 120 => ⟨S16x2048, .f32⟩
  | 121 => ⟨S16x1x2048, .f32⟩
  | 122 => ⟨S16x80x2048, .f32⟩
  | 123 => ⟨S_, .f32⟩
  | 124 => ⟨S16x2048, .f32⟩
  | 125 => ⟨S_, .f32⟩
  | 126 => ⟨S16x2048, .f32⟩
  | 127 => ⟨S16x2048, .i1⟩
  | _ => ⟨S16x2048x80, .f32⟩

abbrev hbmTy0_2 (i : Nat) : BufTy := match i % 128 with
  | 0 => ⟨S16x2048, .f32⟩
  | 1 => ⟨S16x1x2048, .f32⟩
  | 2 => ⟨S1x80, .f32⟩
  | 3 => ⟨S80, .f32⟩
  | 4 => ⟨S1x80, .f32⟩
  | 5 => ⟨S80, .f32⟩
  | 6 => ⟨S_, .f32⟩
  | 7 => ⟨S16x2048, .f32⟩
  | 8 => ⟨S16x1x2048, .f32⟩
  | 9 => ⟨S_, .f32⟩
  | 10 => ⟨S16x1x2048, .f32⟩
  | 11 => ⟨S16x1x2048, .f32⟩
  | 12 => ⟨S16x80x2048, .f32⟩
  | 13 => ⟨S16x80x2048, .f32⟩
  | 14 => ⟨S16x80x2048, .f32⟩
  | 15 => ⟨S_, .f32⟩
  | 16 => ⟨S16x2048, .f32⟩
  | 17 => ⟨S16x1x2048, .f32⟩
  | 18 => ⟨S_, .f32⟩
  | 19 => ⟨S16x1x2048, .f32⟩
  | 20 => ⟨S16x1x2048, .f32⟩
  | 21 => ⟨S16x80x2048, .f32⟩
  | 22 => ⟨S16x80x2048, .f32⟩
  | 23 => ⟨S_, .f32⟩
  | 24 => ⟨S16x1x2048, .f32⟩
  | 25 => ⟨S16x1x2048, .f32⟩
  | 26 => ⟨S16x1x2048, .f32⟩
  | 27 => ⟨S16x80x2048, .f32⟩
  | 28 => ⟨S16x80x2048, .f32⟩
  | 29 => ⟨S1x80x1, .f32⟩
  | 30 => ⟨S16x80x2048, .f32⟩
  | 31 => ⟨S16x80x2048, .f32⟩
  | 32 => ⟨S1x80x1, .f32⟩
  | 33 => ⟨S16x80x2048, .f32⟩
  | 34 => ⟨S16x80x2048, .f32⟩
  | 35 => ⟨S1x160x80x5, .f32⟩
  | 36 => ⟨S160x80x5, .f32⟩
  | 37 => ⟨S1x160, .f32⟩
  | 38 => ⟨S160, .f32⟩
  | 39 => ⟨S_, .i32⟩
  | 40 => ⟨S_, .f32⟩
  | 41 => ⟨S16x80x2052, .f32⟩
  | 42 => ⟨S160x80x1, .f32⟩
  | 43 => ⟨S160x80, .f32⟩
  | 44 => ⟨S16x80x2048, .f32⟩
  | 45 => ⟨S16x2048x160, .f32⟩
  | 46 => ⟨S16x160x2048, .f32⟩
  | 47 => ⟨S160x80x1, .f32⟩
  | 48 => ⟨S160x80, .f32⟩
  | 49 => ⟨S16x80x2048, .f32⟩
  | 50 => ⟨S16x2048x160, .f32⟩
  | 51 => ⟨S16x160x2048, .f32⟩
  | 52 => ⟨S16x160x2048, .f32⟩
  | 53 => ⟨S160x80x1, .f32⟩
  | 54 => ⟨S160x80, .f32⟩
  | 55 => ⟨S16x80x2048, .f32⟩
  | 56 => ⟨S16x2048x160, .f32⟩
  | 57 => ⟨S16x160x2048, .f32⟩
  | 58 => ⟨S16x160x2048, .f32⟩
  | 59 => ⟨S160x80x1, .f32⟩
  | 60 => ⟨S160x80, .f32⟩
  | 61 => ⟨S16x80x2048, .f32⟩
  | 62 => ⟨S16x2048x160, .f32⟩
  | 63 => ⟨S16x160x2048, .f32⟩
  | 64 => ⟨S16x160x2048, .f32⟩
  | 65 => ⟨S160x80x1, .f32⟩
  | 66 => ⟨S160x80, .f32⟩
  | 67 => ⟨S16x80x2048, .f32⟩
  | 68 => ⟨S16x2048x160, .f32⟩
  | 69 => ⟨S16x160x2048, .f32⟩
  | 70 => ⟨S16x160x2048, .f32⟩
  | 71 => ⟨S1x160x1, .f32⟩
  | 72 => ⟨S16x160x2048, .f32⟩
  | 73 => ⟨S16x160x2048, .f32⟩
  | 74 => ⟨S_, .f32⟩
  | 75 => ⟨S16x160x2048, .f32⟩
  | 76 => ⟨S16x160x2048, .f32⟩
  | 77 => ⟨S_, .f32⟩
  | 78 => ⟨S16x160x2048, .f32⟩
  | 79 => ⟨S16x160x2048, .f32⟩
  | 80 => ⟨S16x160x2048, .f32⟩
  | 81 => ⟨S_, .f32⟩
  | 82 => ⟨S16x160x2048, .f32⟩
  | 83 => ⟨S16x160x2048, .f32⟩
  | 84 => ⟨S16x160x2048, .f32⟩
  | 85 => ⟨S16x160x2048, .f32⟩
  | 86 => ⟨S1x80x160x1, .f32⟩
  | 87 => ⟨S80x160x1, .f32⟩
  | 88 => ⟨S1x80, .f32⟩
  | 89 => ⟨S80, .f32⟩
  | 90 => ⟨S80x160, .f32⟩
  | 91 => ⟨S16x2048x80, .f32⟩
  | 92 => ⟨S16x80x2048, .f32⟩
  | 93 => ⟨S1x80x1, .f32⟩
  | 94 => ⟨S16x80x2048, .f32⟩
  | 95 => ⟨S16x80x2048, .f32⟩
  | 96 => ⟨S16x80x2048, .f32⟩
  | 97 => ⟨S16x80x2048, .f32⟩
  | 98 => ⟨S16x80x2048, .f32⟩
  | 99 => ⟨S1x80, .f32⟩
  | 100 => ⟨S80, .f32⟩
  | 101 => ⟨S1x80, .f32⟩
  | 102 => ⟨S80, .f32⟩
  | 103 => ⟨S_, .f32⟩
  | 104 => ⟨S16x2048, .f32⟩
  | 105 => ⟨S16x1x2048, .f32⟩
  | 106 => ⟨S_, .f32⟩
  | 107 => ⟨S16x1x2048, .f32⟩
  | 108 => ⟨S16x1x2048, .f32⟩
  | 109 => ⟨S16x80x2048, .f32⟩
  | 110 => ⟨S16x80x2048, .f32⟩
  | 111 => ⟨S16x80x2048, .f32⟩
  | 112 => ⟨S_, .f32⟩
  | 113 => ⟨S16x2048, .f32⟩
  | 114 => ⟨S16x1x2048, .f32⟩
  | 115 => ⟨S_, .f32⟩
  | 116 => ⟨S16x1x2048, .f32⟩
  | 117 => ⟨S16x1x2048, .f32⟩
  | 118 => ⟨S16x80x2048, .f32⟩
  | 119 => ⟨S16x80x2048, .f32⟩
  | 120 => ⟨S_, .f32⟩
  | 121 => ⟨S16x1x2048, .f32⟩
  | 122 => ⟨S16x1x2048, .f32⟩
  | 123 => ⟨S16x1x2048, .f32⟩
  | 124 => ⟨S16x80x2048, .f32⟩
  | 125 => ⟨S16x80x2048, .f32⟩
  | 126 => ⟨S1x80x1, .f32⟩
  | 127 => ⟨S16x80x2048, .f32⟩
  | _ => ⟨S16x2048x80, .f32⟩

abbrev hbmTy0_3 (i : Nat) : BufTy := match i % 128 with
  | 0 => ⟨S16x80x2048, .f32⟩
  | 1 => ⟨S1x80x1, .f32⟩
  | 2 => ⟨S16x80x2048, .f32⟩
  | 3 => ⟨S16x80x2048, .f32⟩
  | 4 => ⟨S1x160x80x5, .f32⟩
  | 5 => ⟨S160x80x5, .f32⟩
  | 6 => ⟨S1x160, .f32⟩
  | 7 => ⟨S160, .f32⟩
  | 8 => ⟨S_, .i32⟩
  | 9 => ⟨S_, .f32⟩
  | 10 => ⟨S16x80x2052, .f32⟩
  | 11 => ⟨S160x80x1, .f32⟩
  | 12 => ⟨S160x80, .f32⟩
  | 13 => ⟨S16x80x2048, .f32⟩
  | 14 => ⟨S16x2048x160, .f32⟩
  | 15 => ⟨S16x160x2048, .f32⟩
  | 16 => ⟨S160x80x1, .f32⟩
  | 17 => ⟨S160x80, .f32⟩
  | 18 => ⟨S16x80x2048, .f32⟩
  | 19 => ⟨S16x2048x160, .f32⟩
  | 20 => ⟨S16x160x2048, .f32⟩
  | 21 => ⟨S16x160x2048, .f32⟩
  | 22 => ⟨S160x80x1, .f32⟩
  | 23 => ⟨S160x80, .f32⟩
  | 24 => ⟨S16x80x2048, .f32⟩
  | 25 => ⟨S16x2048x160, .f32⟩
  | 26 => ⟨S16x160x2048, .f32⟩
  | 27 => ⟨S16x160x2048, .f32⟩
  | 28 => ⟨S160x80x1, .f32⟩
  | 29 => ⟨S160x80, .f32⟩
  | 30 => ⟨S16x80x2048, .f32⟩
  | 31 => ⟨S16x2048x160, .f32⟩
  | 32 => ⟨S16x160x2048, .f32⟩
  | 33 => ⟨S16x160x2048, .f32⟩
  | 34 => ⟨S160x80x1, .f32⟩
  | 35 => ⟨S160x80, .f32⟩
  | 36 => ⟨S16x80x2048, .f32⟩
  | 37 => ⟨S16x2048x160, .f32⟩
  | 38 => ⟨S16x160x2048, .f32⟩
  | 39 => ⟨S16x160x2048, .f32⟩
  | 40 => ⟨S1x160x1, .f32⟩
  | 41 => ⟨S16x160x2048, .f32⟩
  | 42 => ⟨S16x160x2048, .f32⟩
  | 43 => ⟨S_, .f32⟩
  | 44 => ⟨S16x160x2048, .f32⟩
  | 45 => ⟨S16x160x2048, .f32⟩
  | 46 => ⟨S_, .f32⟩
  | 47 => ⟨S16x160x2048, .f32⟩
  | 48 => ⟨S16x160x2048, .f32⟩
  | 49 => ⟨S16x160x2048, .f32⟩
  | 50 => ⟨S_, .f32⟩
  | 51 => ⟨S16x160x2048, .f32⟩
  | 52 => ⟨S16x160x2048, .f32⟩
  | 53 => ⟨S16x160x2048, .f32⟩
  | 54 => ⟨S16x160x2048, .f32⟩
  | 55 => ⟨S1x80x160x1, .f32⟩
  | 56 => ⟨S80x160x1, .f32⟩
  | 57 => ⟨S1x80, .f32⟩
  | 58 => ⟨S80, .f32⟩
  | 59 => ⟨S80x160, .f32⟩
  | 60 => ⟨S16x2048x80, .f32⟩
  | 61 => ⟨S16x80x2048, .f32⟩
  | 62 => ⟨S1x80x1, .f32⟩
  | 63 => ⟨S16x80x2048, .f32⟩
  | 64 => ⟨S16x80x2048, .f32⟩
  | 65 => ⟨S16x80x2048, .f32⟩
  | 66 => ⟨S16x80x2048, .f32⟩
  | 67 => ⟨S16x80x2048, .f32⟩
  | 68 => ⟨S16x80x2048, .f32⟩
  | 69 => ⟨S_, .f32⟩
  | 70 => ⟨S16x2048, .f32⟩
  | 71 => ⟨S_, .f32⟩
  | 72 => ⟨S16x2048, .f32⟩
  | 73 => ⟨S16x2048, .i1⟩
  | 74 => ⟨S16x2048, .f32⟩
  | 75 => ⟨S16x1x2048, .f32⟩
  | 76 => ⟨S1x80, .f32⟩
  | 77 => ⟨S80, .f32⟩
  | 78 => ⟨S1x80, .f32⟩
  | 79 => ⟨S80, .f32⟩
  | 80 => ⟨S_, .f32⟩
  | 81 => ⟨S16x2048, .f32⟩
  | 82 => ⟨S16x1x2048, .f32⟩
  | 83 => ⟨S_, .f32⟩
  | 84 => ⟨S16x1x2048, .f32⟩
  | 85 => ⟨S16x1x2048, .f32⟩
  | 86 => ⟨S16x80x2048, .f32⟩
  | 87 => ⟨S16x80x2048, .f32⟩
  | 88 => ⟨S16x80x2048, .f32⟩
  | 89 => ⟨S_, .f32⟩
  | 90 => ⟨S16x2048, .f32⟩
  | 91 => ⟨S16x1x2048, .f32⟩
  | 92 => ⟨S_, .f32⟩
  | 93 => ⟨S16x1x2048, .f32⟩
  | 94 => ⟨S16x1x2048, .f32⟩
  | 95 => ⟨S16x80x2048, .f32⟩
  | 96 => ⟨S16x80x2048, .f32⟩
  | 97 => ⟨S_, .f32⟩
  | 98 => ⟨S16x1x2048, .f32⟩
  | 99 => ⟨S16x1x2048, .f32⟩
  | 100 => ⟨S16x1x2048, .f32⟩
  | 101 => ⟨S16x80x2048, .f32⟩
  | 102 => ⟨S16x80x2048, .f32⟩
  | 103 => ⟨S1x80x1, .f32⟩
  | 104 => ⟨S16x80x2048, .f32⟩
  | 105 => ⟨S16x80x2048, .f32⟩
  | 106 => ⟨S1x80x1, .f32⟩
  | 107 => ⟨S16x80x2048, .f32⟩
  | 108 => ⟨S16x80x2048, .f32⟩
  | 109 => ⟨S1x160x80x5, .f32⟩
  | 110 => ⟨S160x80x5, .f32⟩
  | 111 => ⟨S1x160, .f32⟩
  | 112 => ⟨S160, .f32⟩
  | 113 => ⟨S_, .i32⟩
  | 114 => ⟨S_, .f32⟩
  | 115 => ⟨S16x80x2052, .f32⟩
  | 116 => ⟨S160x80x1, .f32⟩
  | 117 => ⟨S160x80, .f32⟩
  | 118 => ⟨S16x80x2048, .f32⟩
  | 119 => ⟨S16x2048x160, .f32⟩
  | 120 => ⟨S16x160x2048, .f32⟩
  | 121 => ⟨S160x80x1, .f32⟩
  | 122 => ⟨S160x80, .f32⟩
  | 123 => ⟨S16x80x2048, .f32⟩
  | 124 => ⟨S16x2048x160, .f32⟩
  | 125 => ⟨S16x160x2048, .f32⟩
  | 126 => ⟨S16x160x2048, .f32⟩
  | 127 => ⟨S160x80x1, .f32⟩
  | _ => ⟨S16x2048x80, .f32⟩

abbrev hbmTy0_4 (i : Nat) : BufTy := match i % 128 with
  | 0 => ⟨S160x80, .f32⟩
  | 1 => ⟨S16x80x2048, .f32⟩
  | 2 => ⟨S16x2048x160, .f32⟩
  | 3 => ⟨S16x160x2048, .f32⟩
  | 4 => ⟨S16x160x2048, .f32⟩
  | 5 => ⟨S160x80x1, .f32⟩
  | 6 => ⟨S160x80, .f32⟩
  | 7 => ⟨S16x80x2048, .f32⟩
  | 8 => ⟨S16x2048x160, .f32⟩
  | 9 => ⟨S16x160x2048, .f32⟩
  | 10 => ⟨S16x160x2048, .f32⟩
  | 11 => ⟨S160x80x1, .f32⟩
  | 12 => ⟨S160x80, .f32⟩
  | 13 => ⟨S16x80x2048, .f32⟩
  | 14 => ⟨S16x2048x160, .f32⟩
  | 15 => ⟨S16x160x2048, .f32⟩
  | 16 => ⟨S16x160x2048, .f32⟩
  | 17 => ⟨S1x160x1, .f32⟩
  | 18 => ⟨S16x160x2048, .f32⟩
  | 19 => ⟨S16x160x2048, .f32⟩
  | 20 => ⟨S_, .f32⟩
  | 21 => ⟨S16x160x2048, .f32⟩
  | 22 => ⟨S16x160x2048, .f32⟩
  | 23 => ⟨S_, .f32⟩
  | 24 => ⟨S16x160x2048, .f32⟩
  | 25 => ⟨S16x160x2048, .f32⟩
  | 26 => ⟨S16x160x2048, .f32⟩
  | 27 => ⟨S_, .f32⟩
  | 28 => ⟨S16x160x2048, .f32⟩
  | 29 => ⟨S16x160x2048, .f32⟩
  | 30 => ⟨S16x160x2048, .f32⟩
  | 31 => ⟨S16x160x2048, .f32⟩
  | 32 => ⟨S1x80x160x1, .f32⟩
  | 33 => ⟨S80x160x1, .f32⟩
  | 34 => ⟨S1x80, .f32⟩
  | 35 => ⟨S80, .f32⟩
  | 36 => ⟨S80x160, .f32⟩
  | 37 => ⟨S16x2048x80, .f32⟩
  | 38 => ⟨S16x80x2048, .f32⟩
  | 39 => ⟨S1x80x1, .f32⟩
  | 40 => ⟨S16x80x2048, .f32⟩
  | 41 => ⟨S16x80x2048, .f32⟩
  | 42 => ⟨S16x80x2048, .f32⟩
  | 43 => ⟨S16x80x2048, .f32⟩
  | 44 => ⟨S16x80x2048, .f32⟩
  | 45 => ⟨S1x80, .f32⟩
  | 46 => ⟨S80, .f32⟩
  | 47 => ⟨S1x80, .f32⟩
  | 48 => ⟨S80, .f32⟩
  | 49 => ⟨S_, .f32⟩
  | 50 => ⟨S16x2048, .f32⟩
  | 51 => ⟨S16x1x2048, .f32⟩
  | 52 => ⟨S_, .f32⟩
  | 53 => ⟨S16x1x2048, .f32⟩
  | 54 => ⟨S16x1x2048, .f32⟩
  | 55 => ⟨S16x80x2048, .f32⟩
  | 56 => ⟨S16x80x2048, .f32⟩
  | 57 => ⟨S16x80x2048, .f32⟩
  | 58 => ⟨S_, .f32⟩
  | 59 => ⟨S16x2048, .f32⟩
  | 60 => ⟨S16x1x2048, .f32⟩
  | 61 => ⟨S_, .f32⟩
  | 62 => ⟨S16x1x2048, .f32⟩
  | 63 => ⟨S16x1x2048, .f32⟩
  | 64 => ⟨S16x80x2048, .f32⟩
  | 65 => ⟨S16x80x2048, .f32⟩
  | 66 => ⟨S_, .f32⟩
  | 67 => ⟨S16x1x2048, .f32⟩
  | 68 => ⟨S16x1x2048, .f32⟩
  | 69 => ⟨S16x1x2048, .f32⟩
  | 70 => ⟨S16x80x2048, .f32⟩
  | 71 => ⟨S16x80x2048, .f32⟩
  | 72 => ⟨S1x80x1, .f32⟩
  | 73 => ⟨S16x80x2048, .f32⟩
  | 74 => ⟨S16x80x2048, .f32⟩
  | 75 => ⟨S1x80x1, .f32⟩
  | 76 => ⟨S16x80x2048, .f32⟩
  | 77 => ⟨S16x80x2048, .f32⟩
  | 78 => ⟨S1x160x80x5, .f32⟩
  | 79 => ⟨S160x80x5, .f32⟩
  | 80 => ⟨S1x160, .f32⟩
  | 81 => ⟨S160, .f32⟩
  | 82 => ⟨S_, .i32⟩
  | 83 => ⟨S_, .f32⟩
  | 84 => ⟨S16x80x2052, .f32⟩
  | 85 => ⟨S160x80x1, .f32⟩
  | 86 => ⟨S160x80, .f32⟩
  | 87 => ⟨S16x80x2048, .f32⟩
  | 88 => ⟨S16x2048x160, .f32⟩
  | 89 => ⟨S16x160x2048, .f32⟩
  | 90 => ⟨S160x80x1, .f32⟩
  | 91 => ⟨S160x80, .f32⟩
  | 92 => ⟨S16x80x2048, .f32⟩
  | 93 => ⟨S16x2048x160, .f32⟩
  | 94 => ⟨S16x160x2048, .f32⟩
  | 95 => ⟨S16x160x2048, .f32⟩
  | 96 => ⟨S160x80x1, .f32⟩
  | 97 => ⟨S160x80, .f32⟩
  | 98 => ⟨S16x80x2048, .f32⟩
  | 99 => ⟨S16x2048x160, .f32⟩
  | 100 => ⟨S16x160x2048, .f32⟩
  | 101 => ⟨S16x160x2048, .f32⟩
  | 102 => ⟨S160x80x1, .f32⟩
  | 103 => ⟨S160x80, .f32⟩
  | 104 => ⟨S16x80x2048, .f32⟩
  | 105 => ⟨S16x2048x160, .f32⟩
  | 106 => ⟨S16x160x2048, .f32⟩
  | 107 => ⟨S16x160x2048, .f32⟩
  | 108 => ⟨S160x80x1, .f32⟩
  | 109 => ⟨S160x80, .f32⟩
  | 110 => ⟨S16x80x2048, .f32⟩
  | 111 => ⟨S16x2048x160, .f32⟩
  | 112 => ⟨S16x160x2048, .f32⟩
  | 113 => ⟨S16x160x2048, .f32⟩
  | 114 => ⟨S1x160x1, .f32⟩
  | 115 => ⟨S16x160x2048, .f32⟩
  | 116 => ⟨S16x160x2048, .f32⟩
  | 117 => ⟨S_, .f32⟩
  | 118 => ⟨S16x160x2048, .f32⟩
  | 119 => ⟨S16x160x2048, .f32⟩
  | 120 => ⟨S_, .f32⟩
  | 121 => ⟨S16x160x2048, .f32⟩
  | 122 => ⟨S16x160x2048, .f32⟩
  | 123 => ⟨S16x160x2048, .f32⟩
  | 124 => ⟨S_, .f32⟩
  | 125 => ⟨S16x160x2048, .f32⟩
  | 126 => ⟨S16x160x2048, .f32⟩
  | 127 => ⟨S16x160x2048, .f32⟩
  | _ => ⟨S16x2048x80, .f32⟩

abbrev hbmTy0_5 (i : Nat) : BufTy := match i % 128 with
  | 0 => ⟨S16x160x2048, .f32⟩
  | 1 => ⟨S1x80x160x1, .f32⟩
  | 2 => ⟨S80x160x1, .f32⟩
  | 3 => ⟨S1x80, .f32⟩
  | 4 => ⟨S80, .f32⟩
  | 5 => ⟨S80x160, .f32⟩
  | 6 => ⟨S16x2048x80, .f32⟩
  | 7 => ⟨S16x80x2048, .f32⟩
  | 8 => ⟨S1x80x1, .f32⟩
  | 9 => ⟨S16x80x2048, .f32⟩
  | 10 => ⟨S16x80x2048, .f32⟩
  | 11 => ⟨S16x80x2048, .f32⟩
  | 12 => ⟨S16x80x2048, .f32⟩
  | 13 => ⟨S16x80x2048, .f32⟩
  | 14 => ⟨S16x80x2048, .f32⟩
  | 15 => ⟨S_, .f32⟩
  | 16 => ⟨S16x2048, .f32⟩
  | 17 => ⟨S_, .f32⟩
  | 18 => ⟨S16x2048, .f32⟩
  | 19 => ⟨S16x2048, .i1⟩
  | 20 => ⟨S16x2048, .f32⟩
  | 21 => ⟨S16x1x2048, .f32⟩
  | 22 => ⟨S1x80, .f32⟩
  | 23 => ⟨S80, .f32⟩
  | 24 => ⟨S1x80, .f32⟩
  | 25 => ⟨S80, .f32⟩
  | 26 => ⟨S_, .f32⟩
  | 27 => ⟨S16x2048, .f32⟩
  | 28 => ⟨S16x1x2048, .f32⟩
  | 29 => ⟨S_, .f32⟩
  | 30 => ⟨S16x1x2048, .f32⟩
  | 31 => ⟨S16x1x2048, .f32⟩
  | 32 => ⟨S16x80x2048, .f32⟩
  | 33 => ⟨S16x80x2048, .f32⟩
  | 34 => ⟨S16x80x2048, .f32⟩
  | 35 => ⟨S_, .f32⟩
  | 36 => ⟨S16x2048, .f32⟩
  | 37 => ⟨S16x1x2048, .f32⟩
  | 38 => ⟨S_, .f32⟩
  | 39 => ⟨S16x1x2048, .f32⟩
  | 40 => ⟨S16x1x2048, .f32⟩
  | 41 => ⟨S16x80x2048, .f32⟩
  | 42 => ⟨S16x80x2048, .f32⟩
  | 43 => ⟨S_, .f32⟩
  | 44 => ⟨S16x1x2048, .f32⟩
  | 45 => ⟨S16x1x2048, .f32⟩
  | 46 => ⟨S16x1x2048, .f32⟩
  | 47 => ⟨S16x80x2048, .f32⟩
  | 48 => ⟨S16x80x2048, .f32⟩
  | 49 => ⟨S1x80x1, .f32⟩
  | 50 => ⟨S16x80x2048, .f32⟩
  | 51 => ⟨S16x80x2048, .f32⟩
  | 52 => ⟨S1x80x1, .f32⟩
  | 53 => ⟨S16x80x2048, .f32⟩
  | 54 => ⟨S16x80x2048, .f32⟩
  | 55 => ⟨S1x160x80x5, .f32⟩
  | 56 => ⟨S160x80x5, .f32⟩
  | 57 => ⟨S1x160, .f32⟩
  | 58 => ⟨S160, .f32⟩
  | 59 => ⟨S_, .i32⟩
  | 60 => ⟨S_, .f32⟩
  | 61 => ⟨S16x80x2052, .f32⟩
  | 62 => ⟨S160x80x1, .f32⟩
  | 63 => ⟨S160x80, .f32⟩
  | 64 => ⟨S16x80x2048, .f32⟩
  | 65 => ⟨S16x2048x160, .f32⟩
  | 66 => ⟨S16x160x2048, .f32⟩
  | 67 => ⟨S160x80x1, .f32⟩
  | 68 => ⟨S160x80, .f32⟩
  | 69 => ⟨S16x80x2048, .f32⟩
  | 70 => ⟨S16x2048x160, .f32⟩
  | 71 => ⟨S16x160x2048, .f32⟩
  | 72 => ⟨S16x160x2048, .f32⟩
  | 73 => ⟨S160x80x1, .f32⟩
  | 74 => ⟨S160x80, .f32⟩
  | 75 => ⟨S16x80x2048, .f32⟩
  | 76 => ⟨S16x2048x160, .f32⟩
  | 77 => ⟨S16x160x2048, .f32⟩
  | 78 => ⟨S16x160x2048, .f32⟩
  | 79 => ⟨S160x80x1, .f32⟩
  | 80 => ⟨S160x80, .f32⟩
  | 81 => ⟨S16x80x2048, .f32⟩
  | 82 => ⟨S16x2048x160, .f32⟩
  | 83 => ⟨S16x160x2048, .f32⟩
  | 84 => ⟨S16x160x2048, .f32⟩
  | 85 => ⟨S160x80x1, .f32⟩
  | 86 => ⟨S160x80, .f32⟩
  | 87 => ⟨S16x80x2048, .f32⟩
  | 88 => ⟨S16x2048x160, .f32⟩
  | 89 => ⟨S16x160x2048, .f32⟩
  | 90 => ⟨S16x160x2048, .f32⟩
  | 91 => ⟨S1x160x1, .f32⟩
  | 92 => ⟨S16x160x2048, .f32⟩
  | 93 => ⟨S16x160x2048, .f32⟩
  | 94 => ⟨S_, .f32⟩
  | 95 => ⟨S16x160x2048, .f32⟩
  | 96 => ⟨S16x160x2048, .f32⟩
  | 97 => ⟨S_, .f32⟩
  | 98 => ⟨S16x160x2048, .f32⟩
  | 99 => ⟨S16x160x2048, .f32⟩
  | 100 => ⟨S16x160x2048, .f32⟩
  | 101 => ⟨S_, .f32⟩
  | 102 => ⟨S16x160x2048, .f32⟩
  | 103 => ⟨S16x160x2048, .f32⟩
  | 104 => ⟨S16x160x2048, .f32⟩
  | 105 => ⟨S16x160x2048, .f32⟩
  | 106 => ⟨S1x80x160x1, .f32⟩
  | 107 => ⟨S80x160x1, .f32⟩
  | 108 => ⟨S1x80, .f32⟩
  | 109 => ⟨S80, .f32⟩
  | 110 => ⟨S80x160, .f32⟩
  | 111 => ⟨S16x2048x80, .f32⟩
  | 112 => ⟨S16x80x2048, .f32⟩
  | 113 => ⟨S1x80x1, .f32⟩
  | 114 => ⟨S16x80x2048, .f32⟩
  | 115 => ⟨S16x80x2048, .f32⟩
  | 116 => ⟨S16x80x2048, .f32⟩
  | 117 => ⟨S16x80x2048, .f32⟩
  | 118 => ⟨S16x80x2048, .f32⟩
  | 119 => ⟨S1x80, .f32⟩
  | 120 => ⟨S80, .f32⟩
  | 121 => ⟨S1x80, .f32⟩
  | 122 => ⟨S80, .f32⟩
  | 123 => ⟨S_, .f32⟩
  | 124 => ⟨S16x2048, .f32⟩
  | 125 => ⟨S16x1x2048, .f32⟩
  | 126 => ⟨S_, .f32⟩
  | 127 => ⟨S16x1x2048, .f32⟩
  | _ => ⟨S16x2048x80, .f32⟩

abbrev hbmTy0_6 (i : Nat) : BufTy := match i % 128 with
  | 0 => ⟨S16x1x2048, .f32⟩
  | 1 => ⟨S16x80x2048, .f32⟩
  | 2 => ⟨S16x80x2048, .f32⟩
  | 3 => ⟨S16x80x2048, .f32⟩
  | 4 => ⟨S_, .f32⟩
  | 5 => ⟨S16x2048, .f32⟩
  | 6 => ⟨S16x1x2048, .f32⟩
  | 7 => ⟨S_, .f32⟩
  | 8 => ⟨S16x1x2048, .f32⟩
  | 9 => ⟨S16x1x2048, .f32⟩
  | 10 => ⟨S16x80x2048, .f32⟩
  | 11 => ⟨S16x80x2048, .f32⟩
  | 12 => ⟨S_, .f32⟩
  | 13 => ⟨S16x1x2048, .f32⟩
  | 14 => ⟨S16x1x2048, .f32⟩
  | 15 => ⟨S16x1x2048, .f32⟩
  | 16 => ⟨S16x80x2048, .f32⟩
  | 17 => ⟨S16x80x2048, .f32⟩
  | 18 => ⟨S1x80x1, .f32⟩
  | 19 => ⟨S16x80x2048, .f32⟩
  | 20 => ⟨S16x80x2048, .f32⟩
  | 21 => ⟨S1x80x1, .f32⟩
  | 22 => ⟨S16x80x2048, .f32⟩
  | 23 => ⟨S16x80x2048, .f32⟩
  | 24 => ⟨S1x160x80x5, .f32⟩
  | 25 => ⟨S160x80x5, .f32⟩
  | 26 => ⟨S1x160, .f32⟩
  | 27 => ⟨S160, .f32⟩
  | 28 => ⟨S_, .i32⟩
  | 29 => ⟨S_, .f32⟩
  | 30 => ⟨S16x80x2052, .f32⟩
  | 31 => ⟨S160x80x1, .f32⟩
  | 32 => ⟨S160x80, .f32⟩
  | 33 => ⟨S16x80x2048, .f32⟩
  | 34 => ⟨S16x2048x160, .f32⟩
  | 35 => ⟨S16x160x2048, .f32⟩
  | 36 => ⟨S160x80x1, .f32⟩
  | 37 => ⟨S160x80, .f32⟩
  | 38 => ⟨S16x80x2048, .f32⟩
  | 39 => ⟨S16x2048x160, .f32⟩
  | 40 => ⟨S16x160x2048, .f32⟩
  | 41 => ⟨S16x160x2048, .f32⟩
  | 42 => ⟨S160x80x1, .f32⟩
  | 43 => ⟨S160x80, .f32⟩
  | 44 => ⟨S16x80x2048, .f32⟩
  | 45 => ⟨S16x2048x160, .f32⟩
  | 46 => ⟨S16x160x2048, .f32⟩
  | 47 => ⟨S16x160x2048, .f32⟩
  | 48 => ⟨S160x80x1, .f32⟩
  | 49 => ⟨S160x80, .f32⟩
  | 50 => ⟨S16x80x2048, .f32⟩
  | 51 => ⟨S16x2048x160, .f32⟩
  | 52 => ⟨S16x160x2048, .f32⟩
  | 53 => ⟨S16x160x2048, .f32⟩
  | 54 => ⟨S160x80x1, .f32⟩
  | 55 => ⟨S160x80, .f32⟩
  | 56 => ⟨S16x80x2048, .f32⟩
  | 57 => ⟨S16x2048x160, .f32⟩
  | 58 => ⟨S16x160x2048, .f32⟩
  | 59 => ⟨S16x160x2048, .f32⟩
  | 60 => ⟨S1x160x1, .f32⟩
  | 61 => ⟨S16x160x2048, .f32⟩
  | 62 => ⟨S16x160x2048, .f32⟩
  | 63 => ⟨S_, .f32⟩
  | 64 => ⟨S16x160x2048, .f32⟩
  | 65 => ⟨S16x160x2048, .f32⟩
  | 66 => ⟨S_, .f32⟩
  | 67 => ⟨S16x160x2048, .f32⟩
  | 68 => ⟨S16x160x2048, .f32⟩
  | 69 => ⟨S16x160x2048, .f32⟩
  | 70 => ⟨S_, .f32⟩
  | 71 => ⟨S16x160x2048, .f32⟩
  | 72 => ⟨S16x160x2048, .f32⟩
  | 73 => ⟨S16x160x2048, .f32⟩
  | 74 => ⟨S16x160x2048, .f32⟩
  | 75 => ⟨S1x80x160x1, .f32⟩
  | 76 => ⟨S80x160x1, .f32⟩
  | 77 => ⟨S1x80, .f32⟩
  | 78 => ⟨S80, .f32⟩
  | 79 => ⟨S80x160, .f32⟩
  | 80 => ⟨S16x2048x80, .f32⟩
  | 81 => ⟨S16x80x2048, .f32⟩
  | 82 => ⟨S1x80x1, .f32⟩
  | 83 => ⟨S16x80x2048, .f32⟩
  | 84 => ⟨S16x80x2048, .f32⟩
  | 85 => ⟨S16x80x2048, .f32⟩
  | 86 => ⟨S16x80x2048, .f32⟩
  | 87 => ⟨S16x80x2048, .f32⟩
  | 88 => ⟨S16x80x2048, .f32⟩
  | 89 => ⟨S_, .f32⟩
  | 90 => ⟨S16x2048, .f32⟩
  | 91 => ⟨S_, .f32⟩
  | 92 => ⟨S16x2048, .f32⟩
  | 93 => ⟨S16x2048, .i1⟩
  | 94 => ⟨S16x2048, .f32⟩
  | 95 => ⟨S16x1x2048, .f32⟩
  | 96 => ⟨S1x80, .f32⟩
  | 97 => ⟨S80, .f32⟩
  | 98 => ⟨S1x80, .f32⟩
  | 99 => ⟨S80, .f32⟩
  | 100 => ⟨S_, .f32⟩
  | 101 => ⟨S16x2048, .f32⟩
  | 102 => ⟨S16x1x2048, .f32⟩
  | 103 => ⟨S_, .f32⟩
  | 104 => ⟨S16x1x2048, .f32⟩
  | 105 => ⟨S16x1x2048, .f32⟩
  | 106 => ⟨S16x80x2048, .f32⟩
  | 107 => ⟨S16x80x2048, .f32⟩
  | 108 => ⟨S16x80x2048, .f32⟩
  | 109 => ⟨S_, .f32⟩
  | 110 => ⟨S16x2048, .f32⟩
  | 111 => ⟨S16x1x2048, .f32⟩
  | 112 => ⟨S_, .f32⟩
  | 113 => ⟨S16x1x2048, .f32⟩
  | 114 => ⟨S16x1x2048, .f32⟩
  | 115 => ⟨S16x80x2048, .f32⟩
  | 116 => ⟨S16x80x2048, .f32⟩
  | 117 => ⟨S_, .f32⟩
  | 118 => ⟨S16x1x2048, .f32⟩
  | 119 => ⟨S16x1x2048, .f32⟩
  | 120 => ⟨S16x1x2048, .f32⟩
  | 121 => ⟨S16x80x2048, .f32⟩
  | 122 => ⟨S16x80x2048, .f32⟩
  | 123 => ⟨S1x80x1, .f32⟩
  | 124 => ⟨S16x80x2048, .f32⟩
  | 125 => ⟨S16x80x2048, .f32⟩
  | 126 => ⟨S1x80x1, .f32⟩
  | 127 => ⟨S16x80x2048, .f32⟩
  | _ => ⟨S16x2048x80, .f32⟩

abbrev hbmTy0_7 (i : Nat) : BufTy := match i % 128 with
  | 0 => ⟨S16x80x2048, .f32⟩
  | 1 => ⟨S1x160x80x5, .f32⟩
  | 2 => ⟨S160x80x5, .f32⟩
  | 3 => ⟨S1x160, .f32⟩
  | 4 => ⟨S160, .f32⟩
  | 5 => ⟨S_, .i32⟩
  | 6 => ⟨S_, .f32⟩
  | 7 => ⟨S16x80x2052, .f32⟩
  | 8 => ⟨S160x80x1, .f32⟩
  | 9 => ⟨S160x80, .f32⟩
  | 10 => ⟨S16x80x2048, .f32⟩
  | 11 => ⟨S16x2048x160, .f32⟩
  | 12 => ⟨S16x160x2048, .f32⟩
  | 13 => ⟨S160x80x1, .f32⟩
  | 14 => ⟨S160x80, .f32⟩
  | 15 => ⟨S16x80x2048, .f32⟩
  | 16 => ⟨S16x2048x160, .f32⟩
  | 17 => ⟨S16x160x2048, .f32⟩
  | 18 => ⟨S16x160x2048, .f32⟩
  | 19 => ⟨S160x80x1, .f32⟩
  | 20 => ⟨S160x80, .f32⟩
  | 21 => ⟨S16x80x2048, .f32⟩
  | 22 => ⟨S16x2048x160, .f32⟩
  | 23 => ⟨S16x160x2048, .f32⟩
  | 24 => ⟨S16x160x2048, .f32⟩
  | 25 => ⟨S160x80x1, .f32⟩
  | 26 => ⟨S160x80, .f32⟩
  | 27 => ⟨S16x80x2048, .f32⟩
  | 28 => ⟨S16x2048x160, .f32⟩
  | 29 => ⟨S16x160x2048, .f32⟩
  | 30 => ⟨S16x160x2048, .f32⟩
  | 31 => ⟨S160x80x1, .f32⟩
  | 32 => ⟨S160x80, .f32⟩
  | 33 => ⟨S16x80x2048, .f32⟩
  | 34 => ⟨S16x2048x160, .f32⟩
  | 35 => ⟨S16x160x2048, .f32⟩
  | 36 => ⟨S16x160x2048, .f32⟩
  | 37 => ⟨S1x160x1, .f32⟩
  | 38 => ⟨S16x160x2048, .f32⟩
  | 39 => ⟨S16x160x2048, .f32⟩
  | 40 => ⟨S_, .f32⟩
  | 41 => ⟨S16x160x2048, .f32⟩
  | 42 => ⟨S16x160x2048, .f32⟩
  | 43 => ⟨S_, .f32⟩
  | 44 => ⟨S16x160x2048, .f32⟩
  | 45 => ⟨S16x160x2048, .f32⟩
  | 46 => ⟨S16x160x2048, .f32⟩
  | 47 => ⟨S_, .f32⟩
  | 48 => ⟨S16x160x2048, .f32⟩
  | 49 => ⟨S16x160x2048, .f32⟩
  | 50 => ⟨S16x160x2048, .f32⟩
  | 51 => ⟨S16x160x2048, .f32⟩
  | 52 => ⟨S1x80x160x1, .f32⟩
  | 53 => ⟨S80x160x1, .f32⟩
  | 54 => ⟨S1x80, .f32⟩
  | 55 => ⟨S80, .f32⟩
  | 56 => ⟨S80x160, .f32⟩
  | 57 => ⟨S16x2048x80, .f32⟩
  | 58 => ⟨S16x80x2048, .f32⟩
  | 59 => ⟨S1x80x1, .f32⟩
  | 60 => ⟨S16x80x2048, .f32⟩
  | 61 => ⟨S16x80x2048, .f32⟩
  | 62 => ⟨S16x80x2048, .f32⟩
  | 63 => ⟨S16x80x2048, .f32⟩
  | 64 => ⟨S16x80x2048, .f32⟩
  | 65 => ⟨S1x80, .f32⟩
  | 66 => ⟨S80, .f32⟩
  | 67 => ⟨S1x80, .f32⟩
  | 68 => ⟨S80, .f32⟩
  | 69 => ⟨S_, .f32⟩
  | 70 => ⟨S16x2048, .f32⟩
  | 71 => ⟨S16x1x2048, .f32⟩
  | 72 => ⟨S_, .f32⟩
  | 73 => ⟨S16x1x2048, .f32⟩
  | 74 => ⟨S16x1x2048, .f32⟩
  | 75 => ⟨S16x80x2048, .f32⟩
  | 76 => ⟨S16x80x2048, .f32⟩
  | 77 => ⟨S16x80x2048, .f32⟩
  | 78 => ⟨S_, .f32⟩
  | 79 => ⟨S16x2048, .f32⟩
  | 80 => ⟨S16x1x2048, .f32⟩
  | 81 => ⟨S_, .f32⟩
  | 82 => ⟨S16x1x2048, .f32⟩
  | 83 => ⟨S16x1x2048, .f32⟩
  | 84 => ⟨S16x80x2048, .f32⟩
  | 85 => ⟨S16x80x2048, .f32⟩
  | 86 => ⟨S_, .f32⟩
  | 87 => ⟨S16x1x2048, .f32⟩
  | 88 => ⟨S16x1x2048, .f32⟩
  | 89 => ⟨S16x1x2048, .f32⟩
  | 90 => ⟨S16x80x2048, .f32⟩
  | 91 => ⟨S16x80x2048, .f32⟩
  | 92 => ⟨S1x80x1, .f32⟩
  | 93 => ⟨S16x80x2048, .f32⟩
  | 94 => ⟨S16x80x2048, .f32⟩
  | 95 => ⟨S1x80x1, .f32⟩
  | 96 => ⟨S16x80x2048, .f32⟩
  | 97 => ⟨S16x80x2048, .f32⟩
  | 98 => ⟨S1x160x80x5, .f32⟩
  | 99 => ⟨S160x80x5, .f32⟩
  | 100 => ⟨S1x160, .f32⟩
  | 101 => ⟨S160, .f32⟩
  | 102 => ⟨S_, .i32⟩
  | 103 => ⟨S_, .f32⟩
  | 104 => ⟨S16x80x2052, .f32⟩
  | 105 => ⟨S160x80x1, .f32⟩
  | 106 => ⟨S160x80, .f32⟩
  | 107 => ⟨S16x80x2048, .f32⟩
  | 108 => ⟨S16x2048x160, .f32⟩
  | 109 => ⟨S16x160x2048, .f32⟩
  | 110 => ⟨S160x80x1, .f32⟩
  | 111 => ⟨S160x80, .f32⟩
  | 112 => ⟨S16x80x2048, .f32⟩
  | 113 => ⟨S16x2048x160, .f32⟩
  | 114 => ⟨S16x160x2048, .f32⟩
  | 115 => ⟨S16x160x2048, .f32⟩
  | 116 => ⟨S160x80x1, .f32⟩
  | 117 => ⟨S160x80, .f32⟩
  | 118 => ⟨S16x80x2048, .f32⟩
  | 119 => ⟨S16x2048x160, .f32⟩
  | 120 => ⟨S16x160x2048, .f32⟩
  | 121 => ⟨S16x160x2048, .f32⟩
  | 122 => ⟨S160x80x1, .f32⟩
  | 123 => ⟨S160x80, .f32⟩
  | 124 => ⟨S16x80x2048, .f32⟩
  | 125 => ⟨S16x2048x160, .f32⟩
  | 126 => ⟨S16x160x2048, .f32⟩
  | 127 => ⟨S16x160x2048, .f32⟩
  | _ => ⟨S16x2048x80, .f32⟩

abbrev hbmTy0_8 (i : Nat) : BufTy := match i % 128 with
  | 0 => ⟨S160x80x1, .f32⟩
  | 1 => ⟨S160x80, .f32⟩
  | 2 => ⟨S16x80x2048, .f32⟩
  | 3 => ⟨S16x2048x160, .f32⟩
  | 4 => ⟨S16x160x2048, .f32⟩
  | 5 => ⟨S16x160x2048, .f32⟩
  | 6 => ⟨S1x160x1, .f32⟩
  | 7 => ⟨S16x160x2048, .f32⟩
  | 8 => ⟨S16x160x2048, .f32⟩
  | 9 => ⟨S_, .f32⟩
  | 10 => ⟨S16x160x2048, .f32⟩
  | 11 => ⟨S16x160x2048, .f32⟩
  | 12 => ⟨S_, .f32⟩
  | 13 => ⟨S16x160x2048, .f32⟩
  | 14 => ⟨S16x160x2048, .f32⟩
  | 15 => ⟨S16x160x2048, .f32⟩
  | 16 => ⟨S_, .f32⟩
  | 17 => ⟨S16x160x2048, .f32⟩
  | 18 => ⟨S16x160x2048, .f32⟩
  | 19 => ⟨S16x160x2048, .f32⟩
  | 20 => ⟨S16x160x2048, .f32⟩
  | 21 => ⟨S1x80x160x1, .f32⟩
  | 22 => ⟨S80x160x1, .f32⟩
  | 23 => ⟨S1x80, .f32⟩
  | 24 => ⟨S80, .f32⟩
  | 25 => ⟨S80x160, .f32⟩
  | 26 => ⟨S16x2048x80, .f32⟩
  | 27 => ⟨S16x80x2048, .f32⟩
  | 28 => ⟨S1x80x1, .f32⟩
  | 29 => ⟨S16x80x2048, .f32⟩
  | 30 => ⟨S16x80x2048, .f32⟩
  | 31 => ⟨S16x80x2048, .f32⟩
  | 32 => ⟨S16x80x2048, .f32⟩
  | 33 => ⟨S16x80x2048, .f32⟩
  | 34 => ⟨S16x80x2048, .f32⟩
  | 35 => ⟨S_, .f32⟩
  | 36 => ⟨S16x2048, .f32⟩
  | 37 => ⟨S_, .f32⟩
  | 38 => ⟨S16x2048, .f32⟩
  | 39 => ⟨S16x2048, .i1⟩
  | 40 => ⟨S16x2048, .f32⟩
  | 41 => ⟨S16x1x2048, .f32⟩
  | 42 => ⟨S1x80, .f32⟩
  | 43 => ⟨S80, .f32⟩
  | 44 => ⟨S1x80, .f32⟩
  | 45 => ⟨S80, .f32⟩
  | 46 => ⟨S_, .f32⟩
  | 47 => ⟨S16x2048, .f32⟩
  | 48 => ⟨S16x1x2048, .f32⟩
  | 49 => ⟨S_, .f32⟩
  | 50 => ⟨S16x1x2048, .f32⟩
  | 51 => ⟨S16x1x2048, .f32⟩
  | 52 => ⟨S16x80x2048, .f32⟩
  | 53 => ⟨S16x80x2048, .f32⟩
  | 54 => ⟨S16x80x2048, .f32⟩
  | 55 => ⟨S_, .f32⟩
  | 56 => ⟨S16x2048, .f32⟩
  | 57 => ⟨S16x1x2048, .f32⟩
  | 58 => ⟨S_, .f32⟩
  | 59 => ⟨S16x1x2048, .f32⟩
  | 60 => ⟨S16x1x2048, .f32⟩
  | 61 => ⟨S16x80x2048, .f32⟩
  | 62 => ⟨S16x80x2048, .f32⟩
  | 63 => ⟨S_, .f32⟩
  | 64 => ⟨S16x1x2048, .f32⟩
  | 65 => ⟨S16x1x2048, .f32⟩
  | 66 => ⟨S16x1x2048, .f32⟩
  | 67 => ⟨S16x80x2048, .f32⟩
  | 68 => ⟨S16x80x2048, .f32⟩
  | 69 => ⟨S1x80x1, .f32⟩
  | 70 => ⟨S16x80x2048, .f32⟩
  | 71 => ⟨S16x80x2048, .f32⟩
  | 72 => ⟨S1x80x1, .f32⟩
  | 73 => ⟨S16x80x2048, .f32⟩
  | 74 => ⟨S16x80x2048, .f32⟩
  | 75 => ⟨S1x160x80x5, .f32⟩
  | 76 => ⟨S160x80x5, .f32⟩
  | 77 => ⟨S1x160, .f32⟩
  | 78 => ⟨S160, .f32⟩
  | 79 => ⟨S_, .i32⟩
  | 80 => ⟨S_, .f32⟩
  | 81 => ⟨S16x80x2052, .f32⟩
  | 82 => ⟨S160x80x1, .f32⟩
  | 83 => ⟨S160x80, .f32⟩
  | 84 => ⟨S16x80x2048, .f32⟩
  | 85 => ⟨S16x2048x160, .f32⟩
  | 86 => ⟨S16x160x2048, .f32⟩
  | 87 => ⟨S160x80x1, .f32⟩
  | 88 => ⟨S160x80, .f32⟩
  | 89 => ⟨S16x80x2048, .f32⟩
  | 90 => ⟨S16x2048x160, .f32⟩
  | 91 => ⟨S16x160x2048, .f32⟩
  | 92 => ⟨S16x160x2048, .f32⟩
  | 93 => ⟨S160x80x1, .f32⟩
  | 94 => ⟨S160x80, .f32⟩
  | 95 => ⟨S16x80x2048, .f32⟩
  | 96 => ⟨S16x2048x160, .f32⟩
  | 97 => ⟨S16x160x2048, .f32⟩
  | 98 => ⟨S16x160x2048, .f32⟩
  | 99 => ⟨S160x80x1, .f32⟩
  | 100 => ⟨S160x80, .f32⟩
  | 101 => ⟨S16x80x2048, .f32⟩
  | 102 => ⟨S16x2048x160, .f32⟩
  | 103 => ⟨S16x160x2048, .f32⟩
  | 104 => ⟨S16x160x2048, .f32⟩
  | 105 => ⟨S160x80x1, .f32⟩
  | 106 => ⟨S160x80, .f32⟩
  | 107 => ⟨S16x80x2048, .f32⟩
  | 108 => ⟨S16x2048x160, .f32⟩
  | 109 => ⟨S16x160x2048, .f32⟩
  | 110 => ⟨S16x160x2048, .f32⟩
  | 111 => ⟨S1x160x1, .f32⟩
  | 112 => ⟨S16x160x2048, .f32⟩
  | 113 => ⟨S16x160x2048, .f32⟩
  | 114 => ⟨S_, .f32⟩
  | 115 => ⟨S16x160x2048, .f32⟩
  | 116 => ⟨S16x160x2048, .f32⟩
  | 117 => ⟨S_, .f32⟩
  | 118 => ⟨S16x160x2048, .f32⟩
  | 119 => ⟨S16x160x2048, .f32⟩
  | 120 => ⟨S16x160x2048, .f32⟩
  | 121 => ⟨S_, .f32⟩
  | 122 => ⟨S16x160x2048, .f32⟩
  | 123 => ⟨S16x160x2048, .f32⟩
  | 124 => ⟨S16x160x2048, .f32⟩
  | 125 => ⟨S16x160x2048, .f32⟩
  | 126 => ⟨S1x80x160x1, .f32⟩
  | 127 => ⟨S80x160x1, .f32⟩
  | _ => ⟨S16x2048x80, .f32⟩

abbrev hbmTy0_9 (i : Nat) : BufTy := match i % 128 with
  | 0 => ⟨S1x80, .f32⟩
  | 1 => ⟨S80, .f32⟩
  | 2 => ⟨S80x160, .f32⟩
  | 3 => ⟨S16x2048x80, .f32⟩
  | 4 => ⟨S16x80x2048, .f32⟩
  | 5 => ⟨S1x80x1, .f32⟩
  | 6 => ⟨S16x80x2048, .f32⟩
  | 7 => ⟨S16x80x2048, .f32⟩
  | 8 => ⟨S16x80x2048, .f32⟩
  | 9 => ⟨S16x80x2048, .f32⟩
  | 10 => ⟨S16x80x2048, .f32⟩
  | 11 => ⟨S1x80, .f32⟩
  | 12 => ⟨S80, .f32⟩
  | 13 => ⟨S1x80, .f32⟩
  | 14 => ⟨S80, .f32⟩
  | 15 => ⟨S_, .f32⟩
  | 16 => ⟨S16x2048, .f32⟩
  | 17 => ⟨S16x1x2048, .f32⟩
  | 18 => ⟨S_, .f32⟩
  | 19 => ⟨S16x1x2048, .f32⟩
  | 20 => ⟨S16x1x2048, .f32⟩
  | 21 => ⟨S16x80x2048, .f32⟩
  | 22 => ⟨S16x80x2048, .f32⟩
  | 23 => ⟨S16x80x2048, .f32⟩
  | 24 => ⟨S_, .f32⟩
  | 25 => ⟨S16x2048, .f32⟩
  | 26 => ⟨S16x1x2048, .f32⟩
  | 27 => ⟨S_, .f32⟩
  | 28 => ⟨S16x1x2048, .f32⟩
  | 29 => ⟨S16x1x2048, .f32⟩
  | 30 => ⟨S16x80x2048, .f32⟩
  | 31 => ⟨S16x80x2048, .f32⟩
  | 32 => ⟨S_, .f32⟩
  | 33 => ⟨S16x1x2048, .f32⟩
  | 34 => ⟨S16x1x2048, .f32⟩
  | 35 => ⟨S16x1x2048, .f32⟩
  | 36 => ⟨S16x80x2048, .f32⟩
  | 37 => ⟨S16x80x2048, .f32⟩
  | 38 => ⟨S1x80x1, .f32⟩
  | 39 => ⟨S16x80x2048, .f32⟩
  | 40 => ⟨S16x80x2048, .f32⟩
  | 41 => ⟨S1x80x1, .f32⟩
  | 42 => ⟨S16x80x2048, .f32⟩
  | 43 => ⟨S16x80x2048, .f32⟩
  | 44 => ⟨S1x160x80x5, .f32⟩
  | 45 => ⟨S160x80x5, .f32⟩
  | 46 => ⟨S1x160, .f32⟩
  | 47 => ⟨S160, .f32⟩
  | 48 => ⟨S_, .i32⟩
  | 49 => ⟨S_, .f32⟩
  | 50 => ⟨S16x80x2052, .f32⟩
  | 51 => ⟨S160x80x1, .f32⟩
  | 52 => ⟨S160x80, .f32⟩
  | 53 => ⟨S16x80x2048, .f32⟩
  | 54 => ⟨S16x2048x160, .f32⟩
  | 55 => ⟨S16x160x2048, .f32⟩
  | 56 => ⟨S160x80x1, .f32⟩
  | 57 => ⟨S160x80, .f32⟩
  | 58 => ⟨S16x80x2048, .f32⟩
  | 59 => ⟨S16x2048x160, .f32⟩
  | 60 => ⟨S16x160x2048, .f32⟩
  | 61 => ⟨S16x160x2048, .f32⟩
  | 62 => ⟨S160x80x1, .f32⟩
  | 63 => ⟨S160x80, .f32⟩
  | 64 => ⟨S16x80x2048, .f32⟩
  | 65 => ⟨S16x2048x160, .f32⟩
  | 66 => ⟨S16x160x2048, .f32⟩
  | 67 => ⟨S16x160x2048, .f32⟩
  | 68 => ⟨S160x80x1, .f32⟩
  | 69 => ⟨S160x80, .f32⟩
  | 70 => ⟨S16x80x2048, .f32⟩
  | 71 => ⟨S16x2048x160, .f32⟩
  | 72 => ⟨S16x160x2048, .f32⟩
  | 73 => ⟨S16x160x2048, .f32⟩
  | 74 => ⟨S160x80x1, .f32⟩
  | 75 => ⟨S160x80, .f32⟩
  | 76 => ⟨S16x80x2048, .f32⟩
  | 77 => ⟨S16x2048x160, .f32⟩
  | 78 => ⟨S16x160x2048, .f32⟩
  | 79 => ⟨S16x160x2048, .f32⟩
  | 80 => ⟨S1x160x1, .f32⟩
  | 81 => ⟨S16x160x2048, .f32⟩
  | 82 => ⟨S16x160x2048, .f32⟩
  | 83 => ⟨S_, .f32⟩
  | 84 => ⟨S16x160x2048, .f32⟩
  | 85 => ⟨S16x160x2048, .f32⟩
  | 86 => ⟨S_, .f32⟩
  | 87 => ⟨S16x160x2048, .f32⟩
  | 88 => ⟨S16x160x2048, .f32⟩
  | 89 => ⟨S16x160x2048, .f32⟩
  | 90 => ⟨S_, .f32⟩
  | 91 => ⟨S16x160x2048, .f32⟩
  | 92 => ⟨S16x160x2048, .f32⟩
  | 93 => ⟨S16x160x2048, .f32⟩
  | 94 => ⟨S16x160x2048, .f32⟩
  | 95 => ⟨S1x80x160x1, .f32⟩
  | 96 => ⟨S80x160x1, .f32⟩
  | 97 => ⟨S1x80, .f32⟩
  | 98 => ⟨S80, .f32⟩
  | 99 => ⟨S80x160, .f32⟩
  | 100 => ⟨S16x2048x80, .f32⟩
  | 101 => ⟨S16x80x2048, .f32⟩
  | 102 => ⟨S1x80x1, .f32⟩
  | 103 => ⟨S16x80x2048, .f32⟩
  | 104 => ⟨S16x80x2048, .f32⟩
  | 105 => ⟨S16x80x2048, .f32⟩
  | 106 => ⟨S16x80x2048, .f32⟩
  | 107 => ⟨S16x80x2048, .f32⟩
  | 108 => ⟨S16x80x2048, .f32⟩
  | 109 => ⟨S16x80x2048, .f32⟩
  | 110 => ⟨S_, .f32⟩
  | 111 => ⟨S16x2048, .f32⟩
  | 112 => ⟨S16x1x2048, .f32⟩
  | 113 => ⟨S_, .f32⟩
  | 114 => ⟨S16x1x2048, .f32⟩
  | 115 => ⟨S16x1x2048, .f32⟩
  | 116 => ⟨S16x80x2048, .f32⟩
  | 117 => ⟨S16x80x2048, .f32⟩
  | 118 => ⟨S16x80x2048, .f32⟩
  | 119 => ⟨S_, .f32⟩
  | 120 => ⟨S16x2048, .f32⟩
  | 121 => ⟨S16x1x2048, .f32⟩
  | 122 => ⟨S_, .f32⟩
  | 123 => ⟨S16x1x2048, .f32⟩
  | 124 => ⟨S16x1x2048, .f32⟩
  | 125 => ⟨S16x80x2048, .f32⟩
  | 126 => ⟨S16x80x2048, .f32⟩
  | 127 => ⟨S_, .f32⟩
  | _ => ⟨S16x2048x80, .f32⟩

abbrev hbmTy0_10 (i : Nat) : BufTy := match i % 128 with
  | 0 => ⟨S16x1x2048, .f32⟩
  | 1 => ⟨S16x1x2048, .f32⟩
  | 2 => ⟨S16x1x2048, .f32⟩
  | 3 => ⟨S16x80x2048, .f32⟩
  | 4 => ⟨S16x80x2048, .f32⟩
  | 5 => ⟨S1x80x1, .f32⟩
  | 6 => ⟨S16x80x2048, .f32⟩
  | 7 => ⟨S16x80x2048, .f32⟩
  | 8 => ⟨S1x80x1, .f32⟩
  | 9 => ⟨S16x80x2048, .f32⟩
  | 10 => ⟨S16x80x2048, .f32⟩
  | 11 => ⟨S16x80x2048, .f32⟩
  | 12 => ⟨S16x80x2048, .f32⟩
  | 13 => ⟨S_, .i32⟩
  | 14 => ⟨S_, .f32⟩
  | 15 => ⟨S16x80x2050, .f32⟩
  | 16 => ⟨S256x80x1, .f32⟩
  | 17 => ⟨S256x80, .f32⟩
  | 18 => ⟨S16x80x2048, .f32⟩
  | 19 => ⟨S16x2048x256, .f32⟩
  | 20 => ⟨S16x256x2048, .f32⟩
  | 21 => ⟨S256x80x1, .f32⟩
  | 22 => ⟨S256x80, .f32⟩
  | 23 => ⟨S16x80x2048, .f32⟩
  | 24 => ⟨S16x2048x256, .f32⟩
  | 25 => ⟨S16x256x2048, .f32⟩
  | 26 => ⟨S16x256x2048, .f32⟩
  | 27 => ⟨S256x80x1, .f32⟩
  | 28 => ⟨S256x80, .f32⟩
  | 29 => ⟨S16x80x2048, .f32⟩
  | 30 => ⟨S16x2048x256, .f32⟩
  | 31 => ⟨S16x256x2048, .f32⟩
  | 32 => ⟨S16x256x2048, .f32⟩
  | 33 => ⟨S1x256x1, .f32⟩
  | 34 => ⟨S16x256x2048, .f32⟩
  | 35 => ⟨S16x256x2048, .f32⟩
  | 36 => ⟨S16x256x2048, .f32⟩
  | 37 => ⟨S16x256x2048, .f32⟩
  | 38 => ⟨S16x2048x256, .f32⟩
  | 39 => ⟨S256x128, .f32⟩
  | 40 => ⟨S128x256, .bf16⟩
  | 41 => ⟨S128x256, .f32⟩
  | 42 => ⟨S128x256, .f32⟩
  | 43 => ⟨S128x256, .bf16⟩
  | 44 => ⟨S128x256, .f32⟩
  | 45 => ⟨S128x256, .f32⟩
  | 46 => ⟨S128x256, .bf16⟩
  | 47 => ⟨S16x2048x256, .f32⟩
  | 48 => ⟨S16x1x128, .f32⟩
  | 49 => ⟨S16x1x128, .f32⟩
  | 50 => ⟨S16x1x1, .f32⟩
  | 51 => ⟨S16, .f32⟩
  | 52 => ⟨S_, .f32⟩
  | 53 => ⟨S_, .f32⟩
  | 54 => ⟨S16x1x1, .f32⟩
  | 55 => ⟨S16, .f32⟩
  | 56 => ⟨S_, .f32⟩
  | 57 => ⟨S_, .f32⟩
  | 58 => ⟨S_, .f32⟩
  | 59 => ⟨S_, .f32⟩
  | 60 => ⟨S_, .f32⟩
  | 61 => ⟨S16x128, .f32⟩
  | 62 => ⟨S_, .f32⟩
  | 63 => ⟨S128, .f32⟩
  | 64 => ⟨S_, .f32⟩
  | 65 => ⟨S128, .f32⟩
  | 66 => ⟨S128, .f32⟩
  | 67 => ⟨S_, .f32⟩
  | 68 => ⟨S128, .f32⟩
  | 69 => ⟨S128, .f32⟩
  | 70 => ⟨S128, .f32⟩
  | 71 => ⟨S128, .f32⟩
  | 72 => ⟨S_, .f32⟩
  | 73 => ⟨S_, .f32⟩
  | 74 => ⟨S_, .f32⟩
  | 75 => ⟨S_, .f32⟩
  | _ => ⟨S16x2048x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S16x2048x80, .f32⟩

abbrev bufTy : (tb : Table) → Fin (tcTables nBuf tb) → BufTy
  | .hbm, ⟨i, _⟩ => hbmTy i
  | .local _ .vmem, ⟨0, _⟩ => ⟨S1x2048x256, .f32⟩
  | .local _ .vmem, ⟨1, _⟩ => ⟨S1x2048x256, .f32⟩
  | .local _ .vmem, ⟨2, _⟩ => ⟨S256x128, .f32⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S1x2048x256, .f32⟩
  | .local _ .vmem, ⟨7, _⟩ => ⟨S1x2048x256, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | _, _ => ⟨S16x2048x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_call0_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_3 : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_4 : Ref sig .tc := ⟨.hbm, 116, rfl⟩
abbrev main_v90 : Ref sig .tc := ⟨.hbm, 117, rfl⟩
abbrev main_v91 : Ref sig .tc := ⟨.hbm, 118, rfl⟩
abbrev main_cst_5 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_c_6 : Ref sig .tc := ⟨.hbm, 143, rfl⟩
abbrev main_call2_v0 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_7 : Ref sig .tc := ⟨.hbm, 171, rfl⟩
abbrev main_v141 : Ref sig .tc := ⟨.hbm, 172, rfl⟩
abbrev main_v142 : Ref sig .tc := ⟨.hbm, 173, rfl⟩
abbrev main_cst_8 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_c_9 : Ref sig .tc := ⟨.hbm, 198, rfl⟩
abbrev main_call3_v0 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_cst_10 : Ref sig .tc := ⟨.hbm, 226, rfl⟩
abbrev main_v192 : Ref sig .tc := ⟨.hbm, 227, rfl⟩
abbrev main_v193 : Ref sig .tc := ⟨.hbm, 228, rfl⟩
abbrev main_cst_11 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_cst_12 : Ref sig .tc := ⟨.hbm, 243, rfl⟩
abbrev main_v207 : Ref sig .tc := ⟨.hbm, 244, rfl⟩
abbrev main_cst_13 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_cst_14 : Ref sig .tc := ⟨.hbm, 251, rfl⟩
abbrev main_v213 : Ref sig .tc := ⟨.hbm, 252, rfl⟩
abbrev main_cst_15 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_cst_16 : Ref sig .tc := ⟨.hbm, 262, rfl⟩
abbrev main_v222 : Ref sig .tc := ⟨.hbm, 263, rfl⟩
abbrev main_v223 : Ref sig .tc := ⟨.hbm, 264, rfl⟩
abbrev main_cst_17 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_cst_18 : Ref sig .tc := ⟨.hbm, 271, rfl⟩
abbrev main_v229 : Ref sig .tc := ⟨.hbm, 272, rfl⟩
abbrev main_v230 : Ref sig .tc := ⟨.hbm, 273, rfl⟩
abbrev main_cst_19 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_cst_20 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_c_21 : Ref sig .tc := ⟨.hbm, 295, rfl⟩
abbrev main_call4_v0 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_cst_22 : Ref sig .tc := ⟨.hbm, 330, rfl⟩
abbrev main_v283 : Ref sig .tc := ⟨.hbm, 331, rfl⟩
abbrev main_v284 : Ref sig .tc := ⟨.hbm, 332, rfl⟩
abbrev main_cst_23 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_cst_24 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_cst_25 : Ref sig .tc := ⟨.hbm, 359, rfl⟩
abbrev main_v309 : Ref sig .tc := ⟨.hbm, 360, rfl⟩
abbrev main_v310 : Ref sig .tc := ⟨.hbm, 361, rfl⟩
abbrev main_cst_26 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_cst_27 : Ref sig .tc := ⟨.hbm, 368, rfl⟩
abbrev main_v316 : Ref sig .tc := ⟨.hbm, 369, rfl⟩
abbrev main_v317 : Ref sig .tc := ⟨.hbm, 370, rfl⟩
abbrev main_cst_28 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_cst_29 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_c_30 : Ref sig .tc := ⟨.hbm, 392, rfl⟩
abbrev main_call5_v0 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_v354 : Ref sig .tc := ⟨.hbm, 411, rfl⟩
abbrev main_v355 : Ref sig .tc := ⟨.hbm, 412, rfl⟩
abbrev main_v356 : Ref sig .tc := ⟨.hbm, 413, rfl⟩
abbrev main_v357 : Ref sig .tc := ⟨.hbm, 414, rfl⟩
abbrev main_v358 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_v369 : Ref sig .tc := ⟨.hbm, 426, rfl⟩
abbrev main_cst_31 : Ref sig .tc := ⟨.hbm, 427, rfl⟩
abbrev main_v370 : Ref sig .tc := ⟨.hbm, 428, rfl⟩
abbrev main_v371 : Ref sig .tc := ⟨.hbm, 429, rfl⟩
abbrev main_cst_32 : Ref sig .tc := ⟨.hbm, 430, rfl⟩
abbrev main_v372 : Ref sig .tc := ⟨.hbm, 431, rfl⟩
abbrev main_v373 : Ref sig .tc := ⟨.hbm, 432, rfl⟩
abbrev main_v374 : Ref sig .tc := ⟨.hbm, 433, rfl⟩
abbrev main_cst_33 : Ref sig .tc := ⟨.hbm, 434, rfl⟩
abbrev main_v375 : Ref sig .tc := ⟨.hbm, 435, rfl⟩
abbrev main_v376 : Ref sig .tc := ⟨.hbm, 436, rfl⟩
abbrev main_v377 : Ref sig .tc := ⟨.hbm, 437, rfl⟩
abbrev main_v378 : Ref sig .tc := ⟨.hbm, 438, rfl⟩
abbrev main_v379 : Ref sig .tc := ⟨.hbm, 439, rfl⟩
abbrev main_v380 : Ref sig .tc := ⟨.hbm, 440, rfl⟩
abbrev main_v381 : Ref sig .tc := ⟨.hbm, 441, rfl⟩
abbrev main_v382 : Ref sig .tc := ⟨.hbm, 442, rfl⟩
abbrev main_v383 : Ref sig .tc := ⟨.hbm, 443, rfl⟩
abbrev main_v384 : Ref sig .tc := ⟨.hbm, 444, rfl⟩
abbrev main_v385 : Ref sig .tc := ⟨.hbm, 445, rfl⟩
abbrev main_v386 : Ref sig .tc := ⟨.hbm, 446, rfl⟩
abbrev main_v387 : Ref sig .tc := ⟨.hbm, 447, rfl⟩
abbrev main_v388 : Ref sig .tc := ⟨.hbm, 448, rfl⟩
abbrev main_v389 : Ref sig .tc := ⟨.hbm, 449, rfl⟩
abbrev main_v390 : Ref sig .tc := ⟨.hbm, 450, rfl⟩
abbrev main_v391 : Ref sig .tc := ⟨.hbm, 451, rfl⟩
abbrev main_v392 : Ref sig .tc := ⟨.hbm, 452, rfl⟩
abbrev main_cst_34 : Ref sig .tc := ⟨.hbm, 453, rfl⟩
abbrev main_v393 : Ref sig .tc := ⟨.hbm, 454, rfl⟩
abbrev main_cst_35 : Ref sig .tc := ⟨.hbm, 455, rfl⟩
abbrev main_v394 : Ref sig .tc := ⟨.hbm, 456, rfl⟩
abbrev main_v395 : Ref sig .tc := ⟨.hbm, 457, rfl⟩
abbrev main_v396 : Ref sig .tc := ⟨.hbm, 458, rfl⟩
abbrev main_v397 : Ref sig .tc := ⟨.hbm, 459, rfl⟩
abbrev main_v398 : Ref sig .tc := ⟨.hbm, 460, rfl⟩
abbrev main_v399 : Ref sig .tc := ⟨.hbm, 461, rfl⟩
abbrev main_v400 : Ref sig .tc := ⟨.hbm, 462, rfl⟩
abbrev main_v401 : Ref sig .tc := ⟨.hbm, 463, rfl⟩
abbrev main_cst_36 : Ref sig .tc := ⟨.hbm, 464, rfl⟩
abbrev main_v402 : Ref sig .tc := ⟨.hbm, 465, rfl⟩
abbrev main_v403 : Ref sig .tc := ⟨.hbm, 466, rfl⟩
abbrev main_cst_37 : Ref sig .tc := ⟨.hbm, 467, rfl⟩
abbrev main_v404 : Ref sig .tc := ⟨.hbm, 468, rfl⟩
abbrev main_v405 : Ref sig .tc := ⟨.hbm, 469, rfl⟩
abbrev main_v406 : Ref sig .tc := ⟨.hbm, 470, rfl⟩
abbrev main_v407 : Ref sig .tc := ⟨.hbm, 471, rfl⟩
abbrev main_v408 : Ref sig .tc := ⟨.hbm, 472, rfl⟩
abbrev main_cst_38 : Ref sig .tc := ⟨.hbm, 473, rfl⟩
abbrev main_v409 : Ref sig .tc := ⟨.hbm, 474, rfl⟩
abbrev main_v410 : Ref sig .tc := ⟨.hbm, 475, rfl⟩
abbrev main_cst_39 : Ref sig .tc := ⟨.hbm, 476, rfl⟩
abbrev main_v411 : Ref sig .tc := ⟨.hbm, 477, rfl⟩
abbrev main_v412 : Ref sig .tc := ⟨.hbm, 478, rfl⟩
abbrev main_v413 : Ref sig .tc := ⟨.hbm, 479, rfl⟩
abbrev main_v414 : Ref sig .tc := ⟨.hbm, 480, rfl⟩
abbrev main_cst_40 : Ref sig .tc := ⟨.hbm, 481, rfl⟩
abbrev main_v415 : Ref sig .tc := ⟨.hbm, 482, rfl⟩
abbrev main_v416 : Ref sig .tc := ⟨.hbm, 483, rfl⟩
abbrev main_v417 : Ref sig .tc := ⟨.hbm, 484, rfl⟩
abbrev main_v418 : Ref sig .tc := ⟨.hbm, 485, rfl⟩
abbrev main_v419 : Ref sig .tc := ⟨.hbm, 486, rfl⟩
abbrev main_v420 : Ref sig .tc := ⟨.hbm, 487, rfl⟩
abbrev main_v421 : Ref sig .tc := ⟨.hbm, 488, rfl⟩
abbrev main_v422 : Ref sig .tc := ⟨.hbm, 489, rfl⟩
abbrev main_v423 : Ref sig .tc := ⟨.hbm, 490, rfl⟩
abbrev main_v424 : Ref sig .tc := ⟨.hbm, 491, rfl⟩
abbrev main_v425 : Ref sig .tc := ⟨.hbm, 492, rfl⟩
abbrev main_v426 : Ref sig .tc := ⟨.hbm, 493, rfl⟩
abbrev main_v427 : Ref sig .tc := ⟨.hbm, 494, rfl⟩
abbrev main_v428 : Ref sig .tc := ⟨.hbm, 495, rfl⟩
abbrev main_v429 : Ref sig .tc := ⟨.hbm, 496, rfl⟩
abbrev main_c_41 : Ref sig .tc := ⟨.hbm, 497, rfl⟩
abbrev main_call6_v0 : Ref sig .tc := ⟨.hbm, 498, rfl⟩
abbrev main_v430 : Ref sig .tc := ⟨.hbm, 499, rfl⟩
abbrev main_v431 : Ref sig .tc := ⟨.hbm, 500, rfl⟩
abbrev main_v432 : Ref sig .tc := ⟨.hbm, 501, rfl⟩
abbrev main_v433 : Ref sig .tc := ⟨.hbm, 502, rfl⟩
abbrev main_v434 : Ref sig .tc := ⟨.hbm, 503, rfl⟩
abbrev main_v435 : Ref sig .tc := ⟨.hbm, 504, rfl⟩
abbrev main_v436 : Ref sig .tc := ⟨.hbm, 505, rfl⟩
abbrev main_v437 : Ref sig .tc := ⟨.hbm, 506, rfl⟩
abbrev main_v438 : Ref sig .tc := ⟨.hbm, 507, rfl⟩
abbrev main_v439 : Ref sig .tc := ⟨.hbm, 508, rfl⟩
abbrev main_v440 : Ref sig .tc := ⟨.hbm, 509, rfl⟩
abbrev main_v441 : Ref sig .tc := ⟨.hbm, 510, rfl⟩
abbrev main_v442 : Ref sig .tc := ⟨.hbm, 511, rfl⟩
abbrev main_v443 : Ref sig .tc := ⟨.hbm, 512, rfl⟩
abbrev main_v444 : Ref sig .tc := ⟨.hbm, 513, rfl⟩
abbrev main_v445 : Ref sig .tc := ⟨.hbm, 514, rfl⟩
abbrev main_v446 : Ref sig .tc := ⟨.hbm, 515, rfl⟩
abbrev main_v447 : Ref sig .tc := ⟨.hbm, 516, rfl⟩
abbrev main_v448 : Ref sig .tc := ⟨.hbm, 517, rfl⟩
abbrev main_v449 : Ref sig .tc := ⟨.hbm, 518, rfl⟩
abbrev main_v450 : Ref sig .tc := ⟨.hbm, 519, rfl⟩
abbrev main_v451 : Ref sig .tc := ⟨.hbm, 520, rfl⟩
abbrev main_v452 : Ref sig .tc := ⟨.hbm, 521, rfl⟩
abbrev main_v453 : Ref sig .tc := ⟨.hbm, 522, rfl⟩
abbrev main_v454 : Ref sig .tc := ⟨.hbm, 523, rfl⟩
abbrev main_v455 : Ref sig .tc := ⟨.hbm, 524, rfl⟩
abbrev main_v456 : Ref sig .tc := ⟨.hbm, 525, rfl⟩
abbrev main_v457 : Ref sig .tc := ⟨.hbm, 526, rfl⟩
abbrev main_v458 : Ref sig .tc := ⟨.hbm, 527, rfl⟩
abbrev main_v459 : Ref sig .tc := ⟨.hbm, 528, rfl⟩
abbrev main_v460 : Ref sig .tc := ⟨.hbm, 529, rfl⟩
abbrev main_v461 : Ref sig .tc := ⟨.hbm, 530, rfl⟩
abbrev main_v462 : Ref sig .tc := ⟨.hbm, 531, rfl⟩
abbrev main_cst_42 : Ref sig .tc := ⟨.hbm, 532, rfl⟩
abbrev main_v463 : Ref sig .tc := ⟨.hbm, 533, rfl⟩
abbrev main_v464 : Ref sig .tc := ⟨.hbm, 534, rfl⟩
abbrev main_cst_43 : Ref sig .tc := ⟨.hbm, 535, rfl⟩
abbrev main_v465 : Ref sig .tc := ⟨.hbm, 536, rfl⟩
abbrev main_v466 : Ref sig .tc := ⟨.hbm, 537, rfl⟩
abbrev main_v467 : Ref sig .tc := ⟨.hbm, 538, rfl⟩
abbrev main_cst_44 : Ref sig .tc := ⟨.hbm, 539, rfl⟩
abbrev main_v468 : Ref sig .tc := ⟨.hbm, 540, rfl⟩
abbrev main_v469 : Ref sig .tc := ⟨.hbm, 541, rfl⟩
abbrev main_v470 : Ref sig .tc := ⟨.hbm, 542, rfl⟩
abbrev main_v471 : Ref sig .tc := ⟨.hbm, 543, rfl⟩
abbrev main_v472 : Ref sig .tc := ⟨.hbm, 544, rfl⟩
abbrev main_v473 : Ref sig .tc := ⟨.hbm, 545, rfl⟩
abbrev main_v474 : Ref sig .tc := ⟨.hbm, 546, rfl⟩
abbrev main_v475 : Ref sig .tc := ⟨.hbm, 547, rfl⟩
abbrev main_v476 : Ref sig .tc := ⟨.hbm, 548, rfl⟩
abbrev main_v477 : Ref sig .tc := ⟨.hbm, 549, rfl⟩
abbrev main_v478 : Ref sig .tc := ⟨.hbm, 550, rfl⟩
abbrev main_v479 : Ref sig .tc := ⟨.hbm, 551, rfl⟩
abbrev main_v480 : Ref sig .tc := ⟨.hbm, 552, rfl⟩
abbrev main_v481 : Ref sig .tc := ⟨.hbm, 553, rfl⟩
abbrev main_v482 : Ref sig .tc := ⟨.hbm, 554, rfl⟩
abbrev main_v483 : Ref sig .tc := ⟨.hbm, 555, rfl⟩
abbrev main_v484 : Ref sig .tc := ⟨.hbm, 556, rfl⟩
abbrev main_v485 : Ref sig .tc := ⟨.hbm, 557, rfl⟩
abbrev main_v486 : Ref sig .tc := ⟨.hbm, 558, rfl⟩
abbrev main_v487 : Ref sig .tc := ⟨.hbm, 559, rfl⟩
abbrev main_v488 : Ref sig .tc := ⟨.hbm, 560, rfl⟩
abbrev main_cst_45 : Ref sig .tc := ⟨.hbm, 561, rfl⟩
abbrev main_v489 : Ref sig .tc := ⟨.hbm, 562, rfl⟩
abbrev main_v490 : Ref sig .tc := ⟨.hbm, 563, rfl⟩
abbrev main_cst_46 : Ref sig .tc := ⟨.hbm, 564, rfl⟩
abbrev main_v491 : Ref sig .tc := ⟨.hbm, 565, rfl⟩
abbrev main_v492 : Ref sig .tc := ⟨.hbm, 566, rfl⟩
abbrev main_v493 : Ref sig .tc := ⟨.hbm, 567, rfl⟩
abbrev main_v494 : Ref sig .tc := ⟨.hbm, 568, rfl⟩
abbrev main_v495 : Ref sig .tc := ⟨.hbm, 569, rfl⟩
abbrev main_cst_47 : Ref sig .tc := ⟨.hbm, 570, rfl⟩
abbrev main_v496 : Ref sig .tc := ⟨.hbm, 571, rfl⟩
abbrev main_v497 : Ref sig .tc := ⟨.hbm, 572, rfl⟩
abbrev main_cst_48 : Ref sig .tc := ⟨.hbm, 573, rfl⟩
abbrev main_v498 : Ref sig .tc := ⟨.hbm, 574, rfl⟩
abbrev main_v499 : Ref sig .tc := ⟨.hbm, 575, rfl⟩
abbrev main_v500 : Ref sig .tc := ⟨.hbm, 576, rfl⟩
abbrev main_v501 : Ref sig .tc := ⟨.hbm, 577, rfl⟩
abbrev main_cst_49 : Ref sig .tc := ⟨.hbm, 578, rfl⟩
abbrev main_v502 : Ref sig .tc := ⟨.hbm, 579, rfl⟩
abbrev main_v503 : Ref sig .tc := ⟨.hbm, 580, rfl⟩
abbrev main_v504 : Ref sig .tc := ⟨.hbm, 581, rfl⟩
abbrev main_v505 : Ref sig .tc := ⟨.hbm, 582, rfl⟩
abbrev main_v506 : Ref sig .tc := ⟨.hbm, 583, rfl⟩
abbrev main_v507 : Ref sig .tc := ⟨.hbm, 584, rfl⟩
abbrev main_v508 : Ref sig .tc := ⟨.hbm, 585, rfl⟩
abbrev main_v509 : Ref sig .tc := ⟨.hbm, 586, rfl⟩
abbrev main_v510 : Ref sig .tc := ⟨.hbm, 587, rfl⟩
abbrev main_v511 : Ref sig .tc := ⟨.hbm, 588, rfl⟩
abbrev main_v512 : Ref sig .tc := ⟨.hbm, 589, rfl⟩
abbrev main_v513 : Ref sig .tc := ⟨.hbm, 590, rfl⟩
abbrev main_v514 : Ref sig .tc := ⟨.hbm, 591, rfl⟩
abbrev main_v515 : Ref sig .tc := ⟨.hbm, 592, rfl⟩
abbrev main_v516 : Ref sig .tc := ⟨.hbm, 593, rfl⟩
abbrev main_c_50 : Ref sig .tc := ⟨.hbm, 594, rfl⟩
abbrev main_call7_v0 : Ref sig .tc := ⟨.hbm, 595, rfl⟩
abbrev main_v517 : Ref sig .tc := ⟨.hbm, 596, rfl⟩
abbrev main_v518 : Ref sig .tc := ⟨.hbm, 597, rfl⟩
abbrev main_v519 : Ref sig .tc := ⟨.hbm, 598, rfl⟩
abbrev main_v520 : Ref sig .tc := ⟨.hbm, 599, rfl⟩
abbrev main_v521 : Ref sig .tc := ⟨.hbm, 600, rfl⟩
abbrev main_v522 : Ref sig .tc := ⟨.hbm, 601, rfl⟩
abbrev main_v523 : Ref sig .tc := ⟨.hbm, 602, rfl⟩
abbrev main_v524 : Ref sig .tc := ⟨.hbm, 603, rfl⟩
abbrev main_v525 : Ref sig .tc := ⟨.hbm, 604, rfl⟩
abbrev main_v526 : Ref sig .tc := ⟨.hbm, 605, rfl⟩
abbrev main_v527 : Ref sig .tc := ⟨.hbm, 606, rfl⟩
abbrev main_v528 : Ref sig .tc := ⟨.hbm, 607, rfl⟩
abbrev main_v529 : Ref sig .tc := ⟨.hbm, 608, rfl⟩
abbrev main_v530 : Ref sig .tc := ⟨.hbm, 609, rfl⟩
abbrev main_v531 : Ref sig .tc := ⟨.hbm, 610, rfl⟩
abbrev main_v532 : Ref sig .tc := ⟨.hbm, 611, rfl⟩
abbrev main_v533 : Ref sig .tc := ⟨.hbm, 612, rfl⟩
abbrev main_v534 : Ref sig .tc := ⟨.hbm, 613, rfl⟩
abbrev main_v535 : Ref sig .tc := ⟨.hbm, 614, rfl⟩
abbrev main_v536 : Ref sig .tc := ⟨.hbm, 615, rfl⟩
abbrev main_v537 : Ref sig .tc := ⟨.hbm, 616, rfl⟩
abbrev main_v538 : Ref sig .tc := ⟨.hbm, 617, rfl⟩
abbrev main_v539 : Ref sig .tc := ⟨.hbm, 618, rfl⟩
abbrev main_v540 : Ref sig .tc := ⟨.hbm, 619, rfl⟩
abbrev main_v541 : Ref sig .tc := ⟨.hbm, 620, rfl⟩
abbrev main_v542 : Ref sig .tc := ⟨.hbm, 621, rfl⟩
abbrev main_v543 : Ref sig .tc := ⟨.hbm, 622, rfl⟩
abbrev main_v544 : Ref sig .tc := ⟨.hbm, 623, rfl⟩
abbrev main_v545 : Ref sig .tc := ⟨.hbm, 624, rfl⟩
abbrev main_v546 : Ref sig .tc := ⟨.hbm, 625, rfl⟩
abbrev main_v547 : Ref sig .tc := ⟨.hbm, 626, rfl⟩
abbrev main_v548 : Ref sig .tc := ⟨.hbm, 627, rfl⟩
abbrev main_v549 : Ref sig .tc := ⟨.hbm, 628, rfl⟩
abbrev main_cst_51 : Ref sig .tc := ⟨.hbm, 629, rfl⟩
abbrev main_v550 : Ref sig .tc := ⟨.hbm, 630, rfl⟩
abbrev main_v551 : Ref sig .tc := ⟨.hbm, 631, rfl⟩
abbrev main_cst_52 : Ref sig .tc := ⟨.hbm, 632, rfl⟩
abbrev main_v552 : Ref sig .tc := ⟨.hbm, 633, rfl⟩
abbrev main_v553 : Ref sig .tc := ⟨.hbm, 634, rfl⟩
abbrev main_v554 : Ref sig .tc := ⟨.hbm, 635, rfl⟩
abbrev main_cst_53 : Ref sig .tc := ⟨.hbm, 636, rfl⟩
abbrev main_v555 : Ref sig .tc := ⟨.hbm, 637, rfl⟩
abbrev main_v556 : Ref sig .tc := ⟨.hbm, 638, rfl⟩
abbrev main_v557 : Ref sig .tc := ⟨.hbm, 639, rfl⟩
abbrev main_v558 : Ref sig .tc := ⟨.hbm, 640, rfl⟩
abbrev main_v559 : Ref sig .tc := ⟨.hbm, 641, rfl⟩
abbrev main_v560 : Ref sig .tc := ⟨.hbm, 642, rfl⟩
abbrev main_v561 : Ref sig .tc := ⟨.hbm, 643, rfl⟩
abbrev main_v562 : Ref sig .tc := ⟨.hbm, 644, rfl⟩
abbrev main_v563 : Ref sig .tc := ⟨.hbm, 645, rfl⟩
abbrev main_v564 : Ref sig .tc := ⟨.hbm, 646, rfl⟩
abbrev main_v565 : Ref sig .tc := ⟨.hbm, 647, rfl⟩
abbrev main_v566 : Ref sig .tc := ⟨.hbm, 648, rfl⟩
abbrev main_v567 : Ref sig .tc := ⟨.hbm, 649, rfl⟩
abbrev main_v568 : Ref sig .tc := ⟨.hbm, 650, rfl⟩
abbrev main_v569 : Ref sig .tc := ⟨.hbm, 651, rfl⟩
abbrev main_v570 : Ref sig .tc := ⟨.hbm, 652, rfl⟩
abbrev main_v571 : Ref sig .tc := ⟨.hbm, 653, rfl⟩
abbrev main_v572 : Ref sig .tc := ⟨.hbm, 654, rfl⟩
abbrev main_cst_54 : Ref sig .tc := ⟨.hbm, 655, rfl⟩
abbrev main_v573 : Ref sig .tc := ⟨.hbm, 656, rfl⟩
abbrev main_cst_55 : Ref sig .tc := ⟨.hbm, 657, rfl⟩
abbrev main_v574 : Ref sig .tc := ⟨.hbm, 658, rfl⟩
abbrev main_v575 : Ref sig .tc := ⟨.hbm, 659, rfl⟩
abbrev main_v576 : Ref sig .tc := ⟨.hbm, 660, rfl⟩
abbrev main_v577 : Ref sig .tc := ⟨.hbm, 661, rfl⟩
abbrev main_v578 : Ref sig .tc := ⟨.hbm, 662, rfl⟩
abbrev main_v579 : Ref sig .tc := ⟨.hbm, 663, rfl⟩
abbrev main_v580 : Ref sig .tc := ⟨.hbm, 664, rfl⟩
abbrev main_v581 : Ref sig .tc := ⟨.hbm, 665, rfl⟩
abbrev main_cst_56 : Ref sig .tc := ⟨.hbm, 666, rfl⟩
abbrev main_v582 : Ref sig .tc := ⟨.hbm, 667, rfl⟩
abbrev main_v583 : Ref sig .tc := ⟨.hbm, 668, rfl⟩
abbrev main_cst_57 : Ref sig .tc := ⟨.hbm, 669, rfl⟩
abbrev main_v584 : Ref sig .tc := ⟨.hbm, 670, rfl⟩
abbrev main_v585 : Ref sig .tc := ⟨.hbm, 671, rfl⟩
abbrev main_v586 : Ref sig .tc := ⟨.hbm, 672, rfl⟩
abbrev main_v587 : Ref sig .tc := ⟨.hbm, 673, rfl⟩
abbrev main_v588 : Ref sig .tc := ⟨.hbm, 674, rfl⟩
abbrev main_cst_58 : Ref sig .tc := ⟨.hbm, 675, rfl⟩
abbrev main_v589 : Ref sig .tc := ⟨.hbm, 676, rfl⟩
abbrev main_v590 : Ref sig .tc := ⟨.hbm, 677, rfl⟩
abbrev main_cst_59 : Ref sig .tc := ⟨.hbm, 678, rfl⟩
abbrev main_v591 : Ref sig .tc := ⟨.hbm, 679, rfl⟩
abbrev main_v592 : Ref sig .tc := ⟨.hbm, 680, rfl⟩
abbrev main_v593 : Ref sig .tc := ⟨.hbm, 681, rfl⟩
abbrev main_v594 : Ref sig .tc := ⟨.hbm, 682, rfl⟩
abbrev main_cst_60 : Ref sig .tc := ⟨.hbm, 683, rfl⟩
abbrev main_v595 : Ref sig .tc := ⟨.hbm, 684, rfl⟩
abbrev main_v596 : Ref sig .tc := ⟨.hbm, 685, rfl⟩
abbrev main_v597 : Ref sig .tc := ⟨.hbm, 686, rfl⟩
abbrev main_v598 : Ref sig .tc := ⟨.hbm, 687, rfl⟩
abbrev main_v599 : Ref sig .tc := ⟨.hbm, 688, rfl⟩
abbrev main_v600 : Ref sig .tc := ⟨.hbm, 689, rfl⟩
abbrev main_v601 : Ref sig .tc := ⟨.hbm, 690, rfl⟩
abbrev main_v602 : Ref sig .tc := ⟨.hbm, 691, rfl⟩
abbrev main_v603 : Ref sig .tc := ⟨.hbm, 692, rfl⟩
abbrev main_v604 : Ref sig .tc := ⟨.hbm, 693, rfl⟩
abbrev main_v605 : Ref sig .tc := ⟨.hbm, 694, rfl⟩
abbrev main_v606 : Ref sig .tc := ⟨.hbm, 695, rfl⟩
abbrev main_v607 : Ref sig .tc := ⟨.hbm, 696, rfl⟩
abbrev main_v608 : Ref sig .tc := ⟨.hbm, 697, rfl⟩
abbrev main_v609 : Ref sig .tc := ⟨.hbm, 698, rfl⟩
abbrev main_c_61 : Ref sig .tc := ⟨.hbm, 699, rfl⟩
abbrev main_call8_v0 : Ref sig .tc := ⟨.hbm, 700, rfl⟩
abbrev main_v610 : Ref sig .tc := ⟨.hbm, 701, rfl⟩
abbrev main_v611 : Ref sig .tc := ⟨.hbm, 702, rfl⟩
abbrev main_v612 : Ref sig .tc := ⟨.hbm, 703, rfl⟩
abbrev main_v613 : Ref sig .tc := ⟨.hbm, 704, rfl⟩
abbrev main_v614 : Ref sig .tc := ⟨.hbm, 705, rfl⟩
abbrev main_v615 : Ref sig .tc := ⟨.hbm, 706, rfl⟩
abbrev main_v616 : Ref sig .tc := ⟨.hbm, 707, rfl⟩
abbrev main_v617 : Ref sig .tc := ⟨.hbm, 708, rfl⟩
abbrev main_v618 : Ref sig .tc := ⟨.hbm, 709, rfl⟩
abbrev main_v619 : Ref sig .tc := ⟨.hbm, 710, rfl⟩
abbrev main_v620 : Ref sig .tc := ⟨.hbm, 711, rfl⟩
abbrev main_v621 : Ref sig .tc := ⟨.hbm, 712, rfl⟩
abbrev main_v622 : Ref sig .tc := ⟨.hbm, 713, rfl⟩
abbrev main_v623 : Ref sig .tc := ⟨.hbm, 714, rfl⟩
abbrev main_v624 : Ref sig .tc := ⟨.hbm, 715, rfl⟩
abbrev main_v625 : Ref sig .tc := ⟨.hbm, 716, rfl⟩
abbrev main_v626 : Ref sig .tc := ⟨.hbm, 717, rfl⟩
abbrev main_v627 : Ref sig .tc := ⟨.hbm, 718, rfl⟩
abbrev main_v628 : Ref sig .tc := ⟨.hbm, 719, rfl⟩
abbrev main_v629 : Ref sig .tc := ⟨.hbm, 720, rfl⟩
abbrev main_v630 : Ref sig .tc := ⟨.hbm, 721, rfl⟩
abbrev main_v631 : Ref sig .tc := ⟨.hbm, 722, rfl⟩
abbrev main_v632 : Ref sig .tc := ⟨.hbm, 723, rfl⟩
abbrev main_v633 : Ref sig .tc := ⟨.hbm, 724, rfl⟩
abbrev main_v634 : Ref sig .tc := ⟨.hbm, 725, rfl⟩
abbrev main_v635 : Ref sig .tc := ⟨.hbm, 726, rfl⟩
abbrev main_v636 : Ref sig .tc := ⟨.hbm, 727, rfl⟩
abbrev main_v637 : Ref sig .tc := ⟨.hbm, 728, rfl⟩
abbrev main_v638 : Ref sig .tc := ⟨.hbm, 729, rfl⟩
abbrev main_v639 : Ref sig .tc := ⟨.hbm, 730, rfl⟩
abbrev main_v640 : Ref sig .tc := ⟨.hbm, 731, rfl⟩
abbrev main_v641 : Ref sig .tc := ⟨.hbm, 732, rfl⟩
abbrev main_v642 : Ref sig .tc := ⟨.hbm, 733, rfl⟩
abbrev main_cst_62 : Ref sig .tc := ⟨.hbm, 734, rfl⟩
abbrev main_v643 : Ref sig .tc := ⟨.hbm, 735, rfl⟩
abbrev main_v644 : Ref sig .tc := ⟨.hbm, 736, rfl⟩
abbrev main_cst_63 : Ref sig .tc := ⟨.hbm, 737, rfl⟩
abbrev main_v645 : Ref sig .tc := ⟨.hbm, 738, rfl⟩
abbrev main_v646 : Ref sig .tc := ⟨.hbm, 739, rfl⟩
abbrev main_v647 : Ref sig .tc := ⟨.hbm, 740, rfl⟩
abbrev main_cst_64 : Ref sig .tc := ⟨.hbm, 741, rfl⟩
abbrev main_v648 : Ref sig .tc := ⟨.hbm, 742, rfl⟩
abbrev main_v649 : Ref sig .tc := ⟨.hbm, 743, rfl⟩
abbrev main_v650 : Ref sig .tc := ⟨.hbm, 744, rfl⟩
abbrev main_v651 : Ref sig .tc := ⟨.hbm, 745, rfl⟩
abbrev main_v652 : Ref sig .tc := ⟨.hbm, 746, rfl⟩
abbrev main_v653 : Ref sig .tc := ⟨.hbm, 747, rfl⟩
abbrev main_v654 : Ref sig .tc := ⟨.hbm, 748, rfl⟩
abbrev main_v655 : Ref sig .tc := ⟨.hbm, 749, rfl⟩
abbrev main_v656 : Ref sig .tc := ⟨.hbm, 750, rfl⟩
abbrev main_v657 : Ref sig .tc := ⟨.hbm, 751, rfl⟩
abbrev main_v658 : Ref sig .tc := ⟨.hbm, 752, rfl⟩
abbrev main_v659 : Ref sig .tc := ⟨.hbm, 753, rfl⟩
abbrev main_v660 : Ref sig .tc := ⟨.hbm, 754, rfl⟩
abbrev main_v661 : Ref sig .tc := ⟨.hbm, 755, rfl⟩
abbrev main_v662 : Ref sig .tc := ⟨.hbm, 756, rfl⟩
abbrev main_v663 : Ref sig .tc := ⟨.hbm, 757, rfl⟩
abbrev main_v664 : Ref sig .tc := ⟨.hbm, 758, rfl⟩
abbrev main_v665 : Ref sig .tc := ⟨.hbm, 759, rfl⟩
abbrev main_v666 : Ref sig .tc := ⟨.hbm, 760, rfl⟩
abbrev main_v667 : Ref sig .tc := ⟨.hbm, 761, rfl⟩
abbrev main_v668 : Ref sig .tc := ⟨.hbm, 762, rfl⟩
abbrev main_cst_65 : Ref sig .tc := ⟨.hbm, 763, rfl⟩
abbrev main_v669 : Ref sig .tc := ⟨.hbm, 764, rfl⟩
abbrev main_v670 : Ref sig .tc := ⟨.hbm, 765, rfl⟩
abbrev main_cst_66 : Ref sig .tc := ⟨.hbm, 766, rfl⟩
abbrev main_v671 : Ref sig .tc := ⟨.hbm, 767, rfl⟩
abbrev main_v672 : Ref sig .tc := ⟨.hbm, 768, rfl⟩
abbrev main_v673 : Ref sig .tc := ⟨.hbm, 769, rfl⟩
abbrev main_v674 : Ref sig .tc := ⟨.hbm, 770, rfl⟩
abbrev main_v675 : Ref sig .tc := ⟨.hbm, 771, rfl⟩
abbrev main_cst_67 : Ref sig .tc := ⟨.hbm, 772, rfl⟩
abbrev main_v676 : Ref sig .tc := ⟨.hbm, 773, rfl⟩
abbrev main_v677 : Ref sig .tc := ⟨.hbm, 774, rfl⟩
abbrev main_cst_68 : Ref sig .tc := ⟨.hbm, 775, rfl⟩
abbrev main_v678 : Ref sig .tc := ⟨.hbm, 776, rfl⟩
abbrev main_v679 : Ref sig .tc := ⟨.hbm, 777, rfl⟩
abbrev main_v680 : Ref sig .tc := ⟨.hbm, 778, rfl⟩
abbrev main_v681 : Ref sig .tc := ⟨.hbm, 779, rfl⟩
abbrev main_cst_69 : Ref sig .tc := ⟨.hbm, 780, rfl⟩
abbrev main_v682 : Ref sig .tc := ⟨.hbm, 781, rfl⟩
abbrev main_v683 : Ref sig .tc := ⟨.hbm, 782, rfl⟩
abbrev main_v684 : Ref sig .tc := ⟨.hbm, 783, rfl⟩
abbrev main_v685 : Ref sig .tc := ⟨.hbm, 784, rfl⟩
abbrev main_v686 : Ref sig .tc := ⟨.hbm, 785, rfl⟩
abbrev main_v687 : Ref sig .tc := ⟨.hbm, 786, rfl⟩
abbrev main_v688 : Ref sig .tc := ⟨.hbm, 787, rfl⟩
abbrev main_v689 : Ref sig .tc := ⟨.hbm, 788, rfl⟩
abbrev main_v690 : Ref sig .tc := ⟨.hbm, 789, rfl⟩
abbrev main_v691 : Ref sig .tc := ⟨.hbm, 790, rfl⟩
abbrev main_v692 : Ref sig .tc := ⟨.hbm, 791, rfl⟩
abbrev main_v693 : Ref sig .tc := ⟨.hbm, 792, rfl⟩
abbrev main_v694 : Ref sig .tc := ⟨.hbm, 793, rfl⟩
abbrev main_v695 : Ref sig .tc := ⟨.hbm, 794, rfl⟩
abbrev main_v696 : Ref sig .tc := ⟨.hbm, 795, rfl⟩
abbrev main_c_70 : Ref sig .tc := ⟨.hbm, 796, rfl⟩
abbrev main_call9_v0 : Ref sig .tc := ⟨.hbm, 797, rfl⟩
abbrev main_v697 : Ref sig .tc := ⟨.hbm, 798, rfl⟩
abbrev main_v698 : Ref sig .tc := ⟨.hbm, 799, rfl⟩
abbrev main_v699 : Ref sig .tc := ⟨.hbm, 800, rfl⟩
abbrev main_v700 : Ref sig .tc := ⟨.hbm, 801, rfl⟩
abbrev main_v701 : Ref sig .tc := ⟨.hbm, 802, rfl⟩
abbrev main_v702 : Ref sig .tc := ⟨.hbm, 803, rfl⟩
abbrev main_v703 : Ref sig .tc := ⟨.hbm, 804, rfl⟩
abbrev main_v704 : Ref sig .tc := ⟨.hbm, 805, rfl⟩
abbrev main_v705 : Ref sig .tc := ⟨.hbm, 806, rfl⟩
abbrev main_v706 : Ref sig .tc := ⟨.hbm, 807, rfl⟩
abbrev main_v707 : Ref sig .tc := ⟨.hbm, 808, rfl⟩
abbrev main_v708 : Ref sig .tc := ⟨.hbm, 809, rfl⟩
abbrev main_v709 : Ref sig .tc := ⟨.hbm, 810, rfl⟩
abbrev main_v710 : Ref sig .tc := ⟨.hbm, 811, rfl⟩
abbrev main_v711 : Ref sig .tc := ⟨.hbm, 812, rfl⟩
abbrev main_v712 : Ref sig .tc := ⟨.hbm, 813, rfl⟩
abbrev main_v713 : Ref sig .tc := ⟨.hbm, 814, rfl⟩
abbrev main_v714 : Ref sig .tc := ⟨.hbm, 815, rfl⟩
abbrev main_v715 : Ref sig .tc := ⟨.hbm, 816, rfl⟩
abbrev main_v716 : Ref sig .tc := ⟨.hbm, 817, rfl⟩
abbrev main_v717 : Ref sig .tc := ⟨.hbm, 818, rfl⟩
abbrev main_v718 : Ref sig .tc := ⟨.hbm, 819, rfl⟩
abbrev main_v719 : Ref sig .tc := ⟨.hbm, 820, rfl⟩
abbrev main_v720 : Ref sig .tc := ⟨.hbm, 821, rfl⟩
abbrev main_v721 : Ref sig .tc := ⟨.hbm, 822, rfl⟩
abbrev main_v722 : Ref sig .tc := ⟨.hbm, 823, rfl⟩
abbrev main_v723 : Ref sig .tc := ⟨.hbm, 824, rfl⟩
abbrev main_v724 : Ref sig .tc := ⟨.hbm, 825, rfl⟩
abbrev main_v725 : Ref sig .tc := ⟨.hbm, 826, rfl⟩
abbrev main_v726 : Ref sig .tc := ⟨.hbm, 827, rfl⟩
abbrev main_v727 : Ref sig .tc := ⟨.hbm, 828, rfl⟩
abbrev main_v728 : Ref sig .tc := ⟨.hbm, 829, rfl⟩
abbrev main_v729 : Ref sig .tc := ⟨.hbm, 830, rfl⟩
abbrev main_cst_71 : Ref sig .tc := ⟨.hbm, 831, rfl⟩
abbrev main_v730 : Ref sig .tc := ⟨.hbm, 832, rfl⟩
abbrev main_v731 : Ref sig .tc := ⟨.hbm, 833, rfl⟩
abbrev main_cst_72 : Ref sig .tc := ⟨.hbm, 834, rfl⟩
abbrev main_v732 : Ref sig .tc := ⟨.hbm, 835, rfl⟩
abbrev main_v733 : Ref sig .tc := ⟨.hbm, 836, rfl⟩
abbrev main_v734 : Ref sig .tc := ⟨.hbm, 837, rfl⟩
abbrev main_cst_73 : Ref sig .tc := ⟨.hbm, 838, rfl⟩
abbrev main_v735 : Ref sig .tc := ⟨.hbm, 839, rfl⟩
abbrev main_v736 : Ref sig .tc := ⟨.hbm, 840, rfl⟩
abbrev main_v737 : Ref sig .tc := ⟨.hbm, 841, rfl⟩
abbrev main_v738 : Ref sig .tc := ⟨.hbm, 842, rfl⟩
abbrev main_v739 : Ref sig .tc := ⟨.hbm, 843, rfl⟩
abbrev main_v740 : Ref sig .tc := ⟨.hbm, 844, rfl⟩
abbrev main_v741 : Ref sig .tc := ⟨.hbm, 845, rfl⟩
abbrev main_v742 : Ref sig .tc := ⟨.hbm, 846, rfl⟩
abbrev main_v743 : Ref sig .tc := ⟨.hbm, 847, rfl⟩
abbrev main_v744 : Ref sig .tc := ⟨.hbm, 848, rfl⟩
abbrev main_v745 : Ref sig .tc := ⟨.hbm, 849, rfl⟩
abbrev main_v746 : Ref sig .tc := ⟨.hbm, 850, rfl⟩
abbrev main_v747 : Ref sig .tc := ⟨.hbm, 851, rfl⟩
abbrev main_v748 : Ref sig .tc := ⟨.hbm, 852, rfl⟩
abbrev main_v749 : Ref sig .tc := ⟨.hbm, 853, rfl⟩
abbrev main_v750 : Ref sig .tc := ⟨.hbm, 854, rfl⟩
abbrev main_v751 : Ref sig .tc := ⟨.hbm, 855, rfl⟩
abbrev main_v752 : Ref sig .tc := ⟨.hbm, 856, rfl⟩
abbrev main_cst_74 : Ref sig .tc := ⟨.hbm, 857, rfl⟩
abbrev main_v753 : Ref sig .tc := ⟨.hbm, 858, rfl⟩
abbrev main_cst_75 : Ref sig .tc := ⟨.hbm, 859, rfl⟩
abbrev main_v754 : Ref sig .tc := ⟨.hbm, 860, rfl⟩
abbrev main_v755 : Ref sig .tc := ⟨.hbm, 861, rfl⟩
abbrev main_v756 : Ref sig .tc := ⟨.hbm, 862, rfl⟩
abbrev main_v757 : Ref sig .tc := ⟨.hbm, 863, rfl⟩
abbrev main_v758 : Ref sig .tc := ⟨.hbm, 864, rfl⟩
abbrev main_v759 : Ref sig .tc := ⟨.hbm, 865, rfl⟩
abbrev main_v760 : Ref sig .tc := ⟨.hbm, 866, rfl⟩
abbrev main_v761 : Ref sig .tc := ⟨.hbm, 867, rfl⟩
abbrev main_cst_76 : Ref sig .tc := ⟨.hbm, 868, rfl⟩
abbrev main_v762 : Ref sig .tc := ⟨.hbm, 869, rfl⟩
abbrev main_v763 : Ref sig .tc := ⟨.hbm, 870, rfl⟩
abbrev main_cst_77 : Ref sig .tc := ⟨.hbm, 871, rfl⟩
abbrev main_v764 : Ref sig .tc := ⟨.hbm, 872, rfl⟩
abbrev main_v765 : Ref sig .tc := ⟨.hbm, 873, rfl⟩
abbrev main_v766 : Ref sig .tc := ⟨.hbm, 874, rfl⟩
abbrev main_v767 : Ref sig .tc := ⟨.hbm, 875, rfl⟩
abbrev main_v768 : Ref sig .tc := ⟨.hbm, 876, rfl⟩
abbrev main_cst_78 : Ref sig .tc := ⟨.hbm, 877, rfl⟩
abbrev main_v769 : Ref sig .tc := ⟨.hbm, 878, rfl⟩
abbrev main_v770 : Ref sig .tc := ⟨.hbm, 879, rfl⟩
abbrev main_cst_79 : Ref sig .tc := ⟨.hbm, 880, rfl⟩
abbrev main_v771 : Ref sig .tc := ⟨.hbm, 881, rfl⟩
abbrev main_v772 : Ref sig .tc := ⟨.hbm, 882, rfl⟩
abbrev main_v773 : Ref sig .tc := ⟨.hbm, 883, rfl⟩
abbrev main_v774 : Ref sig .tc := ⟨.hbm, 884, rfl⟩
abbrev main_cst_80 : Ref sig .tc := ⟨.hbm, 885, rfl⟩
abbrev main_v775 : Ref sig .tc := ⟨.hbm, 886, rfl⟩
abbrev main_v776 : Ref sig .tc := ⟨.hbm, 887, rfl⟩
abbrev main_v777 : Ref sig .tc := ⟨.hbm, 888, rfl⟩
abbrev main_v778 : Ref sig .tc := ⟨.hbm, 889, rfl⟩
abbrev main_v779 : Ref sig .tc := ⟨.hbm, 890, rfl⟩
abbrev main_v780 : Ref sig .tc := ⟨.hbm, 891, rfl⟩
abbrev main_v781 : Ref sig .tc := ⟨.hbm, 892, rfl⟩
abbrev main_v782 : Ref sig .tc := ⟨.hbm, 893, rfl⟩
abbrev main_v783 : Ref sig .tc := ⟨.hbm, 894, rfl⟩
abbrev main_v784 : Ref sig .tc := ⟨.hbm, 895, rfl⟩
abbrev main_v785 : Ref sig .tc := ⟨.hbm, 896, rfl⟩
abbrev main_v786 : Ref sig .tc := ⟨.hbm, 897, rfl⟩
abbrev main_v787 : Ref sig .tc := ⟨.hbm, 898, rfl⟩
abbrev main_v788 : Ref sig .tc := ⟨.hbm, 899, rfl⟩
abbrev main_v789 : Ref sig .tc := ⟨.hbm, 900, rfl⟩
abbrev main_c_81 : Ref sig .tc := ⟨.hbm, 901, rfl⟩
abbrev main_call10_v0 : Ref sig .tc := ⟨.hbm, 902, rfl⟩
abbrev main_v790 : Ref sig .tc := ⟨.hbm, 903, rfl⟩
abbrev main_v791 : Ref sig .tc := ⟨.hbm, 904, rfl⟩
abbrev main_v792 : Ref sig .tc := ⟨.hbm, 905, rfl⟩
abbrev main_v793 : Ref sig .tc := ⟨.hbm, 906, rfl⟩
abbrev main_v794 : Ref sig .tc := ⟨.hbm, 907, rfl⟩
abbrev main_v795 : Ref sig .tc := ⟨.hbm, 908, rfl⟩
abbrev main_v796 : Ref sig .tc := ⟨.hbm, 909, rfl⟩
abbrev main_v797 : Ref sig .tc := ⟨.hbm, 910, rfl⟩
abbrev main_v798 : Ref sig .tc := ⟨.hbm, 911, rfl⟩
abbrev main_v799 : Ref sig .tc := ⟨.hbm, 912, rfl⟩
abbrev main_v800 : Ref sig .tc := ⟨.hbm, 913, rfl⟩
abbrev main_v801 : Ref sig .tc := ⟨.hbm, 914, rfl⟩
abbrev main_v802 : Ref sig .tc := ⟨.hbm, 915, rfl⟩
abbrev main_v803 : Ref sig .tc := ⟨.hbm, 916, rfl⟩
abbrev main_v804 : Ref sig .tc := ⟨.hbm, 917, rfl⟩
abbrev main_v805 : Ref sig .tc := ⟨.hbm, 918, rfl⟩
abbrev main_v806 : Ref sig .tc := ⟨.hbm, 919, rfl⟩
abbrev main_v807 : Ref sig .tc := ⟨.hbm, 920, rfl⟩
abbrev main_v808 : Ref sig .tc := ⟨.hbm, 921, rfl⟩
abbrev main_v809 : Ref sig .tc := ⟨.hbm, 922, rfl⟩
abbrev main_v810 : Ref sig .tc := ⟨.hbm, 923, rfl⟩
abbrev main_v811 : Ref sig .tc := ⟨.hbm, 924, rfl⟩
abbrev main_v812 : Ref sig .tc := ⟨.hbm, 925, rfl⟩
abbrev main_v813 : Ref sig .tc := ⟨.hbm, 926, rfl⟩
abbrev main_v814 : Ref sig .tc := ⟨.hbm, 927, rfl⟩
abbrev main_v815 : Ref sig .tc := ⟨.hbm, 928, rfl⟩
abbrev main_v816 : Ref sig .tc := ⟨.hbm, 929, rfl⟩
abbrev main_v817 : Ref sig .tc := ⟨.hbm, 930, rfl⟩
abbrev main_v818 : Ref sig .tc := ⟨.hbm, 931, rfl⟩
abbrev main_v819 : Ref sig .tc := ⟨.hbm, 932, rfl⟩
abbrev main_v820 : Ref sig .tc := ⟨.hbm, 933, rfl⟩
abbrev main_v821 : Ref sig .tc := ⟨.hbm, 934, rfl⟩
abbrev main_v822 : Ref sig .tc := ⟨.hbm, 935, rfl⟩
abbrev main_cst_82 : Ref sig .tc := ⟨.hbm, 936, rfl⟩
abbrev main_v823 : Ref sig .tc := ⟨.hbm, 937, rfl⟩
abbrev main_v824 : Ref sig .tc := ⟨.hbm, 938, rfl⟩
abbrev main_cst_83 : Ref sig .tc := ⟨.hbm, 939, rfl⟩
abbrev main_v825 : Ref sig .tc := ⟨.hbm, 940, rfl⟩
abbrev main_v826 : Ref sig .tc := ⟨.hbm, 941, rfl⟩
abbrev main_v827 : Ref sig .tc := ⟨.hbm, 942, rfl⟩
abbrev main_cst_84 : Ref sig .tc := ⟨.hbm, 943, rfl⟩
abbrev main_v828 : Ref sig .tc := ⟨.hbm, 944, rfl⟩
abbrev main_v829 : Ref sig .tc := ⟨.hbm, 945, rfl⟩
abbrev main_v830 : Ref sig .tc := ⟨.hbm, 946, rfl⟩
abbrev main_v831 : Ref sig .tc := ⟨.hbm, 947, rfl⟩
abbrev main_v832 : Ref sig .tc := ⟨.hbm, 948, rfl⟩
abbrev main_v833 : Ref sig .tc := ⟨.hbm, 949, rfl⟩
abbrev main_v834 : Ref sig .tc := ⟨.hbm, 950, rfl⟩
abbrev main_v835 : Ref sig .tc := ⟨.hbm, 951, rfl⟩
abbrev main_v836 : Ref sig .tc := ⟨.hbm, 952, rfl⟩
abbrev main_v837 : Ref sig .tc := ⟨.hbm, 953, rfl⟩
abbrev main_v838 : Ref sig .tc := ⟨.hbm, 954, rfl⟩
abbrev main_v839 : Ref sig .tc := ⟨.hbm, 955, rfl⟩
abbrev main_v840 : Ref sig .tc := ⟨.hbm, 956, rfl⟩
abbrev main_v841 : Ref sig .tc := ⟨.hbm, 957, rfl⟩
abbrev main_v842 : Ref sig .tc := ⟨.hbm, 958, rfl⟩
abbrev main_v843 : Ref sig .tc := ⟨.hbm, 959, rfl⟩
abbrev main_v844 : Ref sig .tc := ⟨.hbm, 960, rfl⟩
abbrev main_v845 : Ref sig .tc := ⟨.hbm, 961, rfl⟩
abbrev main_v846 : Ref sig .tc := ⟨.hbm, 962, rfl⟩
abbrev main_v847 : Ref sig .tc := ⟨.hbm, 963, rfl⟩
abbrev main_v848 : Ref sig .tc := ⟨.hbm, 964, rfl⟩
abbrev main_cst_85 : Ref sig .tc := ⟨.hbm, 965, rfl⟩
abbrev main_v849 : Ref sig .tc := ⟨.hbm, 966, rfl⟩
abbrev main_v850 : Ref sig .tc := ⟨.hbm, 967, rfl⟩
abbrev main_cst_86 : Ref sig .tc := ⟨.hbm, 968, rfl⟩
abbrev main_v851 : Ref sig .tc := ⟨.hbm, 969, rfl⟩
abbrev main_v852 : Ref sig .tc := ⟨.hbm, 970, rfl⟩
abbrev main_v853 : Ref sig .tc := ⟨.hbm, 971, rfl⟩
abbrev main_v854 : Ref sig .tc := ⟨.hbm, 972, rfl⟩
abbrev main_v855 : Ref sig .tc := ⟨.hbm, 973, rfl⟩
abbrev main_cst_87 : Ref sig .tc := ⟨.hbm, 974, rfl⟩
abbrev main_v856 : Ref sig .tc := ⟨.hbm, 975, rfl⟩
abbrev main_v857 : Ref sig .tc := ⟨.hbm, 976, rfl⟩
abbrev main_cst_88 : Ref sig .tc := ⟨.hbm, 977, rfl⟩
abbrev main_v858 : Ref sig .tc := ⟨.hbm, 978, rfl⟩
abbrev main_v859 : Ref sig .tc := ⟨.hbm, 979, rfl⟩
abbrev main_v860 : Ref sig .tc := ⟨.hbm, 980, rfl⟩
abbrev main_v861 : Ref sig .tc := ⟨.hbm, 981, rfl⟩
abbrev main_cst_89 : Ref sig .tc := ⟨.hbm, 982, rfl⟩
abbrev main_v862 : Ref sig .tc := ⟨.hbm, 983, rfl⟩
abbrev main_v863 : Ref sig .tc := ⟨.hbm, 984, rfl⟩
abbrev main_v864 : Ref sig .tc := ⟨.hbm, 985, rfl⟩
abbrev main_v865 : Ref sig .tc := ⟨.hbm, 986, rfl⟩
abbrev main_v866 : Ref sig .tc := ⟨.hbm, 987, rfl⟩
abbrev main_v867 : Ref sig .tc := ⟨.hbm, 988, rfl⟩
abbrev main_v868 : Ref sig .tc := ⟨.hbm, 989, rfl⟩
abbrev main_v869 : Ref sig .tc := ⟨.hbm, 990, rfl⟩
abbrev main_v870 : Ref sig .tc := ⟨.hbm, 991, rfl⟩
abbrev main_v871 : Ref sig .tc := ⟨.hbm, 992, rfl⟩
abbrev main_v872 : Ref sig .tc := ⟨.hbm, 993, rfl⟩
abbrev main_v873 : Ref sig .tc := ⟨.hbm, 994, rfl⟩
abbrev main_v874 : Ref sig .tc := ⟨.hbm, 995, rfl⟩
abbrev main_v875 : Ref sig .tc := ⟨.hbm, 996, rfl⟩
abbrev main_v876 : Ref sig .tc := ⟨.hbm, 997, rfl⟩
abbrev main_c_90 : Ref sig .tc := ⟨.hbm, 998, rfl⟩
abbrev main_call11_v0 : Ref sig .tc := ⟨.hbm, 999, rfl⟩
abbrev main_v877 : Ref sig .tc := ⟨.hbm, 1000, rfl⟩
abbrev main_v878 : Ref sig .tc := ⟨.hbm, 1001, rfl⟩
abbrev main_v879 : Ref sig .tc := ⟨.hbm, 1002, rfl⟩
abbrev main_v880 : Ref sig .tc := ⟨.hbm, 1003, rfl⟩
abbrev main_v881 : Ref sig .tc := ⟨.hbm, 1004, rfl⟩
abbrev main_v882 : Ref sig .tc := ⟨.hbm, 1005, rfl⟩
abbrev main_v883 : Ref sig .tc := ⟨.hbm, 1006, rfl⟩
abbrev main_v884 : Ref sig .tc := ⟨.hbm, 1007, rfl⟩
abbrev main_v885 : Ref sig .tc := ⟨.hbm, 1008, rfl⟩
abbrev main_v886 : Ref sig .tc := ⟨.hbm, 1009, rfl⟩
abbrev main_v887 : Ref sig .tc := ⟨.hbm, 1010, rfl⟩
abbrev main_v888 : Ref sig .tc := ⟨.hbm, 1011, rfl⟩
abbrev main_v889 : Ref sig .tc := ⟨.hbm, 1012, rfl⟩
abbrev main_v890 : Ref sig .tc := ⟨.hbm, 1013, rfl⟩
abbrev main_v891 : Ref sig .tc := ⟨.hbm, 1014, rfl⟩
abbrev main_v892 : Ref sig .tc := ⟨.hbm, 1015, rfl⟩
abbrev main_v893 : Ref sig .tc := ⟨.hbm, 1016, rfl⟩
abbrev main_v894 : Ref sig .tc := ⟨.hbm, 1017, rfl⟩
abbrev main_v895 : Ref sig .tc := ⟨.hbm, 1018, rfl⟩
abbrev main_v896 : Ref sig .tc := ⟨.hbm, 1019, rfl⟩
abbrev main_v897 : Ref sig .tc := ⟨.hbm, 1020, rfl⟩
abbrev main_v898 : Ref sig .tc := ⟨.hbm, 1021, rfl⟩
abbrev main_v899 : Ref sig .tc := ⟨.hbm, 1022, rfl⟩
abbrev main_v900 : Ref sig .tc := ⟨.hbm, 1023, rfl⟩
abbrev main_v901 : Ref sig .tc := ⟨.hbm, 1024, rfl⟩
abbrev main_v902 : Ref sig .tc := ⟨.hbm, 1025, rfl⟩
abbrev main_v903 : Ref sig .tc := ⟨.hbm, 1026, rfl⟩
abbrev main_v904 : Ref sig .tc := ⟨.hbm, 1027, rfl⟩
abbrev main_v905 : Ref sig .tc := ⟨.hbm, 1028, rfl⟩
abbrev main_v906 : Ref sig .tc := ⟨.hbm, 1029, rfl⟩
abbrev main_v907 : Ref sig .tc := ⟨.hbm, 1030, rfl⟩
abbrev main_v908 : Ref sig .tc := ⟨.hbm, 1031, rfl⟩
abbrev main_v909 : Ref sig .tc := ⟨.hbm, 1032, rfl⟩
abbrev main_cst_91 : Ref sig .tc := ⟨.hbm, 1033, rfl⟩
abbrev main_v910 : Ref sig .tc := ⟨.hbm, 1034, rfl⟩
abbrev main_v911 : Ref sig .tc := ⟨.hbm, 1035, rfl⟩
abbrev main_cst_92 : Ref sig .tc := ⟨.hbm, 1036, rfl⟩
abbrev main_v912 : Ref sig .tc := ⟨.hbm, 1037, rfl⟩
abbrev main_v913 : Ref sig .tc := ⟨.hbm, 1038, rfl⟩
abbrev main_v914 : Ref sig .tc := ⟨.hbm, 1039, rfl⟩
abbrev main_cst_93 : Ref sig .tc := ⟨.hbm, 1040, rfl⟩
abbrev main_v915 : Ref sig .tc := ⟨.hbm, 1041, rfl⟩
abbrev main_v916 : Ref sig .tc := ⟨.hbm, 1042, rfl⟩
abbrev main_v917 : Ref sig .tc := ⟨.hbm, 1043, rfl⟩
abbrev main_v918 : Ref sig .tc := ⟨.hbm, 1044, rfl⟩
abbrev main_v919 : Ref sig .tc := ⟨.hbm, 1045, rfl⟩
abbrev main_v920 : Ref sig .tc := ⟨.hbm, 1046, rfl⟩
abbrev main_v921 : Ref sig .tc := ⟨.hbm, 1047, rfl⟩
abbrev main_v922 : Ref sig .tc := ⟨.hbm, 1048, rfl⟩
abbrev main_v923 : Ref sig .tc := ⟨.hbm, 1049, rfl⟩
abbrev main_v924 : Ref sig .tc := ⟨.hbm, 1050, rfl⟩
abbrev main_v925 : Ref sig .tc := ⟨.hbm, 1051, rfl⟩
abbrev main_v926 : Ref sig .tc := ⟨.hbm, 1052, rfl⟩
abbrev main_v927 : Ref sig .tc := ⟨.hbm, 1053, rfl⟩
abbrev main_v928 : Ref sig .tc := ⟨.hbm, 1054, rfl⟩
abbrev main_v929 : Ref sig .tc := ⟨.hbm, 1055, rfl⟩
abbrev main_v930 : Ref sig .tc := ⟨.hbm, 1056, rfl⟩
abbrev main_v931 : Ref sig .tc := ⟨.hbm, 1057, rfl⟩
abbrev main_v932 : Ref sig .tc := ⟨.hbm, 1058, rfl⟩
abbrev main_cst_94 : Ref sig .tc := ⟨.hbm, 1059, rfl⟩
abbrev main_v933 : Ref sig .tc := ⟨.hbm, 1060, rfl⟩
abbrev main_cst_95 : Ref sig .tc := ⟨.hbm, 1061, rfl⟩
abbrev main_v934 : Ref sig .tc := ⟨.hbm, 1062, rfl⟩
abbrev main_v935 : Ref sig .tc := ⟨.hbm, 1063, rfl⟩
abbrev main_v936 : Ref sig .tc := ⟨.hbm, 1064, rfl⟩
abbrev main_v937 : Ref sig .tc := ⟨.hbm, 1065, rfl⟩
abbrev main_v938 : Ref sig .tc := ⟨.hbm, 1066, rfl⟩
abbrev main_v939 : Ref sig .tc := ⟨.hbm, 1067, rfl⟩
abbrev main_v940 : Ref sig .tc := ⟨.hbm, 1068, rfl⟩
abbrev main_v941 : Ref sig .tc := ⟨.hbm, 1069, rfl⟩
abbrev main_cst_96 : Ref sig .tc := ⟨.hbm, 1070, rfl⟩
abbrev main_v942 : Ref sig .tc := ⟨.hbm, 1071, rfl⟩
abbrev main_v943 : Ref sig .tc := ⟨.hbm, 1072, rfl⟩
abbrev main_cst_97 : Ref sig .tc := ⟨.hbm, 1073, rfl⟩
abbrev main_v944 : Ref sig .tc := ⟨.hbm, 1074, rfl⟩
abbrev main_v945 : Ref sig .tc := ⟨.hbm, 1075, rfl⟩
abbrev main_v946 : Ref sig .tc := ⟨.hbm, 1076, rfl⟩
abbrev main_v947 : Ref sig .tc := ⟨.hbm, 1077, rfl⟩
abbrev main_v948 : Ref sig .tc := ⟨.hbm, 1078, rfl⟩
abbrev main_cst_98 : Ref sig .tc := ⟨.hbm, 1079, rfl⟩
abbrev main_v949 : Ref sig .tc := ⟨.hbm, 1080, rfl⟩
abbrev main_v950 : Ref sig .tc := ⟨.hbm, 1081, rfl⟩
abbrev main_cst_99 : Ref sig .tc := ⟨.hbm, 1082, rfl⟩
abbrev main_v951 : Ref sig .tc := ⟨.hbm, 1083, rfl⟩
abbrev main_v952 : Ref sig .tc := ⟨.hbm, 1084, rfl⟩
abbrev main_v953 : Ref sig .tc := ⟨.hbm, 1085, rfl⟩
abbrev main_v954 : Ref sig .tc := ⟨.hbm, 1086, rfl⟩
abbrev main_cst_100 : Ref sig .tc := ⟨.hbm, 1087, rfl⟩
abbrev main_v955 : Ref sig .tc := ⟨.hbm, 1088, rfl⟩
abbrev main_v956 : Ref sig .tc := ⟨.hbm, 1089, rfl⟩
abbrev main_v957 : Ref sig .tc := ⟨.hbm, 1090, rfl⟩
abbrev main_v958 : Ref sig .tc := ⟨.hbm, 1091, rfl⟩
abbrev main_v959 : Ref sig .tc := ⟨.hbm, 1092, rfl⟩
abbrev main_v960 : Ref sig .tc := ⟨.hbm, 1093, rfl⟩
abbrev main_v961 : Ref sig .tc := ⟨.hbm, 1094, rfl⟩
abbrev main_v962 : Ref sig .tc := ⟨.hbm, 1095, rfl⟩
abbrev main_v963 : Ref sig .tc := ⟨.hbm, 1096, rfl⟩
abbrev main_v964 : Ref sig .tc := ⟨.hbm, 1097, rfl⟩
abbrev main_v965 : Ref sig .tc := ⟨.hbm, 1098, rfl⟩
abbrev main_v966 : Ref sig .tc := ⟨.hbm, 1099, rfl⟩
abbrev main_v967 : Ref sig .tc := ⟨.hbm, 1100, rfl⟩
abbrev main_v968 : Ref sig .tc := ⟨.hbm, 1101, rfl⟩
abbrev main_v969 : Ref sig .tc := ⟨.hbm, 1102, rfl⟩
abbrev main_c_101 : Ref sig .tc := ⟨.hbm, 1103, rfl⟩
abbrev main_call12_v0 : Ref sig .tc := ⟨.hbm, 1104, rfl⟩
abbrev main_v970 : Ref sig .tc := ⟨.hbm, 1105, rfl⟩
abbrev main_v971 : Ref sig .tc := ⟨.hbm, 1106, rfl⟩
abbrev main_v972 : Ref sig .tc := ⟨.hbm, 1107, rfl⟩
abbrev main_v973 : Ref sig .tc := ⟨.hbm, 1108, rfl⟩
abbrev main_v974 : Ref sig .tc := ⟨.hbm, 1109, rfl⟩
abbrev main_v975 : Ref sig .tc := ⟨.hbm, 1110, rfl⟩
abbrev main_v976 : Ref sig .tc := ⟨.hbm, 1111, rfl⟩
abbrev main_v977 : Ref sig .tc := ⟨.hbm, 1112, rfl⟩
abbrev main_v978 : Ref sig .tc := ⟨.hbm, 1113, rfl⟩
abbrev main_v979 : Ref sig .tc := ⟨.hbm, 1114, rfl⟩
abbrev main_v980 : Ref sig .tc := ⟨.hbm, 1115, rfl⟩
abbrev main_v981 : Ref sig .tc := ⟨.hbm, 1116, rfl⟩
abbrev main_v982 : Ref sig .tc := ⟨.hbm, 1117, rfl⟩
abbrev main_v983 : Ref sig .tc := ⟨.hbm, 1118, rfl⟩
abbrev main_v984 : Ref sig .tc := ⟨.hbm, 1119, rfl⟩
abbrev main_v985 : Ref sig .tc := ⟨.hbm, 1120, rfl⟩
abbrev main_v986 : Ref sig .tc := ⟨.hbm, 1121, rfl⟩
abbrev main_v987 : Ref sig .tc := ⟨.hbm, 1122, rfl⟩
abbrev main_v988 : Ref sig .tc := ⟨.hbm, 1123, rfl⟩
abbrev main_v989 : Ref sig .tc := ⟨.hbm, 1124, rfl⟩
abbrev main_v990 : Ref sig .tc := ⟨.hbm, 1125, rfl⟩
abbrev main_v991 : Ref sig .tc := ⟨.hbm, 1126, rfl⟩
abbrev main_v992 : Ref sig .tc := ⟨.hbm, 1127, rfl⟩
abbrev main_v993 : Ref sig .tc := ⟨.hbm, 1128, rfl⟩
abbrev main_v994 : Ref sig .tc := ⟨.hbm, 1129, rfl⟩
abbrev main_v995 : Ref sig .tc := ⟨.hbm, 1130, rfl⟩
abbrev main_v996 : Ref sig .tc := ⟨.hbm, 1131, rfl⟩
abbrev main_v997 : Ref sig .tc := ⟨.hbm, 1132, rfl⟩
abbrev main_v998 : Ref sig .tc := ⟨.hbm, 1133, rfl⟩
abbrev main_v999 : Ref sig .tc := ⟨.hbm, 1134, rfl⟩
abbrev main_v1000 : Ref sig .tc := ⟨.hbm, 1135, rfl⟩
abbrev main_v1001 : Ref sig .tc := ⟨.hbm, 1136, rfl⟩
abbrev main_v1002 : Ref sig .tc := ⟨.hbm, 1137, rfl⟩
abbrev main_cst_102 : Ref sig .tc := ⟨.hbm, 1138, rfl⟩
abbrev main_v1003 : Ref sig .tc := ⟨.hbm, 1139, rfl⟩
abbrev main_v1004 : Ref sig .tc := ⟨.hbm, 1140, rfl⟩
abbrev main_cst_103 : Ref sig .tc := ⟨.hbm, 1141, rfl⟩
abbrev main_v1005 : Ref sig .tc := ⟨.hbm, 1142, rfl⟩
abbrev main_v1006 : Ref sig .tc := ⟨.hbm, 1143, rfl⟩
abbrev main_v1007 : Ref sig .tc := ⟨.hbm, 1144, rfl⟩
abbrev main_cst_104 : Ref sig .tc := ⟨.hbm, 1145, rfl⟩
abbrev main_v1008 : Ref sig .tc := ⟨.hbm, 1146, rfl⟩
abbrev main_v1009 : Ref sig .tc := ⟨.hbm, 1147, rfl⟩
abbrev main_v1010 : Ref sig .tc := ⟨.hbm, 1148, rfl⟩
abbrev main_v1011 : Ref sig .tc := ⟨.hbm, 1149, rfl⟩
abbrev main_v1012 : Ref sig .tc := ⟨.hbm, 1150, rfl⟩
abbrev main_v1013 : Ref sig .tc := ⟨.hbm, 1151, rfl⟩
abbrev main_v1014 : Ref sig .tc := ⟨.hbm, 1152, rfl⟩
abbrev main_v1015 : Ref sig .tc := ⟨.hbm, 1153, rfl⟩
abbrev main_v1016 : Ref sig .tc := ⟨.hbm, 1154, rfl⟩
abbrev main_v1017 : Ref sig .tc := ⟨.hbm, 1155, rfl⟩
abbrev main_v1018 : Ref sig .tc := ⟨.hbm, 1156, rfl⟩
abbrev main_v1019 : Ref sig .tc := ⟨.hbm, 1157, rfl⟩
abbrev main_v1020 : Ref sig .tc := ⟨.hbm, 1158, rfl⟩
abbrev main_v1021 : Ref sig .tc := ⟨.hbm, 1159, rfl⟩
abbrev main_v1022 : Ref sig .tc := ⟨.hbm, 1160, rfl⟩
abbrev main_v1023 : Ref sig .tc := ⟨.hbm, 1161, rfl⟩
abbrev main_v1024 : Ref sig .tc := ⟨.hbm, 1162, rfl⟩
abbrev main_v1025 : Ref sig .tc := ⟨.hbm, 1163, rfl⟩
abbrev main_v1026 : Ref sig .tc := ⟨.hbm, 1164, rfl⟩
abbrev main_v1027 : Ref sig .tc := ⟨.hbm, 1165, rfl⟩
abbrev main_v1028 : Ref sig .tc := ⟨.hbm, 1166, rfl⟩
abbrev main_cst_105 : Ref sig .tc := ⟨.hbm, 1167, rfl⟩
abbrev main_v1029 : Ref sig .tc := ⟨.hbm, 1168, rfl⟩
abbrev main_v1030 : Ref sig .tc := ⟨.hbm, 1169, rfl⟩
abbrev main_cst_106 : Ref sig .tc := ⟨.hbm, 1170, rfl⟩
abbrev main_v1031 : Ref sig .tc := ⟨.hbm, 1171, rfl⟩
abbrev main_v1032 : Ref sig .tc := ⟨.hbm, 1172, rfl⟩
abbrev main_v1033 : Ref sig .tc := ⟨.hbm, 1173, rfl⟩
abbrev main_v1034 : Ref sig .tc := ⟨.hbm, 1174, rfl⟩
abbrev main_v1035 : Ref sig .tc := ⟨.hbm, 1175, rfl⟩
abbrev main_cst_107 : Ref sig .tc := ⟨.hbm, 1176, rfl⟩
abbrev main_v1036 : Ref sig .tc := ⟨.hbm, 1177, rfl⟩
abbrev main_v1037 : Ref sig .tc := ⟨.hbm, 1178, rfl⟩
abbrev main_cst_108 : Ref sig .tc := ⟨.hbm, 1179, rfl⟩
abbrev main_v1038 : Ref sig .tc := ⟨.hbm, 1180, rfl⟩
abbrev main_v1039 : Ref sig .tc := ⟨.hbm, 1181, rfl⟩
abbrev main_v1040 : Ref sig .tc := ⟨.hbm, 1182, rfl⟩
abbrev main_v1041 : Ref sig .tc := ⟨.hbm, 1183, rfl⟩
abbrev main_cst_109 : Ref sig .tc := ⟨.hbm, 1184, rfl⟩
abbrev main_v1042 : Ref sig .tc := ⟨.hbm, 1185, rfl⟩
abbrev main_v1043 : Ref sig .tc := ⟨.hbm, 1186, rfl⟩
abbrev main_v1044 : Ref sig .tc := ⟨.hbm, 1187, rfl⟩
abbrev main_v1045 : Ref sig .tc := ⟨.hbm, 1188, rfl⟩
abbrev main_v1046 : Ref sig .tc := ⟨.hbm, 1189, rfl⟩
abbrev main_v1047 : Ref sig .tc := ⟨.hbm, 1190, rfl⟩
abbrev main_v1048 : Ref sig .tc := ⟨.hbm, 1191, rfl⟩
abbrev main_v1049 : Ref sig .tc := ⟨.hbm, 1192, rfl⟩
abbrev main_v1050 : Ref sig .tc := ⟨.hbm, 1193, rfl⟩
abbrev main_v1051 : Ref sig .tc := ⟨.hbm, 1194, rfl⟩
abbrev main_v1052 : Ref sig .tc := ⟨.hbm, 1195, rfl⟩
abbrev main_v1053 : Ref sig .tc := ⟨.hbm, 1196, rfl⟩
abbrev main_v1054 : Ref sig .tc := ⟨.hbm, 1197, rfl⟩
abbrev main_v1055 : Ref sig .tc := ⟨.hbm, 1198, rfl⟩
abbrev main_v1056 : Ref sig .tc := ⟨.hbm, 1199, rfl⟩
abbrev main_c_110 : Ref sig .tc := ⟨.hbm, 1200, rfl⟩
abbrev main_call13_v0 : Ref sig .tc := ⟨.hbm, 1201, rfl⟩
abbrev main_v1057 : Ref sig .tc := ⟨.hbm, 1202, rfl⟩
abbrev main_v1058 : Ref sig .tc := ⟨.hbm, 1203, rfl⟩
abbrev main_v1059 : Ref sig .tc := ⟨.hbm, 1204, rfl⟩
abbrev main_v1060 : Ref sig .tc := ⟨.hbm, 1205, rfl⟩
abbrev main_v1061 : Ref sig .tc := ⟨.hbm, 1206, rfl⟩
abbrev main_v1062 : Ref sig .tc := ⟨.hbm, 1207, rfl⟩
abbrev main_v1063 : Ref sig .tc := ⟨.hbm, 1208, rfl⟩
abbrev main_v1064 : Ref sig .tc := ⟨.hbm, 1209, rfl⟩
abbrev main_v1065 : Ref sig .tc := ⟨.hbm, 1210, rfl⟩
abbrev main_v1066 : Ref sig .tc := ⟨.hbm, 1211, rfl⟩
abbrev main_v1067 : Ref sig .tc := ⟨.hbm, 1212, rfl⟩
abbrev main_v1068 : Ref sig .tc := ⟨.hbm, 1213, rfl⟩
abbrev main_v1069 : Ref sig .tc := ⟨.hbm, 1214, rfl⟩
abbrev main_v1070 : Ref sig .tc := ⟨.hbm, 1215, rfl⟩
abbrev main_v1071 : Ref sig .tc := ⟨.hbm, 1216, rfl⟩
abbrev main_v1072 : Ref sig .tc := ⟨.hbm, 1217, rfl⟩
abbrev main_v1073 : Ref sig .tc := ⟨.hbm, 1218, rfl⟩
abbrev main_v1074 : Ref sig .tc := ⟨.hbm, 1219, rfl⟩
abbrev main_v1075 : Ref sig .tc := ⟨.hbm, 1220, rfl⟩
abbrev main_v1076 : Ref sig .tc := ⟨.hbm, 1221, rfl⟩
abbrev main_v1077 : Ref sig .tc := ⟨.hbm, 1222, rfl⟩
abbrev main_v1078 : Ref sig .tc := ⟨.hbm, 1223, rfl⟩
abbrev main_v1079 : Ref sig .tc := ⟨.hbm, 1224, rfl⟩
abbrev main_v1080 : Ref sig .tc := ⟨.hbm, 1225, rfl⟩
abbrev main_v1081 : Ref sig .tc := ⟨.hbm, 1226, rfl⟩
abbrev main_v1082 : Ref sig .tc := ⟨.hbm, 1227, rfl⟩
abbrev main_v1083 : Ref sig .tc := ⟨.hbm, 1228, rfl⟩
abbrev main_v1084 : Ref sig .tc := ⟨.hbm, 1229, rfl⟩
abbrev main_v1085 : Ref sig .tc := ⟨.hbm, 1230, rfl⟩
abbrev main_v1086 : Ref sig .tc := ⟨.hbm, 1231, rfl⟩
abbrev main_v1087 : Ref sig .tc := ⟨.hbm, 1232, rfl⟩
abbrev main_v1088 : Ref sig .tc := ⟨.hbm, 1233, rfl⟩
abbrev main_v1089 : Ref sig .tc := ⟨.hbm, 1234, rfl⟩
abbrev main_cst_111 : Ref sig .tc := ⟨.hbm, 1235, rfl⟩
abbrev main_v1090 : Ref sig .tc := ⟨.hbm, 1236, rfl⟩
abbrev main_v1091 : Ref sig .tc := ⟨.hbm, 1237, rfl⟩
abbrev main_cst_112 : Ref sig .tc := ⟨.hbm, 1238, rfl⟩
abbrev main_v1092 : Ref sig .tc := ⟨.hbm, 1239, rfl⟩
abbrev main_v1093 : Ref sig .tc := ⟨.hbm, 1240, rfl⟩
abbrev main_v1094 : Ref sig .tc := ⟨.hbm, 1241, rfl⟩
abbrev main_cst_113 : Ref sig .tc := ⟨.hbm, 1242, rfl⟩
abbrev main_v1095 : Ref sig .tc := ⟨.hbm, 1243, rfl⟩
abbrev main_v1096 : Ref sig .tc := ⟨.hbm, 1244, rfl⟩
abbrev main_v1097 : Ref sig .tc := ⟨.hbm, 1245, rfl⟩
abbrev main_v1098 : Ref sig .tc := ⟨.hbm, 1246, rfl⟩
abbrev main_v1099 : Ref sig .tc := ⟨.hbm, 1247, rfl⟩
abbrev main_v1100 : Ref sig .tc := ⟨.hbm, 1248, rfl⟩
abbrev main_v1101 : Ref sig .tc := ⟨.hbm, 1249, rfl⟩
abbrev main_v1102 : Ref sig .tc := ⟨.hbm, 1250, rfl⟩
abbrev main_v1103 : Ref sig .tc := ⟨.hbm, 1251, rfl⟩
abbrev main_v1104 : Ref sig .tc := ⟨.hbm, 1252, rfl⟩
abbrev main_v1105 : Ref sig .tc := ⟨.hbm, 1253, rfl⟩
abbrev main_v1106 : Ref sig .tc := ⟨.hbm, 1254, rfl⟩
abbrev main_v1107 : Ref sig .tc := ⟨.hbm, 1255, rfl⟩
abbrev main_v1108 : Ref sig .tc := ⟨.hbm, 1256, rfl⟩
abbrev main_v1109 : Ref sig .tc := ⟨.hbm, 1257, rfl⟩
abbrev main_v1110 : Ref sig .tc := ⟨.hbm, 1258, rfl⟩
abbrev main_v1111 : Ref sig .tc := ⟨.hbm, 1259, rfl⟩
abbrev main_v1112 : Ref sig .tc := ⟨.hbm, 1260, rfl⟩
abbrev main_v1113 : Ref sig .tc := ⟨.hbm, 1261, rfl⟩
abbrev main_cst_114 : Ref sig .tc := ⟨.hbm, 1262, rfl⟩
abbrev main_v1114 : Ref sig .tc := ⟨.hbm, 1263, rfl⟩
abbrev main_v1115 : Ref sig .tc := ⟨.hbm, 1264, rfl⟩
abbrev main_cst_115 : Ref sig .tc := ⟨.hbm, 1265, rfl⟩
abbrev main_v1116 : Ref sig .tc := ⟨.hbm, 1266, rfl⟩
abbrev main_v1117 : Ref sig .tc := ⟨.hbm, 1267, rfl⟩
abbrev main_v1118 : Ref sig .tc := ⟨.hbm, 1268, rfl⟩
abbrev main_v1119 : Ref sig .tc := ⟨.hbm, 1269, rfl⟩
abbrev main_v1120 : Ref sig .tc := ⟨.hbm, 1270, rfl⟩
abbrev main_cst_116 : Ref sig .tc := ⟨.hbm, 1271, rfl⟩
abbrev main_v1121 : Ref sig .tc := ⟨.hbm, 1272, rfl⟩
abbrev main_v1122 : Ref sig .tc := ⟨.hbm, 1273, rfl⟩
abbrev main_cst_117 : Ref sig .tc := ⟨.hbm, 1274, rfl⟩
abbrev main_v1123 : Ref sig .tc := ⟨.hbm, 1275, rfl⟩
abbrev main_v1124 : Ref sig .tc := ⟨.hbm, 1276, rfl⟩
abbrev main_v1125 : Ref sig .tc := ⟨.hbm, 1277, rfl⟩
abbrev main_v1126 : Ref sig .tc := ⟨.hbm, 1278, rfl⟩
abbrev main_cst_118 : Ref sig .tc := ⟨.hbm, 1279, rfl⟩
abbrev main_v1127 : Ref sig .tc := ⟨.hbm, 1280, rfl⟩
abbrev main_v1128 : Ref sig .tc := ⟨.hbm, 1281, rfl⟩
abbrev main_v1129 : Ref sig .tc := ⟨.hbm, 1282, rfl⟩
abbrev main_v1130 : Ref sig .tc := ⟨.hbm, 1283, rfl⟩
abbrev main_v1131 : Ref sig .tc := ⟨.hbm, 1284, rfl⟩
abbrev main_v1132 : Ref sig .tc := ⟨.hbm, 1285, rfl⟩
abbrev main_v1133 : Ref sig .tc := ⟨.hbm, 1286, rfl⟩
abbrev main_v1134 : Ref sig .tc := ⟨.hbm, 1287, rfl⟩
abbrev main_v1135 : Ref sig .tc := ⟨.hbm, 1288, rfl⟩
abbrev main_v1136 : Ref sig .tc := ⟨.hbm, 1289, rfl⟩
abbrev main_v1137 : Ref sig .tc := ⟨.hbm, 1290, rfl⟩
abbrev main_v1138 : Ref sig .tc := ⟨.hbm, 1291, rfl⟩
abbrev main_v1139 : Ref sig .tc := ⟨.hbm, 1292, rfl⟩
abbrev main_c_119 : Ref sig .tc := ⟨.hbm, 1293, rfl⟩
abbrev main_call14_v0 : Ref sig .tc := ⟨.hbm, 1294, rfl⟩
abbrev main_v1140 : Ref sig .tc := ⟨.hbm, 1295, rfl⟩
abbrev main_v1141 : Ref sig .tc := ⟨.hbm, 1296, rfl⟩
abbrev main_v1142 : Ref sig .tc := ⟨.hbm, 1297, rfl⟩
abbrev main_v1143 : Ref sig .tc := ⟨.hbm, 1298, rfl⟩
abbrev main_v1144 : Ref sig .tc := ⟨.hbm, 1299, rfl⟩
abbrev main_v1145 : Ref sig .tc := ⟨.hbm, 1300, rfl⟩
abbrev main_v1146 : Ref sig .tc := ⟨.hbm, 1301, rfl⟩
abbrev main_v1147 : Ref sig .tc := ⟨.hbm, 1302, rfl⟩
abbrev main_v1148 : Ref sig .tc := ⟨.hbm, 1303, rfl⟩
abbrev main_v1149 : Ref sig .tc := ⟨.hbm, 1304, rfl⟩
abbrev main_v1150 : Ref sig .tc := ⟨.hbm, 1305, rfl⟩
abbrev main_v1151 : Ref sig .tc := ⟨.hbm, 1306, rfl⟩
abbrev main_v1152 : Ref sig .tc := ⟨.hbm, 1307, rfl⟩
abbrev main_v1153 : Ref sig .tc := ⟨.hbm, 1308, rfl⟩
abbrev main_v1154 : Ref sig .tc := ⟨.hbm, 1309, rfl⟩
abbrev main_v1155 : Ref sig .tc := ⟨.hbm, 1310, rfl⟩
abbrev main_v1156 : Ref sig .tc := ⟨.hbm, 1311, rfl⟩
abbrev main_v1157 : Ref sig .tc := ⟨.hbm, 1312, rfl⟩
abbrev main_v1158 : Ref sig .tc := ⟨.hbm, 1313, rfl⟩
abbrev main_v1159 : Ref sig .tc := ⟨.hbm, 1314, rfl⟩
abbrev main_v1160 : Ref sig .tc := ⟨.hbm, 1315, rfl⟩
abbrev main_v1161 : Ref sig .tc := ⟨.hbm, 1316, rfl⟩
abbrev main_v1162 : Ref sig .tc := ⟨.hbm, 1317, rfl⟩
abbrev main_v1163 : Ref sig .tc := ⟨.hbm, 1318, rfl⟩
abbrev main_v1164 : Ref sig .tc := ⟨.hbm, 1319, rfl⟩
abbrev main_v1165 : Ref sig .tc := ⟨.hbm, 1320, rfl⟩
abbrev main_v1166 : Ref sig .tc := ⟨.hbm, 1321, rfl⟩
abbrev main_v1167 : Ref sig .tc := ⟨.hbm, 1322, rfl⟩
abbrev main_v1168 : Ref sig .tc := ⟨.hbm, 1323, rfl⟩
abbrev main_v1169 : Ref sig .tc := ⟨.hbm, 1324, rfl⟩
abbrev main_v1170 : Ref sig .tc := ⟨.hbm, 1325, rfl⟩
abbrev main_v1171 : Ref sig .tc := ⟨.hbm, 1326, rfl⟩
abbrev main_v1172_0 : Ref sig .tc := ⟨.hbm, 1327, rfl⟩
abbrev main_v1172_1 : Ref sig .tc := ⟨.hbm, 1328, rfl⟩
abbrev main_v1172_2 : Ref sig .tc := ⟨.hbm, 1329, rfl⟩
abbrev main_v1173 : Ref sig .tc := ⟨.hbm, 1330, rfl⟩
abbrev main_v1174 : Ref sig .tc := ⟨.hbm, 1331, rfl⟩
abbrev main_cst_120 : Ref sig .tc := ⟨.hbm, 1332, rfl⟩
abbrev main_v1175 : Ref sig .tc := ⟨.hbm, 1333, rfl⟩
abbrev main_v1176 : Ref sig .tc := ⟨.hbm, 1334, rfl⟩
abbrev main_v1177 : Ref sig .tc := ⟨.hbm, 1335, rfl⟩
abbrev main_cst_121 : Ref sig .tc := ⟨.hbm, 1336, rfl⟩
abbrev main_v1178 : Ref sig .tc := ⟨.hbm, 1337, rfl⟩
abbrev main_cst_122 : Ref sig .tc := ⟨.hbm, 1338, rfl⟩
abbrev main_v1179 : Ref sig .tc := ⟨.hbm, 1339, rfl⟩
abbrev main_v1180 : Ref sig .tc := ⟨.hbm, 1340, rfl⟩
abbrev main_v1181 : Ref sig .tc := ⟨.hbm, 1341, rfl⟩
abbrev main_cst_123 : Ref sig .tc := ⟨.hbm, 1342, rfl⟩
abbrev main_v1182 : Ref sig .tc := ⟨.hbm, 1343, rfl⟩
abbrev main_cst_124 : Ref sig .tc := ⟨.hbm, 1344, rfl⟩
abbrev main_v1183 : Ref sig .tc := ⟨.hbm, 1345, rfl⟩
abbrev main_v1184 : Ref sig .tc := ⟨.hbm, 1346, rfl⟩
abbrev main_cst_125 : Ref sig .tc := ⟨.hbm, 1347, rfl⟩
abbrev main_v1185 : Ref sig .tc := ⟨.hbm, 1348, rfl⟩
abbrev main_v1186 : Ref sig .tc := ⟨.hbm, 1349, rfl⟩
abbrev main_v1187 : Ref sig .tc := ⟨.hbm, 1350, rfl⟩
abbrev main_v1188 : Ref sig .tc := ⟨.hbm, 1351, rfl⟩
abbrev main_cst_126 : Ref sig .tc := ⟨.hbm, 1352, rfl⟩
abbrev main_v1189 : Ref sig .tc := ⟨.hbm, 1353, rfl⟩
abbrev main_v1190 : Ref sig .tc := ⟨.hbm, 1354, rfl⟩
abbrev main_v1191 : Ref sig .tc := ⟨.hbm, 1355, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x2048x80 : Shape := ⟨3, ![16, 2048, 80]⟩
abbrev S4x160x80x3 : Shape := ⟨4, ![4, 160, 80, 3]⟩
abbrev S4x160 : Shape := ⟨2, ![4, 160]⟩
abbrev S3x160x80x1 : Shape := ⟨4, ![3, 160, 80, 1]⟩
abbrev S3x160 : Shape := ⟨2, ![3, 160]⟩
abbrev S80x80x1 : Shape := ⟨3, ![80, 80, 1]⟩
abbrev S80 : Shape := ⟨1, ![80]⟩
abbrev S10x80 : Shape := ⟨2, ![10, 80]⟩
abbrev S10x160x80x5 : Shape := ⟨4, ![10, 160, 80, 5]⟩
abbrev S10x160 : Shape := ⟨2, ![10, 160]⟩
abbrev S10x80x160x1 : Shape := ⟨4, ![10, 80, 160, 1]⟩
abbrev S256x80x3 : Shape := ⟨3, ![256, 80, 3]⟩
abbrev S256 : Shape := ⟨1, ![256]⟩
abbrev S128x256 : Shape := ⟨2, ![128, 256]⟩
abbrev S16x2048x1 : Shape := ⟨3, ![16, 2048, 1]⟩
abbrev S16x2048 : Shape := ⟨2, ![16, 2048]⟩
abbrev S_ : Shape := ⟨0, ![]⟩
abbrev S16x1x2048 : Shape := ⟨3, ![16, 1, 2048]⟩
abbrev S16x80x2048 : Shape := ⟨3, ![16, 80, 2048]⟩
abbrev S1x160x80x3 : Shape := ⟨4, ![1, 160, 80, 3]⟩
abbrev S160x80x3 : Shape := ⟨3, ![160, 80, 3]⟩
abbrev S1x160 : Shape := ⟨2, ![1, 160]⟩
abbrev S160 : Shape := ⟨1, ![160]⟩
abbrev S16x80x2050 : Shape := ⟨3, ![16, 80, 2050]⟩
abbrev S160x80x1 : Shape := ⟨3, ![160, 80, 1]⟩
abbrev S160x80 : Shape := ⟨2, ![160, 80]⟩
abbrev S16x2048x160 : Shape := ⟨3, ![16, 2048, 160]⟩
abbrev S16x160x2048 : Shape := ⟨3, ![16, 160, 2048]⟩
abbrev S1x160x1 : Shape := ⟨3, ![1, 160, 1]⟩
abbrev S1x160x80x1 : Shape := ⟨4, ![1, 160, 80, 1]⟩
abbrev S80x80 : Shape := ⟨2, ![80, 80]⟩
abbrev S1x80x1 : Shape := ⟨3, ![1, 80, 1]⟩
abbrev S1x80 : Shape := ⟨2, ![1, 80]⟩
abbrev S1x160x80x5 : Shape := ⟨4, ![1, 160, 80, 5]⟩
abbrev S160x80x5 : Shape := ⟨3, ![160, 80, 5]⟩
abbrev S16x80x2052 : Shape := ⟨3, ![16, 80, 2052]⟩
abbrev S1x80x160x1 : Shape := ⟨4, ![1, 80, 160, 1]⟩
abbrev S80x160x1 : Shape := ⟨3, ![80, 160, 1]⟩
abbrev S80x160 : Shape := ⟨2, ![80, 160]⟩
abbrev S256x80x1 : Shape := ⟨3, ![256, 80, 1]⟩
abbrev S256x80 : Shape := ⟨2, ![256, 80]⟩
abbrev S16x2048x256 : Shape := ⟨3, ![16, 2048, 256]⟩
abbrev S16x256x2048 : Shape := ⟨3, ![16, 256, 2048]⟩
abbrev S1x256x1 : Shape := ⟨3, ![1, 256, 1]⟩
abbrev S32768x256 : Shape := ⟨2, ![32768, 256]⟩
abbrev S128 : Shape := ⟨1, ![128]⟩
abbrev S1x128 : Shape := ⟨2, ![1, 128]⟩
abbrev S32768 : Shape := ⟨1, ![32768]⟩
abbrev S32768x1 : Shape := ⟨2, ![32768, 1]⟩
abbrev S32768x128 : Shape := ⟨2, ![32768, 128]⟩
abbrev S256x128 : Shape := ⟨2, ![256, 128]⟩
abbrev S1 : Shape := ⟨1, ![1]⟩
abbrev S1x1 : Shape := ⟨2, ![1, 1]⟩

abbrev nBuf : Space → Nat
  | .hbm => 1410
  | .vmem => 0
  | .smem => 0
  | _ => 0

abbrev hbmTy0_0 (i : Nat) : BufTy := match i % 128 with
  | 0 => ⟨S16x2048x80, .f32⟩
  | 1 => ⟨S4x160x80x3, .f32⟩
  | 2 => ⟨S4x160, .f32⟩
  | 3 => ⟨S3x160x80x1, .f32⟩
  | 4 => ⟨S3x160, .f32⟩
  | 5 => ⟨S80x80x1, .f32⟩
  | 6 => ⟨S80, .f32⟩
  | 7 => ⟨S10x80, .f32⟩
  | 8 => ⟨S10x80, .f32⟩
  | 9 => ⟨S10x160x80x5, .f32⟩
  | 10 => ⟨S10x160, .f32⟩
  | 11 => ⟨S10x80x160x1, .f32⟩
  | 12 => ⟨S10x80, .f32⟩
  | 13 => ⟨S80, .f32⟩
  | 14 => ⟨S80, .f32⟩
  | 15 => ⟨S256x80x3, .f32⟩
  | 16 => ⟨S256, .f32⟩
  | 17 => ⟨S128x256, .f32⟩
  | 18 => ⟨S16x2048x1, .f32⟩
  | 19 => ⟨S16x2048, .f32⟩
  | 20 => ⟨S_, .f32⟩
  | 21 => ⟨S16x2048, .f32⟩
  | 22 => ⟨S16x2048, .i1⟩
  | 23 => ⟨S16x2048, .i1⟩
  | 24 => ⟨S16x2048, .f32⟩
  | 25 => ⟨S16x1x2048, .f32⟩
  | 26 => ⟨S16x80x2048, .f32⟩
  | 27 => ⟨S_, .f32⟩
  | 28 => ⟨S16x80x2048, .f32⟩
  | 29 => ⟨S1x160x80x3, .f32⟩
  | 30 => ⟨S160x80x3, .f32⟩
  | 31 => ⟨S1x160, .f32⟩
  | 32 => ⟨S160, .f32⟩
  | 33 => ⟨S_, .i32⟩
  | 34 => ⟨S_, .f32⟩
  | 35 => ⟨S16x80x2050, .f32⟩
  | 36 => ⟨S160x80x1, .f32⟩
  | 37 => ⟨S160x80, .f32⟩
  | 38 => ⟨S16x80x2048, .f32⟩
  | 39 => ⟨S16x2048x160, .f32⟩
  | 40 => ⟨S16x160x2048, .f32⟩
  | 41 => ⟨S160x80x1, .f32⟩
  | 42 => ⟨S160x80, .f32⟩
  | 43 => ⟨S16x80x2048, .f32⟩
  | 44 => ⟨S16x2048x160, .f32⟩
  | 45 => ⟨S16x160x2048, .f32⟩
  | 46 => ⟨S16x160x2048, .f32⟩
  | 47 => ⟨S160x80x1, .f32⟩
  | 48 => ⟨S160x80, .f32⟩
  | 49 => ⟨S16x80x2048, .f32⟩
  | 50 => ⟨S16x2048x160, .f32⟩
  | 51 => ⟨S16x160x2048, .f32⟩
  | 52 => ⟨S16x160x2048, .f32⟩
  | 53 => ⟨S1x160x1, .f32⟩
  | 54 => ⟨S16x160x2048, .f32⟩
  | 55 => ⟨S16x160x2048, .f32⟩
  | 56 => ⟨S16x80x2048, .f32⟩
  | 57 => ⟨S16x80x2048, .f32⟩
  | 58 => ⟨S16x80x2048, .f32⟩
  | 59 => ⟨S16x80x2048, .f32⟩
  | 60 => ⟨S16x80x2048, .f32⟩
  | 61 => ⟨S_, .f32⟩
  | 62 => ⟨S16x80x2048, .f32⟩
  | 63 => ⟨S16x80x2048, .f32⟩
  | 64 => ⟨S_, .f32⟩
  | 65 => ⟨S16x80x2048, .f32⟩
  | 66 => ⟨S16x80x2048, .f32⟩
  | 67 => ⟨S16x80x2048, .f32⟩
  | 68 => ⟨S1x160x80x1, .f32⟩
  | 69 => ⟨S160x80x1, .f32⟩
  | 70 => ⟨S1x160, .f32⟩
  | 71 => ⟨S160, .f32⟩
  | 72 => ⟨S160x80, .f32⟩
  | 73 => ⟨S16x2048x160, .f32⟩
  | 74 => ⟨S16x160x2048, .f32⟩
  | 75 => ⟨S1x160x1, .f32⟩
  | 76 => ⟨S16x160x2048, .f32⟩
  | 77 => ⟨S16x160x2048, .f32⟩
  | 78 => ⟨S16x80x2048, .f32⟩
  | 79 => ⟨S16x80x2048, .f32⟩
  | 80 => ⟨S16x80x2048, .f32⟩
  | 81 => ⟨S16x80x2048, .f32⟩
  | 82 => ⟨S16x80x2048, .f32⟩
  | 83 => ⟨S16x80x2048, .f32⟩
  | 84 => ⟨S1x160x80x3, .f32⟩
  | 85 => ⟨S160x80x3, .f32⟩
  | 86 => ⟨S1x160, .f32⟩
  | 87 => ⟨S160, .f32⟩
  | 88 => ⟨S_, .i32⟩
  | 89 => ⟨S_, .f32⟩
  | 90 => ⟨S16x80x2050, .f32⟩
  | 91 => ⟨S160x80x1, .f32⟩
  | 92 => ⟨S160x80, .f32⟩
  | 93 => ⟨S16x80x2048, .f32⟩
  | 94 => ⟨S16x2048x160, .f32⟩
  | 95 => ⟨S16x160x2048, .f32⟩
  | 96 => ⟨S160x80x1, .f32⟩
  | 97 => ⟨S160x80, .f32⟩
  | 98 => ⟨S16x80x2048, .f32⟩
  | 99 => ⟨S16x2048x160, .f32⟩
  | 100 => ⟨S16x160x2048, .f32⟩
  | 101 => ⟨S16x160x2048, .f32⟩
  | 102 => ⟨S160x80x1, .f32⟩
  | 103 => ⟨S160x80, .f32⟩
  | 104 => ⟨S16x80x2048, .f32⟩
  | 105 => ⟨S16x2048x160, .f32⟩
  | 106 => ⟨S16x160x2048, .f32⟩
  | 107 => ⟨S16x160x2048, .f32⟩
  | 108 => ⟨S1x160x1, .f32⟩
  | 109 => ⟨S16x160x2048, .f32⟩
  | 110 => ⟨S16x160x2048, .f32⟩
  | 111 => ⟨S16x80x2048, .f32⟩
  | 112 => ⟨S16x80x2048, .f32⟩
  | 113 => ⟨S16x80x2048, .f32⟩
  | 114 => ⟨S16x80x2048, .f32⟩
  | 115 => ⟨S16x80x2048, .f32⟩
  | 116 => ⟨S_, .f32⟩
  | 117 => ⟨S16x80x2048, .f32⟩
  | 118 => ⟨S16x80x2048, .f32⟩
  | 119 => ⟨S_, .f32⟩
  | 120 => ⟨S16x80x2048, .f32⟩
  | 121 => ⟨S16x80x2048, .f32⟩
  | 122 => ⟨S16x80x2048, .f32⟩
  | 123 => ⟨S1x160x80x1, .f32⟩
  | 124 => ⟨S160x80x1, .f32⟩
  | 125 => ⟨S1x160, .f32⟩
  | 126 => ⟨S160, .f32⟩
  | 127 => ⟨S160x80, .f32⟩
  | _ => ⟨S16x2048x80, .f32⟩

abbrev hbmTy0_1 (i : Nat) : BufTy := match i % 128 with
  | 0 => ⟨S16x2048x160, .f32⟩
  | 1 => ⟨S16x160x2048, .f32⟩
  | 2 => ⟨S1x160x1, .f32⟩
  | 3 => ⟨S16x160x2048, .f32⟩
  | 4 => ⟨S16x160x2048, .f32⟩
  | 5 => ⟨S16x80x2048, .f32⟩
  | 6 => ⟨S16x80x2048, .f32⟩
  | 7 => ⟨S16x80x2048, .f32⟩
  | 8 => ⟨S16x80x2048, .f32⟩
  | 9 => ⟨S16x80x2048, .f32⟩
  | 10 => ⟨S16x80x2048, .f32⟩
  | 11 => ⟨S1x160x80x3, .f32⟩
  | 12 => ⟨S160x80x3, .f32⟩
  | 13 => ⟨S1x160, .f32⟩
  | 14 => ⟨S160, .f32⟩
  | 15 => ⟨S_, .i32⟩
  | 16 => ⟨S_, .f32⟩
  | 17 => ⟨S16x80x2050, .f32⟩
  | 18 => ⟨S160x80x1, .f32⟩
  | 19 => ⟨S160x80, .f32⟩
  | 20 => ⟨S16x80x2048, .f32⟩
  | 21 => ⟨S16x2048x160, .f32⟩
  | 22 => ⟨S16x160x2048, .f32⟩
  | 23 => ⟨S160x80x1, .f32⟩
  | 24 => ⟨S160x80, .f32⟩
  | 25 => ⟨S16x80x2048, .f32⟩
  | 26 => ⟨S16x2048x160, .f32⟩
  | 27 => ⟨S16x160x2048, .f32⟩
  | 28 => ⟨S16x160x2048, .f32⟩
  | 29 => ⟨S160x80x1, .f32⟩
  | 30 => ⟨S160x80, .f32⟩
  | 31 => ⟨S16x80x2048, .f32⟩
  | 32 => ⟨S16x2048x160, .f32⟩
  | 33 => ⟨S16x160x2048, .f32⟩
  | 34 => ⟨S16x160x2048, .f32⟩
  | 35 => ⟨S1x160x1, .f32⟩
  | 36 => ⟨S16x160x2048, .f32⟩
  | 37 => ⟨S16x160x2048, .f32⟩
  | 38 => ⟨S16x80x2048, .f32⟩
  | 39 => ⟨S16x80x2048, .f32⟩
  | 40 => ⟨S16x80x2048, .f32⟩
  | 41 => ⟨S16x80x2048, .f32⟩
  | 42 => ⟨S16x80x2048, .f32⟩
  | 43 => ⟨S_, .f32⟩
  | 44 => ⟨S16x80x2048, .f32⟩
  | 45 => ⟨S16x80x2048, .f32⟩
  | 46 => ⟨S_, .f32⟩
  | 47 => ⟨S16x80x2048, .f32⟩
  | 48 => ⟨S16x80x2048, .f32⟩
  | 49 => ⟨S16x80x2048, .f32⟩
  | 50 => ⟨S1x160x80x1, .f32⟩
  | 51 => ⟨S160x80x1, .f32⟩
  | 52 => ⟨S1x160, .f32⟩
  | 53 => ⟨S160, .f32⟩
  | 54 => ⟨S160x80, .f32⟩
  | 55 => ⟨S16x2048x160, .f32⟩
  | 56 => ⟨S16x160x2048, .f32⟩
  | 57 => ⟨S1x160x1, .f32⟩
  | 58 => ⟨S16x160x2048, .f32⟩
  | 59 => ⟨S16x160x2048, .f32⟩
  | 60 => ⟨S16x80x2048, .f32⟩
  | 61 => ⟨S16x80x2048, .f32⟩
  | 62 => ⟨S16x80x2048, .f32⟩
  | 63 => ⟨S16x80x2048, .f32⟩
  | 64 => ⟨S16x80x2048, .f32⟩
  | 65 => ⟨S16x80x2048, .f32⟩
  | 66 => ⟨S1x160x80x3, .f32⟩
  | 67 => ⟨S160x80x3, .f32⟩
  | 68 => ⟨S1x160, .f32⟩
  | 69 => ⟨S160, .f32⟩
  | 70 => ⟨S_, .i32⟩
  | 71 => ⟨S_, .f32⟩
  | 72 => ⟨S16x80x2050, .f32⟩
  | 73 => ⟨S160x80x1, .f32⟩
  | 74 => ⟨S160x80, .f32⟩
  | 75 => ⟨S16x80x2048, .f32⟩
  | 76 => ⟨S16x2048x160, .f32⟩
  | 77 => ⟨S16x160x2048, .f32⟩
  | 78 => ⟨S160x80x1, .f32⟩
  | 79 => ⟨S160x80, .f32⟩
  | 80 => ⟨S16x80x2048, .f32⟩
  | 81 => ⟨S16x2048x160, .f32⟩
  | 82 => ⟨S16x160x2048, .f32⟩
  | 83 => ⟨S16x160x2048, .f32⟩
  | 84 => ⟨S160x80x1, .f32⟩
  | 85 => ⟨S160x80, .f32⟩
  | 86 => ⟨S16x80x2048, .f32⟩
  | 87 => ⟨S16x2048x160, .f32⟩
  | 88 => ⟨S16x160x2048, .f32⟩
  | 89 => ⟨S16x160x2048, .f32⟩
  | 90 => ⟨S1x160x1, .f32⟩
  | 91 => ⟨S16x160x2048, .f32⟩
  | 92 => ⟨S16x160x2048, .f32⟩
  | 93 => ⟨S16x80x2048, .f32⟩
  | 94 => ⟨S16x80x2048, .f32⟩
  | 95 => ⟨S16x80x2048, .f32⟩
  | 96 => ⟨S16x80x2048, .f32⟩
  | 97 => ⟨S16x80x2048, .f32⟩
  | 98 => ⟨S_, .f32⟩
  | 99 => ⟨S16x80x2048, .f32⟩
  | 100 => ⟨S16x80x2048, .f32⟩
  | 101 => ⟨S_, .f32⟩
  | 102 => ⟨S16x80x2048, .f32⟩
  | 103 => ⟨S16x80x2048, .f32⟩
  | 104 => ⟨S16x80x2048, .f32⟩
  | 105 => ⟨S80x80, .f32⟩
  | 106 => ⟨S16x2048x80, .f32⟩
  | 107 => ⟨S16x80x2048, .f32⟩
  | 108 => ⟨S1x80x1, .f32⟩
  | 109 => ⟨S16x80x2048, .f32⟩
  | 110 => ⟨S16x80x2048, .f32⟩
  | 111 => ⟨S16x80x2048, .f32⟩
  | 112 => ⟨S16x80x2048, .f32⟩
  | 113 => ⟨S16x80x2048, .f32⟩
  | 114 => ⟨S16x80x2048, .f32⟩
  | 115 => ⟨S_, .f32⟩
  | 116 => ⟨S16x2048, .f32⟩
  | 117 => ⟨S_, .f32⟩
  | 118 => ⟨S16x2048, .f32⟩
  | 119 => ⟨S16x2048, .i1⟩
  | 120 => ⟨S16x2048, .f32⟩
  | 121 => ⟨S16x1x2048, .f32⟩
  | 122 => ⟨S16x80x2048, .f32⟩
  | 123 => ⟨S_, .f32⟩
  | 124 => ⟨S16x2048, .f32⟩
  | 125 => ⟨S_, .f32⟩
  | 126 => ⟨S16x2048, .f32⟩
  | 127 => ⟨S16x2048, .i1⟩
  | _ => ⟨S16x2048x80, .f32⟩

abbrev hbmTy0_2 (i : Nat) : BufTy := match i % 128 with
  | 0 => ⟨S16x2048, .f32⟩
  | 1 => ⟨S16x1x2048, .f32⟩
  | 2 => ⟨S1x80, .f32⟩
  | 3 => ⟨S80, .f32⟩
  | 4 => ⟨S1x80, .f32⟩
  | 5 => ⟨S80, .f32⟩
  | 6 => ⟨S_, .f32⟩
  | 7 => ⟨S16x2048, .f32⟩
  | 8 => ⟨S16x1x2048, .f32⟩
  | 9 => ⟨S_, .f32⟩
  | 10 => ⟨S16x1x2048, .f32⟩
  | 11 => ⟨S16x1x2048, .f32⟩
  | 12 => ⟨S16x80x2048, .f32⟩
  | 13 => ⟨S16x80x2048, .f32⟩
  | 14 => ⟨S16x80x2048, .f32⟩
  | 15 => ⟨S_, .f32⟩
  | 16 => ⟨S16x2048, .f32⟩
  | 17 => ⟨S16x1x2048, .f32⟩
  | 18 => ⟨S_, .f32⟩
  | 19 => ⟨S16x1x2048, .f32⟩
  | 20 => ⟨S16x1x2048, .f32⟩
  | 21 => ⟨S16x80x2048, .f32⟩
  | 22 => ⟨S16x80x2048, .f32⟩
  | 23 => ⟨S_, .f32⟩
  | 24 => ⟨S16x1x2048, .f32⟩
  | 25 => ⟨S16x1x2048, .f32⟩
  | 26 => ⟨S16x1x2048, .f32⟩
  | 27 => ⟨S16x80x2048, .f32⟩
  | 28 => ⟨S16x80x2048, .f32⟩
  | 29 => ⟨S1x80x1, .f32⟩
  | 30 => ⟨S16x80x2048, .f32⟩
  | 31 => ⟨S16x80x2048, .f32⟩
  | 32 => ⟨S1x80x1, .f32⟩
  | 33 => ⟨S16x80x2048, .f32⟩
  | 34 => ⟨S16x80x2048, .f32⟩
  | 35 => ⟨S1x160x80x5, .f32⟩
  | 36 => ⟨S160x80x5, .f32⟩
  | 37 => ⟨S1x160, .f32⟩
  | 38 => ⟨S160, .f32⟩
  | 39 => ⟨S_, .i32⟩
  | 40 => ⟨S_, .f32⟩
  | 41 => ⟨S16x80x2052, .f32⟩
  | 42 => ⟨S160x80x1, .f32⟩
  | 43 => ⟨S160x80, .f32⟩
  | 44 => ⟨S16x80x2048, .f32⟩
  | 45 => ⟨S16x2048x160, .f32⟩
  | 46 => ⟨S16x160x2048, .f32⟩
  | 47 => ⟨S160x80x1, .f32⟩
  | 48 => ⟨S160x80, .f32⟩
  | 49 => ⟨S16x80x2048, .f32⟩
  | 50 => ⟨S16x2048x160, .f32⟩
  | 51 => ⟨S16x160x2048, .f32⟩
  | 52 => ⟨S16x160x2048, .f32⟩
  | 53 => ⟨S160x80x1, .f32⟩
  | 54 => ⟨S160x80, .f32⟩
  | 55 => ⟨S16x80x2048, .f32⟩
  | 56 => ⟨S16x2048x160, .f32⟩
  | 57 => ⟨S16x160x2048, .f32⟩
  | 58 => ⟨S16x160x2048, .f32⟩
  | 59 => ⟨S160x80x1, .f32⟩
  | 60 => ⟨S160x80, .f32⟩
  | 61 => ⟨S16x80x2048, .f32⟩
  | 62 => ⟨S16x2048x160, .f32⟩
  | 63 => ⟨S16x160x2048, .f32⟩
  | 64 => ⟨S16x160x2048, .f32⟩
  | 65 => ⟨S160x80x1, .f32⟩
  | 66 => ⟨S160x80, .f32⟩
  | 67 => ⟨S16x80x2048, .f32⟩
  | 68 => ⟨S16x2048x160, .f32⟩
  | 69 => ⟨S16x160x2048, .f32⟩
  | 70 => ⟨S16x160x2048, .f32⟩
  | 71 => ⟨S1x160x1, .f32⟩
  | 72 => ⟨S16x160x2048, .f32⟩
  | 73 => ⟨S16x160x2048, .f32⟩
  | 74 => ⟨S_, .f32⟩
  | 75 => ⟨S16x160x2048, .f32⟩
  | 76 => ⟨S16x160x2048, .f32⟩
  | 77 => ⟨S_, .f32⟩
  | 78 => ⟨S16x160x2048, .f32⟩
  | 79 => ⟨S16x160x2048, .f32⟩
  | 80 => ⟨S16x160x2048, .f32⟩
  | 81 => ⟨S_, .f32⟩
  | 82 => ⟨S16x160x2048, .f32⟩
  | 83 => ⟨S16x160x2048, .f32⟩
  | 84 => ⟨S16x160x2048, .f32⟩
  | 85 => ⟨S16x160x2048, .f32⟩
  | 86 => ⟨S1x80x160x1, .f32⟩
  | 87 => ⟨S80x160x1, .f32⟩
  | 88 => ⟨S1x80, .f32⟩
  | 89 => ⟨S80, .f32⟩
  | 90 => ⟨S80x160, .f32⟩
  | 91 => ⟨S16x2048x80, .f32⟩
  | 92 => ⟨S16x80x2048, .f32⟩
  | 93 => ⟨S1x80x1, .f32⟩
  | 94 => ⟨S16x80x2048, .f32⟩
  | 95 => ⟨S16x80x2048, .f32⟩
  | 96 => ⟨S16x80x2048, .f32⟩
  | 97 => ⟨S16x80x2048, .f32⟩
  | 98 => ⟨S16x80x2048, .f32⟩
  | 99 => ⟨S1x80, .f32⟩
  | 100 => ⟨S80, .f32⟩
  | 101 => ⟨S1x80, .f32⟩
  | 102 => ⟨S80, .f32⟩
  | 103 => ⟨S_, .f32⟩
  | 104 => ⟨S16x2048, .f32⟩
  | 105 => ⟨S16x1x2048, .f32⟩
  | 106 => ⟨S_, .f32⟩
  | 107 => ⟨S16x1x2048, .f32⟩
  | 108 => ⟨S16x1x2048, .f32⟩
  | 109 => ⟨S16x80x2048, .f32⟩
  | 110 => ⟨S16x80x2048, .f32⟩
  | 111 => ⟨S16x80x2048, .f32⟩
  | 112 => ⟨S_, .f32⟩
  | 113 => ⟨S16x2048, .f32⟩
  | 114 => ⟨S16x1x2048, .f32⟩
  | 115 => ⟨S_, .f32⟩
  | 116 => ⟨S16x1x2048, .f32⟩
  | 117 => ⟨S16x1x2048, .f32⟩
  | 118 => ⟨S16x80x2048, .f32⟩
  | 119 => ⟨S16x80x2048, .f32⟩
  | 120 => ⟨S_, .f32⟩
  | 121 => ⟨S16x1x2048, .f32⟩
  | 122 => ⟨S16x1x2048, .f32⟩
  | 123 => ⟨S16x1x2048, .f32⟩
  | 124 => ⟨S16x80x2048, .f32⟩
  | 125 => ⟨S16x80x2048, .f32⟩
  | 126 => ⟨S1x80x1, .f32⟩
  | 127 => ⟨S16x80x2048, .f32⟩
  | _ => ⟨S16x2048x80, .f32⟩

abbrev hbmTy0_3 (i : Nat) : BufTy := match i % 128 with
  | 0 => ⟨S16x80x2048, .f32⟩
  | 1 => ⟨S1x80x1, .f32⟩
  | 2 => ⟨S16x80x2048, .f32⟩
  | 3 => ⟨S16x80x2048, .f32⟩
  | 4 => ⟨S1x160x80x5, .f32⟩
  | 5 => ⟨S160x80x5, .f32⟩
  | 6 => ⟨S1x160, .f32⟩
  | 7 => ⟨S160, .f32⟩
  | 8 => ⟨S_, .i32⟩
  | 9 => ⟨S_, .f32⟩
  | 10 => ⟨S16x80x2052, .f32⟩
  | 11 => ⟨S160x80x1, .f32⟩
  | 12 => ⟨S160x80, .f32⟩
  | 13 => ⟨S16x80x2048, .f32⟩
  | 14 => ⟨S16x2048x160, .f32⟩
  | 15 => ⟨S16x160x2048, .f32⟩
  | 16 => ⟨S160x80x1, .f32⟩
  | 17 => ⟨S160x80, .f32⟩
  | 18 => ⟨S16x80x2048, .f32⟩
  | 19 => ⟨S16x2048x160, .f32⟩
  | 20 => ⟨S16x160x2048, .f32⟩
  | 21 => ⟨S16x160x2048, .f32⟩
  | 22 => ⟨S160x80x1, .f32⟩
  | 23 => ⟨S160x80, .f32⟩
  | 24 => ⟨S16x80x2048, .f32⟩
  | 25 => ⟨S16x2048x160, .f32⟩
  | 26 => ⟨S16x160x2048, .f32⟩
  | 27 => ⟨S16x160x2048, .f32⟩
  | 28 => ⟨S160x80x1, .f32⟩
  | 29 => ⟨S160x80, .f32⟩
  | 30 => ⟨S16x80x2048, .f32⟩
  | 31 => ⟨S16x2048x160, .f32⟩
  | 32 => ⟨S16x160x2048, .f32⟩
  | 33 => ⟨S16x160x2048, .f32⟩
  | 34 => ⟨S160x80x1, .f32⟩
  | 35 => ⟨S160x80, .f32⟩
  | 36 => ⟨S16x80x2048, .f32⟩
  | 37 => ⟨S16x2048x160, .f32⟩
  | 38 => ⟨S16x160x2048, .f32⟩
  | 39 => ⟨S16x160x2048, .f32⟩
  | 40 => ⟨S1x160x1, .f32⟩
  | 41 => ⟨S16x160x2048, .f32⟩
  | 42 => ⟨S16x160x2048, .f32⟩
  | 43 => ⟨S_, .f32⟩
  | 44 => ⟨S16x160x2048, .f32⟩
  | 45 => ⟨S16x160x2048, .f32⟩
  | 46 => ⟨S_, .f32⟩
  | 47 => ⟨S16x160x2048, .f32⟩
  | 48 => ⟨S16x160x2048, .f32⟩
  | 49 => ⟨S16x160x2048, .f32⟩
  | 50 => ⟨S_, .f32⟩
  | 51 => ⟨S16x160x2048, .f32⟩
  | 52 => ⟨S16x160x2048, .f32⟩
  | 53 => ⟨S16x160x2048, .f32⟩
  | 54 => ⟨S16x160x2048, .f32⟩
  | 55 => ⟨S1x80x160x1, .f32⟩
  | 56 => ⟨S80x160x1, .f32⟩
  | 57 => ⟨S1x80, .f32⟩
  | 58 => ⟨S80, .f32⟩
  | 59 => ⟨S80x160, .f32⟩
  | 60 => ⟨S16x2048x80, .f32⟩
  | 61 => ⟨S16x80x2048, .f32⟩
  | 62 => ⟨S1x80x1, .f32⟩
  | 63 => ⟨S16x80x2048, .f32⟩
  | 64 => ⟨S16x80x2048, .f32⟩
  | 65 => ⟨S16x80x2048, .f32⟩
  | 66 => ⟨S16x80x2048, .f32⟩
  | 67 => ⟨S16x80x2048, .f32⟩
  | 68 => ⟨S16x80x2048, .f32⟩
  | 69 => ⟨S_, .f32⟩
  | 70 => ⟨S16x2048, .f32⟩
  | 71 => ⟨S_, .f32⟩
  | 72 => ⟨S16x2048, .f32⟩
  | 73 => ⟨S16x2048, .i1⟩
  | 74 => ⟨S16x2048, .f32⟩
  | 75 => ⟨S16x1x2048, .f32⟩
  | 76 => ⟨S1x80, .f32⟩
  | 77 => ⟨S80, .f32⟩
  | 78 => ⟨S1x80, .f32⟩
  | 79 => ⟨S80, .f32⟩
  | 80 => ⟨S_, .f32⟩
  | 81 => ⟨S16x2048, .f32⟩
  | 82 => ⟨S16x1x2048, .f32⟩
  | 83 => ⟨S_, .f32⟩
  | 84 => ⟨S16x1x2048, .f32⟩
  | 85 => ⟨S16x1x2048, .f32⟩
  | 86 => ⟨S16x80x2048, .f32⟩
  | 87 => ⟨S16x80x2048, .f32⟩
  | 88 => ⟨S16x80x2048, .f32⟩
  | 89 => ⟨S_, .f32⟩
  | 90 => ⟨S16x2048, .f32⟩
  | 91 => ⟨S16x1x2048, .f32⟩
  | 92 => ⟨S_, .f32⟩
  | 93 => ⟨S16x1x2048, .f32⟩
  | 94 => ⟨S16x1x2048, .f32⟩
  | 95 => ⟨S16x80x2048, .f32⟩
  | 96 => ⟨S16x80x2048, .f32⟩
  | 97 => ⟨S_, .f32⟩
  | 98 => ⟨S16x1x2048, .f32⟩
  | 99 => ⟨S16x1x2048, .f32⟩
  | 100 => ⟨S16x1x2048, .f32⟩
  | 101 => ⟨S16x80x2048, .f32⟩
  | 102 => ⟨S16x80x2048, .f32⟩
  | 103 => ⟨S1x80x1, .f32⟩
  | 104 => ⟨S16x80x2048, .f32⟩
  | 105 => ⟨S16x80x2048, .f32⟩
  | 106 => ⟨S1x80x1, .f32⟩
  | 107 => ⟨S16x80x2048, .f32⟩
  | 108 => ⟨S16x80x2048, .f32⟩
  | 109 => ⟨S1x160x80x5, .f32⟩
  | 110 => ⟨S160x80x5, .f32⟩
  | 111 => ⟨S1x160, .f32⟩
  | 112 => ⟨S160, .f32⟩
  | 113 => ⟨S_, .i32⟩
  | 114 => ⟨S_, .f32⟩
  | 115 => ⟨S16x80x2052, .f32⟩
  | 116 => ⟨S160x80x1, .f32⟩
  | 117 => ⟨S160x80, .f32⟩
  | 118 => ⟨S16x80x2048, .f32⟩
  | 119 => ⟨S16x2048x160, .f32⟩
  | 120 => ⟨S16x160x2048, .f32⟩
  | 121 => ⟨S160x80x1, .f32⟩
  | 122 => ⟨S160x80, .f32⟩
  | 123 => ⟨S16x80x2048, .f32⟩
  | 124 => ⟨S16x2048x160, .f32⟩
  | 125 => ⟨S16x160x2048, .f32⟩
  | 126 => ⟨S16x160x2048, .f32⟩
  | 127 => ⟨S160x80x1, .f32⟩
  | _ => ⟨S16x2048x80, .f32⟩

abbrev hbmTy0_4 (i : Nat) : BufTy := match i % 128 with
  | 0 => ⟨S160x80, .f32⟩
  | 1 => ⟨S16x80x2048, .f32⟩
  | 2 => ⟨S16x2048x160, .f32⟩
  | 3 => ⟨S16x160x2048, .f32⟩
  | 4 => ⟨S16x160x2048, .f32⟩
  | 5 => ⟨S160x80x1, .f32⟩
  | 6 => ⟨S160x80, .f32⟩
  | 7 => ⟨S16x80x2048, .f32⟩
  | 8 => ⟨S16x2048x160, .f32⟩
  | 9 => ⟨S16x160x2048, .f32⟩
  | 10 => ⟨S16x160x2048, .f32⟩
  | 11 => ⟨S160x80x1, .f32⟩
  | 12 => ⟨S160x80, .f32⟩
  | 13 => ⟨S16x80x2048, .f32⟩
  | 14 => ⟨S16x2048x160, .f32⟩
  | 15 => ⟨S16x160x2048, .f32⟩
  | 16 => ⟨S16x160x2048, .f32⟩
  | 17 => ⟨S1x160x1, .f32⟩
  | 18 => ⟨S16x160x2048, .f32⟩
  | 19 => ⟨S16x160x2048, .f32⟩
  | 20 => ⟨S_, .f32⟩
  | 21 => ⟨S16x160x2048, .f32⟩
  | 22 => ⟨S16x160x2048, .f32⟩
  | 23 => ⟨S_, .f32⟩
  | 24 => ⟨S16x160x2048, .f32⟩
  | 25 => ⟨S16x160x2048, .f32⟩
  | 26 => ⟨S16x160x2048, .f32⟩
  | 27 => ⟨S_, .f32⟩
  | 28 => ⟨S16x160x2048, .f32⟩
  | 29 => ⟨S16x160x2048, .f32⟩
  | 30 => ⟨S16x160x2048, .f32⟩
  | 31 => ⟨S16x160x2048, .f32⟩
  | 32 => ⟨S1x80x160x1, .f32⟩
  | 33 => ⟨S80x160x1, .f32⟩
  | 34 => ⟨S1x80, .f32⟩
  | 35 => ⟨S80, .f32⟩
  | 36 => ⟨S80x160, .f32⟩
  | 37 => ⟨S16x2048x80, .f32⟩
  | 38 => ⟨S16x80x2048, .f32⟩
  | 39 => ⟨S1x80x1, .f32⟩
  | 40 => ⟨S16x80x2048, .f32⟩
  | 41 => ⟨S16x80x2048, .f32⟩
  | 42 => ⟨S16x80x2048, .f32⟩
  | 43 => ⟨S16x80x2048, .f32⟩
  | 44 => ⟨S16x80x2048, .f32⟩
  | 45 => ⟨S1x80, .f32⟩
  | 46 => ⟨S80, .f32⟩
  | 47 => ⟨S1x80, .f32⟩
  | 48 => ⟨S80, .f32⟩
  | 49 => ⟨S_, .f32⟩
  | 50 => ⟨S16x2048, .f32⟩
  | 51 => ⟨S16x1x2048, .f32⟩
  | 52 => ⟨S_, .f32⟩
  | 53 => ⟨S16x1x2048, .f32⟩
  | 54 => ⟨S16x1x2048, .f32⟩
  | 55 => ⟨S16x80x2048, .f32⟩
  | 56 => ⟨S16x80x2048, .f32⟩
  | 57 => ⟨S16x80x2048, .f32⟩
  | 58 => ⟨S_, .f32⟩
  | 59 => ⟨S16x2048, .f32⟩
  | 60 => ⟨S16x1x2048, .f32⟩
  | 61 => ⟨S_, .f32⟩
  | 62 => ⟨S16x1x2048, .f32⟩
  | 63 => ⟨S16x1x2048, .f32⟩
  | 64 => ⟨S16x80x2048, .f32⟩
  | 65 => ⟨S16x80x2048, .f32⟩
  | 66 => ⟨S_, .f32⟩
  | 67 => ⟨S16x1x2048, .f32⟩
  | 68 => ⟨S16x1x2048, .f32⟩
  | 69 => ⟨S16x1x2048, .f32⟩
  | 70 => ⟨S16x80x2048, .f32⟩
  | 71 => ⟨S16x80x2048, .f32⟩
  | 72 => ⟨S1x80x1, .f32⟩
  | 73 => ⟨S16x80x2048, .f32⟩
  | 74 => ⟨S16x80x2048, .f32⟩
  | 75 => ⟨S1x80x1, .f32⟩
  | 76 => ⟨S16x80x2048, .f32⟩
  | 77 => ⟨S16x80x2048, .f32⟩
  | 78 => ⟨S1x160x80x5, .f32⟩
  | 79 => ⟨S160x80x5, .f32⟩
  | 80 => ⟨S1x160, .f32⟩
  | 81 => ⟨S160, .f32⟩
  | 82 => ⟨S_, .i32⟩
  | 83 => ⟨S_, .f32⟩
  | 84 => ⟨S16x80x2052, .f32⟩
  | 85 => ⟨S160x80x1, .f32⟩
  | 86 => ⟨S160x80, .f32⟩
  | 87 => ⟨S16x80x2048, .f32⟩
  | 88 => ⟨S16x2048x160, .f32⟩
  | 89 => ⟨S16x160x2048, .f32⟩
  | 90 => ⟨S160x80x1, .f32⟩
  | 91 => ⟨S160x80, .f32⟩
  | 92 => ⟨S16x80x2048, .f32⟩
  | 93 => ⟨S16x2048x160, .f32⟩
  | 94 => ⟨S16x160x2048, .f32⟩
  | 95 => ⟨S16x160x2048, .f32⟩
  | 96 => ⟨S160x80x1, .f32⟩
  | 97 => ⟨S160x80, .f32⟩
  | 98 => ⟨S16x80x2048, .f32⟩
  | 99 => ⟨S16x2048x160, .f32⟩
  | 100 => ⟨S16x160x2048, .f32⟩
  | 101 => ⟨S16x160x2048, .f32⟩
  | 102 => ⟨S160x80x1, .f32⟩
  | 103 => ⟨S160x80, .f32⟩
  | 104 => ⟨S16x80x2048, .f32⟩
  | 105 => ⟨S16x2048x160, .f32⟩
  | 106 => ⟨S16x160x2048, .f32⟩
  | 107 => ⟨S16x160x2048, .f32⟩
  | 108 => ⟨S160x80x1, .f32⟩
  | 109 => ⟨S160x80, .f32⟩
  | 110 => ⟨S16x80x2048, .f32⟩
  | 111 => ⟨S16x2048x160, .f32⟩
  | 112 => ⟨S16x160x2048, .f32⟩
  | 113 => ⟨S16x160x2048, .f32⟩
  | 114 => ⟨S1x160x1, .f32⟩
  | 115 => ⟨S16x160x2048, .f32⟩
  | 116 => ⟨S16x160x2048, .f32⟩
  | 117 => ⟨S_, .f32⟩
  | 118 => ⟨S16x160x2048, .f32⟩
  | 119 => ⟨S16x160x2048, .f32⟩
  | 120 => ⟨S_, .f32⟩
  | 121 => ⟨S16x160x2048, .f32⟩
  | 122 => ⟨S16x160x2048, .f32⟩
  | 123 => ⟨S16x160x2048, .f32⟩
  | 124 => ⟨S_, .f32⟩
  | 125 => ⟨S16x160x2048, .f32⟩
  | 126 => ⟨S16x160x2048, .f32⟩
  | 127 => ⟨S16x160x2048, .f32⟩
  | _ => ⟨S16x2048x80, .f32⟩

abbrev hbmTy0_5 (i : Nat) : BufTy := match i % 128 with
  | 0 => ⟨S16x160x2048, .f32⟩
  | 1 => ⟨S1x80x160x1, .f32⟩
  | 2 => ⟨S80x160x1, .f32⟩
  | 3 => ⟨S1x80, .f32⟩
  | 4 => ⟨S80, .f32⟩
  | 5 => ⟨S80x160, .f32⟩
  | 6 => ⟨S16x2048x80, .f32⟩
  | 7 => ⟨S16x80x2048, .f32⟩
  | 8 => ⟨S1x80x1, .f32⟩
  | 9 => ⟨S16x80x2048, .f32⟩
  | 10 => ⟨S16x80x2048, .f32⟩
  | 11 => ⟨S16x80x2048, .f32⟩
  | 12 => ⟨S16x80x2048, .f32⟩
  | 13 => ⟨S16x80x2048, .f32⟩
  | 14 => ⟨S16x80x2048, .f32⟩
  | 15 => ⟨S_, .f32⟩
  | 16 => ⟨S16x2048, .f32⟩
  | 17 => ⟨S_, .f32⟩
  | 18 => ⟨S16x2048, .f32⟩
  | 19 => ⟨S16x2048, .i1⟩
  | 20 => ⟨S16x2048, .f32⟩
  | 21 => ⟨S16x1x2048, .f32⟩
  | 22 => ⟨S1x80, .f32⟩
  | 23 => ⟨S80, .f32⟩
  | 24 => ⟨S1x80, .f32⟩
  | 25 => ⟨S80, .f32⟩
  | 26 => ⟨S_, .f32⟩
  | 27 => ⟨S16x2048, .f32⟩
  | 28 => ⟨S16x1x2048, .f32⟩
  | 29 => ⟨S_, .f32⟩
  | 30 => ⟨S16x1x2048, .f32⟩
  | 31 => ⟨S16x1x2048, .f32⟩
  | 32 => ⟨S16x80x2048, .f32⟩
  | 33 => ⟨S16x80x2048, .f32⟩
  | 34 => ⟨S16x80x2048, .f32⟩
  | 35 => ⟨S_, .f32⟩
  | 36 => ⟨S16x2048, .f32⟩
  | 37 => ⟨S16x1x2048, .f32⟩
  | 38 => ⟨S_, .f32⟩
  | 39 => ⟨S16x1x2048, .f32⟩
  | 40 => ⟨S16x1x2048, .f32⟩
  | 41 => ⟨S16x80x2048, .f32⟩
  | 42 => ⟨S16x80x2048, .f32⟩
  | 43 => ⟨S_, .f32⟩
  | 44 => ⟨S16x1x2048, .f32⟩
  | 45 => ⟨S16x1x2048, .f32⟩
  | 46 => ⟨S16x1x2048, .f32⟩
  | 47 => ⟨S16x80x2048, .f32⟩
  | 48 => ⟨S16x80x2048, .f32⟩
  | 49 => ⟨S1x80x1, .f32⟩
  | 50 => ⟨S16x80x2048, .f32⟩
  | 51 => ⟨S16x80x2048, .f32⟩
  | 52 => ⟨S1x80x1, .f32⟩
  | 53 => ⟨S16x80x2048, .f32⟩
  | 54 => ⟨S16x80x2048, .f32⟩
  | 55 => ⟨S1x160x80x5, .f32⟩
  | 56 => ⟨S160x80x5, .f32⟩
  | 57 => ⟨S1x160, .f32⟩
  | 58 => ⟨S160, .f32⟩
  | 59 => ⟨S_, .i32⟩
  | 60 => ⟨S_, .f32⟩
  | 61 => ⟨S16x80x2052, .f32⟩
  | 62 => ⟨S160x80x1, .f32⟩
  | 63 => ⟨S160x80, .f32⟩
  | 64 => ⟨S16x80x2048, .f32⟩
  | 65 => ⟨S16x2048x160, .f32⟩
  | 66 => ⟨S16x160x2048, .f32⟩
  | 67 => ⟨S160x80x1, .f32⟩
  | 68 => ⟨S160x80, .f32⟩
  | 69 => ⟨S16x80x2048, .f32⟩
  | 70 => ⟨S16x2048x160, .f32⟩
  | 71 => ⟨S16x160x2048, .f32⟩
  | 72 => ⟨S16x160x2048, .f32⟩
  | 73 => ⟨S160x80x1, .f32⟩
  | 74 => ⟨S160x80, .f32⟩
  | 75 => ⟨S16x80x2048, .f32⟩
  | 76 => ⟨S16x2048x160, .f32⟩
  | 77 => ⟨S16x160x2048, .f32⟩
  | 78 => ⟨S16x160x2048, .f32⟩
  | 79 => ⟨S160x80x1, .f32⟩
  | 80 => ⟨S160x80, .f32⟩
  | 81 => ⟨S16x80x2048, .f32⟩
  | 82 => ⟨S16x2048x160, .f32⟩
  | 83 => ⟨S16x160x2048, .f32⟩
  | 84 => ⟨S16x160x2048, .f32⟩
  | 85 => ⟨S160x80x1, .f32⟩
  | 86 => ⟨S160x80, .f32⟩
  | 87 => ⟨S16x80x2048, .f32⟩
  | 88 => ⟨S16x2048x160, .f32⟩
  | 89 => ⟨S16x160x2048, .f32⟩
  | 90 => ⟨S16x160x2048, .f32⟩
  | 91 => ⟨S1x160x1, .f32⟩
  | 92 => ⟨S16x160x2048, .f32⟩
  | 93 => ⟨S16x160x2048, .f32⟩
  | 94 => ⟨S_, .f32⟩
  | 95 => ⟨S16x160x2048, .f32⟩
  | 96 => ⟨S16x160x2048, .f32⟩
  | 97 => ⟨S_, .f32⟩
  | 98 => ⟨S16x160x2048, .f32⟩
  | 99 => ⟨S16x160x2048, .f32⟩
  | 100 => ⟨S16x160x2048, .f32⟩
  | 101 => ⟨S_, .f32⟩
  | 102 => ⟨S16x160x2048, .f32⟩
  | 103 => ⟨S16x160x2048, .f32⟩
  | 104 => ⟨S16x160x2048, .f32⟩
  | 105 => ⟨S16x160x2048, .f32⟩
  | 106 => ⟨S1x80x160x1, .f32⟩
  | 107 => ⟨S80x160x1, .f32⟩
  | 108 => ⟨S1x80, .f32⟩
  | 109 => ⟨S80, .f32⟩
  | 110 => ⟨S80x160, .f32⟩
  | 111 => ⟨S16x2048x80, .f32⟩
  | 112 => ⟨S16x80x2048, .f32⟩
  | 113 => ⟨S1x80x1, .f32⟩
  | 114 => ⟨S16x80x2048, .f32⟩
  | 115 => ⟨S16x80x2048, .f32⟩
  | 116 => ⟨S16x80x2048, .f32⟩
  | 117 => ⟨S16x80x2048, .f32⟩
  | 118 => ⟨S16x80x2048, .f32⟩
  | 119 => ⟨S1x80, .f32⟩
  | 120 => ⟨S80, .f32⟩
  | 121 => ⟨S1x80, .f32⟩
  | 122 => ⟨S80, .f32⟩
  | 123 => ⟨S_, .f32⟩
  | 124 => ⟨S16x2048, .f32⟩
  | 125 => ⟨S16x1x2048, .f32⟩
  | 126 => ⟨S_, .f32⟩
  | 127 => ⟨S16x1x2048, .f32⟩
  | _ => ⟨S16x2048x80, .f32⟩

abbrev hbmTy0_6 (i : Nat) : BufTy := match i % 128 with
  | 0 => ⟨S16x1x2048, .f32⟩
  | 1 => ⟨S16x80x2048, .f32⟩
  | 2 => ⟨S16x80x2048, .f32⟩
  | 3 => ⟨S16x80x2048, .f32⟩
  | 4 => ⟨S_, .f32⟩
  | 5 => ⟨S16x2048, .f32⟩
  | 6 => ⟨S16x1x2048, .f32⟩
  | 7 => ⟨S_, .f32⟩
  | 8 => ⟨S16x1x2048, .f32⟩
  | 9 => ⟨S16x1x2048, .f32⟩
  | 10 => ⟨S16x80x2048, .f32⟩
  | 11 => ⟨S16x80x2048, .f32⟩
  | 12 => ⟨S_, .f32⟩
  | 13 => ⟨S16x1x2048, .f32⟩
  | 14 => ⟨S16x1x2048, .f32⟩
  | 15 => ⟨S16x1x2048, .f32⟩
  | 16 => ⟨S16x80x2048, .f32⟩
  | 17 => ⟨S16x80x2048, .f32⟩
  | 18 => ⟨S1x80x1, .f32⟩
  | 19 => ⟨S16x80x2048, .f32⟩
  | 20 => ⟨S16x80x2048, .f32⟩
  | 21 => ⟨S1x80x1, .f32⟩
  | 22 => ⟨S16x80x2048, .f32⟩
  | 23 => ⟨S16x80x2048, .f32⟩
  | 24 => ⟨S1x160x80x5, .f32⟩
  | 25 => ⟨S160x80x5, .f32⟩
  | 26 => ⟨S1x160, .f32⟩
  | 27 => ⟨S160, .f32⟩
  | 28 => ⟨S_, .i32⟩
  | 29 => ⟨S_, .f32⟩
  | 30 => ⟨S16x80x2052, .f32⟩
  | 31 => ⟨S160x80x1, .f32⟩
  | 32 => ⟨S160x80, .f32⟩
  | 33 => ⟨S16x80x2048, .f32⟩
  | 34 => ⟨S16x2048x160, .f32⟩
  | 35 => ⟨S16x160x2048, .f32⟩
  | 36 => ⟨S160x80x1, .f32⟩
  | 37 => ⟨S160x80, .f32⟩
  | 38 => ⟨S16x80x2048, .f32⟩
  | 39 => ⟨S16x2048x160, .f32⟩
  | 40 => ⟨S16x160x2048, .f32⟩
  | 41 => ⟨S16x160x2048, .f32⟩
  | 42 => ⟨S160x80x1, .f32⟩
  | 43 => ⟨S160x80, .f32⟩
  | 44 => ⟨S16x80x2048, .f32⟩
  | 45 => ⟨S16x2048x160, .f32⟩
  | 46 => ⟨S16x160x2048, .f32⟩
  | 47 => ⟨S16x160x2048, .f32⟩
  | 48 => ⟨S160x80x1, .f32⟩
  | 49 => ⟨S160x80, .f32⟩
  | 50 => ⟨S16x80x2048, .f32⟩
  | 51 => ⟨S16x2048x160, .f32⟩
  | 52 => ⟨S16x160x2048, .f32⟩
  | 53 => ⟨S16x160x2048, .f32⟩
  | 54 => ⟨S160x80x1, .f32⟩
  | 55 => ⟨S160x80, .f32⟩
  | 56 => ⟨S16x80x2048, .f32⟩
  | 57 => ⟨S16x2048x160, .f32⟩
  | 58 => ⟨S16x160x2048, .f32⟩
  | 59 => ⟨S16x160x2048, .f32⟩
  | 60 => ⟨S1x160x1, .f32⟩
  | 61 => ⟨S16x160x2048, .f32⟩
  | 62 => ⟨S16x160x2048, .f32⟩
  | 63 => ⟨S_, .f32⟩
  | 64 => ⟨S16x160x2048, .f32⟩
  | 65 => ⟨S16x160x2048, .f32⟩
  | 66 => ⟨S_, .f32⟩
  | 67 => ⟨S16x160x2048, .f32⟩
  | 68 => ⟨S16x160x2048, .f32⟩
  | 69 => ⟨S16x160x2048, .f32⟩
  | 70 => ⟨S_, .f32⟩
  | 71 => ⟨S16x160x2048, .f32⟩
  | 72 => ⟨S16x160x2048, .f32⟩
  | 73 => ⟨S16x160x2048, .f32⟩
  | 74 => ⟨S16x160x2048, .f32⟩
  | 75 => ⟨S1x80x160x1, .f32⟩
  | 76 => ⟨S80x160x1, .f32⟩
  | 77 => ⟨S1x80, .f32⟩
  | 78 => ⟨S80, .f32⟩
  | 79 => ⟨S80x160, .f32⟩
  | 80 => ⟨S16x2048x80, .f32⟩
  | 81 => ⟨S16x80x2048, .f32⟩
  | 82 => ⟨S1x80x1, .f32⟩
  | 83 => ⟨S16x80x2048, .f32⟩
  | 84 => ⟨S16x80x2048, .f32⟩
  | 85 => ⟨S16x80x2048, .f32⟩
  | 86 => ⟨S16x80x2048, .f32⟩
  | 87 => ⟨S16x80x2048, .f32⟩
  | 88 => ⟨S16x80x2048, .f32⟩
  | 89 => ⟨S_, .f32⟩
  | 90 => ⟨S16x2048, .f32⟩
  | 91 => ⟨S_, .f32⟩
  | 92 => ⟨S16x2048, .f32⟩
  | 93 => ⟨S16x2048, .i1⟩
  | 94 => ⟨S16x2048, .f32⟩
  | 95 => ⟨S16x1x2048, .f32⟩
  | 96 => ⟨S1x80, .f32⟩
  | 97 => ⟨S80, .f32⟩
  | 98 => ⟨S1x80, .f32⟩
  | 99 => ⟨S80, .f32⟩
  | 100 => ⟨S_, .f32⟩
  | 101 => ⟨S16x2048, .f32⟩
  | 102 => ⟨S16x1x2048, .f32⟩
  | 103 => ⟨S_, .f32⟩
  | 104 => ⟨S16x1x2048, .f32⟩
  | 105 => ⟨S16x1x2048, .f32⟩
  | 106 => ⟨S16x80x2048, .f32⟩
  | 107 => ⟨S16x80x2048, .f32⟩
  | 108 => ⟨S16x80x2048, .f32⟩
  | 109 => ⟨S_, .f32⟩
  | 110 => ⟨S16x2048, .f32⟩
  | 111 => ⟨S16x1x2048, .f32⟩
  | 112 => ⟨S_, .f32⟩
  | 113 => ⟨S16x1x2048, .f32⟩
  | 114 => ⟨S16x1x2048, .f32⟩
  | 115 => ⟨S16x80x2048, .f32⟩
  | 116 => ⟨S16x80x2048, .f32⟩
  | 117 => ⟨S_, .f32⟩
  | 118 => ⟨S16x1x2048, .f32⟩
  | 119 => ⟨S16x1x2048, .f32⟩
  | 120 => ⟨S16x1x2048, .f32⟩
  | 121 => ⟨S16x80x2048, .f32⟩
  | 122 => ⟨S16x80x2048, .f32⟩
  | 123 => ⟨S1x80x1, .f32⟩
  | 124 => ⟨S16x80x2048, .f32⟩
  | 125 => ⟨S16x80x2048, .f32⟩
  | 126 => ⟨S1x80x1, .f32⟩
  | 127 => ⟨S16x80x2048, .f32⟩
  | _ => ⟨S16x2048x80, .f32⟩

abbrev hbmTy0_7 (i : Nat) : BufTy := match i % 128 with
  | 0 => ⟨S16x80x2048, .f32⟩
  | 1 => ⟨S1x160x80x5, .f32⟩
  | 2 => ⟨S160x80x5, .f32⟩
  | 3 => ⟨S1x160, .f32⟩
  | 4 => ⟨S160, .f32⟩
  | 5 => ⟨S_, .i32⟩
  | 6 => ⟨S_, .f32⟩
  | 7 => ⟨S16x80x2052, .f32⟩
  | 8 => ⟨S160x80x1, .f32⟩
  | 9 => ⟨S160x80, .f32⟩
  | 10 => ⟨S16x80x2048, .f32⟩
  | 11 => ⟨S16x2048x160, .f32⟩
  | 12 => ⟨S16x160x2048, .f32⟩
  | 13 => ⟨S160x80x1, .f32⟩
  | 14 => ⟨S160x80, .f32⟩
  | 15 => ⟨S16x80x2048, .f32⟩
  | 16 => ⟨S16x2048x160, .f32⟩
  | 17 => ⟨S16x160x2048, .f32⟩
  | 18 => ⟨S16x160x2048, .f32⟩
  | 19 => ⟨S160x80x1, .f32⟩
  | 20 => ⟨S160x80, .f32⟩
  | 21 => ⟨S16x80x2048, .f32⟩
  | 22 => ⟨S16x2048x160, .f32⟩
  | 23 => ⟨S16x160x2048, .f32⟩
  | 24 => ⟨S16x160x2048, .f32⟩
  | 25 => ⟨S160x80x1, .f32⟩
  | 26 => ⟨S160x80, .f32⟩
  | 27 => ⟨S16x80x2048, .f32⟩
  | 28 => ⟨S16x2048x160, .f32⟩
  | 29 => ⟨S16x160x2048, .f32⟩
  | 30 => ⟨S16x160x2048, .f32⟩
  | 31 => ⟨S160x80x1, .f32⟩
  | 32 => ⟨S160x80, .f32⟩
  | 33 => ⟨S16x80x2048, .f32⟩
  | 34 => ⟨S16x2048x160, .f32⟩
  | 35 => ⟨S16x160x2048, .f32⟩
  | 36 => ⟨S16x160x2048, .f32⟩
  | 37 => ⟨S1x160x1, .f32⟩
  | 38 => ⟨S16x160x2048, .f32⟩
  | 39 => ⟨S16x160x2048, .f32⟩
  | 40 => ⟨S_, .f32⟩
  | 41 => ⟨S16x160x2048, .f32⟩
  | 42 => ⟨S16x160x2048, .f32⟩
  | 43 => ⟨S_, .f32⟩
  | 44 => ⟨S16x160x2048, .f32⟩
  | 45 => ⟨S16x160x2048, .f32⟩
  | 46 => ⟨S16x160x2048, .f32⟩
  | 47 => ⟨S_, .f32⟩
  | 48 => ⟨S16x160x2048, .f32⟩
  | 49 => ⟨S16x160x2048, .f32⟩
  | 50 => ⟨S16x160x2048, .f32⟩
  | 51 => ⟨S16x160x2048, .f32⟩
  | 52 => ⟨S1x80x160x1, .f32⟩
  | 53 => ⟨S80x160x1, .f32⟩
  | 54 => ⟨S1x80, .f32⟩
  | 55 => ⟨S80, .f32⟩
  | 56 => ⟨S80x160, .f32⟩
  | 57 => ⟨S16x2048x80, .f32⟩
  | 58 => ⟨S16x80x2048, .f32⟩
  | 59 => ⟨S1x80x1, .f32⟩
  | 60 => ⟨S16x80x2048, .f32⟩
  | 61 => ⟨S16x80x2048, .f32⟩
  | 62 => ⟨S16x80x2048, .f32⟩
  | 63 => ⟨S16x80x2048, .f32⟩
  | 64 => ⟨S16x80x2048, .f32⟩
  | 65 => ⟨S1x80, .f32⟩
  | 66 => ⟨S80, .f32⟩
  | 67 => ⟨S1x80, .f32⟩
  | 68 => ⟨S80, .f32⟩
  | 69 => ⟨S_, .f32⟩
  | 70 => ⟨S16x2048, .f32⟩
  | 71 => ⟨S16x1x2048, .f32⟩
  | 72 => ⟨S_, .f32⟩
  | 73 => ⟨S16x1x2048, .f32⟩
  | 74 => ⟨S16x1x2048, .f32⟩
  | 75 => ⟨S16x80x2048, .f32⟩
  | 76 => ⟨S16x80x2048, .f32⟩
  | 77 => ⟨S16x80x2048, .f32⟩
  | 78 => ⟨S_, .f32⟩
  | 79 => ⟨S16x2048, .f32⟩
  | 80 => ⟨S16x1x2048, .f32⟩
  | 81 => ⟨S_, .f32⟩
  | 82 => ⟨S16x1x2048, .f32⟩
  | 83 => ⟨S16x1x2048, .f32⟩
  | 84 => ⟨S16x80x2048, .f32⟩
  | 85 => ⟨S16x80x2048, .f32⟩
  | 86 => ⟨S_, .f32⟩
  | 87 => ⟨S16x1x2048, .f32⟩
  | 88 => ⟨S16x1x2048, .f32⟩
  | 89 => ⟨S16x1x2048, .f32⟩
  | 90 => ⟨S16x80x2048, .f32⟩
  | 91 => ⟨S16x80x2048, .f32⟩
  | 92 => ⟨S1x80x1, .f32⟩
  | 93 => ⟨S16x80x2048, .f32⟩
  | 94 => ⟨S16x80x2048, .f32⟩
  | 95 => ⟨S1x80x1, .f32⟩
  | 96 => ⟨S16x80x2048, .f32⟩
  | 97 => ⟨S16x80x2048, .f32⟩
  | 98 => ⟨S1x160x80x5, .f32⟩
  | 99 => ⟨S160x80x5, .f32⟩
  | 100 => ⟨S1x160, .f32⟩
  | 101 => ⟨S160, .f32⟩
  | 102 => ⟨S_, .i32⟩
  | 103 => ⟨S_, .f32⟩
  | 104 => ⟨S16x80x2052, .f32⟩
  | 105 => ⟨S160x80x1, .f32⟩
  | 106 => ⟨S160x80, .f32⟩
  | 107 => ⟨S16x80x2048, .f32⟩
  | 108 => ⟨S16x2048x160, .f32⟩
  | 109 => ⟨S16x160x2048, .f32⟩
  | 110 => ⟨S160x80x1, .f32⟩
  | 111 => ⟨S160x80, .f32⟩
  | 112 => ⟨S16x80x2048, .f32⟩
  | 113 => ⟨S16x2048x160, .f32⟩
  | 114 => ⟨S16x160x2048, .f32⟩
  | 115 => ⟨S16x160x2048, .f32⟩
  | 116 => ⟨S160x80x1, .f32⟩
  | 117 => ⟨S160x80, .f32⟩
  | 118 => ⟨S16x80x2048, .f32⟩
  | 119 => ⟨S16x2048x160, .f32⟩
  | 120 => ⟨S16x160x2048, .f32⟩
  | 121 => ⟨S16x160x2048, .f32⟩
  | 122 => ⟨S160x80x1, .f32⟩
  | 123 => ⟨S160x80, .f32⟩
  | 124 => ⟨S16x80x2048, .f32⟩
  | 125 => ⟨S16x2048x160, .f32⟩
  | 126 => ⟨S16x160x2048, .f32⟩
  | 127 => ⟨S16x160x2048, .f32⟩
  | _ => ⟨S16x2048x80, .f32⟩

abbrev hbmTy0_8 (i : Nat) : BufTy := match i % 128 with
  | 0 => ⟨S160x80x1, .f32⟩
  | 1 => ⟨S160x80, .f32⟩
  | 2 => ⟨S16x80x2048, .f32⟩
  | 3 => ⟨S16x2048x160, .f32⟩
  | 4 => ⟨S16x160x2048, .f32⟩
  | 5 => ⟨S16x160x2048, .f32⟩
  | 6 => ⟨S1x160x1, .f32⟩
  | 7 => ⟨S16x160x2048, .f32⟩
  | 8 => ⟨S16x160x2048, .f32⟩
  | 9 => ⟨S_, .f32⟩
  | 10 => ⟨S16x160x2048, .f32⟩
  | 11 => ⟨S16x160x2048, .f32⟩
  | 12 => ⟨S_, .f32⟩
  | 13 => ⟨S16x160x2048, .f32⟩
  | 14 => ⟨S16x160x2048, .f32⟩
  | 15 => ⟨S16x160x2048, .f32⟩
  | 16 => ⟨S_, .f32⟩
  | 17 => ⟨S16x160x2048, .f32⟩
  | 18 => ⟨S16x160x2048, .f32⟩
  | 19 => ⟨S16x160x2048, .f32⟩
  | 20 => ⟨S16x160x2048, .f32⟩
  | 21 => ⟨S1x80x160x1, .f32⟩
  | 22 => ⟨S80x160x1, .f32⟩
  | 23 => ⟨S1x80, .f32⟩
  | 24 => ⟨S80, .f32⟩
  | 25 => ⟨S80x160, .f32⟩
  | 26 => ⟨S16x2048x80, .f32⟩
  | 27 => ⟨S16x80x2048, .f32⟩
  | 28 => ⟨S1x80x1, .f32⟩
  | 29 => ⟨S16x80x2048, .f32⟩
  | 30 => ⟨S16x80x2048, .f32⟩
  | 31 => ⟨S16x80x2048, .f32⟩
  | 32 => ⟨S16x80x2048, .f32⟩
  | 33 => ⟨S16x80x2048, .f32⟩
  | 34 => ⟨S16x80x2048, .f32⟩
  | 35 => ⟨S_, .f32⟩
  | 36 => ⟨S16x2048, .f32⟩
  | 37 => ⟨S_, .f32⟩
  | 38 => ⟨S16x2048, .f32⟩
  | 39 => ⟨S16x2048, .i1⟩
  | 40 => ⟨S16x2048, .f32⟩
  | 41 => ⟨S16x1x2048, .f32⟩
  | 42 => ⟨S1x80, .f32⟩
  | 43 => ⟨S80, .f32⟩
  | 44 => ⟨S1x80, .f32⟩
  | 45 => ⟨S80, .f32⟩
  | 46 => ⟨S_, .f32⟩
  | 47 => ⟨S16x2048, .f32⟩
  | 48 => ⟨S16x1x2048, .f32⟩
  | 49 => ⟨S_, .f32⟩
  | 50 => ⟨S16x1x2048, .f32⟩
  | 51 => ⟨S16x1x2048, .f32⟩
  | 52 => ⟨S16x80x2048, .f32⟩
  | 53 => ⟨S16x80x2048, .f32⟩
  | 54 => ⟨S16x80x2048, .f32⟩
  | 55 => ⟨S_, .f32⟩
  | 56 => ⟨S16x2048, .f32⟩
  | 57 => ⟨S16x1x2048, .f32⟩
  | 58 => ⟨S_, .f32⟩
  | 59 => ⟨S16x1x2048, .f32⟩
  | 60 => ⟨S16x1x2048, .f32⟩
  | 61 => ⟨S16x80x2048, .f32⟩
  | 62 => ⟨S16x80x2048, .f32⟩
  | 63 => ⟨S_, .f32⟩
  | 64 => ⟨S16x1x2048, .f32⟩
  | 65 => ⟨S16x1x2048, .f32⟩
  | 66 => ⟨S16x1x2048, .f32⟩
  | 67 => ⟨S16x80x2048, .f32⟩
  | 68 => ⟨S16x80x2048, .f32⟩
  | 69 => ⟨S1x80x1, .f32⟩
  | 70 => ⟨S16x80x2048, .f32⟩
  | 71 => ⟨S16x80x2048, .f32⟩
  | 72 => ⟨S1x80x1, .f32⟩
  | 73 => ⟨S16x80x2048, .f32⟩
  | 74 => ⟨S16x80x2048, .f32⟩
  | 75 => ⟨S1x160x80x5, .f32⟩
  | 76 => ⟨S160x80x5, .f32⟩
  | 77 => ⟨S1x160, .f32⟩
  | 78 => ⟨S160, .f32⟩
  | 79 => ⟨S_, .i32⟩
  | 80 => ⟨S_, .f32⟩
  | 81 => ⟨S16x80x2052, .f32⟩
  | 82 => ⟨S160x80x1, .f32⟩
  | 83 => ⟨S160x80, .f32⟩
  | 84 => ⟨S16x80x2048, .f32⟩
  | 85 => ⟨S16x2048x160, .f32⟩
  | 86 => ⟨S16x160x2048, .f32⟩
  | 87 => ⟨S160x80x1, .f32⟩
  | 88 => ⟨S160x80, .f32⟩
  | 89 => ⟨S16x80x2048, .f32⟩
  | 90 => ⟨S16x2048x160, .f32⟩
  | 91 => ⟨S16x160x2048, .f32⟩
  | 92 => ⟨S16x160x2048, .f32⟩
  | 93 => ⟨S160x80x1, .f32⟩
  | 94 => ⟨S160x80, .f32⟩
  | 95 => ⟨S16x80x2048, .f32⟩
  | 96 => ⟨S16x2048x160, .f32⟩
  | 97 => ⟨S16x160x2048, .f32⟩
  | 98 => ⟨S16x160x2048, .f32⟩
  | 99 => ⟨S160x80x1, .f32⟩
  | 100 => ⟨S160x80, .f32⟩
  | 101 => ⟨S16x80x2048, .f32⟩
  | 102 => ⟨S16x2048x160, .f32⟩
  | 103 => ⟨S16x160x2048, .f32⟩
  | 104 => ⟨S16x160x2048, .f32⟩
  | 105 => ⟨S160x80x1, .f32⟩
  | 106 => ⟨S160x80, .f32⟩
  | 107 => ⟨S16x80x2048, .f32⟩
  | 108 => ⟨S16x2048x160, .f32⟩
  | 109 => ⟨S16x160x2048, .f32⟩
  | 110 => ⟨S16x160x2048, .f32⟩
  | 111 => ⟨S1x160x1, .f32⟩
  | 112 => ⟨S16x160x2048, .f32⟩
  | 113 => ⟨S16x160x2048, .f32⟩
  | 114 => ⟨S_, .f32⟩
  | 115 => ⟨S16x160x2048, .f32⟩
  | 116 => ⟨S16x160x2048, .f32⟩
  | 117 => ⟨S_, .f32⟩
  | 118 => ⟨S16x160x2048, .f32⟩
  | 119 => ⟨S16x160x2048, .f32⟩
  | 120 => ⟨S16x160x2048, .f32⟩
  | 121 => ⟨S_, .f32⟩
  | 122 => ⟨S16x160x2048, .f32⟩
  | 123 => ⟨S16x160x2048, .f32⟩
  | 124 => ⟨S16x160x2048, .f32⟩
  | 125 => ⟨S16x160x2048, .f32⟩
  | 126 => ⟨S1x80x160x1, .f32⟩
  | 127 => ⟨S80x160x1, .f32⟩
  | _ => ⟨S16x2048x80, .f32⟩

abbrev hbmTy0_9 (i : Nat) : BufTy := match i % 128 with
  | 0 => ⟨S1x80, .f32⟩
  | 1 => ⟨S80, .f32⟩
  | 2 => ⟨S80x160, .f32⟩
  | 3 => ⟨S16x2048x80, .f32⟩
  | 4 => ⟨S16x80x2048, .f32⟩
  | 5 => ⟨S1x80x1, .f32⟩
  | 6 => ⟨S16x80x2048, .f32⟩
  | 7 => ⟨S16x80x2048, .f32⟩
  | 8 => ⟨S16x80x2048, .f32⟩
  | 9 => ⟨S16x80x2048, .f32⟩
  | 10 => ⟨S16x80x2048, .f32⟩
  | 11 => ⟨S1x80, .f32⟩
  | 12 => ⟨S80, .f32⟩
  | 13 => ⟨S1x80, .f32⟩
  | 14 => ⟨S80, .f32⟩
  | 15 => ⟨S_, .f32⟩
  | 16 => ⟨S16x2048, .f32⟩
  | 17 => ⟨S16x1x2048, .f32⟩
  | 18 => ⟨S_, .f32⟩
  | 19 => ⟨S16x1x2048, .f32⟩
  | 20 => ⟨S16x1x2048, .f32⟩
  | 21 => ⟨S16x80x2048, .f32⟩
  | 22 => ⟨S16x80x2048, .f32⟩
  | 23 => ⟨S16x80x2048, .f32⟩
  | 24 => ⟨S_, .f32⟩
  | 25 => ⟨S16x2048, .f32⟩
  | 26 => ⟨S16x1x2048, .f32⟩
  | 27 => ⟨S_, .f32⟩
  | 28 => ⟨S16x1x2048, .f32⟩
  | 29 => ⟨S16x1x2048, .f32⟩
  | 30 => ⟨S16x80x2048, .f32⟩
  | 31 => ⟨S16x80x2048, .f32⟩
  | 32 => ⟨S_, .f32⟩
  | 33 => ⟨S16x1x2048, .f32⟩
  | 34 => ⟨S16x1x2048, .f32⟩
  | 35 => ⟨S16x1x2048, .f32⟩
  | 36 => ⟨S16x80x2048, .f32⟩
  | 37 => ⟨S16x80x2048, .f32⟩
  | 38 => ⟨S1x80x1, .f32⟩
  | 39 => ⟨S16x80x2048, .f32⟩
  | 40 => ⟨S16x80x2048, .f32⟩
  | 41 => ⟨S1x80x1, .f32⟩
  | 42 => ⟨S16x80x2048, .f32⟩
  | 43 => ⟨S16x80x2048, .f32⟩
  | 44 => ⟨S1x160x80x5, .f32⟩
  | 45 => ⟨S160x80x5, .f32⟩
  | 46 => ⟨S1x160, .f32⟩
  | 47 => ⟨S160, .f32⟩
  | 48 => ⟨S_, .i32⟩
  | 49 => ⟨S_, .f32⟩
  | 50 => ⟨S16x80x2052, .f32⟩
  | 51 => ⟨S160x80x1, .f32⟩
  | 52 => ⟨S160x80, .f32⟩
  | 53 => ⟨S16x80x2048, .f32⟩
  | 54 => ⟨S16x2048x160, .f32⟩
  | 55 => ⟨S16x160x2048, .f32⟩
  | 56 => ⟨S160x80x1, .f32⟩
  | 57 => ⟨S160x80, .f32⟩
  | 58 => ⟨S16x80x2048, .f32⟩
  | 59 => ⟨S16x2048x160, .f32⟩
  | 60 => ⟨S16x160x2048, .f32⟩
  | 61 => ⟨S16x160x2048, .f32⟩
  | 62 => ⟨S160x80x1, .f32⟩
  | 63 => ⟨S160x80, .f32⟩
  | 64 => ⟨S16x80x2048, .f32⟩
  | 65 => ⟨S16x2048x160, .f32⟩
  | 66 => ⟨S16x160x2048, .f32⟩
  | 67 => ⟨S16x160x2048, .f32⟩
  | 68 => ⟨S160x80x1, .f32⟩
  | 69 => ⟨S160x80, .f32⟩
  | 70 => ⟨S16x80x2048, .f32⟩
  | 71 => ⟨S16x2048x160, .f32⟩
  | 72 => ⟨S16x160x2048, .f32⟩
  | 73 => ⟨S16x160x2048, .f32⟩
  | 74 => ⟨S160x80x1, .f32⟩
  | 75 => ⟨S160x80, .f32⟩
  | 76 => ⟨S16x80x2048, .f32⟩
  | 77 => ⟨S16x2048x160, .f32⟩
  | 78 => ⟨S16x160x2048, .f32⟩
  | 79 => ⟨S16x160x2048, .f32⟩
  | 80 => ⟨S1x160x1, .f32⟩
  | 81 => ⟨S16x160x2048, .f32⟩
  | 82 => ⟨S16x160x2048, .f32⟩
  | 83 => ⟨S_, .f32⟩
  | 84 => ⟨S16x160x2048, .f32⟩
  | 85 => ⟨S16x160x2048, .f32⟩
  | 86 => ⟨S_, .f32⟩
  | 87 => ⟨S16x160x2048, .f32⟩
  | 88 => ⟨S16x160x2048, .f32⟩
  | 89 => ⟨S16x160x2048, .f32⟩
  | 90 => ⟨S_, .f32⟩
  | 91 => ⟨S16x160x2048, .f32⟩
  | 92 => ⟨S16x160x2048, .f32⟩
  | 93 => ⟨S16x160x2048, .f32⟩
  | 94 => ⟨S16x160x2048, .f32⟩
  | 95 => ⟨S1x80x160x1, .f32⟩
  | 96 => ⟨S80x160x1, .f32⟩
  | 97 => ⟨S1x80, .f32⟩
  | 98 => ⟨S80, .f32⟩
  | 99 => ⟨S80x160, .f32⟩
  | 100 => ⟨S16x2048x80, .f32⟩
  | 101 => ⟨S16x80x2048, .f32⟩
  | 102 => ⟨S1x80x1, .f32⟩
  | 103 => ⟨S16x80x2048, .f32⟩
  | 104 => ⟨S16x80x2048, .f32⟩
  | 105 => ⟨S16x80x2048, .f32⟩
  | 106 => ⟨S16x80x2048, .f32⟩
  | 107 => ⟨S16x80x2048, .f32⟩
  | 108 => ⟨S16x80x2048, .f32⟩
  | 109 => ⟨S16x80x2048, .f32⟩
  | 110 => ⟨S_, .f32⟩
  | 111 => ⟨S16x2048, .f32⟩
  | 112 => ⟨S16x1x2048, .f32⟩
  | 113 => ⟨S_, .f32⟩
  | 114 => ⟨S16x1x2048, .f32⟩
  | 115 => ⟨S16x1x2048, .f32⟩
  | 116 => ⟨S16x80x2048, .f32⟩
  | 117 => ⟨S16x80x2048, .f32⟩
  | 118 => ⟨S16x80x2048, .f32⟩
  | 119 => ⟨S_, .f32⟩
  | 120 => ⟨S16x2048, .f32⟩
  | 121 => ⟨S16x1x2048, .f32⟩
  | 122 => ⟨S_, .f32⟩
  | 123 => ⟨S16x1x2048, .f32⟩
  | 124 => ⟨S16x1x2048, .f32⟩
  | 125 => ⟨S16x80x2048, .f32⟩
  | 126 => ⟨S16x80x2048, .f32⟩
  | 127 => ⟨S_, .f32⟩
  | _ => ⟨S16x2048x80, .f32⟩

abbrev hbmTy0_10 (i : Nat) : BufTy := match i % 128 with
  | 0 => ⟨S16x1x2048, .f32⟩
  | 1 => ⟨S16x1x2048, .f32⟩
  | 2 => ⟨S16x1x2048, .f32⟩
  | 3 => ⟨S16x80x2048, .f32⟩
  | 4 => ⟨S16x80x2048, .f32⟩
  | 5 => ⟨S1x80x1, .f32⟩
  | 6 => ⟨S16x80x2048, .f32⟩
  | 7 => ⟨S16x80x2048, .f32⟩
  | 8 => ⟨S1x80x1, .f32⟩
  | 9 => ⟨S16x80x2048, .f32⟩
  | 10 => ⟨S16x80x2048, .f32⟩
  | 11 => ⟨S16x80x2048, .f32⟩
  | 12 => ⟨S16x80x2048, .f32⟩
  | 13 => ⟨S_, .i32⟩
  | 14 => ⟨S_, .f32⟩
  | 15 => ⟨S16x80x2050, .f32⟩
  | 16 => ⟨S256x80x1, .f32⟩
  | 17 => ⟨S256x80, .f32⟩
  | 18 => ⟨S16x80x2048, .f32⟩
  | 19 => ⟨S16x2048x256, .f32⟩
  | 20 => ⟨S16x256x2048, .f32⟩
  | 21 => ⟨S256x80x1, .f32⟩
  | 22 => ⟨S256x80, .f32⟩
  | 23 => ⟨S16x80x2048, .f32⟩
  | 24 => ⟨S16x2048x256, .f32⟩
  | 25 => ⟨S16x256x2048, .f32⟩
  | 26 => ⟨S16x256x2048, .f32⟩
  | 27 => ⟨S256x80x1, .f32⟩
  | 28 => ⟨S256x80, .f32⟩
  | 29 => ⟨S16x80x2048, .f32⟩
  | 30 => ⟨S16x2048x256, .f32⟩
  | 31 => ⟨S16x256x2048, .f32⟩
  | 32 => ⟨S16x256x2048, .f32⟩
  | 33 => ⟨S1x256x1, .f32⟩
  | 34 => ⟨S16x256x2048, .f32⟩
  | 35 => ⟨S16x256x2048, .f32⟩
  | 36 => ⟨S16x256x2048, .f32⟩
  | 37 => ⟨S16x256x2048, .f32⟩
  | 38 => ⟨S16x2048x256, .f32⟩
  | 39 => ⟨S32768x256, .f32⟩
  | 40 => ⟨S128x256, .f32⟩
  | 41 => ⟨S_, .f32⟩
  | 42 => ⟨S128, .f32⟩
  | 43 => ⟨S1x128, .f32⟩
  | 44 => ⟨S32768x256, .f32⟩
  | 45 => ⟨S_, .f32⟩
  | 46 => ⟨S32768, .f32⟩
  | 47 => ⟨S32768x1, .f32⟩
  | 48 => ⟨S32768x128, .f32⟩
  | 49 => ⟨S32768x128, .f32⟩
  | 50 => ⟨S32768x128, .f32⟩
  | 51 => ⟨S256x128, .f32⟩
  | 52 => ⟨S32768x128, .f32⟩
  | 53 => ⟨S_, .f32⟩
  | 54 => ⟨S32768x128, .f32⟩
  | 55 => ⟨S32768x128, .f32⟩
  | 56 => ⟨S32768x128, .f32⟩
  | 57 => ⟨S32768x128, .i32⟩
  | 58 => ⟨S_, .f32⟩
  | 59 => ⟨S_, .i32⟩
  | 60 => ⟨S32768, .f32⟩
  | 61 => ⟨S32768, .i32⟩
  | 62 => ⟨S_, .i32⟩
  | 63 => ⟨S32768, .i32⟩
  | 64 => ⟨S32768, .i1⟩
  | 65 => ⟨S_, .i32⟩
  | 66 => ⟨S32768, .i32⟩
  | 67 => ⟨S32768, .i32⟩
  | 68 => ⟨S32768, .i32⟩
  | 69 => ⟨S32768x1, .i32⟩
  | 70 => ⟨S1, .i32⟩
  | 71 => ⟨S_, .i32⟩
  | 72 => ⟨S32768x1, .i32⟩
  | 73 => ⟨S32768x1, .i1⟩
  | 74 => ⟨S1x1, .i32⟩
  | 75 => ⟨S32768x1, .i32⟩
  | 76 => ⟨S32768x1, .i1⟩
  | 77 => ⟨S32768x1, .i1⟩
  | 78 => ⟨S_, .i1⟩
  | 79 => ⟨S32768, .i1⟩
  | 80 => ⟨S32768x256, .f32⟩
  | 81 => ⟨S32768x256, .i1⟩
  | 82 => ⟨S_, .f32⟩
  | 83 => ⟨S32768x256, .f32⟩
  | 84 => ⟨S32768x256, .f32⟩
  | 85 => ⟨S16x2048x256, .f32⟩
  | 86 => ⟨S32768x1, .i32⟩
  | 87 => ⟨S1x128, .i32⟩
  | 88 => ⟨S32768x128, .i32⟩
  | 89 => ⟨S32768x128, .i32⟩
  | 90 => ⟨S32768x128, .i1⟩
  | 91 => ⟨S32768x128, .f32⟩
  | 92 => ⟨S16x2048x256, .f32⟩
  | 93 => ⟨S16x2048x256, .f32⟩
  | 94 => ⟨S16x2048x256, .f32⟩
  | 95 => ⟨S_, .f32⟩
  | 96 => ⟨S16x2048, .f32⟩
  | 97 => ⟨S_, .f32⟩
  | 98 => ⟨S16x2048, .f32⟩
  | 99 => ⟨S16x2048, .i1⟩
  | 100 => ⟨S16x2048, .f32⟩
  | 101 => ⟨S_, .f32⟩
  | 102 => ⟨S16x2048, .f32⟩
  | 103 => ⟨S_, .f32⟩
  | 104 => ⟨S16x2048, .f32⟩
  | 105 => ⟨S16x2048, .f32⟩
  | 106 => ⟨S16x2048, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S16x2048x256, .f32⟩
  | 115 => ⟨S16x2048x256, .f32⟩
  | 116 => ⟨S_, .f32⟩
  | 117 => ⟨S128, .f32⟩
  | 118 => ⟨S_, .f32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S128, .f32⟩
  | 126 => ⟨S_, .f32⟩
  | 127 => ⟨S_, .f32⟩
  | _ => ⟨S16x2048x80, .f32⟩

abbrev hbmTy0_11 (i : Nat) : BufTy := match i % 128 with
  | 0 => ⟨S_, .f32⟩
  | 1 => ⟨S_, .f32⟩
  | _ => ⟨S16x2048x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S16x2048x80, .f32⟩

abbrev bufTy : (tb : Table) → Fin (tcTables nBuf tb) → BufTy
  | .hbm, ⟨i, _⟩ => hbmTy i
  | _, _ => ⟨S16x2048x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_call0_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_3 : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_4 : Ref sig .tc := ⟨.hbm, 116, rfl⟩
abbrev main_v90 : Ref sig .tc := ⟨.hbm, 117, rfl⟩
abbrev main_v91 : Ref sig .tc := ⟨.hbm, 118, rfl⟩
abbrev main_cst_5 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_c_6 : Ref sig .tc := ⟨.hbm, 143, rfl⟩
abbrev main_call2_v0 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_7 : Ref sig .tc := ⟨.hbm, 171, rfl⟩
abbrev main_v141 : Ref sig .tc := ⟨.hbm, 172, rfl⟩
abbrev main_v142 : Ref sig .tc := ⟨.hbm, 173, rfl⟩
abbrev main_cst_8 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_c_9 : Ref sig .tc := ⟨.hbm, 198, rfl⟩
abbrev main_call3_v0 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_cst_10 : Ref sig .tc := ⟨.hbm, 226, rfl⟩
abbrev main_v192 : Ref sig .tc := ⟨.hbm, 227, rfl⟩
abbrev main_v193 : Ref sig .tc := ⟨.hbm, 228, rfl⟩
abbrev main_cst_11 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_cst_12 : Ref sig .tc := ⟨.hbm, 243, rfl⟩
abbrev main_v207 : Ref sig .tc := ⟨.hbm, 244, rfl⟩
abbrev main_cst_13 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_cst_14 : Ref sig .tc := ⟨.hbm, 251, rfl⟩
abbrev main_v213 : Ref sig .tc := ⟨.hbm, 252, rfl⟩
abbrev main_cst_15 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_cst_16 : Ref sig .tc := ⟨.hbm, 262, rfl⟩
abbrev main_v222 : Ref sig .tc := ⟨.hbm, 263, rfl⟩
abbrev main_v223 : Ref sig .tc := ⟨.hbm, 264, rfl⟩
abbrev main_cst_17 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_cst_18 : Ref sig .tc := ⟨.hbm, 271, rfl⟩
abbrev main_v229 : Ref sig .tc := ⟨.hbm, 272, rfl⟩
abbrev main_v230 : Ref sig .tc := ⟨.hbm, 273, rfl⟩
abbrev main_cst_19 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_cst_20 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_c_21 : Ref sig .tc := ⟨.hbm, 295, rfl⟩
abbrev main_call4_v0 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_cst_22 : Ref sig .tc := ⟨.hbm, 330, rfl⟩
abbrev main_v283 : Ref sig .tc := ⟨.hbm, 331, rfl⟩
abbrev main_v284 : Ref sig .tc := ⟨.hbm, 332, rfl⟩
abbrev main_cst_23 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_cst_24 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_cst_25 : Ref sig .tc := ⟨.hbm, 359, rfl⟩
abbrev main_v309 : Ref sig .tc := ⟨.hbm, 360, rfl⟩
abbrev main_v310 : Ref sig .tc := ⟨.hbm, 361, rfl⟩
abbrev main_cst_26 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_cst_27 : Ref sig .tc := ⟨.hbm, 368, rfl⟩
abbrev main_v316 : Ref sig .tc := ⟨.hbm, 369, rfl⟩
abbrev main_v317 : Ref sig .tc := ⟨.hbm, 370, rfl⟩
abbrev main_cst_28 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_cst_29 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_c_30 : Ref sig .tc := ⟨.hbm, 392, rfl⟩
abbrev main_call5_v0 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_v354 : Ref sig .tc := ⟨.hbm, 411, rfl⟩
abbrev main_v355 : Ref sig .tc := ⟨.hbm, 412, rfl⟩
abbrev main_v356 : Ref sig .tc := ⟨.hbm, 413, rfl⟩
abbrev main_v357 : Ref sig .tc := ⟨.hbm, 414, rfl⟩
abbrev main_v358 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_v369 : Ref sig .tc := ⟨.hbm, 426, rfl⟩
abbrev main_cst_31 : Ref sig .tc := ⟨.hbm, 427, rfl⟩
abbrev main_v370 : Ref sig .tc := ⟨.hbm, 428, rfl⟩
abbrev main_v371 : Ref sig .tc := ⟨.hbm, 429, rfl⟩
abbrev main_cst_32 : Ref sig .tc := ⟨.hbm, 430, rfl⟩
abbrev main_v372 : Ref sig .tc := ⟨.hbm, 431, rfl⟩
abbrev main_v373 : Ref sig .tc := ⟨.hbm, 432, rfl⟩
abbrev main_v374 : Ref sig .tc := ⟨.hbm, 433, rfl⟩
abbrev main_cst_33 : Ref sig .tc := ⟨.hbm, 434, rfl⟩
abbrev main_v375 : Ref sig .tc := ⟨.hbm, 435, rfl⟩
abbrev main_v376 : Ref sig .tc := ⟨.hbm, 436, rfl⟩
abbrev main_v377 : Ref sig .tc := ⟨.hbm, 437, rfl⟩
abbrev main_v378 : Ref sig .tc := ⟨.hbm, 438, rfl⟩
abbrev main_v379 : Ref sig .tc := ⟨.hbm, 439, rfl⟩
abbrev main_v380 : Ref sig .tc := ⟨.hbm, 440, rfl⟩
abbrev main_v381 : Ref sig .tc := ⟨.hbm, 441, rfl⟩
abbrev main_v382 : Ref sig .tc := ⟨.hbm, 442, rfl⟩
abbrev main_v383 : Ref sig .tc := ⟨.hbm, 443, rfl⟩
abbrev main_v384 : Ref sig .tc := ⟨.hbm, 444, rfl⟩
abbrev main_v385 : Ref sig .tc := ⟨.hbm, 445, rfl⟩
abbrev main_v386 : Ref sig .tc := ⟨.hbm, 446, rfl⟩
abbrev main_v387 : Ref sig .tc := ⟨.hbm, 447, rfl⟩
abbrev main_v388 : Ref sig .tc := ⟨.hbm, 448, rfl⟩
abbrev main_v389 : Ref sig .tc := ⟨.hbm, 449, rfl⟩
abbrev main_v390 : Ref sig .tc := ⟨.hbm, 450, rfl⟩
abbrev main_v391 : Ref sig .tc := ⟨.hbm, 451, rfl⟩
abbrev main_v392 : Ref sig .tc := ⟨.hbm, 452, rfl⟩
abbrev main_cst_34 : Ref sig .tc := ⟨.hbm, 453, rfl⟩
abbrev main_v393 : Ref sig .tc := ⟨.hbm, 454, rfl⟩
abbrev main_cst_35 : Ref sig .tc := ⟨.hbm, 455, rfl⟩
abbrev main_v394 : Ref sig .tc := ⟨.hbm, 456, rfl⟩
abbrev main_v395 : Ref sig .tc := ⟨.hbm, 457, rfl⟩
abbrev main_v396 : Ref sig .tc := ⟨.hbm, 458, rfl⟩
abbrev main_v397 : Ref sig .tc := ⟨.hbm, 459, rfl⟩
abbrev main_v398 : Ref sig .tc := ⟨.hbm, 460, rfl⟩
abbrev main_v399 : Ref sig .tc := ⟨.hbm, 461, rfl⟩
abbrev main_v400 : Ref sig .tc := ⟨.hbm, 462, rfl⟩
abbrev main_v401 : Ref sig .tc := ⟨.hbm, 463, rfl⟩
abbrev main_cst_36 : Ref sig .tc := ⟨.hbm, 464, rfl⟩
abbrev main_v402 : Ref sig .tc := ⟨.hbm, 465, rfl⟩
abbrev main_v403 : Ref sig .tc := ⟨.hbm, 466, rfl⟩
abbrev main_cst_37 : Ref sig .tc := ⟨.hbm, 467, rfl⟩
abbrev main_v404 : Ref sig .tc := ⟨.hbm, 468, rfl⟩
abbrev main_v405 : Ref sig .tc := ⟨.hbm, 469, rfl⟩
abbrev main_v406 : Ref sig .tc := ⟨.hbm, 470, rfl⟩
abbrev main_v407 : Ref sig .tc := ⟨.hbm, 471, rfl⟩
abbrev main_v408 : Ref sig .tc := ⟨.hbm, 472, rfl⟩
abbrev main_cst_38 : Ref sig .tc := ⟨.hbm, 473, rfl⟩
abbrev main_v409 : Ref sig .tc := ⟨.hbm, 474, rfl⟩
abbrev main_v410 : Ref sig .tc := ⟨.hbm, 475, rfl⟩
abbrev main_cst_39 : Ref sig .tc := ⟨.hbm, 476, rfl⟩
abbrev main_v411 : Ref sig .tc := ⟨.hbm, 477, rfl⟩
abbrev main_v412 : Ref sig .tc := ⟨.hbm, 478, rfl⟩
abbrev main_v413 : Ref sig .tc := ⟨.hbm, 479, rfl⟩
abbrev main_v414 : Ref sig .tc := ⟨.hbm, 480, rfl⟩
abbrev main_cst_40 : Ref sig .tc := ⟨.hbm, 481, rfl⟩
abbrev main_v415 : Ref sig .tc := ⟨.hbm, 482, rfl⟩
abbrev main_v416 : Ref sig .tc := ⟨.hbm, 483, rfl⟩
abbrev main_v417 : Ref sig .tc := ⟨.hbm, 484, rfl⟩
abbrev main_v418 : Ref sig .tc := ⟨.hbm, 485, rfl⟩
abbrev main_v419 : Ref sig .tc := ⟨.hbm, 486, rfl⟩
abbrev main_v420 : Ref sig .tc := ⟨.hbm, 487, rfl⟩
abbrev main_v421 : Ref sig .tc := ⟨.hbm, 488, rfl⟩
abbrev main_v422 : Ref sig .tc := ⟨.hbm, 489, rfl⟩
abbrev main_v423 : Ref sig .tc := ⟨.hbm, 490, rfl⟩
abbrev main_v424 : Ref sig .tc := ⟨.hbm, 491, rfl⟩
abbrev main_v425 : Ref sig .tc := ⟨.hbm, 492, rfl⟩
abbrev main_v426 : Ref sig .tc := ⟨.hbm, 493, rfl⟩
abbrev main_v427 : Ref sig .tc := ⟨.hbm, 494, rfl⟩
abbrev main_v428 : Ref sig .tc := ⟨.hbm, 495, rfl⟩
abbrev main_v429 : Ref sig .tc := ⟨.hbm, 496, rfl⟩
abbrev main_c_41 : Ref sig .tc := ⟨.hbm, 497, rfl⟩
abbrev main_call6_v0 : Ref sig .tc := ⟨.hbm, 498, rfl⟩
abbrev main_v430 : Ref sig .tc := ⟨.hbm, 499, rfl⟩
abbrev main_v431 : Ref sig .tc := ⟨.hbm, 500, rfl⟩
abbrev main_v432 : Ref sig .tc := ⟨.hbm, 501, rfl⟩
abbrev main_v433 : Ref sig .tc := ⟨.hbm, 502, rfl⟩
abbrev main_v434 : Ref sig .tc := ⟨.hbm, 503, rfl⟩
abbrev main_v435 : Ref sig .tc := ⟨.hbm, 504, rfl⟩
abbrev main_v436 : Ref sig .tc := ⟨.hbm, 505, rfl⟩
abbrev main_v437 : Ref sig .tc := ⟨.hbm, 506, rfl⟩
abbrev main_v438 : Ref sig .tc := ⟨.hbm, 507, rfl⟩
abbrev main_v439 : Ref sig .tc := ⟨.hbm, 508, rfl⟩
abbrev main_v440 : Ref sig .tc := ⟨.hbm, 509, rfl⟩
abbrev main_v441 : Ref sig .tc := ⟨.hbm, 510, rfl⟩
abbrev main_v442 : Ref sig .tc := ⟨.hbm, 511, rfl⟩
abbrev main_v443 : Ref sig .tc := ⟨.hbm, 512, rfl⟩
abbrev main_v444 : Ref sig .tc := ⟨.hbm, 513, rfl⟩
abbrev main_v445 : Ref sig .tc := ⟨.hbm, 514, rfl⟩
abbrev main_v446 : Ref sig .tc := ⟨.hbm, 515, rfl⟩
abbrev main_v447 : Ref sig .tc := ⟨.hbm, 516, rfl⟩
abbrev main_v448 : Ref sig .tc := ⟨.hbm, 517, rfl⟩
abbrev main_v449 : Ref sig .tc := ⟨.hbm, 518, rfl⟩
abbrev main_v450 : Ref sig .tc := ⟨.hbm, 519, rfl⟩
abbrev main_v451 : Ref sig .tc := ⟨.hbm, 520, rfl⟩
abbrev main_v452 : Ref sig .tc := ⟨.hbm, 521, rfl⟩
abbrev main_v453 : Ref sig .tc := ⟨.hbm, 522, rfl⟩
abbrev main_v454 : Ref sig .tc := ⟨.hbm, 523, rfl⟩
abbrev main_v455 : Ref sig .tc := ⟨.hbm, 524, rfl⟩
abbrev main_v456 : Ref sig .tc := ⟨.hbm, 525, rfl⟩
abbrev main_v457 : Ref sig .tc := ⟨.hbm, 526, rfl⟩
abbrev main_v458 : Ref sig .tc := ⟨.hbm, 527, rfl⟩
abbrev main_v459 : Ref sig .tc := ⟨.hbm, 528, rfl⟩
abbrev main_v460 : Ref sig .tc := ⟨.hbm, 529, rfl⟩
abbrev main_v461 : Ref sig .tc := ⟨.hbm, 530, rfl⟩
abbrev main_v462 : Ref sig .tc := ⟨.hbm, 531, rfl⟩
abbrev main_cst_42 : Ref sig .tc := ⟨.hbm, 532, rfl⟩
abbrev main_v463 : Ref sig .tc := ⟨.hbm, 533, rfl⟩
abbrev main_v464 : Ref sig .tc := ⟨.hbm, 534, rfl⟩
abbrev main_cst_43 : Ref sig .tc := ⟨.hbm, 535, rfl⟩
abbrev main_v465 : Ref sig .tc := ⟨.hbm, 536, rfl⟩
abbrev main_v466 : Ref sig .tc := ⟨.hbm, 537, rfl⟩
abbrev main_v467 : Ref sig .tc := ⟨.hbm, 538, rfl⟩
abbrev main_cst_44 : Ref sig .tc := ⟨.hbm, 539, rfl⟩
abbrev main_v468 : Ref sig .tc := ⟨.hbm, 540, rfl⟩
abbrev main_v469 : Ref sig .tc := ⟨.hbm, 541, rfl⟩
abbrev main_v470 : Ref sig .tc := ⟨.hbm, 542, rfl⟩
abbrev main_v471 : Ref sig .tc := ⟨.hbm, 543, rfl⟩
abbrev main_v472 : Ref sig .tc := ⟨.hbm, 544, rfl⟩
abbrev main_v473 : Ref sig .tc := ⟨.hbm, 545, rfl⟩
abbrev main_v474 : Ref sig .tc := ⟨.hbm, 546, rfl⟩
abbrev main_v475 : Ref sig .tc := ⟨.hbm, 547, rfl⟩
abbrev main_v476 : Ref sig .tc := ⟨.hbm, 548, rfl⟩
abbrev main_v477 : Ref sig .tc := ⟨.hbm, 549, rfl⟩
abbrev main_v478 : Ref sig .tc := ⟨.hbm, 550, rfl⟩
abbrev main_v479 : Ref sig .tc := ⟨.hbm, 551, rfl⟩
abbrev main_v480 : Ref sig .tc := ⟨.hbm, 552, rfl⟩
abbrev main_v481 : Ref sig .tc := ⟨.hbm, 553, rfl⟩
abbrev main_v482 : Ref sig .tc := ⟨.hbm, 554, rfl⟩
abbrev main_v483 : Ref sig .tc := ⟨.hbm, 555, rfl⟩
abbrev main_v484 : Ref sig .tc := ⟨.hbm, 556, rfl⟩
abbrev main_v485 : Ref sig .tc := ⟨.hbm, 557, rfl⟩
abbrev main_v486 : Ref sig .tc := ⟨.hbm, 558, rfl⟩
abbrev main_v487 : Ref sig .tc := ⟨.hbm, 559, rfl⟩
abbrev main_v488 : Ref sig .tc := ⟨.hbm, 560, rfl⟩
abbrev main_cst_45 : Ref sig .tc := ⟨.hbm, 561, rfl⟩
abbrev main_v489 : Ref sig .tc := ⟨.hbm, 562, rfl⟩
abbrev main_v490 : Ref sig .tc := ⟨.hbm, 563, rfl⟩
abbrev main_cst_46 : Ref sig .tc := ⟨.hbm, 564, rfl⟩
abbrev main_v491 : Ref sig .tc := ⟨.hbm, 565, rfl⟩
abbrev main_v492 : Ref sig .tc := ⟨.hbm, 566, rfl⟩
abbrev main_v493 : Ref sig .tc := ⟨.hbm, 567, rfl⟩
abbrev main_v494 : Ref sig .tc := ⟨.hbm, 568, rfl⟩
abbrev main_v495 : Ref sig .tc := ⟨.hbm, 569, rfl⟩
abbrev main_cst_47 : Ref sig .tc := ⟨.hbm, 570, rfl⟩
abbrev main_v496 : Ref sig .tc := ⟨.hbm, 571, rfl⟩
abbrev main_v497 : Ref sig .tc := ⟨.hbm, 572, rfl⟩
abbrev main_cst_48 : Ref sig .tc := ⟨.hbm, 573, rfl⟩
abbrev main_v498 : Ref sig .tc := ⟨.hbm, 574, rfl⟩
abbrev main_v499 : Ref sig .tc := ⟨.hbm, 575, rfl⟩
abbrev main_v500 : Ref sig .tc := ⟨.hbm, 576, rfl⟩
abbrev main_v501 : Ref sig .tc := ⟨.hbm, 577, rfl⟩
abbrev main_cst_49 : Ref sig .tc := ⟨.hbm, 578, rfl⟩
abbrev main_v502 : Ref sig .tc := ⟨.hbm, 579, rfl⟩
abbrev main_v503 : Ref sig .tc := ⟨.hbm, 580, rfl⟩
abbrev main_v504 : Ref sig .tc := ⟨.hbm, 581, rfl⟩
abbrev main_v505 : Ref sig .tc := ⟨.hbm, 582, rfl⟩
abbrev main_v506 : Ref sig .tc := ⟨.hbm, 583, rfl⟩
abbrev main_v507 : Ref sig .tc := ⟨.hbm, 584, rfl⟩
abbrev main_v508 : Ref sig .tc := ⟨.hbm, 585, rfl⟩
abbrev main_v509 : Ref sig .tc := ⟨.hbm, 586, rfl⟩
abbrev main_v510 : Ref sig .tc := ⟨.hbm, 587, rfl⟩
abbrev main_v511 : Ref sig .tc := ⟨.hbm, 588, rfl⟩
abbrev main_v512 : Ref sig .tc := ⟨.hbm, 589, rfl⟩
abbrev main_v513 : Ref sig .tc := ⟨.hbm, 590, rfl⟩
abbrev main_v514 : Ref sig .tc := ⟨.hbm, 591, rfl⟩
abbrev main_v515 : Ref sig .tc := ⟨.hbm, 592, rfl⟩
abbrev main_v516 : Ref sig .tc := ⟨.hbm, 593, rfl⟩
abbrev main_c_50 : Ref sig .tc := ⟨.hbm, 594, rfl⟩
abbrev main_call7_v0 : Ref sig .tc := ⟨.hbm, 595, rfl⟩
abbrev main_v517 : Ref sig .tc := ⟨.hbm, 596, rfl⟩
abbrev main_v518 : Ref sig .tc := ⟨.hbm, 597, rfl⟩
abbrev main_v519 : Ref sig .tc := ⟨.hbm, 598, rfl⟩
abbrev main_v520 : Ref sig .tc := ⟨.hbm, 599, rfl⟩
abbrev main_v521 : Ref sig .tc := ⟨.hbm, 600, rfl⟩
abbrev main_v522 : Ref sig .tc := ⟨.hbm, 601, rfl⟩
abbrev main_v523 : Ref sig .tc := ⟨.hbm, 602, rfl⟩
abbrev main_v524 : Ref sig .tc := ⟨.hbm, 603, rfl⟩
abbrev main_v525 : Ref sig .tc := ⟨.hbm, 604, rfl⟩
abbrev main_v526 : Ref sig .tc := ⟨.hbm, 605, rfl⟩
abbrev main_v527 : Ref sig .tc := ⟨.hbm, 606, rfl⟩
abbrev main_v528 : Ref sig .tc := ⟨.hbm, 607, rfl⟩
abbrev main_v529 : Ref sig .tc := ⟨.hbm, 608, rfl⟩
abbrev main_v530 : Ref sig .tc := ⟨.hbm, 609, rfl⟩
abbrev main_v531 : Ref sig .tc := ⟨.hbm, 610, rfl⟩
abbrev main_v532 : Ref sig .tc := ⟨.hbm, 611, rfl⟩
abbrev main_v533 : Ref sig .tc := ⟨.hbm, 612, rfl⟩
abbrev main_v534 : Ref sig .tc := ⟨.hbm, 613, rfl⟩
abbrev main_v535 : Ref sig .tc := ⟨.hbm, 614, rfl⟩
abbrev main_v536 : Ref sig .tc := ⟨.hbm, 615, rfl⟩
abbrev main_v537 : Ref sig .tc := ⟨.hbm, 616, rfl⟩
abbrev main_v538 : Ref sig .tc := ⟨.hbm, 617, rfl⟩
abbrev main_v539 : Ref sig .tc := ⟨.hbm, 618, rfl⟩
abbrev main_v540 : Ref sig .tc := ⟨.hbm, 619, rfl⟩
abbrev main_v541 : Ref sig .tc := ⟨.hbm, 620, rfl⟩
abbrev main_v542 : Ref sig .tc := ⟨.hbm, 621, rfl⟩
abbrev main_v543 : Ref sig .tc := ⟨.hbm, 622, rfl⟩
abbrev main_v544 : Ref sig .tc := ⟨.hbm, 623, rfl⟩
abbrev main_v545 : Ref sig .tc := ⟨.hbm, 624, rfl⟩
abbrev main_v546 : Ref sig .tc := ⟨.hbm, 625, rfl⟩
abbrev main_v547 : Ref sig .tc := ⟨.hbm, 626, rfl⟩
abbrev main_v548 : Ref sig .tc := ⟨.hbm, 627, rfl⟩
abbrev main_v549 : Ref sig .tc := ⟨.hbm, 628, rfl⟩
abbrev main_cst_51 : Ref sig .tc := ⟨.hbm, 629, rfl⟩
abbrev main_v550 : Ref sig .tc := ⟨.hbm, 630, rfl⟩
abbrev main_v551 : Ref sig .tc := ⟨.hbm, 631, rfl⟩
abbrev main_cst_52 : Ref sig .tc := ⟨.hbm, 632, rfl⟩
abbrev main_v552 : Ref sig .tc := ⟨.hbm, 633, rfl⟩
abbrev main_v553 : Ref sig .tc := ⟨.hbm, 634, rfl⟩
abbrev main_v554 : Ref sig .tc := ⟨.hbm, 635, rfl⟩
abbrev main_cst_53 : Ref sig .tc := ⟨.hbm, 636, rfl⟩
abbrev main_v555 : Ref sig .tc := ⟨.hbm, 637, rfl⟩
abbrev main_v556 : Ref sig .tc := ⟨.hbm, 638, rfl⟩
abbrev main_v557 : Ref sig .tc := ⟨.hbm, 639, rfl⟩
abbrev main_v558 : Ref sig .tc := ⟨.hbm, 640, rfl⟩
abbrev main_v559 : Ref sig .tc := ⟨.hbm, 641, rfl⟩
abbrev main_v560 : Ref sig .tc := ⟨.hbm, 642, rfl⟩
abbrev main_v561 : Ref sig .tc := ⟨.hbm, 643, rfl⟩
abbrev main_v562 : Ref sig .tc := ⟨.hbm, 644, rfl⟩
abbrev main_v563 : Ref sig .tc := ⟨.hbm, 645, rfl⟩
abbrev main_v564 : Ref sig .tc := ⟨.hbm, 646, rfl⟩
abbrev main_v565 : Ref sig .tc := ⟨.hbm, 647, rfl⟩
abbrev main_v566 : Ref sig .tc := ⟨.hbm, 648, rfl⟩
abbrev main_v567 : Ref sig .tc := ⟨.hbm, 649, rfl⟩
abbrev main_v568 : Ref sig .tc := ⟨.hbm, 650, rfl⟩
abbrev main_v569 : Ref sig .tc := ⟨.hbm, 651, rfl⟩
abbrev main_v570 : Ref sig .tc := ⟨.hbm, 652, rfl⟩
abbrev main_v571 : Ref sig .tc := ⟨.hbm, 653, rfl⟩
abbrev main_v572 : Ref sig .tc := ⟨.hbm, 654, rfl⟩
abbrev main_cst_54 : Ref sig .tc := ⟨.hbm, 655, rfl⟩
abbrev main_v573 : Ref sig .tc := ⟨.hbm, 656, rfl⟩
abbrev main_cst_55 : Ref sig .tc := ⟨.hbm, 657, rfl⟩
abbrev main_v574 : Ref sig .tc := ⟨.hbm, 658, rfl⟩
abbrev main_v575 : Ref sig .tc := ⟨.hbm, 659, rfl⟩
abbrev main_v576 : Ref sig .tc := ⟨.hbm, 660, rfl⟩
abbrev main_v577 : Ref sig .tc := ⟨.hbm, 661, rfl⟩
abbrev main_v578 : Ref sig .tc := ⟨.hbm, 662, rfl⟩
abbrev main_v579 : Ref sig .tc := ⟨.hbm, 663, rfl⟩
abbrev main_v580 : Ref sig .tc := ⟨.hbm, 664, rfl⟩
abbrev main_v581 : Ref sig .tc := ⟨.hbm, 665, rfl⟩
abbrev main_cst_56 : Ref sig .tc := ⟨.hbm, 666, rfl⟩
abbrev main_v582 : Ref sig .tc := ⟨.hbm, 667, rfl⟩
abbrev main_v583 : Ref sig .tc := ⟨.hbm, 668, rfl⟩
abbrev main_cst_57 : Ref sig .tc := ⟨.hbm, 669, rfl⟩
abbrev main_v584 : Ref sig .tc := ⟨.hbm, 670, rfl⟩
abbrev main_v585 : Ref sig .tc := ⟨.hbm, 671, rfl⟩
abbrev main_v586 : Ref sig .tc := ⟨.hbm, 672, rfl⟩
abbrev main_v587 : Ref sig .tc := ⟨.hbm, 673, rfl⟩
abbrev main_v588 : Ref sig .tc := ⟨.hbm, 674, rfl⟩
abbrev main_cst_58 : Ref sig .tc := ⟨.hbm, 675, rfl⟩
abbrev main_v589 : Ref sig .tc := ⟨.hbm, 676, rfl⟩
abbrev main_v590 : Ref sig .tc := ⟨.hbm, 677, rfl⟩
abbrev main_cst_59 : Ref sig .tc := ⟨.hbm, 678, rfl⟩
abbrev main_v591 : Ref sig .tc := ⟨.hbm, 679, rfl⟩
abbrev main_v592 : Ref sig .tc := ⟨.hbm, 680, rfl⟩
abbrev main_v593 : Ref sig .tc := ⟨.hbm, 681, rfl⟩
abbrev main_v594 : Ref sig .tc := ⟨.hbm, 682, rfl⟩
abbrev main_cst_60 : Ref sig .tc := ⟨.hbm, 683, rfl⟩
abbrev main_v595 : Ref sig .tc := ⟨.hbm, 684, rfl⟩
abbrev main_v596 : Ref sig .tc := ⟨.hbm, 685, rfl⟩
abbrev main_v597 : Ref sig .tc := ⟨.hbm, 686, rfl⟩
abbrev main_v598 : Ref sig .tc := ⟨.hbm, 687, rfl⟩
abbrev main_v599 : Ref sig .tc := ⟨.hbm, 688, rfl⟩
abbrev main_v600 : Ref sig .tc := ⟨.hbm, 689, rfl⟩
abbrev main_v601 : Ref sig .tc := ⟨.hbm, 690, rfl⟩
abbrev main_v602 : Ref sig .tc := ⟨.hbm, 691, rfl⟩
abbrev main_v603 : Ref sig .tc := ⟨.hbm, 692, rfl⟩
abbrev main_v604 : Ref sig .tc := ⟨.hbm, 693, rfl⟩
abbrev main_v605 : Ref sig .tc := ⟨.hbm, 694, rfl⟩
abbrev main_v606 : Ref sig .tc := ⟨.hbm, 695, rfl⟩
abbrev main_v607 : Ref sig .tc := ⟨.hbm, 696, rfl⟩
abbrev main_v608 : Ref sig .tc := ⟨.hbm, 697, rfl⟩
abbrev main_v609 : Ref sig .tc := ⟨.hbm, 698, rfl⟩
abbrev main_c_61 : Ref sig .tc := ⟨.hbm, 699, rfl⟩
abbrev main_call8_v0 : Ref sig .tc := ⟨.hbm, 700, rfl⟩
abbrev main_v610 : Ref sig .tc := ⟨.hbm, 701, rfl⟩
abbrev main_v611 : Ref sig .tc := ⟨.hbm, 702, rfl⟩
abbrev main_v612 : Ref sig .tc := ⟨.hbm, 703, rfl⟩
abbrev main_v613 : Ref sig .tc := ⟨.hbm, 704, rfl⟩
abbrev main_v614 : Ref sig .tc := ⟨.hbm, 705, rfl⟩
abbrev main_v615 : Ref sig .tc := ⟨.hbm, 706, rfl⟩
abbrev main_v616 : Ref sig .tc := ⟨.hbm, 707, rfl⟩
abbrev main_v617 : Ref sig .tc := ⟨.hbm, 708, rfl⟩
abbrev main_v618 : Ref sig .tc := ⟨.hbm, 709, rfl⟩
abbrev main_v619 : Ref sig .tc := ⟨.hbm, 710, rfl⟩
abbrev main_v620 : Ref sig .tc := ⟨.hbm, 711, rfl⟩
abbrev main_v621 : Ref sig .tc := ⟨.hbm, 712, rfl⟩
abbrev main_v622 : Ref sig .tc := ⟨.hbm, 713, rfl⟩
abbrev main_v623 : Ref sig .tc := ⟨.hbm, 714, rfl⟩
abbrev main_v624 : Ref sig .tc := ⟨.hbm, 715, rfl⟩
abbrev main_v625 : Ref sig .tc := ⟨.hbm, 716, rfl⟩
abbrev main_v626 : Ref sig .tc := ⟨.hbm, 717, rfl⟩
abbrev main_v627 : Ref sig .tc := ⟨.hbm, 718, rfl⟩
abbrev main_v628 : Ref sig .tc := ⟨.hbm, 719, rfl⟩
abbrev main_v629 : Ref sig .tc := ⟨.hbm, 720, rfl⟩
abbrev main_v630 : Ref sig .tc := ⟨.hbm, 721, rfl⟩
abbrev main_v631 : Ref sig .tc := ⟨.hbm, 722, rfl⟩
abbrev main_v632 : Ref sig .tc := ⟨.hbm, 723, rfl⟩
abbrev main_v633 : Ref sig .tc := ⟨.hbm, 724, rfl⟩
abbrev main_v634 : Ref sig .tc := ⟨.hbm, 725, rfl⟩
abbrev main_v635 : Ref sig .tc := ⟨.hbm, 726, rfl⟩
abbrev main_v636 : Ref sig .tc := ⟨.hbm, 727, rfl⟩
abbrev main_v637 : Ref sig .tc := ⟨.hbm, 728, rfl⟩
abbrev main_v638 : Ref sig .tc := ⟨.hbm, 729, rfl⟩
abbrev main_v639 : Ref sig .tc := ⟨.hbm, 730, rfl⟩
abbrev main_v640 : Ref sig .tc := ⟨.hbm, 731, rfl⟩
abbrev main_v641 : Ref sig .tc := ⟨.hbm, 732, rfl⟩
abbrev main_v642 : Ref sig .tc := ⟨.hbm, 733, rfl⟩
abbrev main_cst_62 : Ref sig .tc := ⟨.hbm, 734, rfl⟩
abbrev main_v643 : Ref sig .tc := ⟨.hbm, 735, rfl⟩
abbrev main_v644 : Ref sig .tc := ⟨.hbm, 736, rfl⟩
abbrev main_cst_63 : Ref sig .tc := ⟨.hbm, 737, rfl⟩
abbrev main_v645 : Ref sig .tc := ⟨.hbm, 738, rfl⟩
abbrev main_v646 : Ref sig .tc := ⟨.hbm, 739, rfl⟩
abbrev main_v647 : Ref sig .tc := ⟨.hbm, 740, rfl⟩
abbrev main_cst_64 : Ref sig .tc := ⟨.hbm, 741, rfl⟩
abbrev main_v648 : Ref sig .tc := ⟨.hbm, 742, rfl⟩
abbrev main_v649 : Ref sig .tc := ⟨.hbm, 743, rfl⟩
abbrev main_v650 : Ref sig .tc := ⟨.hbm, 744, rfl⟩
abbrev main_v651 : Ref sig .tc := ⟨.hbm, 745, rfl⟩
abbrev main_v652 : Ref sig .tc := ⟨.hbm, 746, rfl⟩
abbrev main_v653 : Ref sig .tc := ⟨.hbm, 747, rfl⟩
abbrev main_v654 : Ref sig .tc := ⟨.hbm, 748, rfl⟩
abbrev main_v655 : Ref sig .tc := ⟨.hbm, 749, rfl⟩
abbrev main_v656 : Ref sig .tc := ⟨.hbm, 750, rfl⟩
abbrev main_v657 : Ref sig .tc := ⟨.hbm, 751, rfl⟩
abbrev main_v658 : Ref sig .tc := ⟨.hbm, 752, rfl⟩
abbrev main_v659 : Ref sig .tc := ⟨.hbm, 753, rfl⟩
abbrev main_v660 : Ref sig .tc := ⟨.hbm, 754, rfl⟩
abbrev main_v661 : Ref sig .tc := ⟨.hbm, 755, rfl⟩
abbrev main_v662 : Ref sig .tc := ⟨.hbm, 756, rfl⟩
abbrev main_v663 : Ref sig .tc := ⟨.hbm, 757, rfl⟩
abbrev main_v664 : Ref sig .tc := ⟨.hbm, 758, rfl⟩
abbrev main_v665 : Ref sig .tc := ⟨.hbm, 759, rfl⟩
abbrev main_v666 : Ref sig .tc := ⟨.hbm, 760, rfl⟩
abbrev main_v667 : Ref sig .tc := ⟨.hbm, 761, rfl⟩
abbrev main_v668 : Ref sig .tc := ⟨.hbm, 762, rfl⟩
abbrev main_cst_65 : Ref sig .tc := ⟨.hbm, 763, rfl⟩
abbrev main_v669 : Ref sig .tc := ⟨.hbm, 764, rfl⟩
abbrev main_v670 : Ref sig .tc := ⟨.hbm, 765, rfl⟩
abbrev main_cst_66 : Ref sig .tc := ⟨.hbm, 766, rfl⟩
abbrev main_v671 : Ref sig .tc := ⟨.hbm, 767, rfl⟩
abbrev main_v672 : Ref sig .tc := ⟨.hbm, 768, rfl⟩
abbrev main_v673 : Ref sig .tc := ⟨.hbm, 769, rfl⟩
abbrev main_v674 : Ref sig .tc := ⟨.hbm, 770, rfl⟩
abbrev main_v675 : Ref sig .tc := ⟨.hbm, 771, rfl⟩
abbrev main_cst_67 : Ref sig .tc := ⟨.hbm, 772, rfl⟩
abbrev main_v676 : Ref sig .tc := ⟨.hbm, 773, rfl⟩
abbrev main_v677 : Ref sig .tc := ⟨.hbm, 774, rfl⟩
abbrev main_cst_68 : Ref sig .tc := ⟨.hbm, 775, rfl⟩
abbrev main_v678 : Ref sig .tc := ⟨.hbm, 776, rfl⟩
abbrev main_v679 : Ref sig .tc := ⟨.hbm, 777, rfl⟩
abbrev main_v680 : Ref sig .tc := ⟨.hbm, 778, rfl⟩
abbrev main_v681 : Ref sig .tc := ⟨.hbm, 779, rfl⟩
abbrev main_cst_69 : Ref sig .tc := ⟨.hbm, 780, rfl⟩
abbrev main_v682 : Ref sig .tc := ⟨.hbm, 781, rfl⟩
abbrev main_v683 : Ref sig .tc := ⟨.hbm, 782, rfl⟩
abbrev main_v684 : Ref sig .tc := ⟨.hbm, 783, rfl⟩
abbrev main_v685 : Ref sig .tc := ⟨.hbm, 784, rfl⟩
abbrev main_v686 : Ref sig .tc := ⟨.hbm, 785, rfl⟩
abbrev main_v687 : Ref sig .tc := ⟨.hbm, 786, rfl⟩
abbrev main_v688 : Ref sig .tc := ⟨.hbm, 787, rfl⟩
abbrev main_v689 : Ref sig .tc := ⟨.hbm, 788, rfl⟩
abbrev main_v690 : Ref sig .tc := ⟨.hbm, 789, rfl⟩
abbrev main_v691 : Ref sig .tc := ⟨.hbm, 790, rfl⟩
abbrev main_v692 : Ref sig .tc := ⟨.hbm, 791, rfl⟩
abbrev main_v693 : Ref sig .tc := ⟨.hbm, 792, rfl⟩
abbrev main_v694 : Ref sig .tc := ⟨.hbm, 793, rfl⟩
abbrev main_v695 : Ref sig .tc := ⟨.hbm, 794, rfl⟩
abbrev main_v696 : Ref sig .tc := ⟨.hbm, 795, rfl⟩
abbrev main_c_70 : Ref sig .tc := ⟨.hbm, 796, rfl⟩
abbrev main_call9_v0 : Ref sig .tc := ⟨.hbm, 797, rfl⟩
abbrev main_v697 : Ref sig .tc := ⟨.hbm, 798, rfl⟩
abbrev main_v698 : Ref sig .tc := ⟨.hbm, 799, rfl⟩
abbrev main_v699 : Ref sig .tc := ⟨.hbm, 800, rfl⟩
abbrev main_v700 : Ref sig .tc := ⟨.hbm, 801, rfl⟩
abbrev main_v701 : Ref sig .tc := ⟨.hbm, 802, rfl⟩
abbrev main_v702 : Ref sig .tc := ⟨.hbm, 803, rfl⟩
abbrev main_v703 : Ref sig .tc := ⟨.hbm, 804, rfl⟩
abbrev main_v704 : Ref sig .tc := ⟨.hbm, 805, rfl⟩
abbrev main_v705 : Ref sig .tc := ⟨.hbm, 806, rfl⟩
abbrev main_v706 : Ref sig .tc := ⟨.hbm, 807, rfl⟩
abbrev main_v707 : Ref sig .tc := ⟨.hbm, 808, rfl⟩
abbrev main_v708 : Ref sig .tc := ⟨.hbm, 809, rfl⟩
abbrev main_v709 : Ref sig .tc := ⟨.hbm, 810, rfl⟩
abbrev main_v710 : Ref sig .tc := ⟨.hbm, 811, rfl⟩
abbrev main_v711 : Ref sig .tc := ⟨.hbm, 812, rfl⟩
abbrev main_v712 : Ref sig .tc := ⟨.hbm, 813, rfl⟩
abbrev main_v713 : Ref sig .tc := ⟨.hbm, 814, rfl⟩
abbrev main_v714 : Ref sig .tc := ⟨.hbm, 815, rfl⟩
abbrev main_v715 : Ref sig .tc := ⟨.hbm, 816, rfl⟩
abbrev main_v716 : Ref sig .tc := ⟨.hbm, 817, rfl⟩
abbrev main_v717 : Ref sig .tc := ⟨.hbm, 818, rfl⟩
abbrev main_v718 : Ref sig .tc := ⟨.hbm, 819, rfl⟩
abbrev main_v719 : Ref sig .tc := ⟨.hbm, 820, rfl⟩
abbrev main_v720 : Ref sig .tc := ⟨.hbm, 821, rfl⟩
abbrev main_v721 : Ref sig .tc := ⟨.hbm, 822, rfl⟩
abbrev main_v722 : Ref sig .tc := ⟨.hbm, 823, rfl⟩
abbrev main_v723 : Ref sig .tc := ⟨.hbm, 824, rfl⟩
abbrev main_v724 : Ref sig .tc := ⟨.hbm, 825, rfl⟩
abbrev main_v725 : Ref sig .tc := ⟨.hbm, 826, rfl⟩
abbrev main_v726 : Ref sig .tc := ⟨.hbm, 827, rfl⟩
abbrev main_v727 : Ref sig .tc := ⟨.hbm, 828, rfl⟩
abbrev main_v728 : Ref sig .tc := ⟨.hbm, 829, rfl⟩
abbrev main_v729 : Ref sig .tc := ⟨.hbm, 830, rfl⟩
abbrev main_cst_71 : Ref sig .tc := ⟨.hbm, 831, rfl⟩
abbrev main_v730 : Ref sig .tc := ⟨.hbm, 832, rfl⟩
abbrev main_v731 : Ref sig .tc := ⟨.hbm, 833, rfl⟩
abbrev main_cst_72 : Ref sig .tc := ⟨.hbm, 834, rfl⟩
abbrev main_v732 : Ref sig .tc := ⟨.hbm, 835, rfl⟩
abbrev main_v733 : Ref sig .tc := ⟨.hbm, 836, rfl⟩
abbrev main_v734 : Ref sig .tc := ⟨.hbm, 837, rfl⟩
abbrev main_cst_73 : Ref sig .tc := ⟨.hbm, 838, rfl⟩
abbrev main_v735 : Ref sig .tc := ⟨.hbm, 839, rfl⟩
abbrev main_v736 : Ref sig .tc := ⟨.hbm, 840, rfl⟩
abbrev main_v737 : Ref sig .tc := ⟨.hbm, 841, rfl⟩
abbrev main_v738 : Ref sig .tc := ⟨.hbm, 842, rfl⟩
abbrev main_v739 : Ref sig .tc := ⟨.hbm, 843, rfl⟩
abbrev main_v740 : Ref sig .tc := ⟨.hbm, 844, rfl⟩
abbrev main_v741 : Ref sig .tc := ⟨.hbm, 845, rfl⟩
abbrev main_v742 : Ref sig .tc := ⟨.hbm, 846, rfl⟩
abbrev main_v743 : Ref sig .tc := ⟨.hbm, 847, rfl⟩
abbrev main_v744 : Ref sig .tc := ⟨.hbm, 848, rfl⟩
abbrev main_v745 : Ref sig .tc := ⟨.hbm, 849, rfl⟩
abbrev main_v746 : Ref sig .tc := ⟨.hbm, 850, rfl⟩
abbrev main_v747 : Ref sig .tc := ⟨.hbm, 851, rfl⟩
abbrev main_v748 : Ref sig .tc := ⟨.hbm, 852, rfl⟩
abbrev main_v749 : Ref sig .tc := ⟨.hbm, 853, rfl⟩
abbrev main_v750 : Ref sig .tc := ⟨.hbm, 854, rfl⟩
abbrev main_v751 : Ref sig .tc := ⟨.hbm, 855, rfl⟩
abbrev main_v752 : Ref sig .tc := ⟨.hbm, 856, rfl⟩
abbrev main_cst_74 : Ref sig .tc := ⟨.hbm, 857, rfl⟩
abbrev main_v753 : Ref sig .tc := ⟨.hbm, 858, rfl⟩
abbrev main_cst_75 : Ref sig .tc := ⟨.hbm, 859, rfl⟩
abbrev main_v754 : Ref sig .tc := ⟨.hbm, 860, rfl⟩
abbrev main_v755 : Ref sig .tc := ⟨.hbm, 861, rfl⟩
abbrev main_v756 : Ref sig .tc := ⟨.hbm, 862, rfl⟩
abbrev main_v757 : Ref sig .tc := ⟨.hbm, 863, rfl⟩
abbrev main_v758 : Ref sig .tc := ⟨.hbm, 864, rfl⟩
abbrev main_v759 : Ref sig .tc := ⟨.hbm, 865, rfl⟩
abbrev main_v760 : Ref sig .tc := ⟨.hbm, 866, rfl⟩
abbrev main_v761 : Ref sig .tc := ⟨.hbm, 867, rfl⟩
abbrev main_cst_76 : Ref sig .tc := ⟨.hbm, 868, rfl⟩
abbrev main_v762 : Ref sig .tc := ⟨.hbm, 869, rfl⟩
abbrev main_v763 : Ref sig .tc := ⟨.hbm, 870, rfl⟩
abbrev main_cst_77 : Ref sig .tc := ⟨.hbm, 871, rfl⟩
abbrev main_v764 : Ref sig .tc := ⟨.hbm, 872, rfl⟩
abbrev main_v765 : Ref sig .tc := ⟨.hbm, 873, rfl⟩
abbrev main_v766 : Ref sig .tc := ⟨.hbm, 874, rfl⟩
abbrev main_v767 : Ref sig .tc := ⟨.hbm, 875, rfl⟩
abbrev main_v768 : Ref sig .tc := ⟨.hbm, 876, rfl⟩
abbrev main_cst_78 : Ref sig .tc := ⟨.hbm, 877, rfl⟩
abbrev main_v769 : Ref sig .tc := ⟨.hbm, 878, rfl⟩
abbrev main_v770 : Ref sig .tc := ⟨.hbm, 879, rfl⟩
abbrev main_cst_79 : Ref sig .tc := ⟨.hbm, 880, rfl⟩
abbrev main_v771 : Ref sig .tc := ⟨.hbm, 881, rfl⟩
abbrev main_v772 : Ref sig .tc := ⟨.hbm, 882, rfl⟩
abbrev main_v773 : Ref sig .tc := ⟨.hbm, 883, rfl⟩
abbrev main_v774 : Ref sig .tc := ⟨.hbm, 884, rfl⟩
abbrev main_cst_80 : Ref sig .tc := ⟨.hbm, 885, rfl⟩
abbrev main_v775 : Ref sig .tc := ⟨.hbm, 886, rfl⟩
abbrev main_v776 : Ref sig .tc := ⟨.hbm, 887, rfl⟩
abbrev main_v777 : Ref sig .tc := ⟨.hbm, 888, rfl⟩
abbrev main_v778 : Ref sig .tc := ⟨.hbm, 889, rfl⟩
abbrev main_v779 : Ref sig .tc := ⟨.hbm, 890, rfl⟩
abbrev main_v780 : Ref sig .tc := ⟨.hbm, 891, rfl⟩
abbrev main_v781 : Ref sig .tc := ⟨.hbm, 892, rfl⟩
abbrev main_v782 : Ref sig .tc := ⟨.hbm, 893, rfl⟩
abbrev main_v783 : Ref sig .tc := ⟨.hbm, 894, rfl⟩
abbrev main_v784 : Ref sig .tc := ⟨.hbm, 895, rfl⟩
abbrev main_v785 : Ref sig .tc := ⟨.hbm, 896, rfl⟩
abbrev main_v786 : Ref sig .tc := ⟨.hbm, 897, rfl⟩
abbrev main_v787 : Ref sig .tc := ⟨.hbm, 898, rfl⟩
abbrev main_v788 : Ref sig .tc := ⟨.hbm, 899, rfl⟩
abbrev main_v789 : Ref sig .tc := ⟨.hbm, 900, rfl⟩
abbrev main_c_81 : Ref sig .tc := ⟨.hbm, 901, rfl⟩
abbrev main_call10_v0 : Ref sig .tc := ⟨.hbm, 902, rfl⟩
abbrev main_v790 : Ref sig .tc := ⟨.hbm, 903, rfl⟩
abbrev main_v791 : Ref sig .tc := ⟨.hbm, 904, rfl⟩
abbrev main_v792 : Ref sig .tc := ⟨.hbm, 905, rfl⟩
abbrev main_v793 : Ref sig .tc := ⟨.hbm, 906, rfl⟩
abbrev main_v794 : Ref sig .tc := ⟨.hbm, 907, rfl⟩
abbrev main_v795 : Ref sig .tc := ⟨.hbm, 908, rfl⟩
abbrev main_v796 : Ref sig .tc := ⟨.hbm, 909, rfl⟩
abbrev main_v797 : Ref sig .tc := ⟨.hbm, 910, rfl⟩
abbrev main_v798 : Ref sig .tc := ⟨.hbm, 911, rfl⟩
abbrev main_v799 : Ref sig .tc := ⟨.hbm, 912, rfl⟩
abbrev main_v800 : Ref sig .tc := ⟨.hbm, 913, rfl⟩
abbrev main_v801 : Ref sig .tc := ⟨.hbm, 914, rfl⟩
abbrev main_v802 : Ref sig .tc := ⟨.hbm, 915, rfl⟩
abbrev main_v803 : Ref sig .tc := ⟨.hbm, 916, rfl⟩
abbrev main_v804 : Ref sig .tc := ⟨.hbm, 917, rfl⟩
abbrev main_v805 : Ref sig .tc := ⟨.hbm, 918, rfl⟩
abbrev main_v806 : Ref sig .tc := ⟨.hbm, 919, rfl⟩
abbrev main_v807 : Ref sig .tc := ⟨.hbm, 920, rfl⟩
abbrev main_v808 : Ref sig .tc := ⟨.hbm, 921, rfl⟩
abbrev main_v809 : Ref sig .tc := ⟨.hbm, 922, rfl⟩
abbrev main_v810 : Ref sig .tc := ⟨.hbm, 923, rfl⟩
abbrev main_v811 : Ref sig .tc := ⟨.hbm, 924, rfl⟩
abbrev main_v812 : Ref sig .tc := ⟨.hbm, 925, rfl⟩
abbrev main_v813 : Ref sig .tc := ⟨.hbm, 926, rfl⟩
abbrev main_v814 : Ref sig .tc := ⟨.hbm, 927, rfl⟩
abbrev main_v815 : Ref sig .tc := ⟨.hbm, 928, rfl⟩
abbrev main_v816 : Ref sig .tc := ⟨.hbm, 929, rfl⟩
abbrev main_v817 : Ref sig .tc := ⟨.hbm, 930, rfl⟩
abbrev main_v818 : Ref sig .tc := ⟨.hbm, 931, rfl⟩
abbrev main_v819 : Ref sig .tc := ⟨.hbm, 932, rfl⟩
abbrev main_v820 : Ref sig .tc := ⟨.hbm, 933, rfl⟩
abbrev main_v821 : Ref sig .tc := ⟨.hbm, 934, rfl⟩
abbrev main_v822 : Ref sig .tc := ⟨.hbm, 935, rfl⟩
abbrev main_cst_82 : Ref sig .tc := ⟨.hbm, 936, rfl⟩
abbrev main_v823 : Ref sig .tc := ⟨.hbm, 937, rfl⟩
abbrev main_v824 : Ref sig .tc := ⟨.hbm, 938, rfl⟩
abbrev main_cst_83 : Ref sig .tc := ⟨.hbm, 939, rfl⟩
abbrev main_v825 : Ref sig .tc := ⟨.hbm, 940, rfl⟩
abbrev main_v826 : Ref sig .tc := ⟨.hbm, 941, rfl⟩
abbrev main_v827 : Ref sig .tc := ⟨.hbm, 942, rfl⟩
abbrev main_cst_84 : Ref sig .tc := ⟨.hbm, 943, rfl⟩
abbrev main_v828 : Ref sig .tc := ⟨.hbm, 944, rfl⟩
abbrev main_v829 : Ref sig .tc := ⟨.hbm, 945, rfl⟩
abbrev main_v830 : Ref sig .tc := ⟨.hbm, 946, rfl⟩
abbrev main_v831 : Ref sig .tc := ⟨.hbm, 947, rfl⟩
abbrev main_v832 : Ref sig .tc := ⟨.hbm, 948, rfl⟩
abbrev main_v833 : Ref sig .tc := ⟨.hbm, 949, rfl⟩
abbrev main_v834 : Ref sig .tc := ⟨.hbm, 950, rfl⟩
abbrev main_v835 : Ref sig .tc := ⟨.hbm, 951, rfl⟩
abbrev main_v836 : Ref sig .tc := ⟨.hbm, 952, rfl⟩
abbrev main_v837 : Ref sig .tc := ⟨.hbm, 953, rfl⟩
abbrev main_v838 : Ref sig .tc := ⟨.hbm, 954, rfl⟩
abbrev main_v839 : Ref sig .tc := ⟨.hbm, 955, rfl⟩
abbrev main_v840 : Ref sig .tc := ⟨.hbm, 956, rfl⟩
abbrev main_v841 : Ref sig .tc := ⟨.hbm, 957, rfl⟩
abbrev main_v842 : Ref sig .tc := ⟨.hbm, 958, rfl⟩
abbrev main_v843 : Ref sig .tc := ⟨.hbm, 959, rfl⟩
abbrev main_v844 : Ref sig .tc := ⟨.hbm, 960, rfl⟩
abbrev main_v845 : Ref sig .tc := ⟨.hbm, 961, rfl⟩
abbrev main_v846 : Ref sig .tc := ⟨.hbm, 962, rfl⟩
abbrev main_v847 : Ref sig .tc := ⟨.hbm, 963, rfl⟩
abbrev main_v848 : Ref sig .tc := ⟨.hbm, 964, rfl⟩
abbrev main_cst_85 : Ref sig .tc := ⟨.hbm, 965, rfl⟩
abbrev main_v849 : Ref sig .tc := ⟨.hbm, 966, rfl⟩
abbrev main_v850 : Ref sig .tc := ⟨.hbm, 967, rfl⟩
abbrev main_cst_86 : Ref sig .tc := ⟨.hbm, 968, rfl⟩
abbrev main_v851 : Ref sig .tc := ⟨.hbm, 969, rfl⟩
abbrev main_v852 : Ref sig .tc := ⟨.hbm, 970, rfl⟩
abbrev main_v853 : Ref sig .tc := ⟨.hbm, 971, rfl⟩
abbrev main_v854 : Ref sig .tc := ⟨.hbm, 972, rfl⟩
abbrev main_v855 : Ref sig .tc := ⟨.hbm, 973, rfl⟩
abbrev main_cst_87 : Ref sig .tc := ⟨.hbm, 974, rfl⟩
abbrev main_v856 : Ref sig .tc := ⟨.hbm, 975, rfl⟩
abbrev main_v857 : Ref sig .tc := ⟨.hbm, 976, rfl⟩
abbrev main_cst_88 : Ref sig .tc := ⟨.hbm, 977, rfl⟩
abbrev main_v858 : Ref sig .tc := ⟨.hbm, 978, rfl⟩
abbrev main_v859 : Ref sig .tc := ⟨.hbm, 979, rfl⟩
abbrev main_v860 : Ref sig .tc := ⟨.hbm, 980, rfl⟩
abbrev main_v861 : Ref sig .tc := ⟨.hbm, 981, rfl⟩
abbrev main_cst_89 : Ref sig .tc := ⟨.hbm, 982, rfl⟩
abbrev main_v862 : Ref sig .tc := ⟨.hbm, 983, rfl⟩
abbrev main_v863 : Ref sig .tc := ⟨.hbm, 984, rfl⟩
abbrev main_v864 : Ref sig .tc := ⟨.hbm, 985, rfl⟩
abbrev main_v865 : Ref sig .tc := ⟨.hbm, 986, rfl⟩
abbrev main_v866 : Ref sig .tc := ⟨.hbm, 987, rfl⟩
abbrev main_v867 : Ref sig .tc := ⟨.hbm, 988, rfl⟩
abbrev main_v868 : Ref sig .tc := ⟨.hbm, 989, rfl⟩
abbrev main_v869 : Ref sig .tc := ⟨.hbm, 990, rfl⟩
abbrev main_v870 : Ref sig .tc := ⟨.hbm, 991, rfl⟩
abbrev main_v871 : Ref sig .tc := ⟨.hbm, 992, rfl⟩
abbrev main_v872 : Ref sig .tc := ⟨.hbm, 993, rfl⟩
abbrev main_v873 : Ref sig .tc := ⟨.hbm, 994, rfl⟩
abbrev main_v874 : Ref sig .tc := ⟨.hbm, 995, rfl⟩
abbrev main_v875 : Ref sig .tc := ⟨.hbm, 996, rfl⟩
abbrev main_v876 : Ref sig .tc := ⟨.hbm, 997, rfl⟩
abbrev main_c_90 : Ref sig .tc := ⟨.hbm, 998, rfl⟩
abbrev main_call11_v0 : Ref sig .tc := ⟨.hbm, 999, rfl⟩
abbrev main_v877 : Ref sig .tc := ⟨.hbm, 1000, rfl⟩
abbrev main_v878 : Ref sig .tc := ⟨.hbm, 1001, rfl⟩
abbrev main_v879 : Ref sig .tc := ⟨.hbm, 1002, rfl⟩
abbrev main_v880 : Ref sig .tc := ⟨.hbm, 1003, rfl⟩
abbrev main_v881 : Ref sig .tc := ⟨.hbm, 1004, rfl⟩
abbrev main_v882 : Ref sig .tc := ⟨.hbm, 1005, rfl⟩
abbrev main_v883 : Ref sig .tc := ⟨.hbm, 1006, rfl⟩
abbrev main_v884 : Ref sig .tc := ⟨.hbm, 1007, rfl⟩
abbrev main_v885 : Ref sig .tc := ⟨.hbm, 1008, rfl⟩
abbrev main_v886 : Ref sig .tc := ⟨.hbm, 1009, rfl⟩
abbrev main_v887 : Ref sig .tc := ⟨.hbm, 1010, rfl⟩
abbrev main_v888 : Ref sig .tc := ⟨.hbm, 1011, rfl⟩
abbrev main_v889 : Ref sig .tc := ⟨.hbm, 1012, rfl⟩
abbrev main_v890 : Ref sig .tc := ⟨.hbm, 1013, rfl⟩
abbrev main_v891 : Ref sig .tc := ⟨.hbm, 1014, rfl⟩
abbrev main_v892 : Ref sig .tc := ⟨.hbm, 1015, rfl⟩
abbrev main_v893 : Ref sig .tc := ⟨.hbm, 1016, rfl⟩
abbrev main_v894 : Ref sig .tc := ⟨.hbm, 1017, rfl⟩
abbrev main_v895 : Ref sig .tc := ⟨.hbm, 1018, rfl⟩
abbrev main_v896 : Ref sig .tc := ⟨.hbm, 1019, rfl⟩
abbrev main_v897 : Ref sig .tc := ⟨.hbm, 1020, rfl⟩
abbrev main_v898 : Ref sig .tc := ⟨.hbm, 1021, rfl⟩
abbrev main_v899 : Ref sig .tc := ⟨.hbm, 1022, rfl⟩
abbrev main_v900 : Ref sig .tc := ⟨.hbm, 1023, rfl⟩
abbrev main_v901 : Ref sig .tc := ⟨.hbm, 1024, rfl⟩
abbrev main_v902 : Ref sig .tc := ⟨.hbm, 1025, rfl⟩
abbrev main_v903 : Ref sig .tc := ⟨.hbm, 1026, rfl⟩
abbrev main_v904 : Ref sig .tc := ⟨.hbm, 1027, rfl⟩
abbrev main_v905 : Ref sig .tc := ⟨.hbm, 1028, rfl⟩
abbrev main_v906 : Ref sig .tc := ⟨.hbm, 1029, rfl⟩
abbrev main_v907 : Ref sig .tc := ⟨.hbm, 1030, rfl⟩
abbrev main_v908 : Ref sig .tc := ⟨.hbm, 1031, rfl⟩
abbrev main_v909 : Ref sig .tc := ⟨.hbm, 1032, rfl⟩
abbrev main_cst_91 : Ref sig .tc := ⟨.hbm, 1033, rfl⟩
abbrev main_v910 : Ref sig .tc := ⟨.hbm, 1034, rfl⟩
abbrev main_v911 : Ref sig .tc := ⟨.hbm, 1035, rfl⟩
abbrev main_cst_92 : Ref sig .tc := ⟨.hbm, 1036, rfl⟩
abbrev main_v912 : Ref sig .tc := ⟨.hbm, 1037, rfl⟩
abbrev main_v913 : Ref sig .tc := ⟨.hbm, 1038, rfl⟩
abbrev main_v914 : Ref sig .tc := ⟨.hbm, 1039, rfl⟩
abbrev main_cst_93 : Ref sig .tc := ⟨.hbm, 1040, rfl⟩
abbrev main_v915 : Ref sig .tc := ⟨.hbm, 1041, rfl⟩
abbrev main_v916 : Ref sig .tc := ⟨.hbm, 1042, rfl⟩
abbrev main_v917 : Ref sig .tc := ⟨.hbm, 1043, rfl⟩
abbrev main_v918 : Ref sig .tc := ⟨.hbm, 1044, rfl⟩
abbrev main_v919 : Ref sig .tc := ⟨.hbm, 1045, rfl⟩
abbrev main_v920 : Ref sig .tc := ⟨.hbm, 1046, rfl⟩
abbrev main_v921 : Ref sig .tc := ⟨.hbm, 1047, rfl⟩
abbrev main_v922 : Ref sig .tc := ⟨.hbm, 1048, rfl⟩
abbrev main_v923 : Ref sig .tc := ⟨.hbm, 1049, rfl⟩
abbrev main_v924 : Ref sig .tc := ⟨.hbm, 1050, rfl⟩
abbrev main_v925 : Ref sig .tc := ⟨.hbm, 1051, rfl⟩
abbrev main_v926 : Ref sig .tc := ⟨.hbm, 1052, rfl⟩
abbrev main_v927 : Ref sig .tc := ⟨.hbm, 1053, rfl⟩
abbrev main_v928 : Ref sig .tc := ⟨.hbm, 1054, rfl⟩
abbrev main_v929 : Ref sig .tc := ⟨.hbm, 1055, rfl⟩
abbrev main_v930 : Ref sig .tc := ⟨.hbm, 1056, rfl⟩
abbrev main_v931 : Ref sig .tc := ⟨.hbm, 1057, rfl⟩
abbrev main_v932 : Ref sig .tc := ⟨.hbm, 1058, rfl⟩
abbrev main_cst_94 : Ref sig .tc := ⟨.hbm, 1059, rfl⟩
abbrev main_v933 : Ref sig .tc := ⟨.hbm, 1060, rfl⟩
abbrev main_cst_95 : Ref sig .tc := ⟨.hbm, 1061, rfl⟩
abbrev main_v934 : Ref sig .tc := ⟨.hbm, 1062, rfl⟩
abbrev main_v935 : Ref sig .tc := ⟨.hbm, 1063, rfl⟩
abbrev main_v936 : Ref sig .tc := ⟨.hbm, 1064, rfl⟩
abbrev main_v937 : Ref sig .tc := ⟨.hbm, 1065, rfl⟩
abbrev main_v938 : Ref sig .tc := ⟨.hbm, 1066, rfl⟩
abbrev main_v939 : Ref sig .tc := ⟨.hbm, 1067, rfl⟩
abbrev main_v940 : Ref sig .tc := ⟨.hbm, 1068, rfl⟩
abbrev main_v941 : Ref sig .tc := ⟨.hbm, 1069, rfl⟩
abbrev main_cst_96 : Ref sig .tc := ⟨.hbm, 1070, rfl⟩
abbrev main_v942 : Ref sig .tc := ⟨.hbm, 1071, rfl⟩
abbrev main_v943 : Ref sig .tc := ⟨.hbm, 1072, rfl⟩
abbrev main_cst_97 : Ref sig .tc := ⟨.hbm, 1073, rfl⟩
abbrev main_v944 : Ref sig .tc := ⟨.hbm, 1074, rfl⟩
abbrev main_v945 : Ref sig .tc := ⟨.hbm, 1075, rfl⟩
abbrev main_v946 : Ref sig .tc := ⟨.hbm, 1076, rfl⟩
abbrev main_v947 : Ref sig .tc := ⟨.hbm, 1077, rfl⟩
abbrev main_v948 : Ref sig .tc := ⟨.hbm, 1078, rfl⟩
abbrev main_cst_98 : Ref sig .tc := ⟨.hbm, 1079, rfl⟩
abbrev main_v949 : Ref sig .tc := ⟨.hbm, 1080, rfl⟩
abbrev main_v950 : Ref sig .tc := ⟨.hbm, 1081, rfl⟩
abbrev main_cst_99 : Ref sig .tc := ⟨.hbm, 1082, rfl⟩
abbrev main_v951 : Ref sig .tc := ⟨.hbm, 1083, rfl⟩
abbrev main_v952 : Ref sig .tc := ⟨.hbm, 1084, rfl⟩
abbrev main_v953 : Ref sig .tc := ⟨.hbm, 1085, rfl⟩
abbrev main_v954 : Ref sig .tc := ⟨.hbm, 1086, rfl⟩
abbrev main_cst_100 : Ref sig .tc := ⟨.hbm, 1087, rfl⟩
abbrev main_v955 : Ref sig .tc := ⟨.hbm, 1088, rfl⟩
abbrev main_v956 : Ref sig .tc := ⟨.hbm, 1089, rfl⟩
abbrev main_v957 : Ref sig .tc := ⟨.hbm, 1090, rfl⟩
abbrev main_v958 : Ref sig .tc := ⟨.hbm, 1091, rfl⟩
abbrev main_v959 : Ref sig .tc := ⟨.hbm, 1092, rfl⟩
abbrev main_v960 : Ref sig .tc := ⟨.hbm, 1093, rfl⟩
abbrev main_v961 : Ref sig .tc := ⟨.hbm, 1094, rfl⟩
abbrev main_v962 : Ref sig .tc := ⟨.hbm, 1095, rfl⟩
abbrev main_v963 : Ref sig .tc := ⟨.hbm, 1096, rfl⟩
abbrev main_v964 : Ref sig .tc := ⟨.hbm, 1097, rfl⟩
abbrev main_v965 : Ref sig .tc := ⟨.hbm, 1098, rfl⟩
abbrev main_v966 : Ref sig .tc := ⟨.hbm, 1099, rfl⟩
abbrev main_v967 : Ref sig .tc := ⟨.hbm, 1100, rfl⟩
abbrev main_v968 : Ref sig .tc := ⟨.hbm, 1101, rfl⟩
abbrev main_v969 : Ref sig .tc := ⟨.hbm, 1102, rfl⟩
abbrev main_c_101 : Ref sig .tc := ⟨.hbm, 1103, rfl⟩
abbrev main_call12_v0 : Ref sig .tc := ⟨.hbm, 1104, rfl⟩
abbrev main_v970 : Ref sig .tc := ⟨.hbm, 1105, rfl⟩
abbrev main_v971 : Ref sig .tc := ⟨.hbm, 1106, rfl⟩
abbrev main_v972 : Ref sig .tc := ⟨.hbm, 1107, rfl⟩
abbrev main_v973 : Ref sig .tc := ⟨.hbm, 1108, rfl⟩
abbrev main_v974 : Ref sig .tc := ⟨.hbm, 1109, rfl⟩
abbrev main_v975 : Ref sig .tc := ⟨.hbm, 1110, rfl⟩
abbrev main_v976 : Ref sig .tc := ⟨.hbm, 1111, rfl⟩
abbrev main_v977 : Ref sig .tc := ⟨.hbm, 1112, rfl⟩
abbrev main_v978 : Ref sig .tc := ⟨.hbm, 1113, rfl⟩
abbrev main_v979 : Ref sig .tc := ⟨.hbm, 1114, rfl⟩
abbrev main_v980 : Ref sig .tc := ⟨.hbm, 1115, rfl⟩
abbrev main_v981 : Ref sig .tc := ⟨.hbm, 1116, rfl⟩
abbrev main_v982 : Ref sig .tc := ⟨.hbm, 1117, rfl⟩
abbrev main_v983 : Ref sig .tc := ⟨.hbm, 1118, rfl⟩
abbrev main_v984 : Ref sig .tc := ⟨.hbm, 1119, rfl⟩
abbrev main_v985 : Ref sig .tc := ⟨.hbm, 1120, rfl⟩
abbrev main_v986 : Ref sig .tc := ⟨.hbm, 1121, rfl⟩
abbrev main_v987 : Ref sig .tc := ⟨.hbm, 1122, rfl⟩
abbrev main_v988 : Ref sig .tc := ⟨.hbm, 1123, rfl⟩
abbrev main_v989 : Ref sig .tc := ⟨.hbm, 1124, rfl⟩
abbrev main_v990 : Ref sig .tc := ⟨.hbm, 1125, rfl⟩
abbrev main_v991 : Ref sig .tc := ⟨.hbm, 1126, rfl⟩
abbrev main_v992 : Ref sig .tc := ⟨.hbm, 1127, rfl⟩
abbrev main_v993 : Ref sig .tc := ⟨.hbm, 1128, rfl⟩
abbrev main_v994 : Ref sig .tc := ⟨.hbm, 1129, rfl⟩
abbrev main_v995 : Ref sig .tc := ⟨.hbm, 1130, rfl⟩
abbrev main_v996 : Ref sig .tc := ⟨.hbm, 1131, rfl⟩
abbrev main_v997 : Ref sig .tc := ⟨.hbm, 1132, rfl⟩
abbrev main_v998 : Ref sig .tc := ⟨.hbm, 1133, rfl⟩
abbrev main_v999 : Ref sig .tc := ⟨.hbm, 1134, rfl⟩
abbrev main_v1000 : Ref sig .tc := ⟨.hbm, 1135, rfl⟩
abbrev main_v1001 : Ref sig .tc := ⟨.hbm, 1136, rfl⟩
abbrev main_v1002 : Ref sig .tc := ⟨.hbm, 1137, rfl⟩
abbrev main_cst_102 : Ref sig .tc := ⟨.hbm, 1138, rfl⟩
abbrev main_v1003 : Ref sig .tc := ⟨.hbm, 1139, rfl⟩
abbrev main_v1004 : Ref sig .tc := ⟨.hbm, 1140, rfl⟩
abbrev main_cst_103 : Ref sig .tc := ⟨.hbm, 1141, rfl⟩
abbrev main_v1005 : Ref sig .tc := ⟨.hbm, 1142, rfl⟩
abbrev main_v1006 : Ref sig .tc := ⟨.hbm, 1143, rfl⟩
abbrev main_v1007 : Ref sig .tc := ⟨.hbm, 1144, rfl⟩
abbrev main_cst_104 : Ref sig .tc := ⟨.hbm, 1145, rfl⟩
abbrev main_v1008 : Ref sig .tc := ⟨.hbm, 1146, rfl⟩
abbrev main_v1009 : Ref sig .tc := ⟨.hbm, 1147, rfl⟩
abbrev main_v1010 : Ref sig .tc := ⟨.hbm, 1148, rfl⟩
abbrev main_v1011 : Ref sig .tc := ⟨.hbm, 1149, rfl⟩
abbrev main_v1012 : Ref sig .tc := ⟨.hbm, 1150, rfl⟩
abbrev main_v1013 : Ref sig .tc := ⟨.hbm, 1151, rfl⟩
abbrev main_v1014 : Ref sig .tc := ⟨.hbm, 1152, rfl⟩
abbrev main_v1015 : Ref sig .tc := ⟨.hbm, 1153, rfl⟩
abbrev main_v1016 : Ref sig .tc := ⟨.hbm, 1154, rfl⟩
abbrev main_v1017 : Ref sig .tc := ⟨.hbm, 1155, rfl⟩
abbrev main_v1018 : Ref sig .tc := ⟨.hbm, 1156, rfl⟩
abbrev main_v1019 : Ref sig .tc := ⟨.hbm, 1157, rfl⟩
abbrev main_v1020 : Ref sig .tc := ⟨.hbm, 1158, rfl⟩
abbrev main_v1021 : Ref sig .tc := ⟨.hbm, 1159, rfl⟩
abbrev main_v1022 : Ref sig .tc := ⟨.hbm, 1160, rfl⟩
abbrev main_v1023 : Ref sig .tc := ⟨.hbm, 1161, rfl⟩
abbrev main_v1024 : Ref sig .tc := ⟨.hbm, 1162, rfl⟩
abbrev main_v1025 : Ref sig .tc := ⟨.hbm, 1163, rfl⟩
abbrev main_v1026 : Ref sig .tc := ⟨.hbm, 1164, rfl⟩
abbrev main_v1027 : Ref sig .tc := ⟨.hbm, 1165, rfl⟩
abbrev main_v1028 : Ref sig .tc := ⟨.hbm, 1166, rfl⟩
abbrev main_cst_105 : Ref sig .tc := ⟨.hbm, 1167, rfl⟩
abbrev main_v1029 : Ref sig .tc := ⟨.hbm, 1168, rfl⟩
abbrev main_v1030 : Ref sig .tc := ⟨.hbm, 1169, rfl⟩
abbrev main_cst_106 : Ref sig .tc := ⟨.hbm, 1170, rfl⟩
abbrev main_v1031 : Ref sig .tc := ⟨.hbm, 1171, rfl⟩
abbrev main_v1032 : Ref sig .tc := ⟨.hbm, 1172, rfl⟩
abbrev main_v1033 : Ref sig .tc := ⟨.hbm, 1173, rfl⟩
abbrev main_v1034 : Ref sig .tc := ⟨.hbm, 1174, rfl⟩
abbrev main_v1035 : Ref sig .tc := ⟨.hbm, 1175, rfl⟩
abbrev main_cst_107 : Ref sig .tc := ⟨.hbm, 1176, rfl⟩
abbrev main_v1036 : Ref sig .tc := ⟨.hbm, 1177, rfl⟩
abbrev main_v1037 : Ref sig .tc := ⟨.hbm, 1178, rfl⟩
abbrev main_cst_108 : Ref sig .tc := ⟨.hbm, 1179, rfl⟩
abbrev main_v1038 : Ref sig .tc := ⟨.hbm, 1180, rfl⟩
abbrev main_v1039 : Ref sig .tc := ⟨.hbm, 1181, rfl⟩
abbrev main_v1040 : Ref sig .tc := ⟨.hbm, 1182, rfl⟩
abbrev main_v1041 : Ref sig .tc := ⟨.hbm, 1183, rfl⟩
abbrev main_cst_109 : Ref sig .tc := ⟨.hbm, 1184, rfl⟩
abbrev main_v1042 : Ref sig .tc := ⟨.hbm, 1185, rfl⟩
abbrev main_v1043 : Ref sig .tc := ⟨.hbm, 1186, rfl⟩
abbrev main_v1044 : Ref sig .tc := ⟨.hbm, 1187, rfl⟩
abbrev main_v1045 : Ref sig .tc := ⟨.hbm, 1188, rfl⟩
abbrev main_v1046 : Ref sig .tc := ⟨.hbm, 1189, rfl⟩
abbrev main_v1047 : Ref sig .tc := ⟨.hbm, 1190, rfl⟩
abbrev main_v1048 : Ref sig .tc := ⟨.hbm, 1191, rfl⟩
abbrev main_v1049 : Ref sig .tc := ⟨.hbm, 1192, rfl⟩
abbrev main_v1050 : Ref sig .tc := ⟨.hbm, 1193, rfl⟩
abbrev main_v1051 : Ref sig .tc := ⟨.hbm, 1194, rfl⟩
abbrev main_v1052 : Ref sig .tc := ⟨.hbm, 1195, rfl⟩
abbrev main_v1053 : Ref sig .tc := ⟨.hbm, 1196, rfl⟩
abbrev main_v1054 : Ref sig .tc := ⟨.hbm, 1197, rfl⟩
abbrev main_v1055 : Ref sig .tc := ⟨.hbm, 1198, rfl⟩
abbrev main_v1056 : Ref sig .tc := ⟨.hbm, 1199, rfl⟩
abbrev main_c_110 : Ref sig .tc := ⟨.hbm, 1200, rfl⟩
abbrev main_call13_v0 : Ref sig .tc := ⟨.hbm, 1201, rfl⟩
abbrev main_v1057 : Ref sig .tc := ⟨.hbm, 1202, rfl⟩
abbrev main_v1058 : Ref sig .tc := ⟨.hbm, 1203, rfl⟩
abbrev main_v1059 : Ref sig .tc := ⟨.hbm, 1204, rfl⟩
abbrev main_v1060 : Ref sig .tc := ⟨.hbm, 1205, rfl⟩
abbrev main_v1061 : Ref sig .tc := ⟨.hbm, 1206, rfl⟩
abbrev main_v1062 : Ref sig .tc := ⟨.hbm, 1207, rfl⟩
abbrev main_v1063 : Ref sig .tc := ⟨.hbm, 1208, rfl⟩
abbrev main_v1064 : Ref sig .tc := ⟨.hbm, 1209, rfl⟩
abbrev main_v1065 : Ref sig .tc := ⟨.hbm, 1210, rfl⟩
abbrev main_v1066 : Ref sig .tc := ⟨.hbm, 1211, rfl⟩
abbrev main_v1067 : Ref sig .tc := ⟨.hbm, 1212, rfl⟩
abbrev main_v1068 : Ref sig .tc := ⟨.hbm, 1213, rfl⟩
abbrev main_v1069 : Ref sig .tc := ⟨.hbm, 1214, rfl⟩
abbrev main_v1070 : Ref sig .tc := ⟨.hbm, 1215, rfl⟩
abbrev main_v1071 : Ref sig .tc := ⟨.hbm, 1216, rfl⟩
abbrev main_v1072 : Ref sig .tc := ⟨.hbm, 1217, rfl⟩
abbrev main_v1073 : Ref sig .tc := ⟨.hbm, 1218, rfl⟩
abbrev main_v1074 : Ref sig .tc := ⟨.hbm, 1219, rfl⟩
abbrev main_v1075 : Ref sig .tc := ⟨.hbm, 1220, rfl⟩
abbrev main_v1076 : Ref sig .tc := ⟨.hbm, 1221, rfl⟩
abbrev main_v1077 : Ref sig .tc := ⟨.hbm, 1222, rfl⟩
abbrev main_v1078 : Ref sig .tc := ⟨.hbm, 1223, rfl⟩
abbrev main_v1079 : Ref sig .tc := ⟨.hbm, 1224, rfl⟩
abbrev main_v1080 : Ref sig .tc := ⟨.hbm, 1225, rfl⟩
abbrev main_v1081 : Ref sig .tc := ⟨.hbm, 1226, rfl⟩
abbrev main_v1082 : Ref sig .tc := ⟨.hbm, 1227, rfl⟩
abbrev main_v1083 : Ref sig .tc := ⟨.hbm, 1228, rfl⟩
abbrev main_v1084 : Ref sig .tc := ⟨.hbm, 1229, rfl⟩
abbrev main_v1085 : Ref sig .tc := ⟨.hbm, 1230, rfl⟩
abbrev main_v1086 : Ref sig .tc := ⟨.hbm, 1231, rfl⟩
abbrev main_v1087 : Ref sig .tc := ⟨.hbm, 1232, rfl⟩
abbrev main_v1088 : Ref sig .tc := ⟨.hbm, 1233, rfl⟩
abbrev main_v1089 : Ref sig .tc := ⟨.hbm, 1234, rfl⟩
abbrev main_cst_111 : Ref sig .tc := ⟨.hbm, 1235, rfl⟩
abbrev main_v1090 : Ref sig .tc := ⟨.hbm, 1236, rfl⟩
abbrev main_v1091 : Ref sig .tc := ⟨.hbm, 1237, rfl⟩
abbrev main_cst_112 : Ref sig .tc := ⟨.hbm, 1238, rfl⟩
abbrev main_v1092 : Ref sig .tc := ⟨.hbm, 1239, rfl⟩
abbrev main_v1093 : Ref sig .tc := ⟨.hbm, 1240, rfl⟩
abbrev main_v1094 : Ref sig .tc := ⟨.hbm, 1241, rfl⟩
abbrev main_cst_113 : Ref sig .tc := ⟨.hbm, 1242, rfl⟩
abbrev main_v1095 : Ref sig .tc := ⟨.hbm, 1243, rfl⟩
abbrev main_v1096 : Ref sig .tc := ⟨.hbm, 1244, rfl⟩
abbrev main_v1097 : Ref sig .tc := ⟨.hbm, 1245, rfl⟩
abbrev main_v1098 : Ref sig .tc := ⟨.hbm, 1246, rfl⟩
abbrev main_v1099 : Ref sig .tc := ⟨.hbm, 1247, rfl⟩
abbrev main_v1100 : Ref sig .tc := ⟨.hbm, 1248, rfl⟩
abbrev main_v1101 : Ref sig .tc := ⟨.hbm, 1249, rfl⟩
abbrev main_v1102 : Ref sig .tc := ⟨.hbm, 1250, rfl⟩
abbrev main_v1103 : Ref sig .tc := ⟨.hbm, 1251, rfl⟩
abbrev main_v1104 : Ref sig .tc := ⟨.hbm, 1252, rfl⟩
abbrev main_v1105 : Ref sig .tc := ⟨.hbm, 1253, rfl⟩
abbrev main_v1106 : Ref sig .tc := ⟨.hbm, 1254, rfl⟩
abbrev main_v1107 : Ref sig .tc := ⟨.hbm, 1255, rfl⟩
abbrev main_v1108 : Ref sig .tc := ⟨.hbm, 1256, rfl⟩
abbrev main_v1109 : Ref sig .tc := ⟨.hbm, 1257, rfl⟩
abbrev main_v1110 : Ref sig .tc := ⟨.hbm, 1258, rfl⟩
abbrev main_v1111 : Ref sig .tc := ⟨.hbm, 1259, rfl⟩
abbrev main_v1112 : Ref sig .tc := ⟨.hbm, 1260, rfl⟩
abbrev main_v1113 : Ref sig .tc := ⟨.hbm, 1261, rfl⟩
abbrev main_cst_114 : Ref sig .tc := ⟨.hbm, 1262, rfl⟩
abbrev main_v1114 : Ref sig .tc := ⟨.hbm, 1263, rfl⟩
abbrev main_v1115 : Ref sig .tc := ⟨.hbm, 1264, rfl⟩
abbrev main_cst_115 : Ref sig .tc := ⟨.hbm, 1265, rfl⟩
abbrev main_v1116 : Ref sig .tc := ⟨.hbm, 1266, rfl⟩
abbrev main_v1117 : Ref sig .tc := ⟨.hbm, 1267, rfl⟩
abbrev main_v1118 : Ref sig .tc := ⟨.hbm, 1268, rfl⟩
abbrev main_v1119 : Ref sig .tc := ⟨.hbm, 1269, rfl⟩
abbrev main_v1120 : Ref sig .tc := ⟨.hbm, 1270, rfl⟩
abbrev main_cst_116 : Ref sig .tc := ⟨.hbm, 1271, rfl⟩
abbrev main_v1121 : Ref sig .tc := ⟨.hbm, 1272, rfl⟩
abbrev main_v1122 : Ref sig .tc := ⟨.hbm, 1273, rfl⟩
abbrev main_cst_117 : Ref sig .tc := ⟨.hbm, 1274, rfl⟩
abbrev main_v1123 : Ref sig .tc := ⟨.hbm, 1275, rfl⟩
abbrev main_v1124 : Ref sig .tc := ⟨.hbm, 1276, rfl⟩
abbrev main_v1125 : Ref sig .tc := ⟨.hbm, 1277, rfl⟩
abbrev main_v1126 : Ref sig .tc := ⟨.hbm, 1278, rfl⟩
abbrev main_cst_118 : Ref sig .tc := ⟨.hbm, 1279, rfl⟩
abbrev main_v1127 : Ref sig .tc := ⟨.hbm, 1280, rfl⟩
abbrev main_v1128 : Ref sig .tc := ⟨.hbm, 1281, rfl⟩
abbrev main_v1129 : Ref sig .tc := ⟨.hbm, 1282, rfl⟩
abbrev main_v1130 : Ref sig .tc := ⟨.hbm, 1283, rfl⟩
abbrev main_v1131 : Ref sig .tc := ⟨.hbm, 1284, rfl⟩
abbrev main_v1132 : Ref sig .tc := ⟨.hbm, 1285, rfl⟩
abbrev main_v1133 : Ref sig .tc := ⟨.hbm, 1286, rfl⟩
abbrev main_v1134 : Ref sig .tc := ⟨.hbm, 1287, rfl⟩
abbrev main_v1135 : Ref sig .tc := ⟨.hbm, 1288, rfl⟩
abbrev main_v1136 : Ref sig .tc := ⟨.hbm, 1289, rfl⟩
abbrev main_v1137 : Ref sig .tc := ⟨.hbm, 1290, rfl⟩
abbrev main_v1138 : Ref sig .tc := ⟨.hbm, 1291, rfl⟩
abbrev main_v1139 : Ref sig .tc := ⟨.hbm, 1292, rfl⟩
abbrev main_c_119 : Ref sig .tc := ⟨.hbm, 1293, rfl⟩
abbrev main_call14_v0 : Ref sig .tc := ⟨.hbm, 1294, rfl⟩
abbrev main_v1140 : Ref sig .tc := ⟨.hbm, 1295, rfl⟩
abbrev main_v1141 : Ref sig .tc := ⟨.hbm, 1296, rfl⟩
abbrev main_v1142 : Ref sig .tc := ⟨.hbm, 1297, rfl⟩
abbrev main_v1143 : Ref sig .tc := ⟨.hbm, 1298, rfl⟩
abbrev main_v1144 : Ref sig .tc := ⟨.hbm, 1299, rfl⟩
abbrev main_v1145 : Ref sig .tc := ⟨.hbm, 1300, rfl⟩
abbrev main_v1146 : Ref sig .tc := ⟨.hbm, 1301, rfl⟩
abbrev main_v1147 : Ref sig .tc := ⟨.hbm, 1302, rfl⟩
abbrev main_v1148 : Ref sig .tc := ⟨.hbm, 1303, rfl⟩
abbrev main_v1149 : Ref sig .tc := ⟨.hbm, 1304, rfl⟩
abbrev main_v1150 : Ref sig .tc := ⟨.hbm, 1305, rfl⟩
abbrev main_v1151 : Ref sig .tc := ⟨.hbm, 1306, rfl⟩
abbrev main_v1152 : Ref sig .tc := ⟨.hbm, 1307, rfl⟩
abbrev main_v1153 : Ref sig .tc := ⟨.hbm, 1308, rfl⟩
abbrev main_v1154 : Ref sig .tc := ⟨.hbm, 1309, rfl⟩
abbrev main_v1155 : Ref sig .tc := ⟨.hbm, 1310, rfl⟩
abbrev main_v1156 : Ref sig .tc := ⟨.hbm, 1311, rfl⟩
abbrev main_v1157 : Ref sig .tc := ⟨.hbm, 1312, rfl⟩
abbrev main_v1158 : Ref sig .tc := ⟨.hbm, 1313, rfl⟩
abbrev main_v1159 : Ref sig .tc := ⟨.hbm, 1314, rfl⟩
abbrev main_v1160 : Ref sig .tc := ⟨.hbm, 1315, rfl⟩
abbrev main_v1161 : Ref sig .tc := ⟨.hbm, 1316, rfl⟩
abbrev main_v1162 : Ref sig .tc := ⟨.hbm, 1317, rfl⟩
abbrev main_v1163 : Ref sig .tc := ⟨.hbm, 1318, rfl⟩
abbrev main_v1164 : Ref sig .tc := ⟨.hbm, 1319, rfl⟩
abbrev main_v1165 : Ref sig .tc := ⟨.hbm, 1320, rfl⟩
abbrev main_cst_120 : Ref sig .tc := ⟨.hbm, 1321, rfl⟩
abbrev main_v1166 : Ref sig .tc := ⟨.hbm, 1322, rfl⟩
abbrev main_v1167 : Ref sig .tc := ⟨.hbm, 1323, rfl⟩
abbrev main_v1168 : Ref sig .tc := ⟨.hbm, 1324, rfl⟩
abbrev main_cst_121 : Ref sig .tc := ⟨.hbm, 1325, rfl⟩
abbrev main_v1169 : Ref sig .tc := ⟨.hbm, 1326, rfl⟩
abbrev main_v1170 : Ref sig .tc := ⟨.hbm, 1327, rfl⟩
abbrev main_v1171 : Ref sig .tc := ⟨.hbm, 1328, rfl⟩
abbrev main_v1172 : Ref sig .tc := ⟨.hbm, 1329, rfl⟩
abbrev main_v1173 : Ref sig .tc := ⟨.hbm, 1330, rfl⟩
abbrev main_v1174 : Ref sig .tc := ⟨.hbm, 1331, rfl⟩
abbrev main_v1175 : Ref sig .tc := ⟨.hbm, 1332, rfl⟩
abbrev main_cst_122 : Ref sig .tc := ⟨.hbm, 1333, rfl⟩
abbrev main_v1176 : Ref sig .tc := ⟨.hbm, 1334, rfl⟩
abbrev main_v1177 : Ref sig .tc := ⟨.hbm, 1335, rfl⟩
abbrev main_v1178 : Ref sig .tc := ⟨.hbm, 1336, rfl⟩
abbrev main_call15_v0 : Ref sig .tc := ⟨.hbm, 1337, rfl⟩
abbrev main_call15_cst : Ref sig .tc := ⟨.hbm, 1338, rfl⟩
abbrev main_call15_c : Ref sig .tc := ⟨.hbm, 1339, rfl⟩
abbrev main_call15_v1_0 : Ref sig .tc := ⟨.hbm, 1340, rfl⟩
abbrev main_v1179 : Ref sig .tc := ⟨.hbm, 1341, rfl⟩
abbrev main_call16_c : Ref sig .tc := ⟨.hbm, 1342, rfl⟩
abbrev main_call16_v0 : Ref sig .tc := ⟨.hbm, 1343, rfl⟩
abbrev main_call16_v1 : Ref sig .tc := ⟨.hbm, 1344, rfl⟩
abbrev main_call16_c_0 : Ref sig .tc := ⟨.hbm, 1345, rfl⟩
abbrev main_call16_v2 : Ref sig .tc := ⟨.hbm, 1346, rfl⟩
abbrev main_call16_v3 : Ref sig .tc := ⟨.hbm, 1347, rfl⟩
abbrev main_call16_v4 : Ref sig .tc := ⟨.hbm, 1348, rfl⟩
abbrev main_call16_v5 : Ref sig .tc := ⟨.hbm, 1349, rfl⟩
abbrev main_call16_c_1 : Ref sig .tc := ⟨.hbm, 1350, rfl⟩
abbrev main_call16_c_2 : Ref sig .tc := ⟨.hbm, 1351, rfl⟩
abbrev main_call16_v6 : Ref sig .tc := ⟨.hbm, 1352, rfl⟩
abbrev main_call16_v7 : Ref sig .tc := ⟨.hbm, 1353, rfl⟩
abbrev main_call16_v8 : Ref sig .tc := ⟨.hbm, 1354, rfl⟩
abbrev main_call16_v9 : Ref sig .tc := ⟨.hbm, 1355, rfl⟩
abbrev main_call16_v10 : Ref sig .tc := ⟨.hbm, 1356, rfl⟩
abbrev main_call16_v11 : Ref sig .tc := ⟨.hbm, 1357, rfl⟩
abbrev main_call16_c_3 : Ref sig .tc := ⟨.hbm, 1358, rfl⟩
abbrev main_call16_v12 : Ref sig .tc := ⟨.hbm, 1359, rfl⟩
abbrev main_call16_v13 : Ref sig .tc := ⟨.hbm, 1360, rfl⟩
abbrev main_call16_v14 : Ref sig .tc := ⟨.hbm, 1361, rfl⟩
abbrev main_call16_cst : Ref sig .tc := ⟨.hbm, 1362, rfl⟩
abbrev main_call16_v15 : Ref sig .tc := ⟨.hbm, 1363, rfl⟩
abbrev main_v1180 : Ref sig .tc := ⟨.hbm, 1364, rfl⟩
abbrev main_v1181 : Ref sig .tc := ⟨.hbm, 1365, rfl⟩
abbrev main_call17_v0 : Ref sig .tc := ⟨.hbm, 1366, rfl⟩
abbrev main_call17_v1 : Ref sig .tc := ⟨.hbm, 1367, rfl⟩
abbrev main_call17_v2 : Ref sig .tc := ⟨.hbm, 1368, rfl⟩
abbrev main_call17_v3 : Ref sig .tc := ⟨.hbm, 1369, rfl⟩
abbrev main_call17_v4 : Ref sig .tc := ⟨.hbm, 1370, rfl⟩
abbrev main_v1182 : Ref sig .tc := ⟨.hbm, 1371, rfl⟩
abbrev main_v1183 : Ref sig .tc := ⟨.hbm, 1372, rfl⟩
abbrev main_v1184 : Ref sig .tc := ⟨.hbm, 1373, rfl⟩
abbrev main_v1185 : Ref sig .tc := ⟨.hbm, 1374, rfl⟩
abbrev main_cst_123 : Ref sig .tc := ⟨.hbm, 1375, rfl⟩
abbrev main_v1186 : Ref sig .tc := ⟨.hbm, 1376, rfl⟩
abbrev main_cst_124 : Ref sig .tc := ⟨.hbm, 1377, rfl⟩
abbrev main_v1187 : Ref sig .tc := ⟨.hbm, 1378, rfl⟩
abbrev main_v1188 : Ref sig .tc := ⟨.hbm, 1379, rfl⟩
abbrev main_v1189 : Ref sig .tc := ⟨.hbm, 1380, rfl⟩
abbrev main_cst_125 : Ref sig .tc := ⟨.hbm, 1381, rfl⟩
abbrev main_v1190 : Ref sig .tc := ⟨.hbm, 1382, rfl⟩
abbrev main_cst_126 : Ref sig .tc := ⟨.hbm, 1383, rfl⟩
abbrev main_v1191 : Ref sig .tc := ⟨.hbm, 1384, rfl⟩
abbrev main_v1192 : Ref sig .tc := ⟨.hbm, 1385, rfl⟩
abbrev main_v1193 : Ref sig .tc := ⟨.hbm, 1386, rfl⟩
abbrev main_cst_127 : Ref sig .tc := ⟨.hbm, 1387, rfl⟩
abbrev main_v1194 : Ref sig .tc := ⟨.hbm, 1388, rfl⟩
abbrev main_cst_128 : Ref sig .tc := ⟨.hbm, 1389, rfl⟩
abbrev main_v1195 : Ref sig .tc := ⟨.hbm, 1390, rfl⟩
abbrev main_v1196 : Ref sig .tc := ⟨.hbm, 1391, rfl⟩
abbrev main_cst_129 : Ref sig .tc := ⟨.hbm, 1392, rfl⟩
abbrev main_v1197 : Ref sig .tc := ⟨.hbm, 1393, rfl⟩
abbrev main_v1198 : Ref sig .tc := ⟨.hbm, 1394, rfl⟩
abbrev main_v1199 : Ref sig .tc := ⟨.hbm, 1395, rfl⟩
abbrev main_cst_130 : Ref sig .tc := ⟨.hbm, 1396, rfl⟩
abbrev main_v1200 : Ref sig .tc := ⟨.hbm, 1397, rfl⟩
abbrev main_cst_131 : Ref sig .tc := ⟨.hbm, 1398, rfl⟩
abbrev main_v1201 : Ref sig .tc := ⟨.hbm, 1399, rfl⟩
abbrev main_v1202 : Ref sig .tc := ⟨.hbm, 1400, rfl⟩
abbrev main_cst_132 : Ref sig .tc := ⟨.hbm, 1401, rfl⟩
abbrev main_v1203 : Ref sig .tc := ⟨.hbm, 1402, rfl⟩
abbrev main_v1204 : Ref sig .tc := ⟨.hbm, 1403, rfl⟩
abbrev main_v1205 : Ref sig .tc := ⟨.hbm, 1404, rfl⟩
abbrev main_v1206 : Ref sig .tc := ⟨.hbm, 1405, rfl⟩
abbrev main_cst_133 : Ref sig .tc := ⟨.hbm, 1406, rfl⟩
abbrev main_v1207 : Ref sig .tc := ⟨.hbm, 1407, rfl⟩
abbrev main_v1208 : Ref sig .tc := ⟨.hbm, 1408, rfl⟩
abbrev main_v1209 : Ref sig .tc := ⟨.hbm, 1409, rfl⟩

abbrev nD : Nat := 1
abbrev τ : Topo := Topo.v7x

variable {F : FTy → Type} [FloatOps F]
-- ==== Proof.Base.lean ====
/- Facts shared by the frames and the value proof: a line of host operations leaves alone every buffer numbered below
   all the buffers it writes, and a chain of lines is run line by line. -/
module

public import Idealize.ShloMosaic.Lib.StableHlo.Run
public import Idealize.ShloMosaic.Lib.StableHlo.RunHlo
public import Idealize.ShloMosaic.Lib.StableHlo.RunRead

@[expose] public section

noncomputable section

namespace Cert.Base

open Idealize.ShloMosaic

variable {τ : Topo} {sig : RefSig} {Val : EltTy → Type}

/-- The operation writes no TensorCore buffer numbered below `n`. -/
def Above (n : ℕ) (op : HloOp τ sig Val) : Prop := ∀ b : Ref sig .tc, b.idx.val < n → Proc.devRef .tc b ∉ op.writes

/-- An operation whose one result is numbered `n` or more writes nothing below `n`. -/
theorem above_of {n : ℕ} {op : HloOp τ sig Val} {y : Ref sig .tc} (hw : op.writes = {Proc.devRef .tc y})
    (hy : n ≤ y.idx.val) : Above n op := by
  intro b hb h
  rw [hw, Finset.mem_singleton] at h
  obtain rfl := Proc.devRef_injective _ h
  exact absurd hb (Nat.not_lt.mpr hy)

/-- A line of operations writing nothing below `n` keeps every buffer below `n`. -/
theorem after_above {n : ℕ} {ops : List (HloOp τ sig Val)} (h : ops.Forall (Above n)) (V : Valuation τ sig Val)
    {b : Ref sig .tc} (hb : b.idx.val < n) :
    StableHlo.after ops V (Proc.devRef .tc b) = V (Proc.devRef .tc b) :=
  StableHlo.after_of_forall_not_mem ops V fun op ho => List.forall_iff_forall_mem.mp h op ho b hb

/-- A line followed by another. -/
theorem after_append (l l' : List (HloOp τ sig Val)) (V : Valuation τ sig Val) :
    StableHlo.after (l ++ l') V = StableHlo.after l' (StableHlo.after l V) := by
  induction l generalizing V with
  | nil => rfl
  | cons op l ih => exact ih (op.result V)

/-- A chain of lines, the first peeled off. -/
theorem after_flatten_cons (l : List (HloOp τ sig Val)) (ls : List (List (HloOp τ sig Val))) (V : Valuation τ sig Val) :
    StableHlo.after (List.flatten (l :: ls)) V = StableHlo.after (List.flatten ls) (StableHlo.after l V) := by
  rw [List.flatten_cons, after_append]

/-- A chain of lines none of which writes below `n`. -/
theorem flatten_above {n : ℕ} {ls : List (List (HloOp τ sig Val))} (h : ls.Forall fun l => l.Forall (Above n)) :
    (List.flatten ls).Forall (Above n) := by
  rw [List.forall_iff_forall_mem] at h ⊢
  intro op hop
  obtain ⟨l, hl, ho⟩ := List.mem_flatten.mp hop
  exact List.forall_iff_forall_mem.mp (h l hl) op ho

/-- Writing nothing below `n` is writing nothing below a smaller number. -/
theorem Above.mono {n k : ℕ} {ops : List (HloOp τ sig Val)} (h : ops.Forall (Above n)) (hk : k ≤ n) : ops.Forall (Above k) := by
  rw [List.forall_iff_forall_mem] at h ⊢
  exact fun op ho b hb => h op ho b (lt_of_lt_of_le hb hk)

end Cert.Base

end
-- ==== Proof.KIFrame.lean ====
/- The frame of the KernelIdeal program: @main around its one region, the arrays as the region finds them, the body's
   triple, the run, and the argument arrays unchanged at its end. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.Base

@[expose] public section

-- membership in a rectangle of production extents (`View.cover_of_tiled`): the elaborator's structural look
-- recurses once per coordinate of the long axes
set_option maxRecDepth 16384

noncomputable section

namespace Cert.KernelIdeal.Around

open Cert.KernelIdeal Cert.KernelIdeal.Gen Cert.Base

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`, `hostOps0_22`, `hostOps0_23`, `hostOps0_24`, `hostOps0_25`, `hostOps0_26`, `hostOps0_27`, `hostOps0_28`, `hostOps0_29`, `hostOps0_30`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 416000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## What the host lines leave alone -/

theorem hostOps0_above : (hostOps0 : List (HloOp τ sig (Elt F))).Forall (Above 18) := by
  simp only [List.Forall]; repeat' apply And.intro
  all_goals exact above_of rfl (by decide)
theorem hostOps0_1_above : (hostOps0_1 : List (HloOp τ sig (Elt F))).Forall (Above 34) := by
  simp only [List.Forall]; repeat' apply And.intro
  all_goals exact above_of rfl (by decide)
theorem hostOps0_2_above : (hostOps0_2 : List (HloOp τ sig (Elt F))).Forall (Above 36) := by
  simp only [List.Forall]; repeat' apply And.intro
  all_goals exact above_of rfl (by decide)
theorem hostOps0_3_above : (hostOps0_3 : List (HloOp τ sig (Elt F))).Forall (Above 89) := by
  simp only [List.Forall]; repeat' apply And.intro
  all_goals exact above_of rfl (by decide)
theorem hostOps0_4_above : (hostOps0_4 : List (HloOp τ sig (Elt F))).Forall (Above 91) := by
  simp only [List.Forall]; repeat' apply And.intro
  all_goals exact above_of rfl (by decide)
theorem hostOps0_5_above : (hostOps0_5 : List (HloOp τ sig (Elt F))).Forall (Above 144) := by
  simp only [List.Forall]; repeat' apply And.intro
  all_goals exact above_of rfl (by decide)
theorem hostOps0_6_above : (hostOps0_6 : List (HloOp τ sig (Elt F))).Forall (Above 146) := by
  simp only [List.Forall]; repeat' apply And.intro
  all_goals exact above_of rfl (by decide)
theorem hostOps0_7_above : (hostOps0_7 : List (HloOp τ sig (Elt F))).Forall (Above 199) := by
  simp only [List.Forall]; repeat' apply And.intro
  all_goals exact above_of rfl (by decide)
theorem hostOps0_8_above : (hostOps0_8 : List (HloOp τ sig (Elt F))).Forall (Above 201) := by
  simp only [List.Forall]; repeat' apply And.intro
  all_goals exact above_of rfl (by decide)
theorem hostOps0_9_above : (hostOps0_9 : List (HloOp τ sig (Elt F))).Forall (Above 296) := by
  simp only [List.Forall]; repeat' apply And.intro
  all_goals exact above_of rfl (by decide)
theorem hostOps0_10_above : (hostOps0_10 : List (HloOp τ sig (Elt F))).Forall (Above 298) := by
  simp only [List.Forall]; repeat' apply And.intro
  all_goals exact above_of rfl (by decide)
theorem hostOps0_11_above : (hostOps0_11 : List (HloOp τ sig (Elt F))).Forall (Above 393) := by
  simp only [List.Forall]; repeat' apply And.intro
  all_goals exact above_of rfl (by decide)
theorem hostOps0_12_above : (hostOps0_12 : List (HloOp τ sig (Elt F))).Forall (Above 395) := by
  simp only [List.Forall]; repeat' apply And.intro
  all_goals exact above_of rfl (by decide)
theorem hostOps0_13_above : (hostOps0_13 : List (HloOp τ sig (Elt F))).Forall (Above 498) := by
  simp only [List.Forall]; repeat' apply And.intro
  all_goals exact above_of rfl (by decide)
theorem hostOps0_14_above : (hostOps0_14 : List (HloOp τ sig (Elt F))).Forall (Above 500) := by
  simp only [List.Forall]; repeat' apply And.intro
  all_goals exact above_of rfl (by decide)
theorem hostOps0_15_above : (hostOps0_15 : List (HloOp τ sig (Elt F))).Forall (Above 595) := by
  simp only [List.Forall]; repeat' apply And.intro
  all_goals exact above_of rfl (by decide)
theorem hostOps0_16_above : (hostOps0_16 : List (HloOp τ sig (Elt F))).Forall (Above 597) := by
  simp only [List.Forall]; repeat' apply And.intro
  all_goals exact above_of rfl (by decide)
theorem hostOps0_17_above : (hostOps0_17 : List (HloOp τ sig (Elt F))).Forall (Above 700) := by
  simp only [List.Forall]; repeat' apply And.intro
  all_goals exact above_of rfl (by decide)
theorem hostOps0_18_above : (hostOps0_18 : List (HloOp τ sig (Elt F))).Forall (Above 702) := by
  simp only [List.Forall]; repeat' apply And.intro
  all_goals exact above_of rfl (by decide)
theorem hostOps0_19_above : (hostOps0_19 : List (HloOp τ sig (Elt F))).Forall (Above 797) := by
  simp only [List.Forall]; repeat' apply And.intro
  all_goals exact above_of rfl (by decide)
theorem hostOps0_20_above : (hostOps0_20 : List (HloOp τ sig (Elt F))).Forall (Above 799) := by
  simp only [List.Forall]; repeat' apply And.intro
  all_goals exact above_of rfl (by decide)
theorem hostOps0_21_above : (hostOps0_21 : List (HloOp τ sig (Elt F))).Forall (Above 902) := by
  simp only [List.Forall]; repeat' apply And.intro
  all_goals exact above_of rfl (by decide)
theorem hostOps0_22_above : (hostOps0_22 : List (HloOp τ sig (Elt F))).Forall (Above 904) := by
  simp only [List.Forall]; repeat' apply And.intro
  all_goals exact above_of rfl (by decide)
theorem hostOps0_23_above : (hostOps0_23 : List (HloOp τ sig (Elt F))).Forall (Above 999) := by
  simp only [List.Forall]; repeat' apply And.intro
  all_goals exact above_of rfl (by decide)
theorem hostOps0_24_above : (hostOps0_24 : List (HloOp τ sig (Elt F))).Forall (Above 1001) := by
  simp only [List.Forall]; repeat' apply And.intro
  all_goals exact above_of rfl (by decide)
theorem hostOps0_25_above : (hostOps0_25 : List (HloOp τ sig (Elt F))).Forall (Above 1104) := by
  simp only [List.Forall]; repeat' apply And.intro
  all_goals exact above_of rfl (by decide)
theorem hostOps0_26_above : (hostOps0_26 : List (HloOp τ sig (Elt F))).Forall (Above 1106) := by
  simp only [List.Forall]; repeat' apply And.intro
  all_goals exact above_of rfl (by decide)
theorem hostOps0_27_above : (hostOps0_27 : List (HloOp τ sig (Elt F))).Forall (Above 1201) := by
  simp only [List.Forall]; repeat' apply And.intro
  all_goals exact above_of rfl (by decide)
theorem hostOps0_28_above : (hostOps0_28 : List (HloOp τ sig (Elt F))).Forall (Above 1203) := by
  simp only [List.Forall]; repeat' apply And.intro
  all_goals exact above_of rfl (by decide)
theorem hostOps0_29_above : (hostOps0_29 : List (HloOp τ sig (Elt F))).Forall (Above 1294) := by
  simp only [List.Forall]; repeat' apply And.intro
  all_goals exact above_of rfl (by decide)
theorem hostOps0_30_above : (hostOps0_30 : List (HloOp τ sig (Elt F))).Forall (Above 1296) := by
  simp only [List.Forall]; repeat' apply And.intro
  all_goals exact above_of rfl (by decide)
theorem hostOps1_above : (hostOps1 : List (HloOp τ sig (Elt F))).Forall (Above 1330) := by
  simp only [List.Forall]; repeat' apply And.intro
  all_goals exact above_of rfl (by decide)

/-- No host operation before the region writes an argument: the region finds each as launched. -/
theorem V_arg (c : Dev nD) {b : Ref sig .tc} (hb : b.idx.val < 18) : V m c b = m ((c : Thread nD τ).loc b) :=
  after_above (flatten_above (by
    simp only [List.Forall]
    exact ⟨Above.mono hostOps0_above (by decide), Above.mono hostOps0_1_above (by decide), Above.mono hostOps0_2_above (by decide), Above.mono hostOps0_3_above (by decide), Above.mono hostOps0_4_above (by decide), Above.mono hostOps0_5_above (by decide), Above.mono hostOps0_6_above (by decide), Above.mono hostOps0_7_above (by decide), Above.mono hostOps0_8_above (by decide), Above.mono hostOps0_9_above (by decide), Above.mono hostOps0_10_above (by decide), Above.mono hostOps0_11_above (by decide), Above.mono hostOps0_12_above (by decide), Above.mono hostOps0_13_above (by decide), Above.mono hostOps0_14_above (by decide), Above.mono hostOps0_15_above (by decide), Above.mono hostOps0_16_above (by decide), Above.mono hostOps0_17_above (by decide), Above.mono hostOps0_18_above (by decide), Above.mono hostOps0_19_above (by decide), Above.mono hostOps0_20_above (by decide), Above.mono hostOps0_21_above (by decide), Above.mono hostOps0_22_above (by decide), Above.mono hostOps0_23_above (by decide), Above.mono hostOps0_24_above (by decide), Above.mono hostOps0_25_above (by decide), Above.mono hostOps0_26_above (by decide), Above.mono hostOps0_27_above (by decide), Above.mono hostOps0_28_above (by decide), Above.mono hostOps0_29_above (by decide), Above.mono hostOps0_30_above (by decide)⟩)) _ hb

/-- No host operation after the region writes an argument, and no argument is a window's array: each ends as launched. -/
theorem W_arg (dats : (p : Fin _) → (c : Dev nD) → Dat τ (Elt F) Unit ℕ (UR sig nD τ) ℕ (cfgs p) c) (c : Dev nD) {b : Ref sig .tc}
    (hb : b.idx.val < 18) (hn : ∀ w, Pipeline.arrRef spec0 w ≠ b) :
    Pipeline.afterTail₀ cfgs dats 0 (V0 m) [hostOps1] c b = m ((c : Thread nD τ).loc b) := by
  unfold Pipeline.afterTail₀
  rw [after_above (flatten_above (n := 18) (by simp only [List.Forall]; exact Above.mono hostOps1_above (by decide))) _ hb,
    Pipeline.withArrays_of_ne _ c (V0 m c) _ b hn]
  exact V_arg m c hb

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end of a run -/

/-- Every argument array as launched. -/
abbrev Kept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)

/-- A run to the pipeline's postcondition leaves an argument as launched. -/
theorem kept_of (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) [hostOps1]) r) : Kept m r := by
  intro c
  refine ⟨((h c).2 main_arg0 (Pipeline.mem_restRefs_of main_arg0 (by decide) (by decide))).trans (W_arg m dats c (by decide) (by exact (by decide : ∀ w, Pipeline.arrRef spec0 w ≠ main_arg0))),
    ((h c).2 main_arg1 (Pipeline.mem_restRefs_of main_arg1 (by decide) (by decide))).trans (W_arg m dats c (by decide) (by exact (by decide : ∀ w, Pipeline.arrRef spec0 w ≠ main_arg1))),
    ((h c).2 main_arg2 (Pipeline.mem_restRefs_of main_arg2 (by decide) (by decide))).trans (W_arg m dats c (by decide) (by exact (by decide : ∀ w, Pipeline.arrRef spec0 w ≠ main_arg2))),
    ((h c).2 main_arg3 (Pipeline.mem_restRefs_of main_arg3 (by decide) (by decide))).trans (W_arg m dats c (by decide) (by exact (by decide : ∀ w, Pipeline.arrRef spec0 w ≠ main_arg3))),
    ((h c).2 main_arg4 (Pipeline.mem_restRefs_of main_arg4 (by decide) (by decide))).trans (W_arg m dats c (by decide) (by exact (by decide : ∀ w, Pipeline.arrRef spec0 w ≠ main_arg4))),
    ((h c).2 main_arg5 (Pipeline.mem_restRefs_of main_arg5 (by decide) (by decide))).trans (W_arg m dats c (by decide) (by exact (by decide : ∀ w, Pipeline.arrRef spec0 w ≠ main_arg5))),
    ((h c).2 main_arg6 (Pipeline.mem_restRefs_of main_arg6 (by decide) (by decide))).trans (W_arg m dats c (by decide) (by exact (by decide : ∀ w, Pipeline.arrRef spec0 w ≠ main_arg6))),
    ((h c).2 main_arg7 (Pipeline.mem_restRefs_of main_arg7 (by decide) (by decide))).trans (W_arg m dats c (by decide) (by exact (by decide : ∀ w, Pipeline.arrRef spec0 w ≠ main_arg7))),
    ((h c).2 main_arg8 (Pipeline.mem_restRefs_of main_arg8 (by decide) (by decide))).trans (W_arg m dats c (by decide) (by exact (by decide : ∀ w, Pipeline.arrRef spec0 w ≠ main_arg8))),
    ((h c).2 main_arg9 (Pipeline.mem_restRefs_of main_arg9 (by decide) (by decide))).trans (W_arg m dats c (by decide) (by exact (by decide : ∀ w, Pipeline.arrRef spec0 w ≠ main_arg9))),
    ((h c).2 main_arg10 (Pipeline.mem_restRefs_of main_arg10 (by decide) (by decide))).trans (W_arg m dats c (by decide) (by exact (by decide : ∀ w, Pipeline.arrRef spec0 w ≠ main_arg10))),
    ((h c).2 main_arg11 (Pipeline.mem_restRefs_of main_arg11 (by decide) (by decide))).trans (W_arg m dats c (by decide) (by exact (by decide : ∀ w, Pipeline.arrRef spec0 w ≠ main_arg11))),
    ((h c).2 main_arg12 (Pipeline.mem_restRefs_of main_arg12 (by decide) (by decide))).trans (W_arg m dats c (by decide) (by exact (by decide : ∀ w, Pipeline.arrRef spec0 w ≠ main_arg12))),
    ((h c).2 main_arg13 (Pipeline.mem_restRefs_of main_arg13 (by decide) (by decide))).trans (W_arg m dats c (by decide) (by exact (by decide : ∀ w, Pipeline.arrRef spec0 w ≠ main_arg13))),
    ((h c).2 main_arg14 (Pipeline.mem_restRefs_of main_arg14 (by decide) (by decide))).trans (W_arg m dats c (by decide) (by exact (by decide : ∀ w, Pipeline.arrRef spec0 w ≠ main_arg14))),
    ((h c).2 main_arg15 (Pipeline.mem_restRefs_of main_arg15 (by decide) (by decide))).trans (W_arg m dats c (by decide) (by exact (by decide : ∀ w, Pipeline.arrRef spec0 w ≠ main_arg15))),
    ((h c).2 main_arg16 (Pipeline.mem_restRefs_of main_arg16 (by decide) (by decide))).trans (W_arg m dats c (by decide) (by exact (by decide : ∀ w, Pipeline.arrRef spec0 w ≠ main_arg16))),
    ((h c).2 main_arg17 (Pipeline.mem_restRefs_of main_arg17 (by decide) (by decide))).trans (W_arg m dats c (by decide) (by exact (by decide : ∀ w, Pipeline.arrRef spec0 w ≠ main_arg17)))⟩

/-! ## The body's accesses -/

abbrev r0_0 : Rect S1x2048x256 := Rect.unit (s := S1x2048x256) ![0, 0, 0] S1x2048x256.size inb_S1x2048x256_S1x2048x256_0_0_0
abbrev r0_1 : Rect S256x128 := Rect.unit (s := S256x128) ![0, 0] S256x128.size inb_S256x128_S256x128_0_0
abbrev r0_2 : Rect S128x256 := Rect.unit (s := S128x256) ![0, 0] S128x256.size inb_S128x256_S128x256_0_0
abbrev r0_3 : Rect S1x1x128 := Rect.unit (s := S1x1x128) ![0, 0, 0] S1x1x128.size inb_S1x1x128_S1x1x128_0_0_0

/-! ## What the body leaves in each output window's buffer -/

/-! ### Values of the body that the stores' payloads, spelt out, would write more than once

    Each is a vector the body binds (often a part call's result), stated over the input windows' blocks and
    numbered on from the skeleton's payload functions (`k0_pay14` …, after `k0_pay13`), so that
    `out0_W` and the values after it name it instead of spelling it out (`unfold_out out0_W` opens a canon
    with them, `unfold_payloads` opens them with the payloads); the comment after each is the printed function's
    name for the value (a count appended where that name is bound again). -/

def k0_pay14 (x0 : Vec F S1x2048x256 .f32) (x1 : Vec F S256x128 .f32) (x2 : Vec F S128x256 .bf16) (x3 : Vec F S128x256 .bf16) (x4 : Vec F S128x256 .bf16) : FVec F S2048x256 .f32 :=
  k0_pay2 (View.ld x0 r0_0) -- `v1`
def k0_pay15 (x0 : Vec F S1x2048x256 .f32) (x1 : Vec F S256x128 .f32) (x2 : Vec F S128x256 .bf16) (x3 : Vec F S128x256 .bf16) (x4 : Vec F S128x256 .bf16) : FVec F S2048x128 .bf16 :=
  k0_pay4 (View.ld x0 r0_0) (View.ld x1 r0_1) -- `v32`
def k0_pay16 (x0 : Vec F S1x2048x256 .f32) (x1 : Vec F S256x128 .f32) (x2 : Vec F S128x256 .bf16) (x3 : Vec F S128x256 .bf16) (x4 : Vec F S128x256 .bf16) : FVec F S2048x256 .f32 :=
  k0_pay5 (View.ld x0 r0_0) (View.ld x1 r0_1) (View.ld x2 r0_2) (View.ld x3 r0_2) -- `v39`

/-- Window 5's staging buffer after the body, from the input windows' blocks: its 1 store as pieces, LAST
    FIRST (Lib/Pipeline/FrameBody.lean `View.canon`; the payloads are the skeleton's and the values stated above). -/
def out0_5 (x0 : Vec F S1x2048x256 .f32) (x1 : Vec F S256x128 .f32) (x2 : Vec F S128x256 .bf16) (x3 : Vec F S128x256 .bf16) (x4 : Vec F S128x256 .bf16) : Vec F S1x2048x256 .f32 :=
  View.canon [⟨r0_0, k0_pay7 (k0_pay15 x0 x1 x2 x3 x4) (k0_pay16 x0 x1 x2 x3 x4) (View.ld x4 r0_2)⟩]

/-- Its stores tile the buffer (checked by evaluation), so they cover it. -/
theorem cover0_5 (p0 : Vec F S1x2048x256 .f32) (y : S1x2048x256.Idx) :
    ∃ pc ∈ ([⟨r0_0, p0⟩] : List (View.Piece (Elt F) S1x2048x256 .f32)), y ∈ pc.1.set :=
  View.cover_of_tiled [⟨r0_0, p0⟩] S1x2048x256.size (by rfl) y

/-- Window 6's staging buffer after the body, from the input windows' blocks: its 1 store as pieces, LAST
    FIRST (Lib/Pipeline/FrameBody.lean `View.canon`; the payloads are the skeleton's and the values stated above). -/
def out0_6 (x0 : Vec F S1x2048x256 .f32) (x1 : Vec F S256x128 .f32) (x2 : Vec F S128x256 .bf16) (x3 : Vec F S128x256 .bf16) (x4 : Vec F S128x256 .bf16) : Vec F S1x1x128 .f32 :=
  View.canon [⟨r0_3, k0_pay8 (k0_pay3 (View.ld x0 r0_0) (View.ld x1 r0_1))⟩]

/-- Its stores tile the buffer (checked by evaluation), so they cover it. -/
theorem cover0_6 (p0 : Vec F S1x1x128 .f32) (y : S1x1x128.Idx) :
    ∃ pc ∈ ([⟨r0_3, p0⟩] : List (View.Piece (Elt F) S1x1x128 .f32)), y ∈ pc.1.set :=
  View.cover_of_tiled [⟨r0_3, p0⟩] S1x1x128.size (by rfl) y

/-- Window 7's staging buffer after the body, from the input windows' blocks: its 1 store as pieces, LAST
    FIRST (Lib/Pipeline/FrameBody.lean `View.canon`; the payloads are the skeleton's and the values stated above). -/
def out0_7 (x0 : Vec F S1x2048x256 .f32) (x1 : Vec F S256x128 .f32) (x2 : Vec F S128x256 .bf16) (x3 : Vec F S128x256 .bf16) (x4 : Vec F S128x256 .bf16) : Vec F S1x1x128 .f32 :=
  View.canon [⟨r0_3, k0_pay1 (k0_pay10 (k0_pay14 x0 x1 x2 x3 x4) (k0_pay15 x0 x1 x2 x3 x4) (k0_pay16 x0 x1 x2 x3 x4) (View.ld x4 r0_2)) k0_pay11 k0_pay12 (Scalar.ofBits .f32 0x00000000#32) (k0_pay13 (k0_pay14 x0 x1 x2 x3 x4))⟩]

/-- Its stores tile the buffer (checked by evaluation), so they cover it. -/
theorem cover0_7 (p0 : Vec F S1x1x128 .f32) (y : S1x1x128.Idx) :
    ∃ pc ∈ ([⟨r0_3, p0⟩] : List (View.Piece (Elt F) S1x1x128 .f32)), y ∈ pc.1.set :=
  View.cover_of_tiled [⟨r0_3, p0⟩] S1x1x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x2048x256 .f32) (harg1 : arg1.IsWhole) (arg2 : Memref sig .tc .vmem S256x128 .f32) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1x2048x256 .f32) (harg6 : arg6.IsWhole) (arg7 : Memref sig .tc .vmem S1x1x128 .f32) (harg7 : arg7.IsWhole) (arg8 : Memref sig .tc .vmem S1x1x128 .f32) (harg8 : arg8.IsWhole)
    (x0 : Vec F S1x2048x256 .f32) (x1 : Vec F S256x128 .f32) (x2 : Vec F S128x256 .bf16) (x3 : Vec F S128x256 .bf16) (x4 : Vec F S128x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0__vq_body i arg1 harg1 arg2 harg2 arg3 harg3 arg4 harg4 arg5 harg5 arg6 harg6 arg7 harg7 arg8 harg8) K := by
  simp only [cc0__vq_body_eq_skeleton]; unfold cc0__vq_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  iexists _; isplitr
  swap; · iexact H7
  ipureintro
  refine (View.read_writes_eq_canon _ _ _ (cover0_7 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every run ends, the argument arrays unchanged and every counter at zero. -/
theorem frame : θ_run defs (onTc (τ := τ) (main (F := F))) ⟨m, fun _ => 0, ρ⟩ (fun r => Kept m r ∧ r.2.sem = fun _ => 0) :=
  (θ_run defs _ _).mono (fun _ h => ⟨kept_of m (dats m) h.1, h.2⟩) (run_main_quiescent m ρ)

end Cert.KernelIdeal.Around

end
-- ==== Proof.RLines.lean ====
/- The reference's host operations as lists: read off each printed part of @main, then cut where the encoder's layers
   begin, and the run of @main to the fold of the lists. -/
module

public import proofs.«01_k».proof.Proof.Gen.ReferenceIdeal
public import proofs.«01_k».proof.Proof.Base
public import Idealize.ShloMosaic.Lib.Quiescent

@[expose] public section

set_option maxRecDepth 16384

noncomputable section

namespace Cert.ReferenceIdeal.Lines

open Idealize.ShloMosaic Idealize.ShloMosaic.TcCoe Idealize.ShloMosaic.StableHlo
open Idealize.SL.Sem
open Cert.ReferenceIdeal Cert.ReferenceIdeal.Gen Cert.Base

variable {F : FTy → Type} [FloatOps F]

/-- A single operation, with no return after it. -/
theorem seq_last {nD : ℕ} {τ : Topo} {sig : RefSig} {Val : EltTy → Type} {Λ : Labels} {op : HloOp τ sig Val} :
    IsSeq (nD := nD) (Λ := Λ) (hlo rfl op fun _ => .ret (⟨⟩ : PUnit)) [op] := rfl

/-- One straight line after another. -/
theorem seq_bind {nD : ℕ} {τ : Topo} {sig : RefSig} {Val : EltTy → Type} {Λ : Labels} {l l' : List (HloOp τ sig Val)}
    {p q : Prog (TpuEff nD τ sig Val Λ .tc) PUnit} (hp : IsSeq p l) (hq : IsSeq q l') : IsSeq (p >>= fun _ => q) (l ++ l') := by
  unfold IsSeq at *; rw [hp, hq, seq_append]

/-- @main's part 0. -/
def part0 : {ops : List (HloOp τ sig (Elt F)) // ∀ d, IsSeq (main_part0 (F := F) d) ops} := by
  apply Subtype.mk
  intro d
  unfold main_part0 fn_pad.body
  simp only [bind_assoc, pure_bind]
  repeat (first | exact IsSeq.nil | exact seq_last | apply IsSeq.cons)

/-- @main's part 1. -/
def part1 : {ops : List (HloOp τ sig (Elt F)) // ∀ d, IsSeq (main_part1 (F := F) d) ops} := by
  apply Subtype.mk
  intro d
  unfold main_part1 fn_pad.body
  simp only [bind_assoc, pure_bind]
  repeat (first | exact IsSeq.nil | exact seq_last | apply IsSeq.cons)

/-- @main's part 2. -/
def part2 : {ops : List (HloOp τ sig (Elt F)) // ∀ d, IsSeq (main_part2 (F := F) d) ops} := by
  apply Subtype.mk
  intro d
  unfold main_part2 fn_pad.body
  simp only [bind_assoc, pure_bind]
  repeat (first | exact IsSeq.nil | exact seq_last | apply IsSeq.cons)

/-- @main's part 3. -/
def part3 : {ops : List (HloOp τ sig (Elt F)) // ∀ d, IsSeq (main_part3 (F := F) d) ops} := by
  apply Subtype.mk
  intro d
  unfold main_part3
  simp only [bind_assoc, pure_bind]
  repeat (first | exact IsSeq.nil | exact seq_last | apply IsSeq.cons)

/-- @main's part 4. -/
def part4 : {ops : List (HloOp τ sig (Elt F)) // ∀ d, IsSeq (main_part4 (F := F) d) ops} := by
  apply Subtype.mk
  intro d
  unfold main_part4 fn_pad_0.body
  simp only [bind_assoc, pure_bind]
  repeat (first | exact IsSeq.nil | exact seq_last | apply IsSeq.cons)

/-- @main's part 5. -/
def part5 : {ops : List (HloOp τ sig (Elt F)) // ∀ d, IsSeq (main_part5 (F := F) d) ops} := by
  apply Subtype.mk
  intro d
  unfold main_part5
  simp only [bind_assoc, pure_bind]
  repeat (first | exact IsSeq.nil | exact seq_last | apply IsSeq.cons)

/-- @main's part 6. -/
def part6 : {ops : List (HloOp τ sig (Elt F)) // ∀ d, IsSeq (main_part6 (F := F) d) ops} := by
  apply Subtype.mk
  intro d
  unfold main_part6 fn_pad_0.body
  simp only [bind_assoc, pure_bind]
  repeat (first | exact IsSeq.nil | exact seq_last | apply IsSeq.cons)

/-- @main's part 7. -/
def part7 : {ops : List (HloOp τ sig (Elt F)) // ∀ d, IsSeq (main_part7 (F := F) d) ops} := by
  apply Subtype.mk
  intro d
  unfold main_part7 fn_pad_0.body
  simp only [bind_assoc, pure_bind]
  repeat (first | exact IsSeq.nil | exact seq_last | apply IsSeq.cons)

/-- @main's part 8. -/
def part8 : {ops : List (HloOp τ sig (Elt F)) // ∀ d, IsSeq (main_part8 (F := F) d) ops} := by
  apply Subtype.mk
  intro d
  unfold main_part8
  simp only [bind_assoc, pure_bind]
  repeat (first | exact IsSeq.nil | exact seq_last | apply IsSeq.cons)

/-- @main's part 9. -/
def part9 : {ops : List (HloOp τ sig (Elt F)) // ∀ d, IsSeq (main_part9 (F := F) d) ops} := by
  apply Subtype.mk
  intro d
  unfold main_part9 fn_pad_0.body
  simp only [bind_assoc, pure_bind]
  repeat (first | exact IsSeq.nil | exact seq_last | apply IsSeq.cons)

/-- @main's part 10. -/
def part10 : {ops : List (HloOp τ sig (Elt F)) // ∀ d, IsSeq (main_part10 (F := F) d) ops} := by
  apply Subtype.mk
  intro d
  unfold main_part10
  simp only [bind_assoc, pure_bind]
  repeat (first | exact IsSeq.nil | exact seq_last | apply IsSeq.cons)

/-- @main's part 11. -/
def part11 : {ops : List (HloOp τ sig (Elt F)) // ∀ d, IsSeq (main_part11 (F := F) d) ops} := by
  apply Subtype.mk
  intro d
  unfold main_part11 fn_pad_0.body
  simp only [bind_assoc, pure_bind]
  repeat (first | exact IsSeq.nil | exact seq_last | apply IsSeq.cons)

/-- @main's part 12. -/
def part12 : {ops : List (HloOp τ sig (Elt F)) // ∀ d, IsSeq (main_part12 (F := F) d) ops} := by
  apply Subtype.mk
  intro d
  unfold main_part12 fn_pad_0.body
  simp only [bind_assoc, pure_bind]
  repeat (first | exact IsSeq.nil | exact seq_last | apply IsSeq.cons)

/-- @main's part 13. -/
def part13 : {ops : List (HloOp τ sig (Elt F)) // ∀ d, IsSeq (main_part13 (F := F) d) ops} := by
  apply Subtype.mk
  intro d
  unfold main_part13
  simp only [bind_assoc, pure_bind]
  repeat (first | exact IsSeq.nil | exact seq_last | apply IsSeq.cons)

/-- @main's part 14. -/
def part14 : {ops : List (HloOp τ sig (Elt F)) // ∀ d, IsSeq (main_part14 (F := F) d) ops} := by
  apply Subtype.mk
  intro d
  unfold main_part14 fn_pad_0.body
  simp only [bind_assoc, pure_bind]
  repeat (first | exact IsSeq.nil | exact seq_last | apply IsSeq.cons)

/-- @main's part 15. -/
def part15 : {ops : List (HloOp τ sig (Elt F)) // ∀ d, IsSeq (main_part15 (F := F) d) ops} := by
  apply Subtype.mk
  intro d
  unfold main_part15
  simp only [bind_assoc, pure_bind]
  repeat (first | exact IsSeq.nil | exact seq_last | apply IsSeq.cons)

/-- @main's part 16. -/
def part16 : {ops : List (HloOp τ sig (Elt F)) // ∀ d, IsSeq (main_part16 (F := F) d) ops} := by
  apply Subtype.mk
  intro d
  unfold main_part16 fn_pad_0.body
  simp only [bind_assoc, pure_bind]
  repeat (first | exact IsSeq.nil | exact seq_last | apply IsSeq.cons)

/-- @main's part 17. -/
def part17 : {ops : List (HloOp τ sig (Elt F)) // ∀ d, IsSeq (main_part17 (F := F) d) ops} := by
  apply Subtype.mk
  intro d
  unfold main_part17 fn_pad_0.body
  simp only [bind_assoc, pure_bind]
  repeat (first | exact IsSeq.nil | exact seq_last | apply IsSeq.cons)

/-- @main's part 18. -/
def part18 : {ops : List (HloOp τ sig (Elt F)) // ∀ d, IsSeq (main_part18 (F := F) d) ops} := by
  apply Subtype.mk
  intro d
  unfold main_part18
  simp only [bind_assoc, pure_bind]
  repeat (first | exact IsSeq.nil | exact seq_last | apply IsSeq.cons)

/-- @main's part 19. -/
def part19 : {ops : List (HloOp τ sig (Elt F)) // ∀ d, IsSeq (main_part19 (F := F) d) ops} := by
  apply Subtype.mk
  intro d
  unfold main_part19 fn_pad_0.body
  simp only [bind_assoc, pure_bind]
  repeat (first | exact IsSeq.nil | exact seq_last | apply IsSeq.cons)

/-- @main's part 20. -/
def part20 : {ops : List (HloOp τ sig (Elt F)) // ∀ d, IsSeq (main_part20 (F := F) d) ops} := by
  apply Subtype.mk
  intro d
  unfold main_part20
  simp only [bind_assoc, pure_bind]
  repeat (first | exact IsSeq.nil | exact seq_last | apply IsSeq.cons)

/-- @main's part 21. -/
def part21 : {ops : List (HloOp τ sig (Elt F)) // ∀ d, IsSeq (main_part21 (F := F) d) ops} := by
  apply Subtype.mk
  intro d
  unfold main_part21 fn_argmin.body fn_one_hot.body fn_pad.body fn_take.body fn_where.body
  simp only [bind_assoc, pure_bind]
  repeat (first | exact IsSeq.nil | exact seq_last | apply IsSeq.cons)

/-- @main's part 22. -/
def part22 : {ops : List (HloOp τ sig (Elt F)) // ∀ d, IsSeq (main_part22 (F := F) d) ops} := by
  apply Subtype.mk
  intro d
  unfold main_part22
  simp only [bind_assoc, pure_bind]
  repeat (first | exact IsSeq.nil | exact seq_last | apply IsSeq.cons)

/-- Buffers 18 to 33. -/
def line0 : {l : List (HloOp τ sig (Elt F)) // l = part0.1.take 16} := by
  apply Subtype.mk
  simp only [part0, List.take_succ_cons, List.take_zero, List.drop_succ_cons, List.drop_zero, List.cons_append, List.nil_append, List.append_nil]
  rfl

/-- Buffers 34 to 88. -/
def line1 : {l : List (HloOp τ sig (Elt F)) // l = part0.1.drop 16 ++ part1.1.take 10} := by
  apply Subtype.mk
  simp only [part0, part1, List.take_succ_cons, List.take_zero, List.drop_succ_cons, List.drop_zero, List.cons_append, List.nil_append, List.append_nil]
  rfl

/-- Buffers 89 to 143. -/
def line2 : {l : List (HloOp τ sig (Elt F)) // l = part1.1.drop 10 ++ part2.1.take 4} := by
  apply Subtype.mk
  simp only [part1, part2, List.take_succ_cons, List.take_zero, List.drop_succ_cons, List.drop_zero, List.cons_append, List.nil_append, List.append_nil]
  rfl

/-- Buffers 144 to 198. -/
def line3 : {l : List (HloOp τ sig (Elt F)) // l = (part2.1.take 59).drop 4} := by
  apply Subtype.mk
  simp only [part2, List.take_succ_cons, List.take_zero, List.drop_succ_cons, List.drop_zero, List.cons_append, List.nil_append, List.append_nil]
  rfl

/-- Buffers 199 to 295. -/
def line4 : {l : List (HloOp τ sig (Elt F)) // l = part2.1.drop 59 ++ part3.1 ++ part4.1.take 34} := by
  apply Subtype.mk
  simp only [part2, part3, part4, List.take_succ_cons, List.take_zero, List.drop_succ_cons, List.drop_zero, List.cons_append, List.nil_append, List.append_nil]
  rfl

/-- Buffers 296 to 392. -/
def line5 : {l : List (HloOp τ sig (Elt F)) // l = part4.1.drop 34 ++ part5.1 ++ part6.1.take 10} := by
  apply Subtype.mk
  simp only [part4, part5, part6, List.take_succ_cons, List.take_zero, List.drop_succ_cons, List.drop_zero, List.cons_append, List.nil_append, List.append_nil]
  rfl

/-- Buffers 393 to 497. -/
def line6 : {l : List (HloOp τ sig (Elt F)) // l = part6.1.drop 10 ++ part7.1.take 54} := by
  apply Subtype.mk
  simp only [part6, part7, List.take_succ_cons, List.take_zero, List.drop_succ_cons, List.drop_zero, List.cons_append, List.nil_append, List.append_nil]
  rfl

/-- Buffers 498 to 594. -/
def line7 : {l : List (HloOp τ sig (Elt F)) // l = part7.1.drop 54 ++ part8.1 ++ part9.1.take 30} := by
  apply Subtype.mk
  simp only [part7, part8, part9, List.take_succ_cons, List.take_zero, List.drop_succ_cons, List.drop_zero, List.cons_append, List.nil_append, List.append_nil]
  rfl

/-- Buffers 595 to 699. -/
def line8 : {l : List (HloOp τ sig (Elt F)) // l = part9.1.drop 30 ++ part10.1 ++ part11.1.take 14} := by
  apply Subtype.mk
  simp only [part9, part10, part11, List.take_succ_cons, List.take_zero, List.drop_succ_cons, List.drop_zero, List.cons_append, List.nil_append, List.append_nil]
  rfl

/-- Buffers 700 to 796. -/
def line9 : {l : List (HloOp τ sig (Elt F)) // l = part11.1.drop 14 ++ part12.1.take 50} := by
  apply Subtype.mk
  simp only [part11, part12, List.take_succ_cons, List.take_zero, List.drop_succ_cons, List.drop_zero, List.cons_append, List.nil_append, List.append_nil]
  rfl

/-- Buffers 797 to 901. -/
def line10 : {l : List (HloOp τ sig (Elt F)) // l = part12.1.drop 50 ++ part13.1 ++ part14.1.take 34} := by
  apply Subtype.mk
  simp only [part12, part13, part14, List.take_succ_cons, List.take_zero, List.drop_succ_cons, List.drop_zero, List.cons_append, List.nil_append, List.append_nil]
  rfl

/-- Buffers 902 to 998. -/
def line11 : {l : List (HloOp τ sig (Elt F)) // l = part14.1.drop 34 ++ part15.1 ++ part16.1.take 10} := by
  apply Subtype.mk
  simp only [part14, part15, part16, List.take_succ_cons, List.take_zero, List.drop_succ_cons, List.drop_zero, List.cons_append, List.nil_append, List.append_nil]
  rfl

/-- Buffers 999 to 1103. -/
def line12 : {l : List (HloOp τ sig (Elt F)) // l = part16.1.drop 10 ++ part17.1.take 54} := by
  apply Subtype.mk
  simp only [part16, part17, List.take_succ_cons, List.take_zero, List.drop_succ_cons, List.drop_zero, List.cons_append, List.nil_append, List.append_nil]
  rfl

/-- Buffers 1104 to 1200. -/
def line13 : {l : List (HloOp τ sig (Elt F)) // l = part17.1.drop 54 ++ part18.1 ++ part19.1.take 30} := by
  apply Subtype.mk
  simp only [part17, part18, part19, List.take_succ_cons, List.take_zero, List.drop_succ_cons, List.drop_zero, List.cons_append, List.nil_append, List.append_nil]
  rfl

/-- Buffers 1201 to 1293. -/
def line14 : {l : List (HloOp τ sig (Elt F)) // l = part19.1.drop 30 ++ part20.1 ++ part21.1.take 2} := by
  apply Subtype.mk
  simp only [part19, part20, part21, List.take_succ_cons, List.take_zero, List.drop_succ_cons, List.drop_zero, List.cons_append, List.nil_append, List.append_nil]
  rfl

/-- Buffers 1294 to 1318. -/
def line15 : {l : List (HloOp τ sig (Elt F)) // l = (part21.1.take 27).drop 2} := by
  apply Subtype.mk
  simp only [part21, List.take_succ_cons, List.take_zero, List.drop_succ_cons, List.drop_zero, List.cons_append, List.nil_append, List.append_nil]
  rfl

/-- Buffers 1319 to 1409. -/
def line16 : {l : List (HloOp τ sig (Elt F)) // l = part21.1.drop 27 ++ part22.1} := by
  apply Subtype.mk
  simp only [part21, part22, List.take_succ_cons, List.take_zero, List.drop_succ_cons, List.drop_zero, List.cons_append, List.nil_append, List.append_nil]
  rfl

/-- @main's operations, line by line. -/
abbrev lines : List (List (HloOp τ sig (Elt F))) := [line0.1, line1.1, line2.1, line3.1, line4.1, line5.1, line6.1, line7.1, line8.1, line9.1, line10.1, line11.1, line12.1, line13.1, line14.1, line15.1, line16.1]

theorem line0_above : (line0.1 : List (HloOp τ sig (Elt F))).Forall (Above 18) := by
  simp only [line0, List.Forall]; and_intros
  all_goals exact above_of rfl (by decide)
theorem line0_fresh : (line0.1 : List (HloOp τ sig (Elt F))).Forall fun op => op.fresh = ∅ := by
  simp only [line0, List.Forall]; and_intros
  all_goals rfl
theorem line0_sub : (line0.1 : List (HloOp τ sig (Elt F))).Forall fun op => op.bufs ⊆ tcRefs τ sig := by
  simp only [line0, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line1_above : (line1.1 : List (HloOp τ sig (Elt F))).Forall (Above 34) := by
  simp only [line1, List.Forall]; and_intros
  all_goals exact above_of rfl (by decide)
theorem line1_fresh : (line1.1 : List (HloOp τ sig (Elt F))).Forall fun op => op.fresh = ∅ := by
  simp only [line1, List.Forall]; and_intros
  all_goals rfl
theorem line1_sub : (line1.1 : List (HloOp τ sig (Elt F))).Forall fun op => op.bufs ⊆ tcRefs τ sig := by
  simp only [line1, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line2_above : (line2.1 : List (HloOp τ sig (Elt F))).Forall (Above 89) := by
  simp only [line2, List.Forall]; and_intros
  all_goals exact above_of rfl (by decide)
theorem line2_fresh : (line2.1 : List (HloOp τ sig (Elt F))).Forall fun op => op.fresh = ∅ := by
  simp only [line2, List.Forall]; and_intros
  all_goals rfl
theorem line2_sub : (line2.1 : List (HloOp τ sig (Elt F))).Forall fun op => op.bufs ⊆ tcRefs τ sig := by
  simp only [line2, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line3_above : (line3.1 : List (HloOp τ sig (Elt F))).Forall (Above 144) := by
  simp only [line3, List.Forall]; and_intros
  all_goals exact above_of rfl (by decide)
theorem line3_fresh : (line3.1 : List (HloOp τ sig (Elt F))).Forall fun op => op.fresh = ∅ := by
  simp only [line3, List.Forall]; and_intros
  all_goals rfl
theorem line3_sub : (line3.1 : List (HloOp τ sig (Elt F))).Forall fun op => op.bufs ⊆ tcRefs τ sig := by
  simp only [line3, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line4_above : (line4.1 : List (HloOp τ sig (Elt F))).Forall (Above 199) := by
  simp only [line4, List.Forall]; and_intros
  all_goals exact above_of rfl (by decide)
theorem line4_fresh : (line4.1 : List (HloOp τ sig (Elt F))).Forall fun op => op.fresh = ∅ := by
  simp only [line4, List.Forall]; and_intros
  all_goals rfl
theorem line4_sub : (line4.1 : List (HloOp τ sig (Elt F))).Forall fun op => op.bufs ⊆ tcRefs τ sig := by
  simp only [line4, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line5_above : (line5.1 : List (HloOp τ sig (Elt F))).Forall (Above 296) := by
  simp only [line5, List.Forall]; and_intros
  all_goals exact above_of rfl (by decide)
theorem line5_fresh : (line5.1 : List (HloOp τ sig (Elt F))).Forall fun op => op.fresh = ∅ := by
  simp only [line5, List.Forall]; and_intros
  all_goals rfl
theorem line5_sub : (line5.1 : List (HloOp τ sig (Elt F))).Forall fun op => op.bufs ⊆ tcRefs τ sig := by
  simp only [line5, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line6_above : (line6.1 : List (HloOp τ sig (Elt F))).Forall (Above 393) := by
  simp only [line6, List.Forall]; and_intros
  all_goals exact above_of rfl (by decide)
theorem line6_fresh : (line6.1 : List (HloOp τ sig (Elt F))).Forall fun op => op.fresh = ∅ := by
  simp only [line6, List.Forall]; and_intros
  all_goals rfl
theorem line6_sub : (line6.1 : List (HloOp τ sig (Elt F))).Forall fun op => op.bufs ⊆ tcRefs τ sig := by
  simp only [line6, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line7_above : (line7.1 : List (HloOp τ sig (Elt F))).Forall (Above 498) := by
  simp only [line7, List.Forall]; and_intros
  all_goals exact above_of rfl (by decide)
theorem line7_fresh : (line7.1 : List (HloOp τ sig (Elt F))).Forall fun op => op.fresh = ∅ := by
  simp only [line7, List.Forall]; and_intros
  all_goals rfl
theorem line7_sub : (line7.1 : List (HloOp τ sig (Elt F))).Forall fun op => op.bufs ⊆ tcRefs τ sig := by
  simp only [line7, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line8_above : (line8.1 : List (HloOp τ sig (Elt F))).Forall (Above 595) := by
  simp only [line8, List.Forall]; and_intros
  all_goals exact above_of rfl (by decide)
theorem line8_fresh : (line8.1 : List (HloOp τ sig (Elt F))).Forall fun op => op.fresh = ∅ := by
  simp only [line8, List.Forall]; and_intros
  all_goals rfl
theorem line8_sub : (line8.1 : List (HloOp τ sig (Elt F))).Forall fun op => op.bufs ⊆ tcRefs τ sig := by
  simp only [line8, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line9_above : (line9.1 : List (HloOp τ sig (Elt F))).Forall (Above 700) := by
  simp only [line9, List.Forall]; and_intros
  all_goals exact above_of rfl (by decide)
theorem line9_fresh : (line9.1 : List (HloOp τ sig (Elt F))).Forall fun op => op.fresh = ∅ := by
  simp only [line9, List.Forall]; and_intros
  all_goals rfl
theorem line9_sub : (line9.1 : List (HloOp τ sig (Elt F))).Forall fun op => op.bufs ⊆ tcRefs τ sig := by
  simp only [line9, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line10_above : (line10.1 : List (HloOp τ sig (Elt F))).Forall (Above 797) := by
  simp only [line10, List.Forall]; and_intros
  all_goals exact above_of rfl (by decide)
theorem line10_fresh : (line10.1 : List (HloOp τ sig (Elt F))).Forall fun op => op.fresh = ∅ := by
  simp only [line10, List.Forall]; and_intros
  all_goals rfl
theorem line10_sub : (line10.1 : List (HloOp τ sig (Elt F))).Forall fun op => op.bufs ⊆ tcRefs τ sig := by
  simp only [line10, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line11_above : (line11.1 : List (HloOp τ sig (Elt F))).Forall (Above 902) := by
  simp only [line11, List.Forall]; and_intros
  all_goals exact above_of rfl (by decide)
theorem line11_fresh : (line11.1 : List (HloOp τ sig (Elt F))).Forall fun op => op.fresh = ∅ := by
  simp only [line11, List.Forall]; and_intros
  all_goals rfl
theorem line11_sub : (line11.1 : List (HloOp τ sig (Elt F))).Forall fun op => op.bufs ⊆ tcRefs τ sig := by
  simp only [line11, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line12_above : (line12.1 : List (HloOp τ sig (Elt F))).Forall (Above 999) := by
  simp only [line12, List.Forall]; and_intros
  all_goals exact above_of rfl (by decide)
theorem line12_fresh : (line12.1 : List (HloOp τ sig (Elt F))).Forall fun op => op.fresh = ∅ := by
  simp only [line12, List.Forall]; and_intros
  all_goals rfl
theorem line12_sub : (line12.1 : List (HloOp τ sig (Elt F))).Forall fun op => op.bufs ⊆ tcRefs τ sig := by
  simp only [line12, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line13_above : (line13.1 : List (HloOp τ sig (Elt F))).Forall (Above 1104) := by
  simp only [line13, List.Forall]; and_intros
  all_goals exact above_of rfl (by decide)
theorem line13_fresh : (line13.1 : List (HloOp τ sig (Elt F))).Forall fun op => op.fresh = ∅ := by
  simp only [line13, List.Forall]; and_intros
  all_goals rfl
theorem line13_sub : (line13.1 : List (HloOp τ sig (Elt F))).Forall fun op => op.bufs ⊆ tcRefs τ sig := by
  simp only [line13, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line14_above : (line14.1 : List (HloOp τ sig (Elt F))).Forall (Above 1201) := by
  simp only [line14, List.Forall]; and_intros
  all_goals exact above_of rfl (by decide)
theorem line14_fresh : (line14.1 : List (HloOp τ sig (Elt F))).Forall fun op => op.fresh = ∅ := by
  simp only [line14, List.Forall]; and_intros
  all_goals rfl
theorem line14_sub : (line14.1 : List (HloOp τ sig (Elt F))).Forall fun op => op.bufs ⊆ tcRefs τ sig := by
  simp only [line14, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line15_above : (line15.1 : List (HloOp τ sig (Elt F))).Forall (Above 1294) := by
  simp only [line15, List.Forall]; and_intros
  all_goals exact above_of rfl (by decide)
theorem line15_fresh : (line15.1 : List (HloOp τ sig (Elt F))).Forall fun op => op.fresh = ∅ := by
  simp only [line15, List.Forall]; and_intros
  all_goals rfl
theorem line15_sub : (line15.1 : List (HloOp τ sig (Elt F))).Forall fun op => op.bufs ⊆ tcRefs τ sig := by
  simp only [line15, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem line16_above : (line16.1 : List (HloOp τ sig (Elt F))).Forall (Above 1319) := by
  simp only [line16, List.Forall]; and_intros
  all_goals exact above_of rfl (by decide)
theorem line16_fresh : (line16.1 : List (HloOp τ sig (Elt F))).Forall fun op => op.fresh = ∅ := by
  simp only [line16, List.Forall]; and_intros
  all_goals rfl
theorem line16_sub : (line16.1 : List (HloOp τ sig (Elt F))).Forall fun op => op.bufs ⊆ tcRefs τ sig := by
  simp only [line16, List.Forall]; and_intros
  all_goals first | with_reducible exact unary_bufs_sub .. | with_reducible exact binary_bufs_sub .. | with_reducible exact nullary_bufs_sub .. | with_reducible exact reshape_bufs_sub .. | with_reducible exact ternary_bufs_sub .. | with_reducible exact quaternary_bufs_sub .. | (unfold TRef.unary; with_reducible exact unary_bufs_sub ..) | (unfold TRef.binary; with_reducible exact binary_bufs_sub ..) | (unfold TRef.nullary; with_reducible exact nullary_bufs_sub ..) | (unfold TRef.ternary; with_reducible exact ternary_bufs_sub ..) | (unfold TRef.quaternary; with_reducible exact quaternary_bufs_sub ..)

theorem flatten_forall {τ : Topo} {sig : RefSig} {Val : EltTy → Type} {p : HloOp τ sig Val → Prop} {ls : List (List (HloOp τ sig Val))}
    (h : ls.Forall fun l => l.Forall p) : ∀ op ∈ List.flatten ls, p op := by
  intro op hop
  obtain ⟨l, hl, ho⟩ := List.mem_flatten.mp hop
  exact List.forall_iff_forall_mem.mp (List.forall_iff_forall_mem.mp h l hl) op ho

theorem take_append_drop_assoc {α : Type} (n : ℕ) (l l' : List α) : l.take n ++ (l.drop n ++ l') = l ++ l' := by
  rw [← List.append_assoc, List.take_append_drop]

theorem take_drop_assoc {α : Type} (n k : ℕ) (h : k ≤ n) (l l' : List α) : (l.take n).drop k ++ (l.drop n ++ l') = l.drop k ++ l' := by
  rw [List.drop_take, ← List.append_assoc]
  conv_lhs => rw [show l.drop n = (l.drop k).drop (n - k) by rw [List.drop_drop, Nat.add_sub_cancel' h]]
  rw [List.take_append_drop]

theorem lines_sub : (List.flatten lines : List (HloOp τ sig (Elt F))).Forall fun op => op.bufs ⊆ tcRefs τ sig :=
  List.forall_iff_forall_mem.mpr (flatten_forall (by
    simp only [lines, List.Forall]; exact ⟨line0_sub, line1_sub, line2_sub, line3_sub, line4_sub, line5_sub, line6_sub, line7_sub, line8_sub, line9_sub, line10_sub, line11_sub, line12_sub, line13_sub, line14_sub, line15_sub, line16_sub⟩))

theorem lines_fresh : ∀ op ∈ (List.flatten lines : List (HloOp τ sig (Elt F))), op.fresh = ∅ :=
  flatten_forall (by simp only [lines, List.Forall]; exact ⟨line0_fresh, line1_fresh, line2_fresh, line3_fresh, line4_fresh, line5_fresh, line6_fresh, line7_fresh, line8_fresh, line9_fresh, line10_fresh, line11_fresh, line12_fresh, line13_fresh, line14_fresh, line15_fresh, line16_fresh⟩)

/-- The lines together are the printed parts, in order. -/
theorem lines_flatten : (List.flatten lines : List (HloOp τ sig (Elt F))) = part0.1 ++ (part1.1 ++ (part2.1 ++ (part3.1 ++ (part4.1 ++ (part5.1 ++ (part6.1 ++ (part7.1 ++ (part8.1 ++ (part9.1 ++ (part10.1 ++ (part11.1 ++ (part12.1 ++ (part13.1 ++ (part14.1 ++ (part15.1 ++ (part16.1 ++ (part17.1 ++ (part18.1 ++ (part19.1 ++ (part20.1 ++ (part21.1 ++ (part22.1)))))))))))))))))))))) := by
  simp only [lines, List.flatten_cons, List.flatten_nil, line0.2, line1.2, line2.2, line3.2, line4.2, line5.2, line6.2, line7.2, line8.2, line9.2, line10.2, line11.2, line12.2, line13.2, line14.2, line15.2, line16.2]
  simp only [List.append_assoc, List.append_nil, List.take_append_drop, take_append_drop_assoc, take_drop_assoc 59 4 (by decide), take_drop_assoc 27 2 (by decide)]

/-- @main is the straight line of the lines' operations. -/
theorem main_seq (d : Dev nD) : IsSeq (main (F := F) d) (List.flatten lines) := by
  rw [lines_flatten]
  unfold main
  exact seq_bind (part0.2 d) <| seq_bind (part1.2 d) <| seq_bind (part2.2 d) <| seq_bind (part3.2 d) <| seq_bind (part4.2 d) <| seq_bind (part5.2 d) <| seq_bind (part6.2 d) <| seq_bind (part7.2 d) <| seq_bind (part8.2 d) <| seq_bind (part9.2 d) <| seq_bind (part10.2 d) <| seq_bind (part11.2 d) <| seq_bind (part12.2 d) <| seq_bind (part13.2 d) <| seq_bind (part14.2 d) <| seq_bind (part15.2 d) <| seq_bind (part16.2 d) <| seq_bind (part17.2 d) <| seq_bind (part18.2 d) <| seq_bind (part19.2 d) <| seq_bind (part20.2 d) <| seq_bind (part21.2 d) <| part22.2 d

/-- Every run of @main ends with each buffer at the fold of the lines, and every counter at zero. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (List.flatten lines) (launchContents m d) (Proc.devRef .tc b) :=
  run_hlo defs main main_seq (by decide) (by decide) lines_sub lines_fresh m ρ

/-- Every argument array as launched. -/
abbrev Kept (m : (ℓ : Loc nD τ sig) → Buf (Elt F) ℓ) (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)

theorem lines_above : (List.flatten lines : List (HloOp τ sig (Elt F))).Forall (Above 18) :=
  flatten_above (by
    simp only [lines, List.Forall]
    exact ⟨Above.mono line0_above (by decide), Above.mono line1_above (by decide), Above.mono line2_above (by decide), Above.mono line3_above (by decide), Above.mono line4_above (by decide), Above.mono line5_above (by decide), Above.mono line6_above (by decide), Above.mono line7_above (by decide), Above.mono line8_above (by decide), Above.mono line9_above (by decide), Above.mono line10_above (by decide), Above.mono line11_above (by decide), Above.mono line12_above (by decide), Above.mono line13_above (by decide), Above.mono line14_above (by decide), Above.mono line15_above (by decide), Above.mono line16_above (by decide)⟩)

/-- No operation writes an argument. -/
theorem arg_kept (m : (ℓ : Loc nD τ sig) → Buf (Elt F) ℓ) (c : Dev nD) {b : Ref sig .tc} (hb : b.idx.val < 18) :
    after (List.flatten lines) (launchContents m c) (Proc.devRef .tc b) = m ((c.tc : Thread nD τ).loc b) :=
  after_above lines_above _ hb

/-- Every run ends, the argument arrays unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => Kept m r ∧ r.2.sem = fun _ => 0) :=
  (θ_run defs _ _).mono (fun _ h => ⟨fun c => ⟨(h c main_arg0).trans (arg_kept m c (by decide)), (h c main_arg1).trans (arg_kept m c (by decide)), (h c main_arg2).trans (arg_kept m c (by decide)), (h c main_arg3).trans (arg_kept m c (by decide)), (h c main_arg4).trans (arg_kept m c (by decide)), (h c main_arg5).trans (arg_kept m c (by decide)), (h c main_arg6).trans (arg_kept m c (by decide)), (h c main_arg7).trans (arg_kept m c (by decide)), (h c main_arg8).trans (arg_kept m c (by decide)), (h c main_arg9).trans (arg_kept m c (by decide)), (h c main_arg10).trans (arg_kept m c (by decide)), (h c main_arg11).trans (arg_kept m c (by decide)), (h c main_arg12).trans (arg_kept m c (by decide)), (h c main_arg13).trans (arg_kept m c (by decide)), (h c main_arg14).trans (arg_kept m c (by decide)), (h c main_arg15).trans (arg_kept m c (by decide)), (h c main_arg16).trans (arg_kept m c (by decide)), (h c main_arg17).trans (arg_kept m c (by decide))⟩, sem_eq_zero_of_no_sems (by decide) _⟩) (run m ρ)

end Cert.ReferenceIdeal.Lines

end
-- ==== Proof.PreFacts.lean ====
/- The precondition's shape relations. -/
module

public import proofs.«01_k».proof.Pre_finite

@[expose] public section

noncomputable section

namespace Cert.Pre_finite.Own

open Idealize.ShloMosaic Cert.Pre_finite

theorem facts : Cert.Pre_finite.Facts where
  bcast_S_S16x2048x80 := by decide
  bcast_S_S4x160x80x3 := by decide
  bcast_S_S4x160 := by decide
  bcast_S_S3x160x80x1 := by decide
  bcast_S_S3x160 := by decide
  bcast_S_S80x80x1 := by decide
  bcast_S_S80 := by decide
  bcast_S_S10x80 := by decide
  bcast_S_S10x160x80x5 := by decide
  bcast_S_S10x160 := by decide
  bcast_S_S10x80x160x1 := by decide
  bcast_S_S256x80x3 := by decide
  bcast_S_S256 := by decide
  bcast_S_S128x256 := by decide

end Cert.Pre_finite.Own

end
-- ==== Proof.Rel.lean ====
/- Two tensors that are the same and whose elements are real numbers (with a sign where one is needed): the relation is
   kept by every operation the encoder takes. -/
module

public import Idealize.ShloMosaic.PureOps
public import Idealize.ShloMosaic.PureOps.Ideal.Laws
public import Idealize.ShloMosaic.Lib.StableHlo

@[expose] public section

noncomputable section

namespace Cert.Rel

open Idealize.ShloMosaic
open scoped BigOperators

variable {s t u : Shape}

/-- The extended reals that are real numbers of the kind `p`. -/
def Is (p : ℝ → Prop) (x : EReal) : Prop := ∃ r : ℝ, p r ∧ x = r

/-- Any real number, one that is not negative, one that is positive. -/
def anyR (_ : ℝ) : Prop := True
def nonneg (r : ℝ) : Prop := 0 ≤ r
def posR (r : ℝ) : Prop := 0 < r

/-- The same tensor, all of whose elements are reals. -/
def AF (x y : s.Idx → EReal) : Prop := x = y ∧ ∀ i, Is anyR (x i)
/-- The same, no element negative. -/
def AN (x y : s.Idx → EReal) : Prop := x = y ∧ ∀ i, Is nonneg (x i)
/-- The same, every element positive. -/
def AP (x y : s.Idx → EReal) : Prop := x = y ∧ ∀ i, Is posR (x i)
/-- The same integer tensor. -/
def AI {α : Type} (x y : s.Idx → α) : Prop := x = y

theorem Is.mono {p q : ℝ → Prop} {x : EReal} (h : Is p x) (hpq : ∀ r, p r → q r) : Is q x := by
  obtain ⟨r, h1, h2⟩ := h; exact ⟨r, hpq r h1, h2⟩

theorem AN.af {x y : s.Idx → EReal} (h : AN x y) : AF x y := ⟨h.1, fun i => (h.2 i).mono fun _ _ => trivial⟩
theorem AP.an {x y : s.Idx → EReal} (h : AP x y) : AN x y := ⟨h.1, fun i => (h.2 i).mono fun _ h => le_of_lt h⟩
theorem AP.af {x y : s.Idx → EReal} (h : AP x y) : AF x y := h.an.af

theorem is_add {p q w : ℝ → Prop} (h : ∀ a b, p a → q b → w (a + b)) {x y : EReal} (hx : Is p x) (hy : Is q y) :
    Is w (x + y) := by
  obtain ⟨a, ha, rfl⟩ := hx; obtain ⟨b, hb, rfl⟩ := hy
  exact ⟨a + b, h a b ha hb, (EReal.coe_add a b).symm⟩

theorem is_mul {p q w : ℝ → Prop} (h : ∀ a b, p a → q b → w (a * b)) {x y : EReal} (hx : Is p x) (hy : Is q y) :
    Is w (x * y) := by
  obtain ⟨a, ha, rfl⟩ := hx; obtain ⟨b, hb, rfl⟩ := hy
  exact ⟨a * b, h a b ha hb, (EReal.coe_mul a b).symm⟩

theorem is_neg {x : EReal} (hx : Is anyR x) : Is anyR (-x) := by
  obtain ⟨a, ha, rfl⟩ := hx; exact ⟨-a, trivial, (EReal.coe_neg a).symm⟩

theorem is_sub {x y : EReal} (hx : Is anyR x) (hy : Is anyR y) : Is anyR (x - y) := by
  obtain ⟨a, ha, rfl⟩ := hx; obtain ⟨b, hb, rfl⟩ := hy
  exact ⟨a - b, trivial, (EReal.coe_sub a b).symm⟩

theorem is_div {p w : ℝ → Prop} (h : ∀ a b, p a → 0 < b → w (a / b)) {x y : EReal} (hx : Is p x) (hy : Is posR y) :
    Is w (Ideal.div x y) := by
  obtain ⟨a, ha, rfl⟩ := hx; obtain ⟨b, hb, rfl⟩ := hy
  refine ⟨a / b, h a b ha hb, ?_⟩
  rw [Ideal.div_coe (ne_of_gt hb), ← EReal.coe_mul, mul_one_div]

theorem is_sum {ι : Type*} {p : ℝ → Prop} (h0 : p 0) (hadd : ∀ a b, p a → p b → p (a + b)) (S : Finset ι) {f : ι → EReal}
    (hf : ∀ i ∈ S, Is p (f i)) : Is p (∑ i ∈ S, f i) := by
  classical
  induction S using Finset.induction_on with
  | empty => exact ⟨0, h0, by simp⟩
  | insert a S ha ih =>
    rw [Finset.sum_insert ha]
    exact is_add hadd (hf a (Finset.mem_insert_self a S)) (ih fun i hi => hf i (Finset.mem_insert_of_mem hi))

theorem is_max {x y : EReal} (hx : Is anyR x) (hy : Is anyR y) : Is anyR (max x y) := by
  rcases max_choice x y with h | h <;> rw [h] <;> assumption

/-! The operations. -/

theorem AF.addf {x x' y y' : FVec Ideal s .f32} (hx : AF x x') (hy : AF y y') : AF (addf x y) (addf x' y') := by
  obtain ⟨rfl, h1⟩ := hx; obtain ⟨rfl, h2⟩ := hy
  exact ⟨rfl, fun i => is_add (fun _ _ _ _ => trivial) (h1 i) (h2 i)⟩

theorem AF.subf {x x' y y' : FVec Ideal s .f32} (hx : AF x x') (hy : AF y y') : AF (subf x y) (subf x' y') := by
  obtain ⟨rfl, h1⟩ := hx; obtain ⟨rfl, h2⟩ := hy
  exact ⟨rfl, fun i => is_sub (h1 i) (h2 i)⟩

theorem AF.mulf {x x' y y' : FVec Ideal s .f32} (hx : AF x x') (hy : AF y y') : AF (mulf x y) (mulf x' y') := by
  obtain ⟨rfl, h1⟩ := hx; obtain ⟨rfl, h2⟩ := hy
  exact ⟨rfl, fun i => is_mul (fun _ _ _ _ => trivial) (h1 i) (h2 i)⟩

theorem AF.divf {x x' y y' : FVec Ideal s .f32} (hx : AF x x') (hy : AP y y') : AF (Host.divf x y) (Host.divf x' y') := by
  obtain ⟨rfl, h1⟩ := hx; obtain ⟨rfl, h2⟩ := hy
  exact ⟨rfl, fun i => is_div (fun _ _ _ _ => trivial) (h1 i) (h2 i)⟩

theorem AF.negf {x x' : FVec Ideal s .f32} (hx : AF x x') : AF (Host.negf x) (Host.negf x') := by
  obtain ⟨rfl, h1⟩ := hx
  exact ⟨rfl, fun i => is_neg (h1 i)⟩

theorem AF.absf {x x' : FVec Ideal s .f32} (hx : AF x x') : AF (Host.absf x) (Host.absf x') := by
  obtain ⟨rfl, h1⟩ := hx
  exact ⟨rfl, fun i => is_max (h1 i) (is_neg (h1 i))⟩

theorem AF.tanh {x x' : FVec Ideal s .f32} (hx : AF x x') : AF (Host.tanh x) (Host.tanh x') := by
  obtain ⟨rfl, h1⟩ := hx
  refine ⟨rfl, fun i => ?_⟩
  obtain ⟨r, -, hr⟩ := h1 i
  refine ⟨Real.tanh r, trivial, ?_⟩
  show Ideal.tanh (x i) = _
  rw [hr]; rfl

theorem AF.erfc {x x' : FVec Ideal s .f32} (hx : AF x x') : AF (Host.erfc x) (Host.erfc x') := by
  obtain ⟨rfl, h1⟩ := hx
  refine ⟨rfl, fun i => ?_⟩
  obtain ⟨r, -, hr⟩ := h1 i
  show Is anyR (Ideal.erfc (x i))
  rw [hr]
  exact is_sub ⟨1, trivial, EReal.coe_one.symm⟩ ⟨_, trivial, Ideal.erf_coe r⟩

theorem AP.exp {x x' : FVec Ideal s .f32} (hx : AF x x') : AP (Host.exp x) (Host.exp x') := by
  obtain ⟨rfl, h1⟩ := hx
  refine ⟨rfl, fun i => ?_⟩
  obtain ⟨r, -, hr⟩ := h1 i
  refine ⟨Real.exp r, Real.exp_pos r, ?_⟩
  show Ideal.exp (x i) = _
  rw [hr]; rfl

theorem AP.sqrt {x x' : FVec Ideal s .f32} (hx : AP x x') : AP (Host.sqrt x) (Host.sqrt x') := by
  obtain ⟨rfl, h1⟩ := hx
  refine ⟨rfl, fun i => ?_⟩
  obtain ⟨r, h0, hr⟩ := h1 i
  refine ⟨Real.sqrt r, Real.sqrt_pos.2 h0, ?_⟩
  show Ideal.sqrt (x i) = _
  rw [hr, Ideal.sqrt_coe, if_neg (not_lt.2 (le_of_lt h0))]

theorem AP.addf {x x' y y' : FVec Ideal s .f32} (hx : AN x x') (hy : AP y y') : AP (addf x y) (addf x' y') := by
  obtain ⟨rfl, h1⟩ := hx; obtain ⟨rfl, h2⟩ := hy
  exact ⟨rfl, fun i => is_add (fun _ _ => add_pos_of_nonneg_of_pos) (h1 i) (h2 i)⟩

theorem AN.square {x x' : FVec Ideal s .f32} (hx : AF x x') : AN (mulf x x) (mulf x' x') := by
  obtain ⟨rfl, h1⟩ := hx
  refine ⟨rfl, fun i => ?_⟩
  obtain ⟨r, h0, hr⟩ := h1 i
  refine ⟨r * r, mul_self_nonneg r, ?_⟩
  show x i * x i = _
  rw [hr, ← EReal.coe_mul]

theorem AN.divf {x x' y y' : FVec Ideal s .f32} (hx : AN x x') (hy : AP y y') : AN (Host.divf x y) (Host.divf x' y') := by
  obtain ⟨rfl, h1⟩ := hx; obtain ⟨rfl, h2⟩ := hy
  exact ⟨rfl, fun i => is_div (fun _ _ ha hb => div_nonneg ha (le_of_lt hb)) (h1 i) (h2 i)⟩

theorem AF.const {φ : FTy} {b : BitVec φ.bits} (h : Is anyR (Ideal.ofBits φ b)) :
    AF (constant (F := Ideal) s φ b) (constant (F := Ideal) s φ b) := ⟨rfl, fun _ => h⟩

theorem AN.zero : AN (constant (F := Ideal) s .f32 0x00000000#32) (constant (F := Ideal) s .f32 0x00000000#32) :=
  ⟨rfl, fun _ => ⟨0, le_refl (0 : ℝ), by show Ideal.ofBits .f32 0x00000000#32 = _; simp⟩⟩

/-- A pattern whose exponent is neither all ones nor zero, read as a real. -/
theorem bits_normal (b : BitVec 32) (h1 : (b.extractLsb' 23 8).toNat ≠ 255) (h2 : (b.extractLsb' 23 8).toNat ≠ 0) :
    Ideal.ofBits .f32 b = (((if (b.extractLsb' 31 1 == 1#1) then (-1 : ℝ) else 1) * (2 ^ 23 + (b.extractLsb' 0 23).toNat : Nat)
      * (2 : ℝ) ^ (((b.extractLsb' 23 8).toNat : Int) - (2 ^ (8 - 1) - 1) - 23) : ℝ) : EReal) := by
  show Ideal.ieee 8 23 b = _
  unfold Ideal.ieee
  simp only
  rw [if_neg (show ¬ (b.extractLsb' 23 8).toNat = 2 ^ 8 - 1 from h1), if_neg h2]
  norm_num

/-- A pattern whose exponent is neither all ones nor zero and whose sign is clear is a positive real. -/
theorem pos_of_bits (b : BitVec 32) (h1 : (b.extractLsb' 23 8).toNat ≠ 255) (h2 : (b.extractLsb' 23 8).toNat ≠ 0)
    (h3 : (b.extractLsb' 31 1 == 1#1) = false) : Is posR (Ideal.ofBits .f32 b) := by
  refine ⟨_, ?_, bits_normal b h1 h2⟩
  simp only [h3, Bool.false_eq_true, if_false, posR]
  positivity

/-- A pattern whose exponent is not all ones is a real. -/
theorem real_of_bits (b : BitVec 32) (h1 : (b.extractLsb' 23 8).toNat ≠ 255) : Is anyR (Ideal.ofBits .f32 b) := by
  by_cases h2 : (b.extractLsb' 23 8).toNat = 0
  · show Is anyR (Ideal.ieee 8 23 b)
    unfold Ideal.ieee
    simp only
    rw [if_neg (show ¬ (b.extractLsb' 23 8).toNat = 2 ^ 8 - 1 from h1), if_pos h2]
    exact ⟨_, trivial, rfl⟩
  · exact ⟨_, trivial, bits_normal b h1 h2⟩

theorem AF.bits {b : BitVec 32} (h1 : (b.extractLsb' 23 8).toNat ≠ 255 := by decide) :
    AF (constant (F := Ideal) s .f32 b) (constant (F := Ideal) s .f32 b) := AF.const (real_of_bits b h1)

theorem AP.bits {b : BitVec 32} (h1 : (b.extractLsb' 23 8).toNat ≠ 255 := by decide)
    (h2 : (b.extractLsb' 23 8).toNat ≠ 0 := by decide) (h3 : (b.extractLsb' 31 1 == 1#1) = false := by decide) :
    AP (constant (F := Ideal) s .f32 b) (constant (F := Ideal) s .f32 b) := ⟨rfl, fun _ => pos_of_bits b h1 h2 h3⟩

theorem AF.bcast {t : Shape} {dims : Fin s.rank → Fin t.rank} {h h' : s.BroadcastsInDim t dims} {x x' : s.Idx → EReal}
    (hx : AF x x') : AF (broadcastInDim t dims h x) (broadcastInDim t dims h' x') := by
  obtain ⟨rfl, h1⟩ := hx; exact ⟨rfl, fun i => h1 _⟩
theorem AN.bcast {t : Shape} {dims : Fin s.rank → Fin t.rank} {h h' : s.BroadcastsInDim t dims} {x x' : s.Idx → EReal}
    (hx : AN x x') : AN (broadcastInDim t dims h x) (broadcastInDim t dims h' x') := by
  obtain ⟨rfl, h1⟩ := hx; exact ⟨rfl, fun i => h1 _⟩
theorem AP.bcast {t : Shape} {dims : Fin s.rank → Fin t.rank} {h h' : s.BroadcastsInDim t dims} {x x' : s.Idx → EReal}
    (hx : AP x x') : AP (broadcastInDim t dims h x) (broadcastInDim t dims h' x') := by
  obtain ⟨rfl, h1⟩ := hx; exact ⟨rfl, fun i => h1 _⟩

theorem AF.slice {t : Shape} {off : Fin s.rank → Nat} {x x' : s.Idx → EReal} {h h' : s.Slices off t} (hx : AF x x') :
    AF (extractStridedSlice t off x h) (extractStridedSlice t off x' h') := by
  obtain ⟨rfl, h1⟩ := hx; exact ⟨rfl, fun i => h1 _⟩

theorem AF.transpose {t : Shape} {perm : List (Fin s.rank)} {x x' : s.Idx → EReal} {h h' : s.Transposes perm t} (hx : AF x x') :
    AF (transpose t perm x h) (transpose t perm x' h') := by
  obtain ⟨rfl, h1⟩ := hx; exact ⟨rfl, fun i => h1 _⟩

theorem AF.shapeCast {t : Shape} {x x' : s.Idx → EReal} {h h' : s.ShapeCasts t} (hx : AF x x') :
    AF (shapeCast t x h) (shapeCast t x' h') := by
  obtain ⟨rfl, h1⟩ := hx; exact ⟨rfl, fun i => h1 _⟩

theorem AF.pad {t u : Shape} {lo hi interior : Fin s.rank → Nat} {x x' : s.Idx → EReal} {v v' : u.Idx → EReal}
    {h h' : s.Pads lo hi interior t} {hu hu' : 0 < u.numel} (hx : AF x x') (hv : AF v v') :
    AF (pad t lo hi interior x v h hu) (pad t lo hi interior x' v' h' hu') := by
  obtain ⟨rfl, h1⟩ := hx; obtain ⟨rfl, h2⟩ := hv
  refine ⟨rfl, fun j => ?_⟩
  unfold Idealize.ShloMosaic.pad
  split
  · exact h1 _
  · exact h2 _

theorem AF.reduceAdd {axes : List (Fin s.rank)} {t u : Shape} {x x' : FVec Ideal s .f32} {init init' : u.Idx → Ideal .f32}
    {h h' : s.ReducesTo axes t} {hu hu' : 0 < u.numel} (hx : AF x x') (hi : AF init init') :
    AF (Host.reduceAdd x init h hu) (Host.reduceAdd x' init' h' hu') := by
  obtain ⟨rfl, h1⟩ := hx; obtain ⟨rfl, h2⟩ := hi
  exact ⟨rfl, fun j => is_add (fun _ _ _ _ => trivial) (h2 _) (is_sum trivial (fun _ _ _ _ => trivial) _ fun i _ => h1 i)⟩

theorem AN.reduceAdd {axes : List (Fin s.rank)} {t u : Shape} {x x' : FVec Ideal s .f32} {init init' : u.Idx → Ideal .f32}
    {h h' : s.ReducesTo axes t} {hu hu' : 0 < u.numel} (hx : AN x x') (hi : AN init init') :
    AN (Host.reduceAdd x init h hu) (Host.reduceAdd x' init' h' hu') := by
  obtain ⟨rfl, h1⟩ := hx; obtain ⟨rfl, h2⟩ := hi
  exact ⟨rfl, fun j => is_add (fun _ _ => add_nonneg) (h2 _) (is_sum (le_refl (0 : ℝ)) (fun _ _ => add_nonneg) _ fun i _ => h1 i)⟩

theorem AF.dot {sl sr so : Shape} {d d' : DotDims sl sr so} {x x' : FVec Ideal sl .f32} {y y' : FVec Ideal sr .f32}
    (hd : d = d') (hx : AF x x') (hy : AF y y') : AF (Host.dotGeneral d none x y) (Host.dotGeneral d' none x' y') := by
  subst hd; obtain ⟨rfl, h1⟩ := hx; obtain ⟨rfl, h2⟩ := hy
  exact ⟨rfl, fun j => is_add (w := anyR) (fun _ _ _ _ => trivial) (⟨0, trivial, rfl⟩ : Is anyR 0)
    (is_sum (p := anyR) trivial (fun _ _ _ _ => trivial) _ fun k _ =>
      is_mul (w := anyR) (fun _ _ _ _ => trivial) (h1 _) (h2 _))⟩

theorem AF.uitofp {w : ℕ} {x x' : IVec s w} (hx : AI x x') :
    AF (uitofp (F := Ideal) .f32 x) (uitofp (F := Ideal) .f32 x') := by
  obtain rfl := hx; exact ⟨rfl, fun i => ⟨_, trivial, rfl⟩⟩

theorem AF.sitofp {w : ℕ} {x x' : IVec s w} (hx : AI x x') :
    AF (sitofp (F := Ideal) .f32 x) (sitofp (F := Ideal) .f32 x') := by
  obtain rfl := hx; exact ⟨rfl, fun i => ⟨_, trivial, rfl⟩⟩

theorem AI.cmpf {p : CmpFPredicate} {x x' y y' : FVec Ideal s .f32} (hx : AF x x') (hy : AF y y') :
    AI (cmpf p x y) (cmpf p x' y') := by
  obtain ⟨rfl, -⟩ := hx; obtain ⟨rfl, -⟩ := hy; rfl

theorem AI.noti {w : ℕ} {x x' : IVec s w} (hx : AI x x') : AI (noti x) (noti x') := by obtain rfl := hx; rfl

theorem AI.const {w : ℕ} {b : BitVec w} : AI (constantI s w b) (constantI s w b) := rfl

end Cert.Rel
-- ==== Proof.Quant.lean ====
/- The nearest code vector of a row, with no program in it: the squared distances, the first smallest of them, and the
   sums both programs form from the choice. -/
module

public import Idealize.ShloMosaic.Lib.Pointwise
public import Idealize.ShloMosaic.Lib.PlanTiles.Rows
public import Idealize.ShloMosaic.Lib.IdealHost
public import proofs.«01_k».proof.Proof.Rel

@[expose] public section

noncomputable section

namespace Cert.Quant

open Idealize.ShloMosaic
open scoped BigOperators

/-! ## The first smallest entry -/

theorem exists_first (f : Fin 128 → EReal) : ∃ k, (∀ j, f k ≤ f j) ∧ ∀ j, f j ≤ f k → k ≤ j := by
  obtain ⟨a, -, ha⟩ := Finset.exists_min_image Finset.univ f Finset.univ_nonempty
  have hne : (Finset.univ.filter fun k => ∀ j, f k ≤ f j).Nonempty := ⟨a, by simpa using fun j => ha j (Finset.mem_univ j)⟩
  have hm := Finset.min'_mem _ hne
  rw [Finset.mem_filter] at hm
  refine ⟨_, hm.2, fun j hj => Finset.min'_le _ _ ?_⟩
  rw [Finset.mem_filter]
  exact ⟨Finset.mem_univ _, fun i => hj.trans (hm.2 i)⟩

/-- The first index at which `f` is smallest. -/
def first (f : Fin 128 → EReal) : Fin 128 := Classical.choose (exists_first f)

theorem first_le (f : Fin 128 → EReal) (j : Fin 128) : f (first f) ≤ f j := (Classical.choose_spec (exists_first f)).1 j
theorem first_first (f : Fin 128 → EReal) (j : Fin 128) (h : f j ≤ f (first f)) : first f ≤ j :=
  (Classical.choose_spec (exists_first f)).2 j h

theorem eq_first {f : Fin 128 → EReal} {k : Fin 128} (h : ∀ j, f k ≤ f j) (h' : ∀ j, f j ≤ f k → k ≤ j) : k = first f :=
  le_antisymm (h' _ (first_le f k)) (first_first f k (h _))

/-- The smallest entry as the kernel folds it. -/
theorem fold_min (f : Fin 128 → EReal) : Finset.fold min (Ideal.ofBits .f32 0x7F800000#32) f Finset.univ = f (first f) := by
  apply le_antisymm
  · exact (Finset.fold_min_le _).2 (Or.inr ⟨_, Finset.mem_univ _, le_rfl⟩)
  · refine (Finset.le_fold_min _).2 ⟨?_, fun j _ => first_le f j⟩
    rw [show Ideal.ofBits .f32 0x7F800000#32 = (⊤ : EReal) by simp [Ideal.ofBits, Ideal.ieee]]
    exact le_top

theorem fold_minsi (g : Fin 128 → ℕ) (hg : ∀ k, g k < 2 ^ 31) (s : Finset (Fin 128)) :
    s.fold IntOp.minsi 2147483647#32 (fun k => BitVec.ofNat 32 (g k)) = BitVec.ofNat 32 (s.fold min 2147483647 g)
      ∧ s.fold min 2147483647 g < 2 ^ 31 := by
  induction s using Finset.induction_on with
  | empty => exact ⟨rfl, by rw [Finset.fold_empty]; norm_num⟩
  | insert a s ha ih =>
    rw [Finset.fold_insert ha, Finset.fold_insert ha, ih.1, PlanTiles.minsi_word (hg a) ih.2]
    exact ⟨by rw [Nat.min_comm], lt_of_le_of_lt (min_le_left _ _) (hg a)⟩

/-- The first smallest index as the kernel folds it: the smallest of the indices whose entry reaches the smallest. -/
theorem fold_code (f : Fin 128 → EReal) :
    Finset.fold IntOp.minsi 2147483647#32 (fun x => if f x ≤ f (first f) then BitVec.ofNat 32 x.val else 128#32) Finset.univ
      = BitVec.ofNat 32 (first f).val := by
  have e : (fun x : Fin 128 => if f x ≤ f (first f) then BitVec.ofNat 32 x.val else 128#32)
      = fun x => BitVec.ofNat 32 (if f x ≤ f (first f) then x.val else 128) := by
    funext x; split <;> rfl
  rw [e, (fold_minsi _ (fun k => by split <;> omega) _).1]
  congr 1
  apply le_antisymm
  · exact (Finset.fold_min_le _).2 (Or.inr ⟨first f, Finset.mem_univ _, by rw [if_pos le_rfl]⟩)
  · refine (Finset.le_fold_min _).2 ⟨by have := (first f).isLt; omega, fun j _ => ?_⟩
    split
    · next h => exact first_first f j h
    · have := (first f).isLt; omega

/-! ## Masks as numbers -/

/-- One where `b` holds, else zero. -/
def ind (b : Bool) : EReal := if b then 1 else 0

theorem sitofp_ind (b : Bool) : FloatOps.sitofp (F := Ideal) .f32 (BitVec.setWidth 32 (BitVec.ofBool b)) = ind b := by
  cases b <;> simp [ind, FloatOps.sitofp]

theorem uitofp_ind (b : Bool) : FloatOps.uitofp (F := Ideal) .f32 (BitVec.ofBool b) = ind b := by
  cases b <;> simp [ind, FloatOps.uitofp]

theorem ofNat_eq (a b : Fin 128) : (BitVec.ofNat 32 a.val == BitVec.ofNat 32 b.val) = decide (a = b) := by
  by_cases h : a = b
  · subst h; simp
  · rw [decide_eq_false h, beq_eq_false_iff_ne]
    intro e
    have := congrArg BitVec.toNat e
    rw [BitVec.toNat_ofNat, BitVec.toNat_ofNat, Nat.mod_eq_of_lt (by omega), Nat.mod_eq_of_lt (by omega)] at this
    exact h (Fin.ext this)

/-- A choice row times a table is the chosen row. -/
theorem sum_ind (a : Fin 128) (g : Fin 128 → EReal) : ∑ k, ind (decide (k = a)) * g k = g a := by
  rw [Finset.sum_eq_single a (fun b _ h => by simp [ind, h]) (fun h => absurd (Finset.mem_univ a) h)]
  simp [ind]

/-! ## The quantiser of a row -/

/-- The squared distance from the row `x` to code vector `k`, expanded. -/
def dist (x : Fin 256 → EReal) (C : Fin 128 → Fin 256 → EReal) (k : Fin 128) : EReal :=
  ∑ d, C k d * C k d + ∑ d, x d * x d - Ideal.ofBits .f32 0x40000000#32 * ∑ d, x d * C k d

/-- The nearest code vector's number. -/
def code (x : Fin 256 → EReal) (C : Fin 128 → Fin 256 → EReal) : Fin 128 := first (dist x C)

/-- One for a row with a nonzero entry, else zero. -/
def mask (x : Fin 256 → EReal) : EReal := ind (decide (0 < ∑ d, FloatOps.absf (F := Ideal) (φ := .f32) (x d)))

/-- The squared error of a row. -/
def err (x : Fin 256 → EReal) (C : Fin 128 → Fin 256 → EReal) : EReal :=
  ∑ d, (x d - C (code x C) d) * (x d - C (code x C) d)

/-- A factor in front of a quotient, the divisor zero or not. -/
theorem mul_div_pos (c : ℝ) (hc : 0 < c) (e n : EReal) : Ideal.div ((c : EReal) * e) n = c * Ideal.div e n := by
  unfold Ideal.div
  have hc' : (0 : EReal) < c := by exact_mod_cast hc
  by_cases hn : n = 0
  · rw [if_pos hn, if_pos hn]
    by_cases he : 0 < e
    · rw [if_pos he, if_pos (EReal.mul_pos hc' he), EReal.coe_mul_top_of_pos hc]
    · rw [if_neg he, if_neg, EReal.coe_mul_bot_of_pos hc]
      intro h
      rcases EReal.mul_pos_iff.1 h with h | h
      · exact he h.2
      · exact absurd h.1 (not_lt.2 hc'.le)
  · rw [if_neg hn, if_neg hn, mul_assoc]

/-- Real minus real, added back. -/
theorem add_sub_self {x q : EReal} (hx : Rel.Is Rel.anyR x) (hq : Rel.Is Rel.anyR q) : x + (q - x) = q := by
  obtain ⟨a, -, rfl⟩ := hx
  obtain ⟨b, -, rfl⟩ := hq
  rw [← EReal.coe_sub, ← EReal.coe_add]; congr 1; ring

end Cert.Quant

end
-- ==== Proof.RTail.lean ====
/- The reference's quantiser, in three stretches: the choice, the gathered code vectors, and the results. -/
module

public import proofs.«01_k».proof.Proof.RLines
public import proofs.«01_k».proof.Proof.Quant

@[expose] public section

set_option maxRecDepth 16384
set_option maxHeartbeats 1000000

noncomputable section

namespace Cert.RTail

open Idealize.ShloMosaic Idealize.ShloMosaic.TcCoe Idealize.ShloMosaic.StableHlo Idealize.ShloMosaic.Pointwise
open Cert.ReferenceIdeal Cert.ReferenceIdeal.Lines Cert.Base Cert.Quant
open scoped BigOperators

/-- Buffers 1319 to 1336: the distances. -/
def measure : {l : List (HloOp τ sig (Elt Ideal)) // l = line16.1.take 18} := by
  apply Subtype.mk
  simp only [line16, List.take_succ_cons, List.take_zero]
  rfl

/-- Buffers 1337 to 1341: the choice. -/
def choose : {l : List (HloOp τ sig (Elt Ideal)) // l = (line16.1.drop 18).take 5} := by
  apply Subtype.mk
  simp only [line16, List.take_succ_cons, List.take_zero, List.drop_succ_cons, List.drop_zero]
  rfl

/-- Buffers 1342 to 1365: the chosen code vectors. -/
def fetch : {l : List (HloOp τ sig (Elt Ideal)) // l = ((line16.1.drop 18).drop 5).take 24} := by
  apply Subtype.mk
  simp only [line16, List.take_succ_cons, List.take_zero, List.drop_succ_cons, List.drop_zero]
  rfl

/-- Buffers 1366 to 1409: the results. -/
def finish : {l : List (HloOp τ sig (Elt Ideal)) // l = ((line16.1.drop 18).drop 5).drop 24} := by
  apply Subtype.mk
  simp only [line16, List.drop_succ_cons, List.drop_zero]
  rfl

theorem line16_eq : (line16.1 : List (HloOp τ sig (Elt Ideal))) = measure.1 ++ (choose.1 ++ (fetch.1 ++ finish.1)) := by
  rw [measure.2, choose.2, fetch.2, finish.2, List.take_append_drop, List.take_append_drop, List.take_append_drop]

theorem measure_above : (measure.1 : List (HloOp τ sig (Elt Ideal))).Forall (Above 1319) := by
  rw [measure.2, List.forall_iff_forall_mem]
  exact fun op h => List.forall_iff_forall_mem.1 line16_above op (List.mem_of_mem_take h)

theorem choose_above : (choose.1 : List (HloOp τ sig (Elt Ideal))).Forall (Above 1319) := by
  rw [choose.2, List.forall_iff_forall_mem]
  exact fun op h => List.forall_iff_forall_mem.1 line16_above op (List.mem_of_mem_drop (List.mem_of_mem_take h))

theorem fetch_above : (fetch.1 : List (HloOp τ sig (Elt Ideal))).Forall (Above 1319) := by
  rw [fetch.2, List.forall_iff_forall_mem]
  exact fun op h => List.forall_iff_forall_mem.1 line16_above op (List.mem_of_mem_drop (List.mem_of_mem_drop (List.mem_of_mem_take h)))

variable (W : Valuation τ sig (Elt Ideal))

/-- The encoded row. -/
abbrev X (b : Fin 16) (t : Fin 2048) : Fin 256 → EReal := fun d => (W main_v1163 : S16x2048x256.Idx → EReal) (ix3 b t d)
/-- The codebook. -/
abbrev C : Fin 128 → Fin 256 → EReal := fun k d => (W main_arg17 : S128x256.Idx → EReal) (ix2 k d)

end Cert.RTail

end
-- ==== Proof.RChoose.lean ====
/- The reference's distances and choice. -/
module

public import proofs.«01_k».proof.Proof.RTail
public import proofs.«01_k».proof.Proof.Quant
public import Idealize.ShloMosaic.Lib.Routing.Ops

@[expose] public section

set_option maxRecDepth 16384
set_option maxHeartbeats 1000000

noncomputable section

namespace Cert.RTail

open Idealize.ShloMosaic Idealize.ShloMosaic.TcCoe Idealize.ShloMosaic.StableHlo Idealize.ShloMosaic.Pointwise
open Cert.ReferenceIdeal Cert.ReferenceIdeal.Lines Cert.Base Cert.Quant
open scoped BigOperators

/-! ## The choice -/

/-- The reducer keeps the smaller value, and on equal values the smaller number. -/
theorem reducer_eq (a b : EReal) (k j : Fin 128) :
    reducer_argmin_f32_i32 (F := Ideal) (a, BitVec.ofNat 32 k.val) (b, BitVec.ofNat 32 j.val)
      = if a < b then (a, BitVec.ofNat 32 k.val) else (b, BitVec.ofNat 32 (if a = b ∧ k < j then k.val else j.val)) := by
  have hs : (BitVec.ofNat 32 k.val).slt (BitVec.ofNat 32 j.val) = decide (k < j) :=
    (Routing.slt_ofNat32 (by omega) (by omega)).trans rfl
  unfold reducer_argmin_f32_i32
  simp only [Ideal.cmpf_def, Ideal.cmp, IntOp.cmpi, hs, IntOp.ori, IntOp.andi, Scalar.select]
  by_cases h1 : a < b
  · have hn : ¬ a = b := h1.ne
    simp [h1, hn]
  · by_cases h2 : a = b
    · by_cases h3 : k < j <;> simp [h2, h3]
    · simp [h1, h2]

/-- Folded over a list of numbered entries, it leaves the first smallest entry's number. -/
theorem fold_argmin {ι : Type} (v : ι → EReal) (c : ι → Fin 128) (f : Fin 128 → EReal) (l : List ι)
    (hv : ∀ n ∈ l, v n = f (c n)) :
    ∃ (a : EReal) (k : Fin 128), l.foldl (fun r n => reducer_argmin_f32_i32 (F := Ideal) r (v n, BitVec.ofNat 32 (c n).val)) ((⊤ : EReal), 0#32) = (a, BitVec.ofNat 32 k.val)
      ∧ (∀ n ∈ l, a < v n ∨ (a = v n ∧ k ≤ c n)) ∧ (a = f k ∨ (a = ⊤ ∧ k = 0)) := by
  induction l using List.reverseRecOn with
  | nil => exact ⟨⊤, 0, rfl, by simp, Or.inr ⟨rfl, rfl⟩⟩
  | append_singleton l n ih =>
    obtain ⟨a, k, e, h, h'⟩ := ih fun m hm => hv m (List.mem_append_left _ hm)
    have hn : v n = f (c n) := hv n (by simp)
    rw [List.foldl_append, e, List.foldl_cons, List.foldl_nil, reducer_eq]
    by_cases h1 : a < v n
    · refine ⟨a, k, by rw [if_pos h1], fun m hm => ?_, h'⟩
      rcases List.mem_append.1 hm with hm | hm
      · exact h m hm
      · rw [List.mem_singleton.1 hm]; exact Or.inl h1
    · by_cases h2 : a = v n ∧ k < c n
      · refine ⟨a, k, by rw [if_neg h1, if_pos h2, h2.1], fun m hm => ?_, h'⟩
        rcases List.mem_append.1 hm with hm | hm
        · exact h m hm
        · rw [List.mem_singleton.1 hm]; exact Or.inr ⟨h2.1, h2.2.le⟩
      · refine ⟨v n, c n, by rw [if_neg h1, if_neg h2], fun m hm => ?_, Or.inl hn⟩
        rcases List.mem_append.1 hm with hm | hm
        · rcases lt_or_eq_of_le (not_lt.1 h1) with h3 | h3
          · rcases h m hm with h4 | h4
            · exact Or.inl (h3.trans h4)
            · exact Or.inl (h4.1 ▸ h3)
          · have h5 : c n ≤ k := not_lt.1 fun h6 => h2 ⟨h3.symm, h6⟩
            rcases h m hm with h4 | h4
            · exact Or.inl (h3 ▸ h4)
            · exact Or.inr ⟨h3.trans h4.1, h5.trans h4.2⟩
        · rw [List.mem_singleton.1 hm]; exact Or.inr ⟨rfl, le_rfl⟩

/-- The host's arg-min along the last axis is the first smallest entry's number. -/
theorem argmin_apply (x : FVec Ideal S32768x128 .f32) (ix : FVec Ideal S_ .f32) (iy : IVec S_ 32) (hx : ∀ o, ix o = (⊤ : EReal))
    (hy : ∀ o, iy o = 0#32) (h : S32768x128.ReducesTo [1] S32768) (hu : 0 < S_.numel) (n : Fin 32768) :
    (Host.argReduce reducer_argmin_f32_i32 x (iotaInDim S32768x128 32 1) ix iy h hu (ix1 n)).2
      = BitVec.ofNat 32 (first fun k => x (ix2 n k)).val := by
  rw [Ideal.argReduce_eq_reduce2]
  unfold Host.reduce2
  rw [hx, hy]
  obtain ⟨a, k, e, h1, h2⟩ := fold_argmin (fun m => x (S32768x128.rowMajor.symm m))
    (fun m => (S32768x128.rowMajor.symm m) 1) (fun k => x (ix2 n k))
    ((List.finRange S32768x128.numel).filter fun m => h.drop (S32768x128.rowMajor.symm m) = ix1 n) (fun m hm => by
      rw [List.mem_filter] at hm
      obtain ⟨k, hk⟩ := (Shape.ReducesTo.fiber_r2_a1 h _ _).1 (of_decide_eq_true hm.2)
      rw [← hk]; rfl)
  refine (congrArg Prod.snd e).trans (congrArg (fun k : Fin 128 => BitVec.ofNat 32 k.val) ?_)
  have hall : ∀ j, a < x (ix2 n j) ∨ (a = x (ix2 n j) ∧ k ≤ j) := fun j => by
    have := h1 (S32768x128.rowMajor (ix2 n j)) (by
      rw [List.mem_filter]
      refine ⟨List.mem_finRange _, decide_eq_true ?_⟩
      rw [Equiv.symm_apply_apply]
      exact (Shape.ReducesTo.fiber_r2_a1 h _ _).2 ⟨j, rfl⟩)
    rw [Equiv.symm_apply_apply] at this
    exact this
  rcases h2 with h2 | ⟨h2, h3⟩
  · refine eq_first (fun j => ?_) fun j hj => ?_
    · rw [← h2]; rcases hall j with h4 | h4
      · exact h4.le
      · exact h4.1.le
    · rw [← h2] at hj
      rcases hall j with h4 | h4
      · exact absurd h4 (not_lt.2 hj)
      · exact h4.2
  · subst h2 h3
    refine eq_first (fun j => ?_) fun j _ => Fin.zero_le j
    rcases hall j with h4 | h4
    · exact absurd h4 not_top_lt
    · rw [← h4.1]; exact le_top

variable (W : Valuation τ sig (Elt Ideal))

/-- The reference's distances at a flat row. -/
theorem measure_apply (n : Fin 32768) (k : Fin 128) : (after measure.1 W main_v1178 : S32768x128.Idx → EReal) (ix2 n k)
    = Quant.dist (X W ⟨n.val / 2048, by omega⟩ ⟨n.val % 2048, by omega⟩) (C W) k := by
  unfold Quant.dist
  after_reads_simp [measure]
  pointwise

/-- The reference's choice at a flat row, from the distances. -/
theorem choose_apply (n : Fin 32768) : (after choose.1 W main_v1179 : S32768.Idx → BitVec 32) (ix1 n)
    = BitVec.ofNat 32 (first fun k => (W main_v1178 : S32768x128.Idx → EReal) (ix2 n k)).val := by
  have e : after choose.1 W main_v1179 = fun j : S32768.Idx => (Host.argReduce (F := Ideal) (φ := .f32) (s := S32768x128) (t := S32768) reducer_argmin_f32_i32 (W main_v1178) (iotaInDim S32768x128 32 1)
      (constant S_ .f32 0x7F800000#32) (constantI S_ 32 0#32) Gen.reducesTo_S32768x128_S32768_d1 Gen.h_S_ j).2 := by
    after_reads_simp [choose]
    simp only [TRef.ofBuf, TRef.toBuf, cast_eq]
  rw [e]
  refine argmin_apply _ _ _ (fun o => ?_) (fun o => rfl) _ _ n
  show Ideal.ofBits .f32 0x7F800000#32 = (⊤ : EReal)
  simp [Ideal.ofBits, Ideal.ieee]

end Cert.RTail

end
-- ==== Proof.RFetch.lean ====
/- The reference's gathered code vectors. -/
module

public import proofs.«01_k».proof.Proof.RTail
public import proofs.«01_k».proof.Proof.Quant
public import Idealize.ShloMosaic.Lib.Routing.Ops

@[expose] public section

set_option maxRecDepth 16384
set_option maxHeartbeats 1000000

noncomputable section

namespace Cert.RTail

open Idealize.ShloMosaic Idealize.ShloMosaic.TcCoe Idealize.ShloMosaic.StableHlo Idealize.ShloMosaic.Pointwise
open Cert.ReferenceIdeal Cert.ReferenceIdeal.Lines Cert.Base Cert.Quant
open scoped BigOperators

variable (W : Valuation Cert.ReferenceIdeal.τ Cert.ReferenceIdeal.sig (Elt Ideal))

/-- The reference's gathered code vector at a flat row. -/
theorem fetch_apply (a : Fin 32768 → Fin 128) (ha : ∀ n, (W main_v1179 : S32768.Idx → BitVec 32) (ix1 n) = BitVec.ofNat 32 (a n).val)
    (n : Fin 32768) (d : Fin 256) : (after fetch.1 W main_v1180 : S32768x256.Idx → EReal) (ix2 n d) = C W (a n) d := by
  after_reads_simp [fetch]
  simp only [TRef.ofBuf, TRef.toBuf, cast_eq]
  have hs : ∀ k : Fin 128, IntOp.cmpi .slt (BitVec.ofNat 32 k.val) 0#32 = 0#1 := by decide
  have hsel : (select (cmpi .slt (W (Proc.tc.devRef main_v1179) : IVec S32768 32) (broadcastInDim S32768 ![] Gen.bcast_S_S32768 (constantI S_ 32 0#32)))
      (addi (W (Proc.tc.devRef main_v1179) : IVec S32768 32) (broadcastInDim S32768 ![] Gen.bcast_S_S32768 (constantI S_ 32 128#32))) (W (Proc.tc.devRef main_v1179) : IVec S32768 32) : IVec S32768 32)
      = fun i => BitVec.ofNat 32 (a (i 0)).val := by
    funext i
    obtain ⟨n, rfl⟩ : ∃ n : Fin 32768, i = ix1 n := ⟨i 0, ValueIdx.eq_ix1 i⟩
    pointwise
    rw [ha, hs]
    rfl
  have hm : ∀ k : Fin 128, IntOp.andi (IntOp.cmpi .sge (BitVec.ofNat 32 k.val) 0#32) (IntOp.cmpi .sle (BitVec.ofNat 32 k.val) 127#32) = 1#1 := by decide
  rw [hsel]
  pointwise
  simp only [hm]
  rw [show Finset.fold IntOp.andi (1#1) (fun _ : Fin 1 => 1#1) Finset.univ = 1#1 from by decide]
  refine (ValueIdx.select_one _ _).trans ?_
  refine Routing.gather_row _ rfl rfl rfl rfl rfl _ _ n d (a n) ?_ (by norm_num)
  pointwise

/-- The same, by batch and time. -/
theorem fetch_ix3 (b : Fin 16) (t : Fin 2048) (d : Fin 256) : (after fetch.1 W main_v1181 : S16x2048x256.Idx → EReal) (ix3 b t d)
    = (after fetch.1 W main_v1180 : S32768x256.Idx → EReal) (ix2 ⟨b.val * 2048 + t.val, by omega⟩ d) := by
  after_reads_simp [fetch]
  pointwise

end Cert.RTail

end
-- ==== Proof.RFinish.lean ====
/- The reference's results, from the choice and the code vectors. -/
module

public import proofs.«01_k».proof.Proof.RTail
public import proofs.«01_k».proof.Proof.Quant

@[expose] public section

set_option maxRecDepth 16384
set_option maxHeartbeats 1000000

noncomputable section

namespace Cert.RTail

open Idealize.ShloMosaic Idealize.ShloMosaic.TcCoe Idealize.ShloMosaic.StableHlo Idealize.ShloMosaic.Pointwise
open Cert.ReferenceIdeal Cert.ReferenceIdeal.Lines Cert.Base Cert.Quant
open scoped BigOperators

variable (W : Valuation τ sig (Elt Ideal))

/-- The rows the code vectors make. -/
abbrev Q (b : Fin 16) (t : Fin 2048) : Fin 256 → EReal := fun d => (W main_v1181 : S16x2048x256.Idx → EReal) (ix3 b t d)

theorem z_apply (b : Fin 16) (t : Fin 2048) (d : Fin 256) : (after finish.1 W main_v1199 : S16x2048x256.Idx → EReal) (ix3 b t d)
    = X W b t d + (Q W b t d - X W b t d) := by
  after_reads_simp [finish]
  pointwise

theorem ppl_apply : (after finish.1 W main_v1209 : S_.Idx → EReal) ix0
    = Ideal.exp (-∑ k : Fin 128, Ideal.div (∑ n : Fin 32768, FloatOps.uitofp (F := Ideal) .f32 (IntOp.cmpi .eq ((W main_v1179 : S32768.Idx → BitVec 32) (ix1 n)) (BitVec.ofNat 32 k.val))) (Ideal.ofBits .f32 0x47000000#32)
      * Ideal.log (Ideal.div (∑ n : Fin 32768, FloatOps.uitofp (F := Ideal) .f32 (IntOp.cmpi .eq ((W main_v1179 : S32768.Idx → BitVec 32) (ix1 n)) (BitVec.ofNat 32 k.val))) (Ideal.ofBits .f32 0x47000000#32) + Ideal.ofBits .f32 0x2EDBE6FF#32)) := by
  after_reads_simp [finish]
  try simp only [TRef.ofBuf, TRef.toBuf, cast_eq]
  pointwise

theorem loss_apply : (after finish.1 W main_v1197 : S_.Idx → EReal) ix0
    = Ideal.ofBits .f32 0x3E800000#32 * Ideal.div (∑ b : Fin 16, ∑ t : Fin 2048, Ideal.div (∑ d, (X W b t d - Q W b t d) * (X W b t d - Q W b t d)) (Ideal.ofBits .f32 0x43800000#32)
        * mask (X W b t)) (∑ b : Fin 16, ∑ t : Fin 2048, mask (X W b t)) := by
  unfold mask
  after_reads_simp [finish]
  try simp only [TRef.ofBuf, TRef.toBuf, cast_eq]
  pointwise
  try simp only [uitofp_ind]

end Cert.RTail

end
-- ==== Proof.Spec.lean ====
/- The three results as plain formulas of the encoded rows and the codebook. -/
module

public import proofs.«01_k».proof.Proof.Quant

@[expose] public section

noncomputable section

namespace Cert.Spec

open Idealize.ShloMosaic Cert.Quant
open scoped BigOperators

variable (X : Fin 16 → Fin 2048 → Fin 256 → EReal) (C : Fin 128 → Fin 256 → EReal)

/-- How many rows chose code vector `k`. -/
def count (k : Fin 128) : EReal := ∑ b, ∑ t, ind (decide (k = code (X b t) C))

/-- The perplexity of the choices. -/
def ppl : EReal := Ideal.exp (-∑ k, Ideal.div (count X C k) (Ideal.ofBits .f32 0x47000000#32)
  * Ideal.log (Ideal.div (count X C k) (Ideal.ofBits .f32 0x47000000#32) + Ideal.ofBits .f32 0x2EDBE6FF#32))

/-- The masked mean of the rows' mean squared errors, weighted. -/
def loss : EReal := Ideal.ofBits .f32 0x3E800000#32 * Ideal.div (∑ b, ∑ t, Ideal.div (err (X b t) C) (Ideal.ofBits .f32 0x43800000#32) * mask (X b t))
  (∑ b, ∑ t, mask (X b t))

/-- The weight is a quarter. -/
theorem quarter : Ideal.ofBits .f32 0x3E800000#32 = (((1 : ℝ) / 4 : ℝ) : EReal) := by
  simp [Ideal.ofBits, Ideal.ieee]; norm_num; rw [← EReal.coe_mul]; norm_num

/-- Dividing by the row's length is multiplying by its inverse, a power of two. -/
theorem div_256 (e : EReal) : Ideal.div e (Ideal.ofBits .f32 0x43800000#32) = e * Ideal.ofBits .f32 0x3B800000#32 := by
  have h1 : Ideal.ofBits .f32 0x43800000#32 = ((256 : ℝ) : EReal) := by
    simp [Ideal.ofBits, Ideal.ieee]; norm_num; rw [← EReal.coe_mul]; norm_num
  have h2 : Ideal.ofBits .f32 0x3B800000#32 = (((256 : ℝ)⁻¹ : ℝ) : EReal) := by
    simp [Ideal.ofBits, Ideal.ieee]; norm_num; rw [← EReal.coe_mul]; norm_num
  rw [h1, h2]
  unfold Ideal.div
  rw [if_neg (by norm_num), EReal.coe_inv]

/-- The loss with the weight inside the division and the errors scaled by the inverse. -/
theorem loss_eq : Ideal.div (Ideal.ofBits .f32 0x3E800000#32 * ∑ b, ∑ t, err (X b t) C * Ideal.ofBits .f32 0x3B800000#32 * mask (X b t))
    (∑ b, ∑ t, mask (X b t)) = loss X C := by
  unfold loss
  simp only [div_256]
  rw [quarter]
  exact mul_div_pos _ (by norm_num) _ _

/-- A sum over the flat rows is the sum over batch and time. -/
theorem sum_flat (g : Fin 16 → Fin 2048 → EReal) :
    ∑ n : Fin 32768, g ⟨n.val / 2048, by omega⟩ ⟨n.val % 2048, by omega⟩ = ∑ b, ∑ t, g b t :=
  ((finProdFinEquiv (m := 16) (n := 2048)).symm.sum_comp fun p => g p.1 p.2).trans (Fintype.sum_prod_type _)

end Cert.Spec

end
-- ==== Proof.RRes.lean ====
/- The reference's results as the plain formulas. -/
module

public import proofs.«01_k».proof.Proof.RChoose
public import proofs.«01_k».proof.Proof.RFetch
public import proofs.«01_k».proof.Proof.RFinish
public import proofs.«01_k».proof.Proof.Spec

@[expose] public section

set_option maxRecDepth 16384

noncomputable section

namespace Cert.RTail

open Idealize.ShloMosaic Idealize.ShloMosaic.TcCoe Idealize.ShloMosaic.StableHlo Idealize.ShloMosaic.Pointwise
open Cert.ReferenceIdeal Cert.ReferenceIdeal.Lines Cert.Base Cert.Quant
open scoped BigOperators

variable (W : Valuation τ sig (Elt Ideal))

theorem fetch_keep : after fetch.1 W main_v1179 = W main_v1179 := by
  after_reads_simp [fetch]

/-- The contents the last stretch finds. -/
abbrev W3 : Valuation τ sig (Elt Ideal) := after fetch.1 (after choose.1 (after measure.1 W))

theorem keep_choose {b : Ref sig .tc} (hb : b.idx.val < 1319) : after choose.1 (after measure.1 W) b = W b :=
  (after_above choose_above _ hb).trans (after_above measure_above _ hb)
theorem keep_fetch {b : Ref sig .tc} (hb : b.idx.val < 1319) : W3 W b = W b :=
  (after_above fetch_above _ hb).trans (keep_choose W hb)

theorem X_keep : X (W3 W) = X W := by unfold X; rw [keep_fetch W (by decide)]

/-- The chosen number of a flat row. -/
abbrev pick (n : Fin 32768) : Fin 128 := code (X W ⟨n.val / 2048, by omega⟩ ⟨n.val % 2048, by omega⟩) (C W)

theorem pick_apply (n : Fin 32768) : (after choose.1 (after measure.1 W) main_v1179 : S32768.Idx → BitVec 32) (ix1 n) = BitVec.ofNat 32 (pick W n).val := by
  rw [choose_apply]
  exact congrArg (fun f => BitVec.ofNat 32 (first f).val) (funext fun k => measure_apply W n k)

theorem Q_eq (b : Fin 16) (t : Fin 2048) : Q (W3 W) b t = C W (code (X W b t) (C W)) := by
  funext d
  refine (fetch_ix3 _ b t d).trans ((fetch_apply _ (pick W) (pick_apply W) _ d).trans ?_)
  have hC : C (after choose.1 (after measure.1 W)) = C W := by unfold C; rw [keep_choose W (by decide)]
  rw [hC]
  have h1 : (⟨(b.val * 2048 + t.val) / 2048, by omega⟩ : Fin 16) = b := Fin.ext (by show (b.val * 2048 + t.val) / 2048 = b.val; omega)
  have h2 : (⟨(b.val * 2048 + t.val) % 2048, by omega⟩ : Fin 2048) = t := Fin.ext (by show (b.val * 2048 + t.val) % 2048 = t.val; omega)
  show C W (code (X W ⟨(b.val * 2048 + t.val) / 2048, _⟩ ⟨(b.val * 2048 + t.val) % 2048, _⟩) (C W)) d = _
  rw [h1, h2]

theorem split : after line16.1 W = after finish.1 (W3 W) := by
  refine (congrArg (fun l => after l W) line16_eq).trans ?_
  show after (measure.1 ++ (choose.1 ++ (fetch.1 ++ finish.1))) W = _
  rw [Base.after_append, Base.after_append, Base.after_append]

/-- The quantised rows. -/
theorem z_eq (b : Fin 16) (t : Fin 2048) (d : Fin 256) : (after line16.1 W main_v1199 : S16x2048x256.Idx → EReal) (ix3 b t d)
    = X W b t d + (C W (code (X W b t) (C W)) d - X W b t d) := by
  rw [split, z_apply, Q_eq, X_keep]

/-- The loss. -/
theorem loss_eq : (after line16.1 W main_v1197 : S_.Idx → EReal) ix0 = Spec.loss (X W) (C W) := by
  rw [split, loss_apply]
  have h : ∀ b t d, X (W3 W) b t d - Q (W3 W) b t d = X W b t d - C W (code (X W b t) (C W)) d := fun b t d =>
    congrArg₂ (· - ·) (congrFun (congrFun (congrFun (X_keep W) b) t) d) (congrFun (Q_eq W b t) d)
  simp only [h, X_keep]
  unfold Spec.loss err
  rfl

/-- The perplexity. -/
theorem ppl_eq : (after line16.1 W main_v1209 : S_.Idx → EReal) ix0 = Spec.ppl (X W) (C W) := by
  have hc : ∀ k : Fin 128, (∑ n : Fin 32768, FloatOps.uitofp (F := Ideal) .f32 (IntOp.cmpi .eq ((W3 W main_v1179 : S32768.Idx → BitVec 32) (ix1 n)) (BitVec.ofNat 32 k.val)) : EReal)
      = Spec.count (X W) (C W) k := by
    intro k
    refine Eq.trans (Finset.sum_congr rfl fun n _ => ?_) (Spec.sum_flat fun b t => ind (decide (k = code (X W b t) (C W))))
    rw [show W3 W main_v1179 = after choose.1 (after measure.1 W) main_v1179 from fetch_keep _, pick_apply]
    show FloatOps.uitofp (F := Ideal) .f32 (BitVec.ofBool (BitVec.ofNat 32 (pick W n).val == BitVec.ofNat 32 k.val)) = _
    rw [ofNat_eq, uitofp_ind]
    exact congrArg ind (decide_eq_decide.2 eq_comm)
  rw [split, ppl_apply]
  simp only [hc]
  rfl

end Cert.RTail

end
-- ==== Proof.KBlock.lean ====
/- What the kernel's body leaves in its three output blocks, from one block of rows and the codebook. -/
module

public import proofs.«01_k».proof.Proof.KIFrame
public import proofs.«01_k».proof.Proof.Quant
public import Idealize.ShloMosaic.Lib.Pipeline.ValueKit

@[expose] public section

set_option maxRecDepth 16384

noncomputable section

namespace Cert.KBlock

open Idealize.ShloMosaic Cert.KernelIdeal Cert.KernelIdeal.Gen Cert.KernelIdeal.Around Idealize.ShloMosaic.Pointwise
open Cert.Quant
open scoped BigOperators

/-- The block's row `t`. -/
abbrev row (x0 : Vec Ideal S1x2048x256 .f32) (t : Fin 2048) : Fin 256 → EReal := fun d => x0 (ix3 0 t d)

section
variable (x0 : Vec Ideal S1x2048x256 .f32) (x1 : Vec Ideal S256x128 .f32) (x2 x3 x4 : Vec Ideal S128x256 .bf16)
  (C : Fin 128 → Fin 256 → EReal)

theorem ld0 : View.ld x0 r0_0 = x0 := View.ld_unit_zero (by funext a; fin_cases a <;> rfl) _ x0
theorem ld1 : View.ld x1 r0_1 = x1 := View.ld_unit_zero (by funext a; fin_cases a <;> rfl) _ x1
theorem ld2 : View.ld x2 r0_2 = x2 := View.ld_unit_zero (by funext a; fin_cases a <;> rfl) _ x2
theorem pay14_eq : k0_pay14 x0 x1 x2 x3 x4 = k0_pay2 x0 := by unfold k0_pay14; rw [ld0]
theorem pay15_eq : k0_pay15 x0 x1 x2 x3 x4 = k0_pay4 x0 x1 := by unfold k0_pay15; rw [ld0, ld1]
theorem pay16_eq : k0_pay16 x0 x1 x2 x3 x4 = k0_pay5 x0 x1 x2 x3 := by unfold k0_pay16; rw [ld0, ld1, ld2, ld2]

/-- The kernel's choice rows are the first nearest code vector's. -/
theorem pay3_apply (h1 : ∀ d k, x1 (ix2 d k) = C k d) (t : Fin 2048) (k : Fin 128) :
    k0_pay3 x0 x1 (ix2 t k) = ind (decide (k = code (row x0 t) C)) := by
  pointwise [k0_pay3, k0_pay2]
  simp only [h1]
  have e := fold_code (dist (row x0 t) C)
  rw [← fold_min (dist (row x0 t) C)] at e
  refine (congrArg (fun w => FloatOps.sitofp (F := Ideal) .f32 (BitVec.setWidth 32 (IntOp.cmpi .eq (BitVec.ofNat 32 k.val) w))) e).trans ?_
  unfold IntOp.cmpi
  rw [sitofp_ind, ofNat_eq]; rfl

/-- The gathered code vectors. -/
theorem pay6_apply (h1 : ∀ d k, x1 (ix2 d k) = C k d) (h2 : ∀ k d, x2 (ix2 k d) = C k d) (h3 : ∀ k d, x3 (ix2 k d) = 0)
    (h4 : ∀ k d, x4 (ix2 k d) = 0) (t : Fin 2048) (d : Fin 256) :
    k0_pay6 (k0_pay4 x0 x1) (k0_pay5 x0 x1 x2 x3) x4 (ix2 t d) = C (code (row x0 t) C) d := by
  pointwise [k0_pay6, k0_pay5, k0_pay4]
  simp only [h2, h3, h4, pay3_apply x0 x1 C h1, mul_zero, Finset.sum_const_zero, add_zero]
  exact sum_ind _ _

/-- The block of chosen code vectors. -/
theorem out5_apply (h1 : ∀ d k, x1 (ix2 d k) = C k d) (h2 : ∀ k d, x2 (ix2 k d) = C k d) (h3 : ∀ k d, x3 (ix2 k d) = 0)
    (h4 : ∀ k d, x4 (ix2 k d) = 0) (t : Fin 2048) (d : Fin 256) :
    out0_5 x0 x1 x2 x3 x4 (ix3 0 t d) = C (code (row x0 t) C) d := by
  frame_out
  rw [pay15_eq, pay16_eq]
  pointwise [k0_pay7]
  exact pay6_apply x0 x1 x2 x3 x4 C h1 h2 h3 h4 t d

/-- The block's count of each code vector. -/
theorem out6_apply (h1 : ∀ d k, x1 (ix2 d k) = C k d) (k : Fin 128) :
    out0_6 x0 x1 x2 x3 x4 (ix3 0 0 k) = ∑ t, ind (decide (k = code (row x0 t) C)) := by
  frame_out
  pointwise [k0_pay8]
  exact Finset.sum_congr rfl fun t _ => pay3_apply x0 x1 C h1 t k

/-- The mask column. -/
theorem pay9_apply (t : Fin 2048) (o : Fin 1) : k0_pay9 (k0_pay2 x0) (ix2 t o) = mask (row x0 t) := by
  pointwise [k0_pay9, k0_pay2]
  rw [sitofp_ind]; rfl

/-- The block's squared error, in lane zero. -/
theorem out7_zero (h1 : ∀ d k, x1 (ix2 d k) = C k d) (h2 : ∀ k d, x2 (ix2 k d) = C k d) (h3 : ∀ k d, x3 (ix2 k d) = 0)
    (h4 : ∀ k d, x4 (ix2 k d) = 0) :
    out0_7 x0 x1 x2 x3 x4 (ix3 0 0 0)
      = ∑ t, err (row x0 t) C * Ideal.ofBits .f32 0x3B800000#32 * mask (row x0 t) := by
  frame_out
  pointwise [k0_pay1, k0_pay11, k0_pay12]
  rw [pay14_eq, pay15_eq, pay16_eq]
  pointwise [k0_pay10]
  simp only [pay6_apply x0 x1 x2 x3 x4 C h1 h2 h3 h4, pay9_apply]
  pointwise [k0_pay2]
  exact Finset.sum_congr rfl fun t _ => Fin.sum_univ_one _

/-- The block's count of rows that are not zero, in lane one. -/
theorem out7_one : out0_7 x0 x1 x2 x3 x4 (ix3 0 0 1) = ∑ t, mask (row x0 t) := by
  frame_out
  pointwise [k0_pay1, k0_pay11, k0_pay12]
  rw [pay14_eq]
  pointwise [k0_pay13]
  simp only [pay9_apply]
  refine (ValueIdx.select_zero _ _).trans ?_
  exact Finset.sum_congr rfl fun t _ => Fin.sum_univ_one _
end

end Cert.KBlock

end
-- ==== Proof.KVal.lean ====
/- The kernel's three arrays after the region, from the arrays the region finds. -/
module

public import proofs.«01_k».proof.Proof.KBlock

@[expose] public section

set_option maxRecDepth 16384

noncomputable section

namespace Cert.KVal

open Idealize.ShloMosaic Cert.KernelIdeal Cert.KernelIdeal.Gen Idealize.ShloMosaic.Pointwise Idealize.ShloMosaic.TcCoe Idealize.ShloMosaic.StableHlo
open Cert.KernelIdeal.Around Cert.Quant Cert.KBlock
open scoped BigOperators

/-! ## Where the windows' blocks sit -/

theorem at0 : ∀ t : Fin cfg0.N, win0_0.index t 0 = t.val ∧ win0_0.index t 1 = 0 ∧ win0_0.index t 2 = 0 := by decide +kernel
theorem at5 : ∀ t : Fin cfg0.N, win0_5.index t 0 = t.val ∧ win0_5.index t 1 = 0 ∧ win0_5.index t 2 = 0 := by decide +kernel
theorem at6 : ∀ t : Fin cfg0.N, win0_6.index t 0 = t.val ∧ win0_6.index t 1 = 0 ∧ win0_6.index t 2 = 0 := by decide +kernel
theorem at7 : ∀ t : Fin cfg0.N, win0_7.index t 0 = t.val ∧ win0_7.index t 1 = 0 ∧ win0_7.index t 2 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel

variable (m : (ℓ : Loc nD Cert.KernelIdeal.τ Cert.KernelIdeal.sig) → Buf (Elt Ideal) ℓ) (c : Dev nD)

/-- The encoded row, as the region finds it. -/
abbrev X (b : Fin 16) (t : Fin 2048) : Fin 256 → EReal := fun d => (V m c main_v1163 : S16x2048x256.Idx → EReal) (ix3 b t d)

theorem blk0 (t : Fin cfg0.N) (r : Fin 2048) (d : Fin 256) : iblk m c 0 t (ix3 (n0 := 1) 0 r d) = X m c ⟨t.val, t.isLt⟩ r d := by
  unfold iblk
  blk_simp
  refine congrArg (V m c main_v1163) ?_
  blk_ext [at0 t]
theorem blk1 (t : Fin cfg0.N) (r : Fin 256) (d : Fin 128) : iblk m c 1 t (ix2 r d) = (V m c main_v1164 : S256x128.Idx → EReal) (ix2 r d) := by
  unfold iblk
  blk_simp
  refine congrArg (V m c main_v1164) ?_
  blk_ext [at1 t]
theorem blk2 (t : Fin cfg0.N) (r : Fin 128) (d : Fin 256) : iblk m c 2 t (ix2 r d) = (V m c main_v1165 : S128x256.Idx → EReal) (ix2 r d) := by
  unfold iblk
  blk_simp
  refine congrArg (V m c main_v1165) ?_
  blk_ext [at2 t]
theorem blk3 (t : Fin cfg0.N) (r : Fin 128) (d : Fin 256) : iblk m c 3 t (ix2 r d) = (V m c main_v1168 : S128x256.Idx → EReal) (ix2 r d) := by
  unfold iblk
  blk_simp
  refine congrArg (V m c main_v1168) ?_
  blk_ext [at3 t]
theorem blk4 (t : Fin cfg0.N) (r : Fin 128) (d : Fin 256) : iblk m c 4 t (ix2 r d) = (V m c main_v1171 : S128x256.Idx → EReal) (ix2 r d) := by
  unfold iblk
  blk_simp
  refine congrArg (V m c main_v1171) ?_
  blk_ext [at4 t]
theorem emb5 (t : Fin cfg0.N) (r : Fin 2048) (d : Fin 256) :
    (win0_5.blk t).view.emb (ix3 (n0 := 1) 0 r d) = (ix3 ⟨t.val, t.isLt⟩ r d : S16x2048x256.Idx) := by
  blk_ext [at5 t]
theorem emb6 (t : Fin cfg0.N) (k : Fin 128) :
    (win0_6.blk t).view.emb (ix3 (n0 := 1) (n1 := 1) 0 0 k) = (ix3 ⟨t.val, t.isLt⟩ 0 k : S16x1x128.Idx) := by
  blk_ext [at6 t]
theorem emb7 (t : Fin cfg0.N) (k : Fin 128) :
    (win0_7.blk t).view.emb (ix3 (n0 := 1) (n1 := 1) 0 0 k) = (ix3 ⟨t.val, t.isLt⟩ 0 k : S16x1x128.Idx) := by
  blk_ext [at7 t]

theorem row_blk (t : Fin cfg0.N) (r : Fin 2048) : row (iblk m c 0 t) r = X m c ⟨t.val, t.isLt⟩ r :=
  funext fun d => blk0 m c t r d

/-- What the region is given besides the rows: the codebook's transpose, the codebook, and two zero arrays. -/
structure Books (C : Fin 128 → Fin 256 → EReal) : Prop where
  h1 : ∀ d k, (V m c main_v1164 : S256x128.Idx → EReal) (ix2 d k) = C k d
  h2 : ∀ k d, (V m c main_v1165 : S128x256.Idx → EReal) (ix2 k d) = C k d
  h3 : ∀ k d, (V m c main_v1168 : S128x256.Idx → EReal) (ix2 k d) = (0 : EReal)
  h4 : ∀ k d, (V m c main_v1171 : S128x256.Idx → EReal) (ix2 k d) = (0 : EReal)

variable {C : Fin 128 → Fin 256 → EReal} (H : Books m c C)
include H

/-- The code vectors' array after the region. -/
theorem arr5 : (dats m 0 c).arrAt 5 cfg0.N = (fun i => C (code (X m c (i 0) (i 1)) C) (i 2) : S16x2048x256.Idx → EReal) := by
  refine (dats m 0 c).arrAt_eq_of_covers 5 _ (by decide +kernel) fun t hf y => ?_
  obtain ⟨r, d, rfl⟩ : ∃ (r : Fin 2048) (d : Fin 256), y = ix3 (n0 := 1) 0 r d :=
    ⟨y 1, y 2, funext fun a => by fin_cases a; exact Subsingleton.elim (α := Fin 1) _ _; rfl; rfl⟩
  blk_simp
  rw [after0_5]
  refine (out5_apply _ _ _ _ _ C (fun d k => (blk1 m c t d k).trans (H.h1 d k)) (fun k d => (blk2 m c t k d).trans (H.h2 k d))
    (fun k d => (blk3 m c t k d).trans (H.h3 k d)) (fun k d => (blk4 m c t k d).trans (H.h4 k d)) r d).trans ?_
  rw [row_blk]
  exact (congrArg (fun i : S16x2048x256.Idx => C (code (X m c (i 0) (i 1)) C) (i 2)) (emb5 t r d)).symm

/-- The counts' array after the region. -/
theorem arr6 : (dats m 0 c).arrAt 6 cfg0.N
    = (fun i => ∑ t, ind (decide ((show Fin 128 from i 2) = code (X m c (i 0) t) C)) : S16x1x128.Idx → EReal) := by
  refine (dats m 0 c).arrAt_eq_of_covers 6 _ (by decide +kernel) fun t hf y => ?_
  obtain ⟨k, rfl⟩ : ∃ (k : Fin 128), y = ix3 (n0 := 1) (n1 := 1) 0 0 k :=
    ⟨y 2, funext fun a => by fin_cases a; exact Subsingleton.elim (α := Fin 1) _ _; exact Subsingleton.elim (α := Fin 1) _ _; rfl⟩
  blk_simp
  rw [after0_6]
  refine (out6_apply _ _ _ _ _ C (fun d k => (blk1 m c t d k).trans (H.h1 d k)) k).trans ?_
  simp only [row_blk]
  exact (congrArg (fun i : S16x1x128.Idx => ∑ t, ind (decide ((show Fin 128 from i 2) = code (X m c (i 0) t) C))) (emb6 t k)).symm

/-- The scalars' array after the region: the squared errors in lane zero, the rows counted in lane one. -/
theorem arr7 (i : S16x1x128.Idx) :
    ((i 2).val = 0 → ((dats m 0 c).arrAt 7 cfg0.N : S16x1x128.Idx → EReal) i
        = ∑ t, err (X m c (i 0) t) C * Ideal.ofBits .f32 0x3B800000#32 * mask (X m c (i 0) t))
    ∧ ((i 2).val = 1 → ((dats m 0 c).arrAt 7 cfg0.N : S16x1x128.Idx → EReal) i = ∑ t, mask (X m c (i 0) t)) := by
  refine (dats m 0 c).arrAt_forall_of_covers 7 (P := fun (i : S16x1x128.Idx) (v : EReal) =>
    ((i 2).val = 0 → v = ∑ t, err (X m c (i 0) t) C * Ideal.ofBits .f32 0x3B800000#32 * mask (X m c (i 0) t))
    ∧ ((i 2).val = 1 → v = ∑ t, mask (X m c (i 0) t))) (by decide +kernel) (fun t hf y => ?_) i
  obtain ⟨k, rfl⟩ : ∃ (k : Fin 128), y = ix3 (n0 := 1) (n1 := 1) 0 0 k :=
    ⟨y 2, funext fun a => by fin_cases a; exact Subsingleton.elim (α := Fin 1) _ _; exact Subsingleton.elim (α := Fin 1) _ _; rfl⟩
  have e := emb7 t k
  blk_simp
  rw [after0_7]
  have e0 : ((((win0_7.blk t).view.emb (ix3 (n0 := 1) (n1 := 1) 0 0 k) : S16x1x128.Idx)) 0) = (⟨t.val, t.isLt⟩ : Fin 16) := congrFun e 0
  rw [e0, (at7 t).2.2, zero_mul, zero_add]
  refine ⟨fun hk => ?_, fun hk => ?_⟩
  · obtain rfl : k = 0 := Fin.ext hk
    refine (out7_zero _ _ _ _ _ C (fun d k => (blk1 m c t d k).trans (H.h1 d k)) (fun k d => (blk2 m c t k d).trans (H.h2 k d))
      (fun k d => (blk3 m c t k d).trans (H.h3 k d)) (fun k d => (blk4 m c t k d).trans (H.h4 k d))).trans ?_
    simp only [row_blk]
  · obtain rfl : k = 1 := Fin.ext hk
    refine (out7_one _ _ _ _ _).trans ?_
    simp only [row_blk]

end Cert.KVal

end
-- ==== Proof.KRes.lean ====
/- The kernel's results as the plain formulas. -/
module

public import proofs.«01_k».proof.Proof.KVal
public import proofs.«01_k».proof.Proof.Spec

@[expose] public section

set_option maxRecDepth 16384

noncomputable section

namespace Cert.KRes

open Idealize.ShloMosaic Cert.KernelIdeal Cert.KernelIdeal.Gen Idealize.ShloMosaic.Pointwise Idealize.ShloMosaic.TcCoe Idealize.ShloMosaic.StableHlo
open Cert.KernelIdeal.Around Cert.Quant Cert.KVal
open scoped BigOperators

/-- A lane of a block's row. -/
abbrev lane (f : S16x1x128.Idx → EReal) (b : Fin 16) (k : Fin 128) : EReal := f (ix3 b 0 k)

/-! ## The host's lines after the region -/

section
variable (W : Valuation Cert.KernelIdeal.τ Cert.KernelIdeal.sig (Elt Ideal))

theorem tail_loss : (after hostOps1 W main_v1180 : S_.Idx → EReal) ix0
    = Ideal.div (Ideal.ofBits .f32 0x3E800000#32 * ∑ b : Fin 16, lane (W main_v1172_2) b 0) (∑ b : Fin 16, lane (W main_v1172_2) b 1) := by
  after_reads_simp
  pointwise

theorem tail_ppl : (after hostOps1 W main_v1191 : S_.Idx → EReal) ix0
    = Ideal.exp (-∑ k : Fin 128, Ideal.div (∑ b : Fin 16, lane (W main_v1172_1) b k) (Ideal.ofBits .f32 0x47000000#32)
      * Ideal.log (Ideal.div (∑ b : Fin 16, lane (W main_v1172_1) b k) (Ideal.ofBits .f32 0x47000000#32) + Ideal.ofBits .f32 0x2EDBE6FF#32)) := by
  after_reads_simp
  pointwise
end

variable (m : (ℓ : Loc nD Cert.KernelIdeal.τ Cert.KernelIdeal.sig) → Buf (Elt Ideal) ℓ) (c : Dev nD)
variable {C : Fin 128 → Fin 256 → EReal} (H : Books m c C)

theorem inj : Function.Injective (Pipeline.arrRef spec0) := by decide

/-- The contents the lines after the region find. -/
abbrev W : Valuation Cert.KernelIdeal.τ Cert.KernelIdeal.sig (Elt Ideal) :=
  Pipeline.withArrays (cfgs 0).spec c (V0 m c) fun w => (dats m 0 c).arrAt w (cfgs 0).N

theorem W6 : W m c main_v1172_1 = (dats m 0 c).arrAt 6 cfg0.N := Pipeline.withArrays_arr _ inj c _ _ 6
theorem W7 : W m c main_v1172_2 = (dats m 0 c).arrAt 7 cfg0.N := Pipeline.withArrays_arr _ inj c _ _ 7

include H

theorem loss_eq : (Pipeline.afterTail₀ cfgs (dats m) 0 (V0 m) [hostOps1] c main_v1180 : S_.Idx → EReal) ix0 = Spec.loss (X m c) C := by
  have e : Pipeline.afterTail₀ cfgs (dats m) 0 (V0 m) [hostOps1] c main_v1180 = after hostOps1 (W m c) main_v1180 := by
    unfold Pipeline.afterTail₀
    rw [List.flatten_cons, List.flatten_nil, List.append_nil]
  rw [e, tail_loss, W7, ← Spec.loss_eq]
  exact congrArg₂ (fun a b => Ideal.div (Ideal.ofBits .f32 0x3E800000#32 * a) b)
    (Finset.sum_congr (M := EReal) rfl fun b _ => (arr7 m c H (ix3 b 0 0)).1 rfl) (Finset.sum_congr (M := EReal) rfl fun b _ => (arr7 m c H (ix3 b 0 1)).2 rfl)

theorem ppl_eq : (Pipeline.afterTail₀ cfgs (dats m) 0 (V0 m) [hostOps1] c main_v1191 : S_.Idx → EReal) ix0 = Spec.ppl (X m c) C := by
  have e : Pipeline.afterTail₀ cfgs (dats m) 0 (V0 m) [hostOps1] c main_v1191 = after hostOps1 (W m c) main_v1191 := by
    unfold Pipeline.afterTail₀
    rw [List.flatten_cons, List.flatten_nil, List.append_nil]
  rw [e, tail_ppl, W6, arr6 m c H]
  rfl

end Cert.KRes

end
-- ==== Proof.Enc0.lean ====
/- The encoder, lines 0, 1, 2, 3: on tensors that agree and are real, the two programs' lines leave tensors that agree and
   are real. -/
module

public import proofs.«01_k».proof.Proof.KIFrame
public import proofs.«01_k».proof.Proof.RLines
public import proofs.«01_k».proof.Proof.Rel

@[expose] public section

set_option maxRecDepth 16384
set_option maxHeartbeats 4000000

noncomputable section

namespace Cert.Enc

open Idealize.ShloMosaic Idealize.ShloMosaic.TcCoe Idealize.ShloMosaic.StableHlo
open Cert.ReferenceIdeal.Lines Cert.KernelIdeal.Gen Cert.Rel Cert.Base
open Cert.ReferenceIdeal (S160 S160x80x3 S16x1x2048 S16x2048x80 S16x80x2048 S3x160 S3x160x80x1 S4x160 S4x160x80x3 S_)

variable (VK : Valuation Cert.KernelIdeal.τ Cert.KernelIdeal.sig (Elt Ideal))
  (VR : Valuation Cert.ReferenceIdeal.τ Cert.ReferenceIdeal.sig (Elt Ideal))

/-- Line 0 of the encoder. -/
theorem line0_sim
    (h0 : AF (s := S16x2048x80) (VK Cert.KernelIdeal.main_arg0) (VR Cert.ReferenceIdeal.main_arg0))
    (h1 : AF (s := S4x160x80x3) (VK Cert.KernelIdeal.main_arg1) (VR Cert.ReferenceIdeal.main_arg1))
    (h2 : AF (s := S4x160) (VK Cert.KernelIdeal.main_arg2) (VR Cert.ReferenceIdeal.main_arg2))
    : AF (s := S16x1x2048) (after (hostOps0) VK Cert.KernelIdeal.main_v6) (after line0.1 VR Cert.ReferenceIdeal.main_v6)
      ∧ AF (s := S16x80x2048) (after (hostOps0) VK Cert.KernelIdeal.main_v7) (after line0.1 VR Cert.ReferenceIdeal.main_v7)
      ∧ AF (s := S16x80x2048) (after (hostOps0) VK Cert.KernelIdeal.main_v8) (after line0.1 VR Cert.ReferenceIdeal.main_v8)
      ∧ AF (s := S160x80x3) (after (hostOps0) VK Cert.KernelIdeal.main_v10) (after line0.1 VR Cert.ReferenceIdeal.main_v10)
      ∧ AF (s := S160) (after (hostOps0) VK Cert.KernelIdeal.main_v12) (after line0.1 VR Cert.ReferenceIdeal.main_v12)
      ∧ AI (α := BitVec 32) (s := S_) (after (hostOps0) VK Cert.KernelIdeal.main_c) (after line0.1 VR Cert.ReferenceIdeal.main_c) := by
  refine ⟨?_, ?_, ?_, ?_, ?_, ?_⟩
  all_goals
    after_reads_simp [line0]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 1 of the encoder. -/
theorem line1_sim
    (h1 : AF (s := S4x160x80x3) (VK Cert.KernelIdeal.main_arg1) (VR Cert.ReferenceIdeal.main_arg1))
    (h2 : AF (s := S4x160) (VK Cert.KernelIdeal.main_arg2) (VR Cert.ReferenceIdeal.main_arg2))
    (h3 : AF (s := S3x160x80x1) (VK Cert.KernelIdeal.main_arg3) (VR Cert.ReferenceIdeal.main_arg3))
    (h4 : AF (s := S3x160) (VK Cert.KernelIdeal.main_arg4) (VR Cert.ReferenceIdeal.main_arg4))
    (h25 : AF (s := S16x1x2048) (VK Cert.KernelIdeal.main_v6) (VR Cert.ReferenceIdeal.main_v6))
    (h26 : AF (s := S16x80x2048) (VK Cert.KernelIdeal.main_v7) (VR Cert.ReferenceIdeal.main_v7))
    (h28 : AF (s := S16x80x2048) (VK Cert.KernelIdeal.main_v8) (VR Cert.ReferenceIdeal.main_v8))
    (h30 : AF (s := S160x80x3) (VK Cert.KernelIdeal.main_v10) (VR Cert.ReferenceIdeal.main_v10))
    (h32 : AF (s := S160) (VK Cert.KernelIdeal.main_v12) (VR Cert.ReferenceIdeal.main_v12))
    (h33 : AI (α := BitVec 32) (s := S_) (VK Cert.KernelIdeal.main_c) (VR Cert.ReferenceIdeal.main_c))
    : AF (s := S16x80x2048) (after (hostOps0_1 ++ hostOps0_2) VK Cert.KernelIdeal.main_v57) (after line1.1 VR Cert.ReferenceIdeal.main_v57)
      ∧ AF (s := S16x80x2048) (after (hostOps0_1 ++ hostOps0_2) VK Cert.KernelIdeal.main_v59) (after line1.1 VR Cert.ReferenceIdeal.main_v59)
      ∧ AF (s := S160x80x3) (after (hostOps0_1 ++ hostOps0_2) VK Cert.KernelIdeal.main_v61) (after line1.1 VR Cert.ReferenceIdeal.main_v61)
      ∧ AF (s := S160) (after (hostOps0_1 ++ hostOps0_2) VK Cert.KernelIdeal.main_v63) (after line1.1 VR Cert.ReferenceIdeal.main_v63)
      ∧ AI (α := BitVec 32) (s := S_) (after (hostOps0_1 ++ hostOps0_2) VK Cert.KernelIdeal.main_c_3) (after line1.1 VR Cert.ReferenceIdeal.main_c_3) := by
  refine ⟨?_, ?_, ?_, ?_, ?_⟩
  all_goals
    after_reads_simp [line1]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 2 of the encoder. -/
theorem line2_sim
    (h1 : AF (s := S4x160x80x3) (VK Cert.KernelIdeal.main_arg1) (VR Cert.ReferenceIdeal.main_arg1))
    (h2 : AF (s := S4x160) (VK Cert.KernelIdeal.main_arg2) (VR Cert.ReferenceIdeal.main_arg2))
    (h3 : AF (s := S3x160x80x1) (VK Cert.KernelIdeal.main_arg3) (VR Cert.ReferenceIdeal.main_arg3))
    (h4 : AF (s := S3x160) (VK Cert.KernelIdeal.main_arg4) (VR Cert.ReferenceIdeal.main_arg4))
    (h25 : AF (s := S16x1x2048) (VK Cert.KernelIdeal.main_v6) (VR Cert.ReferenceIdeal.main_v6))
    (h81 : AF (s := S16x80x2048) (VK Cert.KernelIdeal.main_v57) (VR Cert.ReferenceIdeal.main_v57))
    (h83 : AF (s := S16x80x2048) (VK Cert.KernelIdeal.main_v59) (VR Cert.ReferenceIdeal.main_v59))
    (h85 : AF (s := S160x80x3) (VK Cert.KernelIdeal.main_v61) (VR Cert.ReferenceIdeal.main_v61))
    (h87 : AF (s := S160) (VK Cert.KernelIdeal.main_v63) (VR Cert.ReferenceIdeal.main_v63))
    (h88 : AI (α := BitVec 32) (s := S_) (VK Cert.KernelIdeal.main_c_3) (VR Cert.ReferenceIdeal.main_c_3))
    : AF (s := S16x80x2048) (after (hostOps0_3 ++ hostOps0_4) VK Cert.KernelIdeal.main_v108) (after line2.1 VR Cert.ReferenceIdeal.main_v108)
      ∧ AF (s := S16x80x2048) (after (hostOps0_3 ++ hostOps0_4) VK Cert.KernelIdeal.main_v110) (after line2.1 VR Cert.ReferenceIdeal.main_v110)
      ∧ AF (s := S160x80x3) (after (hostOps0_3 ++ hostOps0_4) VK Cert.KernelIdeal.main_v112) (after line2.1 VR Cert.ReferenceIdeal.main_v112)
      ∧ AF (s := S160) (after (hostOps0_3 ++ hostOps0_4) VK Cert.KernelIdeal.main_v114) (after line2.1 VR Cert.ReferenceIdeal.main_v114)
      ∧ AI (α := BitVec 32) (s := S_) (after (hostOps0_3 ++ hostOps0_4) VK Cert.KernelIdeal.main_c_6) (after line2.1 VR Cert.ReferenceIdeal.main_c_6) := by
  refine ⟨?_, ?_, ?_, ?_, ?_⟩
  all_goals
    after_reads_simp [line2]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 3 of the encoder. -/
theorem line3_sim
    (h1 : AF (s := S4x160x80x3) (VK Cert.KernelIdeal.main_arg1) (VR Cert.ReferenceIdeal.main_arg1))
    (h2 : AF (s := S4x160) (VK Cert.KernelIdeal.main_arg2) (VR Cert.ReferenceIdeal.main_arg2))
    (h3 : AF (s := S3x160x80x1) (VK Cert.KernelIdeal.main_arg3) (VR Cert.ReferenceIdeal.main_arg3))
    (h4 : AF (s := S3x160) (VK Cert.KernelIdeal.main_arg4) (VR Cert.ReferenceIdeal.main_arg4))
    (h25 : AF (s := S16x1x2048) (VK Cert.KernelIdeal.main_v6) (VR Cert.ReferenceIdeal.main_v6))
    (h136 : AF (s := S16x80x2048) (VK Cert.KernelIdeal.main_v108) (VR Cert.ReferenceIdeal.main_v108))
    (h138 : AF (s := S16x80x2048) (VK Cert.KernelIdeal.main_v110) (VR Cert.ReferenceIdeal.main_v110))
    (h140 : AF (s := S160x80x3) (VK Cert.KernelIdeal.main_v112) (VR Cert.ReferenceIdeal.main_v112))
    (h142 : AF (s := S160) (VK Cert.KernelIdeal.main_v114) (VR Cert.ReferenceIdeal.main_v114))
    (h143 : AI (α := BitVec 32) (s := S_) (VK Cert.KernelIdeal.main_c_6) (VR Cert.ReferenceIdeal.main_c_6))
    : AF (s := S16x80x2048) (after (hostOps0_5 ++ hostOps0_6) VK Cert.KernelIdeal.main_v159) (after line3.1 VR Cert.ReferenceIdeal.main_v159)
      ∧ AF (s := S16x80x2048) (after (hostOps0_5 ++ hostOps0_6) VK Cert.KernelIdeal.main_v161) (after line3.1 VR Cert.ReferenceIdeal.main_v161)
      ∧ AF (s := S160x80x3) (after (hostOps0_5 ++ hostOps0_6) VK Cert.KernelIdeal.main_v163) (after line3.1 VR Cert.ReferenceIdeal.main_v163)
      ∧ AF (s := S160) (after (hostOps0_5 ++ hostOps0_6) VK Cert.KernelIdeal.main_v165) (after line3.1 VR Cert.ReferenceIdeal.main_v165)
      ∧ AI (α := BitVec 32) (s := S_) (after (hostOps0_5 ++ hostOps0_6) VK Cert.KernelIdeal.main_c_9) (after line3.1 VR Cert.ReferenceIdeal.main_c_9) := by
  refine ⟨?_, ?_, ?_, ?_, ?_⟩
  all_goals
    after_reads_simp [line3]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

end Cert.Enc
-- ==== Proof.Enc1.lean ====
/- The encoder, lines 4, 5, 6, 7: on tensors that agree and are real, the two programs' lines leave tensors that agree and
   are real. -/
module

public import proofs.«01_k».proof.Proof.KIFrame
public import proofs.«01_k».proof.Proof.RLines
public import proofs.«01_k».proof.Proof.Rel

@[expose] public section

set_option maxRecDepth 16384
set_option maxHeartbeats 4000000

noncomputable section

namespace Cert.Enc

open Idealize.ShloMosaic Idealize.ShloMosaic.TcCoe Idealize.ShloMosaic.StableHlo
open Cert.ReferenceIdeal.Lines Cert.KernelIdeal.Gen Cert.Rel Cert.Base
open Cert.ReferenceIdeal (S10x160 S10x160x80x5 S10x80 S10x80x160x1 S160 S160x80x3 S160x80x5 S16x1x2048 S16x80x2048 S80 S80x80x1 S_)

variable (VK : Valuation Cert.KernelIdeal.τ Cert.KernelIdeal.sig (Elt Ideal))
  (VR : Valuation Cert.ReferenceIdeal.τ Cert.ReferenceIdeal.sig (Elt Ideal))

/-- Line 4 of the encoder. -/
theorem line4_sim
    (h5 : AF (s := S80x80x1) (VK Cert.KernelIdeal.main_arg5) (VR Cert.ReferenceIdeal.main_arg5))
    (h6 : AF (s := S80) (VK Cert.KernelIdeal.main_arg6) (VR Cert.ReferenceIdeal.main_arg6))
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h25 : AF (s := S16x1x2048) (VK Cert.KernelIdeal.main_v6) (VR Cert.ReferenceIdeal.main_v6))
    (h191 : AF (s := S16x80x2048) (VK Cert.KernelIdeal.main_v159) (VR Cert.ReferenceIdeal.main_v159))
    (h193 : AF (s := S16x80x2048) (VK Cert.KernelIdeal.main_v161) (VR Cert.ReferenceIdeal.main_v161))
    (h195 : AF (s := S160x80x3) (VK Cert.KernelIdeal.main_v163) (VR Cert.ReferenceIdeal.main_v163))
    (h197 : AF (s := S160) (VK Cert.KernelIdeal.main_v165) (VR Cert.ReferenceIdeal.main_v165))
    (h198 : AI (α := BitVec 32) (s := S_) (VK Cert.KernelIdeal.main_c_9) (VR Cert.ReferenceIdeal.main_c_9))
    : AF (s := S16x80x2048) (after (hostOps0_7 ++ hostOps0_8) VK Cert.KernelIdeal.main_v205) (after line4.1 VR Cert.ReferenceIdeal.main_v205)
      ∧ AF (s := S16x1x2048) (after (hostOps0_7 ++ hostOps0_8) VK Cert.KernelIdeal.main_v211) (after line4.1 VR Cert.ReferenceIdeal.main_v211)
      ∧ AF (s := S16x1x2048) (after (hostOps0_7 ++ hostOps0_8) VK Cert.KernelIdeal.main_v217) (after line4.1 VR Cert.ReferenceIdeal.main_v217)
      ∧ AF (s := S16x80x2048) (after (hostOps0_7 ++ hostOps0_8) VK Cert.KernelIdeal.main_v245) (after line4.1 VR Cert.ReferenceIdeal.main_v245)
      ∧ AF (s := S160x80x5) (after (hostOps0_7 ++ hostOps0_8) VK Cert.KernelIdeal.main_v247) (after line4.1 VR Cert.ReferenceIdeal.main_v247)
      ∧ AF (s := S160) (after (hostOps0_7 ++ hostOps0_8) VK Cert.KernelIdeal.main_v249) (after line4.1 VR Cert.ReferenceIdeal.main_v249)
      ∧ AI (α := BitVec 32) (s := S_) (after (hostOps0_7 ++ hostOps0_8) VK Cert.KernelIdeal.main_c_21) (after line4.1 VR Cert.ReferenceIdeal.main_c_21) := by
  refine ⟨?_, ?_, ?_, ?_, ?_, ?_, ?_⟩
  all_goals
    after_reads_simp [line4]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 5 of the encoder. -/
theorem line5_sim
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h241 : AF (s := S16x80x2048) (VK Cert.KernelIdeal.main_v205) (VR Cert.ReferenceIdeal.main_v205))
    (h257 : AF (s := S16x1x2048) (VK Cert.KernelIdeal.main_v217) (VR Cert.ReferenceIdeal.main_v217))
    (h290 : AF (s := S16x80x2048) (VK Cert.KernelIdeal.main_v245) (VR Cert.ReferenceIdeal.main_v245))
    (h292 : AF (s := S160x80x5) (VK Cert.KernelIdeal.main_v247) (VR Cert.ReferenceIdeal.main_v247))
    (h294 : AF (s := S160) (VK Cert.KernelIdeal.main_v249) (VR Cert.ReferenceIdeal.main_v249))
    (h295 : AI (α := BitVec 32) (s := S_) (VK Cert.KernelIdeal.main_c_21) (VR Cert.ReferenceIdeal.main_c_21))
    : AF (s := S16x80x2048) (after (hostOps0_9 ++ hostOps0_10) VK Cert.KernelIdeal.main_v304) (after line5.1 VR Cert.ReferenceIdeal.main_v304)
      ∧ AF (s := S16x80x2048) (after (hostOps0_9 ++ hostOps0_10) VK Cert.KernelIdeal.main_v332) (after line5.1 VR Cert.ReferenceIdeal.main_v332)
      ∧ AF (s := S160x80x5) (after (hostOps0_9 ++ hostOps0_10) VK Cert.KernelIdeal.main_v334) (after line5.1 VR Cert.ReferenceIdeal.main_v334)
      ∧ AF (s := S160) (after (hostOps0_9 ++ hostOps0_10) VK Cert.KernelIdeal.main_v336) (after line5.1 VR Cert.ReferenceIdeal.main_v336)
      ∧ AI (α := BitVec 32) (s := S_) (after (hostOps0_9 ++ hostOps0_10) VK Cert.KernelIdeal.main_c_30) (after line5.1 VR Cert.ReferenceIdeal.main_c_30) := by
  refine ⟨?_, ?_, ?_, ?_, ?_⟩
  all_goals
    after_reads_simp [line5]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 6 of the encoder. -/
theorem line6_sim
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h257 : AF (s := S16x1x2048) (VK Cert.KernelIdeal.main_v217) (VR Cert.ReferenceIdeal.main_v217))
    (h354 : AF (s := S16x80x2048) (VK Cert.KernelIdeal.main_v304) (VR Cert.ReferenceIdeal.main_v304))
    (h387 : AF (s := S16x80x2048) (VK Cert.KernelIdeal.main_v332) (VR Cert.ReferenceIdeal.main_v332))
    (h389 : AF (s := S160x80x5) (VK Cert.KernelIdeal.main_v334) (VR Cert.ReferenceIdeal.main_v334))
    (h391 : AF (s := S160) (VK Cert.KernelIdeal.main_v336) (VR Cert.ReferenceIdeal.main_v336))
    (h392 : AI (α := BitVec 32) (s := S_) (VK Cert.KernelIdeal.main_c_30) (VR Cert.ReferenceIdeal.main_c_30))
    : AF (s := S16x80x2048) (after (hostOps0_11 ++ hostOps0_12) VK Cert.KernelIdeal.main_v391) (after line6.1 VR Cert.ReferenceIdeal.main_v391)
      ∧ AF (s := S16x1x2048) (after (hostOps0_11 ++ hostOps0_12) VK Cert.KernelIdeal.main_v397) (after line6.1 VR Cert.ReferenceIdeal.main_v397)
      ∧ AF (s := S16x80x2048) (after (hostOps0_11 ++ hostOps0_12) VK Cert.KernelIdeal.main_v425) (after line6.1 VR Cert.ReferenceIdeal.main_v425)
      ∧ AF (s := S160x80x5) (after (hostOps0_11 ++ hostOps0_12) VK Cert.KernelIdeal.main_v427) (after line6.1 VR Cert.ReferenceIdeal.main_v427)
      ∧ AF (s := S160) (after (hostOps0_11 ++ hostOps0_12) VK Cert.KernelIdeal.main_v429) (after line6.1 VR Cert.ReferenceIdeal.main_v429)
      ∧ AI (α := BitVec 32) (s := S_) (after (hostOps0_11 ++ hostOps0_12) VK Cert.KernelIdeal.main_c_41) (after line6.1 VR Cert.ReferenceIdeal.main_c_41) := by
  refine ⟨?_, ?_, ?_, ?_, ?_, ?_⟩
  all_goals
    after_reads_simp [line6]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 7 of the encoder. -/
theorem line7_sim
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h451 : AF (s := S16x80x2048) (VK Cert.KernelIdeal.main_v391) (VR Cert.ReferenceIdeal.main_v391))
    (h459 : AF (s := S16x1x2048) (VK Cert.KernelIdeal.main_v397) (VR Cert.ReferenceIdeal.main_v397))
    (h492 : AF (s := S16x80x2048) (VK Cert.KernelIdeal.main_v425) (VR Cert.ReferenceIdeal.main_v425))
    (h494 : AF (s := S160x80x5) (VK Cert.KernelIdeal.main_v427) (VR Cert.ReferenceIdeal.main_v427))
    (h496 : AF (s := S160) (VK Cert.KernelIdeal.main_v429) (VR Cert.ReferenceIdeal.main_v429))
    (h497 : AI (α := BitVec 32) (s := S_) (VK Cert.KernelIdeal.main_c_41) (VR Cert.ReferenceIdeal.main_c_41))
    : AF (s := S16x80x2048) (after (hostOps0_13 ++ hostOps0_14) VK Cert.KernelIdeal.main_v484) (after line7.1 VR Cert.ReferenceIdeal.main_v484)
      ∧ AF (s := S16x80x2048) (after (hostOps0_13 ++ hostOps0_14) VK Cert.KernelIdeal.main_v512) (after line7.1 VR Cert.ReferenceIdeal.main_v512)
      ∧ AF (s := S160x80x5) (after (hostOps0_13 ++ hostOps0_14) VK Cert.KernelIdeal.main_v514) (after line7.1 VR Cert.ReferenceIdeal.main_v514)
      ∧ AF (s := S160) (after (hostOps0_13 ++ hostOps0_14) VK Cert.KernelIdeal.main_v516) (after line7.1 VR Cert.ReferenceIdeal.main_v516)
      ∧ AI (α := BitVec 32) (s := S_) (after (hostOps0_13 ++ hostOps0_14) VK Cert.KernelIdeal.main_c_50) (after line7.1 VR Cert.ReferenceIdeal.main_c_50) := by
  refine ⟨?_, ?_, ?_, ?_, ?_⟩
  all_goals
    after_reads_simp [line7]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

end Cert.Enc
-- ==== Proof.Enc2.lean ====
/- The encoder, lines 8, 9, 10, 11: on tensors that agree and are real, the two programs' lines leave tensors that agree and
   are real. -/
module

public import proofs.«01_k».proof.Proof.KIFrame
public import proofs.«01_k».proof.Proof.RLines
public import proofs.«01_k».proof.Proof.Rel

@[expose] public section

set_option maxRecDepth 16384
set_option maxHeartbeats 4000000

noncomputable section

namespace Cert.Enc

open Idealize.ShloMosaic Idealize.ShloMosaic.TcCoe Idealize.ShloMosaic.StableHlo
open Cert.ReferenceIdeal.Lines Cert.KernelIdeal.Gen Cert.Rel Cert.Base
open Cert.ReferenceIdeal (S10x160 S10x160x80x5 S10x80 S10x80x160x1 S160 S160x80x5 S16x1x2048 S16x80x2048 S_)

variable (VK : Valuation Cert.KernelIdeal.τ Cert.KernelIdeal.sig (Elt Ideal))
  (VR : Valuation Cert.ReferenceIdeal.τ Cert.ReferenceIdeal.sig (Elt Ideal))

/-- Line 8 of the encoder. -/
theorem line8_sim
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h459 : AF (s := S16x1x2048) (VK Cert.KernelIdeal.main_v397) (VR Cert.ReferenceIdeal.main_v397))
    (h556 : AF (s := S16x80x2048) (VK Cert.KernelIdeal.main_v484) (VR Cert.ReferenceIdeal.main_v484))
    (h589 : AF (s := S16x80x2048) (VK Cert.KernelIdeal.main_v512) (VR Cert.ReferenceIdeal.main_v512))
    (h591 : AF (s := S160x80x5) (VK Cert.KernelIdeal.main_v514) (VR Cert.ReferenceIdeal.main_v514))
    (h593 : AF (s := S160) (VK Cert.KernelIdeal.main_v516) (VR Cert.ReferenceIdeal.main_v516))
    (h594 : AI (α := BitVec 32) (s := S_) (VK Cert.KernelIdeal.main_c_50) (VR Cert.ReferenceIdeal.main_c_50))
    : AF (s := S16x80x2048) (after (hostOps0_15 ++ hostOps0_16) VK Cert.KernelIdeal.main_v571) (after line8.1 VR Cert.ReferenceIdeal.main_v571)
      ∧ AF (s := S16x1x2048) (after (hostOps0_15 ++ hostOps0_16) VK Cert.KernelIdeal.main_v577) (after line8.1 VR Cert.ReferenceIdeal.main_v577)
      ∧ AF (s := S16x80x2048) (after (hostOps0_15 ++ hostOps0_16) VK Cert.KernelIdeal.main_v605) (after line8.1 VR Cert.ReferenceIdeal.main_v605)
      ∧ AF (s := S160x80x5) (after (hostOps0_15 ++ hostOps0_16) VK Cert.KernelIdeal.main_v607) (after line8.1 VR Cert.ReferenceIdeal.main_v607)
      ∧ AF (s := S160) (after (hostOps0_15 ++ hostOps0_16) VK Cert.KernelIdeal.main_v609) (after line8.1 VR Cert.ReferenceIdeal.main_v609)
      ∧ AI (α := BitVec 32) (s := S_) (after (hostOps0_15 ++ hostOps0_16) VK Cert.KernelIdeal.main_c_61) (after line8.1 VR Cert.ReferenceIdeal.main_c_61) := by
  refine ⟨?_, ?_, ?_, ?_, ?_, ?_⟩
  all_goals
    after_reads_simp [line8]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 9 of the encoder. -/
theorem line9_sim
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h653 : AF (s := S16x80x2048) (VK Cert.KernelIdeal.main_v571) (VR Cert.ReferenceIdeal.main_v571))
    (h661 : AF (s := S16x1x2048) (VK Cert.KernelIdeal.main_v577) (VR Cert.ReferenceIdeal.main_v577))
    (h694 : AF (s := S16x80x2048) (VK Cert.KernelIdeal.main_v605) (VR Cert.ReferenceIdeal.main_v605))
    (h696 : AF (s := S160x80x5) (VK Cert.KernelIdeal.main_v607) (VR Cert.ReferenceIdeal.main_v607))
    (h698 : AF (s := S160) (VK Cert.KernelIdeal.main_v609) (VR Cert.ReferenceIdeal.main_v609))
    (h699 : AI (α := BitVec 32) (s := S_) (VK Cert.KernelIdeal.main_c_61) (VR Cert.ReferenceIdeal.main_c_61))
    : AF (s := S16x80x2048) (after (hostOps0_17 ++ hostOps0_18) VK Cert.KernelIdeal.main_v664) (after line9.1 VR Cert.ReferenceIdeal.main_v664)
      ∧ AF (s := S16x80x2048) (after (hostOps0_17 ++ hostOps0_18) VK Cert.KernelIdeal.main_v692) (after line9.1 VR Cert.ReferenceIdeal.main_v692)
      ∧ AF (s := S160x80x5) (after (hostOps0_17 ++ hostOps0_18) VK Cert.KernelIdeal.main_v694) (after line9.1 VR Cert.ReferenceIdeal.main_v694)
      ∧ AF (s := S160) (after (hostOps0_17 ++ hostOps0_18) VK Cert.KernelIdeal.main_v696) (after line9.1 VR Cert.ReferenceIdeal.main_v696)
      ∧ AI (α := BitVec 32) (s := S_) (after (hostOps0_17 ++ hostOps0_18) VK Cert.KernelIdeal.main_c_70) (after line9.1 VR Cert.ReferenceIdeal.main_c_70) := by
  refine ⟨?_, ?_, ?_, ?_, ?_⟩
  all_goals
    after_reads_simp [line9]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 10 of the encoder. -/
theorem line10_sim
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h661 : AF (s := S16x1x2048) (VK Cert.KernelIdeal.main_v577) (VR Cert.ReferenceIdeal.main_v577))
    (h758 : AF (s := S16x80x2048) (VK Cert.KernelIdeal.main_v664) (VR Cert.ReferenceIdeal.main_v664))
    (h791 : AF (s := S16x80x2048) (VK Cert.KernelIdeal.main_v692) (VR Cert.ReferenceIdeal.main_v692))
    (h793 : AF (s := S160x80x5) (VK Cert.KernelIdeal.main_v694) (VR Cert.ReferenceIdeal.main_v694))
    (h795 : AF (s := S160) (VK Cert.KernelIdeal.main_v696) (VR Cert.ReferenceIdeal.main_v696))
    (h796 : AI (α := BitVec 32) (s := S_) (VK Cert.KernelIdeal.main_c_70) (VR Cert.ReferenceIdeal.main_c_70))
    : AF (s := S16x80x2048) (after (hostOps0_19 ++ hostOps0_20) VK Cert.KernelIdeal.main_v751) (after line10.1 VR Cert.ReferenceIdeal.main_v751)
      ∧ AF (s := S16x1x2048) (after (hostOps0_19 ++ hostOps0_20) VK Cert.KernelIdeal.main_v757) (after line10.1 VR Cert.ReferenceIdeal.main_v757)
      ∧ AF (s := S16x80x2048) (after (hostOps0_19 ++ hostOps0_20) VK Cert.KernelIdeal.main_v785) (after line10.1 VR Cert.ReferenceIdeal.main_v785)
      ∧ AF (s := S160x80x5) (after (hostOps0_19 ++ hostOps0_20) VK Cert.KernelIdeal.main_v787) (after line10.1 VR Cert.ReferenceIdeal.main_v787)
      ∧ AF (s := S160) (after (hostOps0_19 ++ hostOps0_20) VK Cert.KernelIdeal.main_v789) (after line10.1 VR Cert.ReferenceIdeal.main_v789)
      ∧ AI (α := BitVec 32) (s := S_) (after (hostOps0_19 ++ hostOps0_20) VK Cert.KernelIdeal.main_c_81) (after line10.1 VR Cert.ReferenceIdeal.main_c_81) := by
  refine ⟨?_, ?_, ?_, ?_, ?_, ?_⟩
  all_goals
    after_reads_simp [line10]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 11 of the encoder. -/
theorem line11_sim
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h855 : AF (s := S16x80x2048) (VK Cert.KernelIdeal.main_v751) (VR Cert.ReferenceIdeal.main_v751))
    (h863 : AF (s := S16x1x2048) (VK Cert.KernelIdeal.main_v757) (VR Cert.ReferenceIdeal.main_v757))
    (h896 : AF (s := S16x80x2048) (VK Cert.KernelIdeal.main_v785) (VR Cert.ReferenceIdeal.main_v785))
    (h898 : AF (s := S160x80x5) (VK Cert.KernelIdeal.main_v787) (VR Cert.ReferenceIdeal.main_v787))
    (h900 : AF (s := S160) (VK Cert.KernelIdeal.main_v789) (VR Cert.ReferenceIdeal.main_v789))
    (h901 : AI (α := BitVec 32) (s := S_) (VK Cert.KernelIdeal.main_c_81) (VR Cert.ReferenceIdeal.main_c_81))
    : AF (s := S16x80x2048) (after (hostOps0_21 ++ hostOps0_22) VK Cert.KernelIdeal.main_v844) (after line11.1 VR Cert.ReferenceIdeal.main_v844)
      ∧ AF (s := S16x80x2048) (after (hostOps0_21 ++ hostOps0_22) VK Cert.KernelIdeal.main_v872) (after line11.1 VR Cert.ReferenceIdeal.main_v872)
      ∧ AF (s := S160x80x5) (after (hostOps0_21 ++ hostOps0_22) VK Cert.KernelIdeal.main_v874) (after line11.1 VR Cert.ReferenceIdeal.main_v874)
      ∧ AF (s := S160) (after (hostOps0_21 ++ hostOps0_22) VK Cert.KernelIdeal.main_v876) (after line11.1 VR Cert.ReferenceIdeal.main_v876)
      ∧ AI (α := BitVec 32) (s := S_) (after (hostOps0_21 ++ hostOps0_22) VK Cert.KernelIdeal.main_c_90) (after line11.1 VR Cert.ReferenceIdeal.main_c_90) := by
  refine ⟨?_, ?_, ?_, ?_, ?_⟩
  all_goals
    after_reads_simp [line11]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

end Cert.Enc
-- ==== Proof.Enc3.lean ====
/- The encoder, lines 12, 13, 14, 15: on tensors that agree and are real, the two programs' lines leave tensors that agree and
   are real. -/
module

public import proofs.«01_k».proof.Proof.KIFrame
public import proofs.«01_k».proof.Proof.RLines
public import proofs.«01_k».proof.Proof.Rel

@[expose] public section

set_option maxRecDepth 16384
set_option maxHeartbeats 4000000

noncomputable section

namespace Cert.Enc

open Idealize.ShloMosaic Idealize.ShloMosaic.TcCoe Idealize.ShloMosaic.StableHlo
open Cert.ReferenceIdeal.Lines Cert.KernelIdeal.Gen Cert.Rel Cert.Base
open Cert.ReferenceIdeal (S10x160 S10x160x80x5 S10x80 S10x80x160x1 S160 S160x80x5 S16x1x2048 S16x2048x256 S16x80x2048 S256 S256x80x3 S80 S_)

variable (VK : Valuation Cert.KernelIdeal.τ Cert.KernelIdeal.sig (Elt Ideal))
  (VR : Valuation Cert.ReferenceIdeal.τ Cert.ReferenceIdeal.sig (Elt Ideal))

/-- Line 12 of the encoder. -/
theorem line12_sim
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h863 : AF (s := S16x1x2048) (VK Cert.KernelIdeal.main_v757) (VR Cert.ReferenceIdeal.main_v757))
    (h960 : AF (s := S16x80x2048) (VK Cert.KernelIdeal.main_v844) (VR Cert.ReferenceIdeal.main_v844))
    (h993 : AF (s := S16x80x2048) (VK Cert.KernelIdeal.main_v872) (VR Cert.ReferenceIdeal.main_v872))
    (h995 : AF (s := S160x80x5) (VK Cert.KernelIdeal.main_v874) (VR Cert.ReferenceIdeal.main_v874))
    (h997 : AF (s := S160) (VK Cert.KernelIdeal.main_v876) (VR Cert.ReferenceIdeal.main_v876))
    (h998 : AI (α := BitVec 32) (s := S_) (VK Cert.KernelIdeal.main_c_90) (VR Cert.ReferenceIdeal.main_c_90))
    : AF (s := S16x80x2048) (after (hostOps0_23 ++ hostOps0_24) VK Cert.KernelIdeal.main_v931) (after line12.1 VR Cert.ReferenceIdeal.main_v931)
      ∧ AF (s := S16x1x2048) (after (hostOps0_23 ++ hostOps0_24) VK Cert.KernelIdeal.main_v937) (after line12.1 VR Cert.ReferenceIdeal.main_v937)
      ∧ AF (s := S16x80x2048) (after (hostOps0_23 ++ hostOps0_24) VK Cert.KernelIdeal.main_v965) (after line12.1 VR Cert.ReferenceIdeal.main_v965)
      ∧ AF (s := S160x80x5) (after (hostOps0_23 ++ hostOps0_24) VK Cert.KernelIdeal.main_v967) (after line12.1 VR Cert.ReferenceIdeal.main_v967)
      ∧ AF (s := S160) (after (hostOps0_23 ++ hostOps0_24) VK Cert.KernelIdeal.main_v969) (after line12.1 VR Cert.ReferenceIdeal.main_v969)
      ∧ AI (α := BitVec 32) (s := S_) (after (hostOps0_23 ++ hostOps0_24) VK Cert.KernelIdeal.main_c_101) (after line12.1 VR Cert.ReferenceIdeal.main_c_101) := by
  refine ⟨?_, ?_, ?_, ?_, ?_, ?_⟩
  all_goals
    after_reads_simp [line12]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 13 of the encoder. -/
theorem line13_sim
    (h7 : AF (s := S10x80) (VK Cert.KernelIdeal.main_arg7) (VR Cert.ReferenceIdeal.main_arg7))
    (h8 : AF (s := S10x80) (VK Cert.KernelIdeal.main_arg8) (VR Cert.ReferenceIdeal.main_arg8))
    (h9 : AF (s := S10x160x80x5) (VK Cert.KernelIdeal.main_arg9) (VR Cert.ReferenceIdeal.main_arg9))
    (h10 : AF (s := S10x160) (VK Cert.KernelIdeal.main_arg10) (VR Cert.ReferenceIdeal.main_arg10))
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h1057 : AF (s := S16x80x2048) (VK Cert.KernelIdeal.main_v931) (VR Cert.ReferenceIdeal.main_v931))
    (h1065 : AF (s := S16x1x2048) (VK Cert.KernelIdeal.main_v937) (VR Cert.ReferenceIdeal.main_v937))
    (h1098 : AF (s := S16x80x2048) (VK Cert.KernelIdeal.main_v965) (VR Cert.ReferenceIdeal.main_v965))
    (h1100 : AF (s := S160x80x5) (VK Cert.KernelIdeal.main_v967) (VR Cert.ReferenceIdeal.main_v967))
    (h1102 : AF (s := S160) (VK Cert.KernelIdeal.main_v969) (VR Cert.ReferenceIdeal.main_v969))
    (h1103 : AI (α := BitVec 32) (s := S_) (VK Cert.KernelIdeal.main_c_101) (VR Cert.ReferenceIdeal.main_c_101))
    : AF (s := S16x80x2048) (after (hostOps0_25 ++ hostOps0_26) VK Cert.KernelIdeal.main_v1024) (after line13.1 VR Cert.ReferenceIdeal.main_v1024)
      ∧ AF (s := S16x80x2048) (after (hostOps0_25 ++ hostOps0_26) VK Cert.KernelIdeal.main_v1052) (after line13.1 VR Cert.ReferenceIdeal.main_v1052)
      ∧ AF (s := S160x80x5) (after (hostOps0_25 ++ hostOps0_26) VK Cert.KernelIdeal.main_v1054) (after line13.1 VR Cert.ReferenceIdeal.main_v1054)
      ∧ AF (s := S160) (after (hostOps0_25 ++ hostOps0_26) VK Cert.KernelIdeal.main_v1056) (after line13.1 VR Cert.ReferenceIdeal.main_v1056)
      ∧ AI (α := BitVec 32) (s := S_) (after (hostOps0_25 ++ hostOps0_26) VK Cert.KernelIdeal.main_c_110) (after line13.1 VR Cert.ReferenceIdeal.main_c_110) := by
  refine ⟨?_, ?_, ?_, ?_, ?_⟩
  all_goals
    after_reads_simp [line13]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 14 of the encoder. -/
theorem line14_sim
    (h11 : AF (s := S10x80x160x1) (VK Cert.KernelIdeal.main_arg11) (VR Cert.ReferenceIdeal.main_arg11))
    (h12 : AF (s := S10x80) (VK Cert.KernelIdeal.main_arg12) (VR Cert.ReferenceIdeal.main_arg12))
    (h13 : AF (s := S80) (VK Cert.KernelIdeal.main_arg13) (VR Cert.ReferenceIdeal.main_arg13))
    (h14 : AF (s := S80) (VK Cert.KernelIdeal.main_arg14) (VR Cert.ReferenceIdeal.main_arg14))
    (h249 : AF (s := S16x1x2048) (VK Cert.KernelIdeal.main_v211) (VR Cert.ReferenceIdeal.main_v211))
    (h1065 : AF (s := S16x1x2048) (VK Cert.KernelIdeal.main_v937) (VR Cert.ReferenceIdeal.main_v937))
    (h1162 : AF (s := S16x80x2048) (VK Cert.KernelIdeal.main_v1024) (VR Cert.ReferenceIdeal.main_v1024))
    (h1195 : AF (s := S16x80x2048) (VK Cert.KernelIdeal.main_v1052) (VR Cert.ReferenceIdeal.main_v1052))
    (h1197 : AF (s := S160x80x5) (VK Cert.KernelIdeal.main_v1054) (VR Cert.ReferenceIdeal.main_v1054))
    (h1199 : AF (s := S160) (VK Cert.KernelIdeal.main_v1056) (VR Cert.ReferenceIdeal.main_v1056))
    (h1200 : AI (α := BitVec 32) (s := S_) (VK Cert.KernelIdeal.main_c_110) (VR Cert.ReferenceIdeal.main_c_110))
    : AF (s := S16x80x2048) (after (hostOps0_27 ++ hostOps0_28) VK Cert.KernelIdeal.main_v1139) (after line14.1 VR Cert.ReferenceIdeal.main_v1139)
      ∧ AI (α := BitVec 32) (s := S_) (after (hostOps0_27 ++ hostOps0_28) VK Cert.KernelIdeal.main_c_119) (after line14.1 VR Cert.ReferenceIdeal.main_c_119) := by
  refine ⟨?_, ?_⟩
  all_goals
    after_reads_simp [line14]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

/-- Line 15 of the encoder. -/
theorem line15_sim
    (h15 : AF (s := S256x80x3) (VK Cert.KernelIdeal.main_arg15) (VR Cert.ReferenceIdeal.main_arg15))
    (h16 : AF (s := S256) (VK Cert.KernelIdeal.main_arg16) (VR Cert.ReferenceIdeal.main_arg16))
    (h249 : AF (s := S16x1x2048) (VK Cert.KernelIdeal.main_v211) (VR Cert.ReferenceIdeal.main_v211))
    (h1292 : AF (s := S16x80x2048) (VK Cert.KernelIdeal.main_v1139) (VR Cert.ReferenceIdeal.main_v1139))
    (h1293 : AI (α := BitVec 32) (s := S_) (VK Cert.KernelIdeal.main_c_119) (VR Cert.ReferenceIdeal.main_c_119))
    : AF (s := S16x2048x256) (after (hostOps0_29 ++ hostOps0_30) VK Cert.KernelIdeal.main_v1163) (after line15.1 VR Cert.ReferenceIdeal.main_v1163) := by
  skip
  all_goals
    after_reads_simp [line15]
    try simp only [TRef.ofBuf, TRef.toBuf, cast_eq]
    repeat' (first
      | with_reducible assumption
      | with_reducible exact AF.bits | with_reducible exact AP.bits | with_reducible exact AN.zero | with_reducible exact AI.const
      | with_reducible apply AF.addf | with_reducible apply AF.mulf | with_reducible apply AF.subf
      | with_reducible apply AF.bcast | with_reducible apply AF.slice
      | with_reducible apply AF.transpose | with_reducible refine AF.dot (show _ = _ from ?_) ?_ ?_ | with_reducible apply AF.divf
      | with_reducible apply AF.reduceAdd | with_reducible apply AF.negf | with_reducible apply AF.absf
      | with_reducible apply AF.tanh | with_reducible apply AF.erfc | with_reducible apply AF.pad
      | with_reducible apply AF.uitofp | with_reducible apply AF.sitofp
      | with_reducible apply AI.cmpf | with_reducible apply AI.noti
      | with_reducible apply AP.bcast | with_reducible apply AP.addf | with_reducible apply AP.exp | with_reducible apply AP.sqrt
      | with_reducible apply AN.bcast | with_reducible apply AN.divf | with_reducible apply AN.reduceAdd
      | with_reducible apply AN.square | assumption | apply AF.shapeCast | apply AF.slice | with_reducible apply AP.an | exact rfl)

end Cert.Enc
-- ==== Proof.Enc.lean ====
/- The encoder as a whole: on real arguments that agree, the two programs compute the same code vectors' inputs, and
   they are real. -/
module

public import proofs.«01_k».proof.Proof.Enc0
public import proofs.«01_k».proof.Proof.Enc1
public import proofs.«01_k».proof.Proof.Enc2
public import proofs.«01_k».proof.Proof.Enc3

@[expose] public section

set_option maxRecDepth 16384
set_option maxHeartbeats 4000000

noncomputable section

namespace Cert.Enc

open Idealize.ShloMosaic Idealize.ShloMosaic.TcCoe Idealize.ShloMosaic.StableHlo
open Cert.ReferenceIdeal.Lines Cert.KernelIdeal.Gen Cert.Rel Cert.Base
open Cert.KernelIdeal.Around
open Cert.ReferenceIdeal (S10x160 S10x160x80x5 S10x80 S10x80x160x1 S128x256 S160 S160x80x3 S160x80x5 S16x1x2048 S16x2048x256 S16x2048x80 S16x80x2048 S256 S256x80x3 S3x160 S3x160x80x1 S4x160 S4x160x80x3 S80 S80x80x1 S_)

variable (VK : Valuation Cert.KernelIdeal.τ Cert.KernelIdeal.sig (Elt Ideal))
  (VR : Valuation Cert.ReferenceIdeal.τ Cert.ReferenceIdeal.sig (Elt Ideal))

variable {VK VR}

/-- The arguments agree and are real. -/
structure Args (VK : Valuation Cert.KernelIdeal.τ Cert.KernelIdeal.sig (Elt Ideal))
    (VR : Valuation Cert.ReferenceIdeal.τ Cert.ReferenceIdeal.sig (Elt Ideal)) : Prop where
  a0 : AF (s := S16x2048x80) (VK Cert.KernelIdeal.main_arg0) (VR Cert.ReferenceIdeal.main_arg0)
  a1 : AF (s := S4x160x80x3) (VK Cert.KernelIdeal.main_arg1) (VR Cert.ReferenceIdeal.main_arg1)
  a2 : AF (s := S4x160) (VK Cert.KernelIdeal.main_arg2) (VR Cert.ReferenceIdeal.main_arg2)
  a3 : AF (s := S3x160x80x1) (VK Cert.KernelIdeal.main_arg3) (VR Cert.ReferenceIdeal.main_arg3)
  a4 : AF (s := S3x160) (VK Cert.KernelIdeal.main_arg4) (VR Cert.ReferenceIdeal.main_arg4)
  a5 : AF (s := S80x80x1) (VK Cert.KernelIdeal.main_arg5) (VR Cert.ReferenceIdeal.main_arg5)
  a6 : AF (s := S80) (VK Cert.KernelIdeal.main_arg6) (VR Cert.ReferenceIdeal.main_arg6)
  a7 : AF (s := S10x80) (VK Cert.KernelIdeal.main_arg7) (VR Cert.ReferenceIdeal.main_arg7)
  a8 : AF (s := S10x80) (VK Cert.KernelIdeal.main_arg8) (VR Cert.ReferenceIdeal.main_arg8)
  a9 : AF (s := S10x160x80x5) (VK Cert.KernelIdeal.main_arg9) (VR Cert.ReferenceIdeal.main_arg9)
  a10 : AF (s := S10x160) (VK Cert.KernelIdeal.main_arg10) (VR Cert.ReferenceIdeal.main_arg10)
  a11 : AF (s := S10x80x160x1) (VK Cert.KernelIdeal.main_arg11) (VR Cert.ReferenceIdeal.main_arg11)
  a12 : AF (s := S10x80) (VK Cert.KernelIdeal.main_arg12) (VR Cert.ReferenceIdeal.main_arg12)
  a13 : AF (s := S80) (VK Cert.KernelIdeal.main_arg13) (VR Cert.ReferenceIdeal.main_arg13)
  a14 : AF (s := S80) (VK Cert.KernelIdeal.main_arg14) (VR Cert.ReferenceIdeal.main_arg14)
  a15 : AF (s := S256x80x3) (VK Cert.KernelIdeal.main_arg15) (VR Cert.ReferenceIdeal.main_arg15)
  a16 : AF (s := S256) (VK Cert.KernelIdeal.main_arg16) (VR Cert.ReferenceIdeal.main_arg16)
  a17 : AF (s := S128x256) (VK Cert.KernelIdeal.main_arg17) (VR Cert.ReferenceIdeal.main_arg17)

/-- Lines that write no argument keep them so. -/
theorem Args.after (h : Args VK VR) {lK lR} (hK : lK.Forall (Above 18)) (hR : lR.Forall (Above 18)) :
    Args (after lK VK) (after lR VR) := by
  constructor
  · rw [after_above hK _ (by decide), after_above hR _ (by decide)]; exact h.a0
  · rw [after_above hK _ (by decide), after_above hR _ (by decide)]; exact h.a1
  · rw [after_above hK _ (by decide), after_above hR _ (by decide)]; exact h.a2
  · rw [after_above hK _ (by decide), after_above hR _ (by decide)]; exact h.a3
  · rw [after_above hK _ (by decide), after_above hR _ (by decide)]; exact h.a4
  · rw [after_above hK _ (by decide), after_above hR _ (by decide)]; exact h.a5
  · rw [after_above hK _ (by decide), after_above hR _ (by decide)]; exact h.a6
  · rw [after_above hK _ (by decide), after_above hR _ (by decide)]; exact h.a7
  · rw [after_above hK _ (by decide), after_above hR _ (by decide)]; exact h.a8
  · rw [after_above hK _ (by decide), after_above hR _ (by decide)]; exact h.a9
  · rw [after_above hK _ (by decide), after_above hR _ (by decide)]; exact h.a10
  · rw [after_above hK _ (by decide), after_above hR _ (by decide)]; exact h.a11
  · rw [after_above hK _ (by decide), after_above hR _ (by decide)]; exact h.a12
  · rw [after_above hK _ (by decide), after_above hR _ (by decide)]; exact h.a13
  · rw [after_above hK _ (by decide), after_above hR _ (by decide)]; exact h.a14
  · rw [after_above hK _ (by decide), after_above hR _ (by decide)]; exact h.a15
  · rw [after_above hK _ (by decide), after_above hR _ (by decide)]; exact h.a16
  · rw [after_above hK _ (by decide), after_above hR _ (by decide)]; exact h.a17

/-- The kernel's line 0 writes nothing before its own buffers. -/
theorem kline0_above : (hostOps0 : List (HloOp Cert.KernelIdeal.τ Cert.KernelIdeal.sig (Elt Ideal))).Forall (Above 18) := hostOps0_above
/-- Line 0, with what later lines read. -/
theorem step0 (hA : Args VK VR)  :
    Args (after (hostOps0) VK) (after line0.1 VR)
      ∧ AF (s := S16x1x2048) ((after (hostOps0) VK) Cert.KernelIdeal.main_v6) ((after line0.1 VR) Cert.ReferenceIdeal.main_v6)
      ∧ AF (s := S16x80x2048) ((after (hostOps0) VK) Cert.KernelIdeal.main_v7) ((after line0.1 VR) Cert.ReferenceIdeal.main_v7)
      ∧ AF (s := S16x80x2048) ((after (hostOps0) VK) Cert.KernelIdeal.main_v8) ((after line0.1 VR) Cert.ReferenceIdeal.main_v8)
      ∧ AF (s := S160x80x3) ((after (hostOps0) VK) Cert.KernelIdeal.main_v10) ((after line0.1 VR) Cert.ReferenceIdeal.main_v10)
      ∧ AF (s := S160) ((after (hostOps0) VK) Cert.KernelIdeal.main_v12) ((after line0.1 VR) Cert.ReferenceIdeal.main_v12)
      ∧ AI (α := BitVec 32) (s := S_) ((after (hostOps0) VK) Cert.KernelIdeal.main_c) ((after line0.1 VR) Cert.ReferenceIdeal.main_c) := by
  obtain ⟨o25, o26, o28, o30, o32, o33⟩ := line0_sim VK VR hA.a0 hA.a1 hA.a2
  refine ⟨hA.after (Above.mono kline0_above (by decide)) (Above.mono line0_above (by decide)), o25, o26, o28, o30, o32, o33⟩

/-- The kernel's line 1 writes nothing before its own buffers. -/
theorem kline1_above : (hostOps0_1 ++ hostOps0_2 : List (HloOp Cert.KernelIdeal.τ Cert.KernelIdeal.sig (Elt Ideal))).Forall (Above 34) := by
  rw [List.forall_append]; exact ⟨hostOps0_1_above, Above.mono hostOps0_2_above (by decide)⟩
/-- Line 1, with what later lines read. -/
theorem step1 (hA : Args VK VR) (h25 : AF (s := S16x1x2048) (VK Cert.KernelIdeal.main_v6) (VR Cert.ReferenceIdeal.main_v6)) (h26 : AF (s := S16x80x2048) (VK Cert.KernelIdeal.main_v7) (VR Cert.ReferenceIdeal.main_v7)) (h28 : AF (s := S16x80x2048) (VK Cert.KernelIdeal.main_v8) (VR Cert.ReferenceIdeal.main_v8)) (h30 : AF (s := S160x80x3) (VK Cert.KernelIdeal.main_v10) (VR Cert.ReferenceIdeal.main_v10)) (h32 : AF (s := S160) (VK Cert.KernelIdeal.main_v12) (VR Cert.ReferenceIdeal.main_v12)) (h33 : AI (α := BitVec 32) (s := S_) (VK Cert.KernelIdeal.main_c) (VR Cert.ReferenceIdeal.main_c)) :
    Args (after (hostOps0_1 ++ hostOps0_2) VK) (after line1.1 VR)
      ∧ AF (s := S16x1x2048) ((after (hostOps0_1 ++ hostOps0_2) VK) Cert.KernelIdeal.main_v6) ((after line1.1 VR) Cert.ReferenceIdeal.main_v6)
      ∧ AF (s := S16x80x2048) ((after (hostOps0_1 ++ hostOps0_2) VK) Cert.KernelIdeal.main_v57) ((after line1.1 VR) Cert.ReferenceIdeal.main_v57)
      ∧ AF (s := S16x80x2048) ((after (hostOps0_1 ++ hostOps0_2) VK) Cert.KernelIdeal.main_v59) ((after line1.1 VR) Cert.ReferenceIdeal.main_v59)
      ∧ AF (s := S160x80x3) ((after (hostOps0_1 ++ hostOps0_2) VK) Cert.KernelIdeal.main_v61) ((after line1.1 VR) Cert.ReferenceIdeal.main_v61)
      ∧ AF (s := S160) ((after (hostOps0_1 ++ hostOps0_2) VK) Cert.KernelIdeal.main_v63) ((after line1.1 VR) Cert.ReferenceIdeal.main_v63)
      ∧ AI (α := BitVec 32) (s := S_) ((after (hostOps0_1 ++ hostOps0_2) VK) Cert.KernelIdeal.main_c_3) ((after line1.1 VR) Cert.ReferenceIdeal.main_c_3) := by
  obtain ⟨o81, o83, o85, o87, o88⟩ := line1_sim VK VR hA.a1 hA.a2 hA.a3 hA.a4 h25 h26 h28 h30 h32 h33
  refine ⟨hA.after (Above.mono kline1_above (by decide)) (Above.mono line1_above (by decide)), ?_, o81, o83, o85, o87, o88⟩
  · rw [after_above kline1_above _ (by decide), after_above line1_above _ (by decide)]; exact h25

/-- The kernel's line 2 writes nothing before its own buffers. -/
theorem kline2_above : (hostOps0_3 ++ hostOps0_4 : List (HloOp Cert.KernelIdeal.τ Cert.KernelIdeal.sig (Elt Ideal))).Forall (Above 89) := by
  rw [List.forall_append]; exact ⟨hostOps0_3_above, Above.mono hostOps0_4_above (by decide)⟩
/-- Line 2, with what later lines read. -/
theorem step2 (hA : Args VK VR) (h25 : AF (s := S16x1x2048) (VK Cert.KernelIdeal.main_v6) (VR Cert.ReferenceIdeal.main_v6)) (h81 : AF (s := S16x80x2048) (VK Cert.KernelIdeal.main_v57) (VR Cert.ReferenceIdeal.main_v57)) (h83 : AF (s := S16x80x2048) (VK Cert.KernelIdeal.main_v59) (VR Cert.ReferenceIdeal.main_v59)) (h85 : AF (s := S160x80x3) (VK Cert.KernelIdeal.main_v61) (VR Cert.ReferenceIdeal.main_v61)) (h87 : AF (s := S160) (VK Cert.KernelIdeal.main_v63) (VR Cert.ReferenceIdeal.main_v63)) (h88 : AI (α := BitVec 32) (s := S_) (VK Cert.KernelIdeal.main_c_3) (VR Cert.ReferenceIdeal.main_c_3)) :
    Args (after (hostOps0_3 ++ hostOps0_4) VK) (after line2.1 VR)
      ∧ AF (s := S16x1x2048) ((after (hostOps0_3 ++ hostOps0_4) VK) Cert.KernelIdeal.main_v6) ((after line2.1 VR) Cert.ReferenceIdeal.main_v6)
      ∧ AF (s := S16x80x2048) ((after (hostOps0_3 ++ hostOps0_4) VK) Cert.KernelIdeal.main_v108) ((after line2.1 VR) Cert.ReferenceIdeal.main_v108)
      ∧ AF (s := S16x80x2048) ((after (hostOps0_3 ++ hostOps0_4) VK) Cert.KernelIdeal.main_v110) ((after line2.1 VR) Cert.ReferenceIdeal.main_v110)
      ∧ AF (s := S160x80x3) ((after (hostOps0_3 ++ hostOps0_4) VK) Cert.KernelIdeal.main_v112) ((after line2.1 VR) Cert.ReferenceIdeal.main_v112)
      ∧ AF (s := S160) ((after (hostOps0_3 ++ hostOps0_4) VK) Cert.KernelIdeal.main_v114) ((after line2.1 VR) Cert.ReferenceIdeal.main_v114)
      ∧ AI (α := BitVec 32) (s := S_) ((after (hostOps0_3 ++ hostOps0_4) VK) Cert.KernelIdeal.main_c_6) ((after line2.1 VR) Cert.ReferenceIdeal.main_c_6) := by
  obtain ⟨o136, o138, o140, o142, o143⟩ := line2_sim VK VR hA.a1 hA.a2 hA.a3 hA.a4 h25 h81 h83 h85 h87 h88
  refine ⟨hA.after (Above.mono kline2_above (by decide)) (Above.mono line2_above (by decide)), ?_, o136, o138, o140, o142, o143⟩
  · rw [after_above kline2_above _ (by decide), after_above line2_above _ (by decide)]; exact h25

/-- The kernel's line 3 writes nothing before its own buffers. -/
theorem kline3_above : (hostOps0_5 ++ hostOps0_6 : List (HloOp Cert.KernelIdeal.τ Cert.KernelIdeal.sig (Elt Ideal))).Forall (Above 144) := by
  rw [List.forall_append]; exact ⟨hostOps0_5_above, Above.mono hostOps0_6_above (by decide)⟩
/-- Line 3, with what later lines read. -/
theorem step3 (hA : Args VK VR) (h25 : AF (s := S16x1x2048) (VK Cert.KernelIdeal.main_v6) (VR Cert.ReferenceIdeal.main_v6)) (h136 : AF (s := S16x80x2048) (VK Cert.KernelIdeal.main_v108) (VR Cert.ReferenceIdeal.main_v108)) (h138 : AF (s := S16x80x2048) (VK Cert.KernelIdeal.main_v110) (VR Cert.ReferenceIdeal.main_v110)) (h140 : AF (s := S160x80x3) (VK Cert.KernelIdeal.main_v112) (VR Cert.ReferenceIdeal.main_v112)) (h142 : AF (s := S160) (VK Cert.KernelIdeal.main_v114) (VR Cert.ReferenceIdeal.main_v114)) (h143 : AI (α := BitVec 32) (s := S_) (VK Cert.KernelIdeal.main_c_6) (VR Cert.ReferenceIdeal.main_c_6)) :
    Args (after (hostOps0_5 ++ hostOps0_6) VK) (after line3.1 VR)
      ∧ AF (s := S16x1x2048) ((after (hostOps0_5 ++ hostOps0_6) VK) Cert.KernelIdeal.main_v6) ((after line3.1 VR) Cert.ReferenceIdeal.main_v6)
      ∧ AF (s := S16x80x2048) ((after (hostOps0_5 ++ hostOps0_6) VK) Cert.KernelIdeal.main_v159) ((after line3.1 VR) Cert.ReferenceIdeal.main_v159)
      ∧ AF (s := S16x80x2048) ((after (hostOps0_5 ++ hostOps0_6) VK) Cert.KernelIdeal.main_v161) ((after line3.1 VR) Cert.ReferenceIdeal.main_v161)
      ∧ AF (s := S160x80x3) ((after (hostOps0_5 ++ hostOps0_6) VK) Cert.KernelIdeal.main_v163) ((after line3.1 VR) Cert.ReferenceIdeal.main_v163)
      ∧ AF (s := S160) ((after (hostOps0_5 ++ hostOps0_6) VK) Cert.KernelIdeal.main_v165) ((after line3.1 VR) Cert.ReferenceIdeal.main_v165)
      ∧ AI (α := BitVec 32) (s := S_) ((after (hostOps0_5 ++ hostOps0_6) VK) Cert.KernelIdeal.main_c_9) ((after line3.1 VR) Cert.ReferenceIdeal.main_c_9) := by
  obtain ⟨o191, o193, o195, o197, o198⟩ := line3_sim VK VR hA.a1 hA.a2 hA.a3 hA.a4 h25 h136 h138 h140 h142 h143
  refine ⟨hA.after (Above.mono kline3_above (by decide)) (Above.mono line3_above (by decide)), ?_, o191, o193, o195, o197, o198⟩
  · rw [after_above kline3_above _ (by decide), after_above line3_above _ (by decide)]; exact h25

/-- The kernel's line 4 writes nothing before its own buffers. -/
theorem kline4_above : (hostOps0_7 ++ hostOps0_8 : List (HloOp Cert.KernelIdeal.τ Cert.KernelIdeal.sig (Elt Ideal))).Forall (Above 199) := by
  rw [List.forall_append]; exact ⟨hostOps0_7_above, Above.mono hostOps0_8_above (by decide)⟩
/-- Line 4, with what later lines read. -/
theorem step4 (hA : Args VK VR) (h25 : AF (s := S16x1x2048) (VK Cert.KernelIdeal.main_v6) (VR Cert.ReferenceIdeal.main_v6)) (h191 : AF (s := S16x80x2048) (VK Cert.KernelIdeal.main_v159) (VR Cert.ReferenceIdeal.main_v159)) (h193 : AF (s := S16x80x2048) (VK Cert.KernelIdeal.main_v161) (VR Cert.ReferenceIdeal.main_v161)) (h195 : AF (s := S160x80x3) (VK Cert.KernelIdeal.main_v163) (VR Cert.ReferenceIdeal.main_v163)) (h197 : AF (s := S160) (VK Cert.KernelIdeal.main_v165) (VR Cert.ReferenceIdeal.main_v165)) (h198 : AI (α := BitVec 32) (s := S_) (VK Cert.KernelIdeal.main_c_9) (VR Cert.ReferenceIdeal.main_c_9)) :
    Args (after (hostOps0_7 ++ hostOps0_8) VK) (after line4.1 VR)
      ∧ AF (s := S16x80x2048) ((after (hostOps0_7 ++ hostOps0_8) VK) Cert.KernelIdeal.main_v205) ((after line4.1 VR) Cert.ReferenceIdeal.main_v205)
      ∧ AF (s := S16x1x2048) ((after (hostOps0_7 ++ hostOps0_8) VK) Cert.KernelIdeal.main_v211) ((after line4.1 VR) Cert.ReferenceIdeal.main_v211)
      ∧ AF (s := S16x1x2048) ((after (hostOps0_7 ++ hostOps0_8) VK) Cert.KernelIdeal.main_v217) ((after line4.1 VR) Cert.ReferenceIdeal.main_v217)
      ∧ AF (s := S16x80x2048) ((after (hostOps0_7 ++ hostOps0_8) VK) Cert.KernelIdeal.main_v245) ((after line4.1 VR) Cert.ReferenceIdeal.main_v245)
      ∧ AF (s := S160x80x5) ((after (hostOps0_7 ++ hostOps0_8) VK) Cert.KernelIdeal.main_v247) ((after line4.1 VR) Cert.ReferenceIdeal.main_v247)
      ∧ AF (s := S160) ((after (hostOps0_7 ++ hostOps0_8) VK) Cert.KernelIdeal.main_v249) ((after line4.1 VR) Cert.ReferenceIdeal.main_v249)
      ∧ AI (α := BitVec 32) (s := S_) ((after (hostOps0_7 ++ hostOps0_8) VK) Cert.KernelIdeal.main_c_21) ((after line4.1 VR) Cert.ReferenceIdeal.main_c_21) := by
  obtain ⟨o241, o249, o257, o290, o292, o294, o295⟩ := line4_sim VK VR hA.a5 hA.a6 hA.a7 hA.a8 hA.a9 hA.a10 h25 h191 h193 h195 h197 h198
  refine ⟨hA.after (Above.mono kline4_above (by decide)) (Above.mono line4_above (by decide)), o241, o249, o257, o290, o292, o294, o295⟩

/-- The kernel's line 5 writes nothing before its own buffers. -/
theorem kline5_above : (hostOps0_9 ++ hostOps0_10 : List (HloOp Cert.KernelIdeal.τ Cert.KernelIdeal.sig (Elt Ideal))).Forall (Above 296) := by
  rw [List.forall_append]; exact ⟨hostOps0_9_above, Above.mono hostOps0_10_above (by decide)⟩
/-- Line 5, with what later lines read. -/
theorem step5 (hA : Args VK VR) (h241 : AF (s := S16x80x2048) (VK Cert.KernelIdeal.main_v205) (VR Cert.ReferenceIdeal.main_v205)) (h249 : AF (s := S16x1x2048) (VK Cert.KernelIdeal.main_v211) (VR Cert.ReferenceIdeal.main_v211)) (h257 : AF (s := S16x1x2048) (VK Cert.KernelIdeal.main_v217) (VR Cert.ReferenceIdeal.main_v217)) (h290 : AF (s := S16x80x2048) (VK Cert.KernelIdeal.main_v245) (VR Cert.ReferenceIdeal.main_v245)) (h292 : AF (s := S160x80x5) (VK Cert.KernelIdeal.main_v247) (VR Cert.ReferenceIdeal.main_v247)) (h294 : AF (s := S160) (VK Cert.KernelIdeal.main_v249) (VR Cert.ReferenceIdeal.main_v249)) (h295 : AI (α := BitVec 32) (s := S_) (VK Cert.KernelIdeal.main_c_21) (VR Cert.ReferenceIdeal.main_c_21)) :
    Args (after (hostOps0_9 ++ hostOps0_10) VK) (after line5.1 VR)
      ∧ AF (s := S16x1x2048) ((after (hostOps0_9 ++ hostOps0_10) VK) Cert.KernelIdeal.main_v211) ((after line5.1 VR) Cert.ReferenceIdeal.main_v211)
      ∧ AF (s := S16x1x2048) ((after (hostOps0_9 ++ hostOps0_10) VK) Cert.KernelIdeal.main_v217) ((after line5.1 VR) Cert.ReferenceIdeal.main_v217)
      ∧ AF (s := S16x80x2048) ((after (hostOps0_9 ++ hostOps0_10) VK) Cert.KernelIdeal.main_v304) ((after line5.1 VR) Cert.ReferenceIdeal.main_v304)
      ∧ AF (s := S16x80x2048) ((after (hostOps0_9 ++ hostOps0_10) VK) Cert.KernelIdeal.main_v332) ((after line5.1 VR) Cert.ReferenceIdeal.main_v332)
      ∧ AF (s := S160x80x5) ((after (hostOps0_9 ++ hostOps0_10) VK) Cert.KernelIdeal.main_v334) ((after line5.1 VR) Cert.ReferenceIdeal.main_v334)
      ∧ AF (s := S160) ((after (hostOps0_9 ++ hostOps0_10) VK) Cert.KernelIdeal.main_v336) ((after line5.1 VR) Cert.ReferenceIdeal.main_v336)
      ∧ AI (α := BitVec 32) (s := S_) ((after (hostOps0_9 ++ hostOps0_10) VK) Cert.KernelIdeal.main_c_30) ((after line5.1 VR) Cert.ReferenceIdeal.main_c_30) := by
  obtain ⟨o354, o387, o389, o391, o392⟩ := line5_sim VK VR hA.a7 hA.a8 hA.a9 hA.a10 hA.a11 hA.a12 h241 h257 h290 h292 h294 h295
  refine ⟨hA.after (Above.mono kline5_above (by decide)) (Above.mono line5_above (by decide)), ?_, ?_, o354, o387, o389, o391, o392⟩
  · rw [after_above kline5_above _ (by decide), after_above line5_above _ (by decide)]; exact h249
  · rw [after_above kline5_above _ (by decide), after_above line5_above _ (by decide)]; exact h257

/-- The kernel's line 6 writes nothing before its own buffers. -/
theorem kline6_above : (hostOps0_11 ++ hostOps0_12 : List (HloOp Cert.KernelIdeal.τ Cert.KernelIdeal.sig (Elt Ideal))).Forall (Above 393) := by
  rw [List.forall_append]; exact ⟨hostOps0_11_above, Above.mono hostOps0_12_above (by decide)⟩
/-- Line 6, with what later lines read. -/
theorem step6 (hA : Args VK VR) (h249 : AF (s := S16x1x2048) (VK Cert.KernelIdeal.main_v211) (VR Cert.ReferenceIdeal.main_v211)) (h257 : AF (s := S16x1x2048) (VK Cert.KernelIdeal.main_v217) (VR Cert.ReferenceIdeal.main_v217)) (h354 : AF (s := S16x80x2048) (VK Cert.KernelIdeal.main_v304) (VR Cert.ReferenceIdeal.main_v304)) (h387 : AF (s := S16x80x2048) (VK Cert.KernelIdeal.main_v332) (VR Cert.ReferenceIdeal.main_v332)) (h389 : AF (s := S160x80x5) (VK Cert.KernelIdeal.main_v334) (VR Cert.ReferenceIdeal.main_v334)) (h391 : AF (s := S160) (VK Cert.KernelIdeal.main_v336) (VR Cert.ReferenceIdeal.main_v336)) (h392 : AI (α := BitVec 32) (s := S_) (VK Cert.KernelIdeal.main_c_30) (VR Cert.ReferenceIdeal.main_c_30)) :
    Args (after (hostOps0_11 ++ hostOps0_12) VK) (after line6.1 VR)
      ∧ AF (s := S16x1x2048) ((after (hostOps0_11 ++ hostOps0_12) VK) Cert.KernelIdeal.main_v211) ((after line6.1 VR) Cert.ReferenceIdeal.main_v211)
      ∧ AF (s := S16x80x2048) ((after (hostOps0_11 ++ hostOps0_12) VK) Cert.KernelIdeal.main_v391) ((after line6.1 VR) Cert.ReferenceIdeal.main_v391)
      ∧ AF (s := S16x1x2048) ((after (hostOps0_11 ++ hostOps0_12) VK) Cert.KernelIdeal.main_v397) ((after line6.1 VR) Cert.ReferenceIdeal.main_v397)
      ∧ AF (s := S16x80x2048) ((after (hostOps0_11 ++ hostOps0_12) VK) Cert.KernelIdeal.main_v425) ((after line6.1 VR) Cert.ReferenceIdeal.main_v425)
      ∧ AF (s := S160x80x5) ((after (hostOps0_11 ++ hostOps0_12) VK) Cert.KernelIdeal.main_v427) ((after line6.1 VR) Cert.ReferenceIdeal.main_v427)
      ∧ AF (s := S160) ((after (hostOps0_11 ++ hostOps0_12) VK) Cert.KernelIdeal.main_v429) ((after line6.1 VR) Cert.ReferenceIdeal.main_v429)
      ∧ AI (α := BitVec 32) (s := S_) ((after (hostOps0_11 ++ hostOps0_12) VK) Cert.KernelIdeal.main_c_41) ((after line6.1 VR) Cert.ReferenceIdeal.main_c_41) := by
  obtain ⟨o451, o459, o492, o494, o496, o497⟩ := line6_sim VK VR hA.a7 hA.a8 hA.a9 hA.a10 hA.a11 hA.a12 h257 h354 h387 h389 h391 h392
  refine ⟨hA.after (Above.mono kline6_above (by decide)) (Above.mono line6_above (by decide)), ?_, o451, o459, o492, o494, o496, o497⟩
  · rw [after_above kline6_above _ (by decide), after_above line6_above _ (by decide)]; exact h249

/-- The kernel's line 7 writes nothing before its own buffers. -/
theorem kline7_above : (hostOps0_13 ++ hostOps0_14 : List (HloOp Cert.KernelIdeal.τ Cert.KernelIdeal.sig (Elt Ideal))).Forall (Above 498) := by
  rw [List.forall_append]; exact ⟨hostOps0_13_above, Above.mono hostOps0_14_above (by decide)⟩
/-- Line 7, with what later lines read. -/
theorem step7 (hA : Args VK VR) (h249 : AF (s := S16x1x2048) (VK Cert.KernelIdeal.main_v211) (VR Cert.ReferenceIdeal.main_v211)) (h451 : AF (s := S16x80x2048) (VK Cert.KernelIdeal.main_v391) (VR Cert.ReferenceIdeal.main_v391)) (h459 : AF (s := S16x1x2048) (VK Cert.KernelIdeal.main_v397) (VR Cert.ReferenceIdeal.main_v397)) (h492 : AF (s := S16x80x2048) (VK Cert.KernelIdeal.main_v425) (VR Cert.ReferenceIdeal.main_v425)) (h494 : AF (s := S160x80x5) (VK Cert.KernelIdeal.main_v427) (VR Cert.ReferenceIdeal.main_v427)) (h496 : AF (s := S160) (VK Cert.KernelIdeal.main_v429) (VR Cert.ReferenceIdeal.main_v429)) (h497 : AI (α := BitVec 32) (s := S_) (VK Cert.KernelIdeal.main_c_41) (VR Cert.ReferenceIdeal.main_c_41)) :
    Args (after (hostOps0_13 ++ hostOps0_14) VK) (after line7.1 VR)
      ∧ AF (s := S16x1x2048) ((after (hostOps0_13 ++ hostOps0_14) VK) Cert.KernelIdeal.main_v211) ((after line7.1 VR) Cert.ReferenceIdeal.main_v211)
      ∧ AF (s := S16x1x2048) ((after (hostOps0_13 ++ hostOps0_14) VK) Cert.KernelIdeal.main_v397) ((after line7.1 VR) Cert.ReferenceIdeal.main_v397)
      ∧ AF (s := S16x80x2048) ((after (hostOps0_13 ++ hostOps0_14) VK) Cert.KernelIdeal.main_v484) ((after line7.1 VR) Cert.ReferenceIdeal.main_v484)
      ∧ AF (s := S16x80x2048) ((after (hostOps0_13 ++ hostOps0_14) VK) Cert.KernelIdeal.main_v512) ((after line7.1 VR) Cert.ReferenceIdeal.main_v512)
      ∧ AF (s := S160x80x5) ((after (hostOps0_13 ++ hostOps0_14) VK) Cert.KernelIdeal.main_v514) ((after line7.1 VR) Cert.ReferenceIdeal.main_v514)
      ∧ AF (s := S160) ((after (hostOps0_13 ++ hostOps0_14) VK) Cert.KernelIdeal.main_v516) ((after line7.1 VR) Cert.ReferenceIdeal.main_v516)
      ∧ AI (α := BitVec 32) (s := S_) ((after (hostOps0_13 ++ hostOps0_14) VK) Cert.KernelIdeal.main_c_50) ((after line7.1 VR) Cert.ReferenceIdeal.main_c_50) := by
  obtain ⟨o556, o589, o591, o593, o594⟩ := line7_sim VK VR hA.a7 hA.a8 hA.a9 hA.a10 hA.a11 hA.a12 h451 h459 h492 h494 h496 h497
  refine ⟨hA.after (Above.mono kline7_above (by decide)) (Above.mono line7_above (by decide)), ?_, ?_, o556, o589, o591, o593, o594⟩
  · rw [after_above kline7_above _ (by decide), after_above line7_above _ (by decide)]; exact h249
  · rw [after_above kline7_above _ (by decide), after_above line7_above _ (by decide)]; exact h459

/-- The kernel's line 8 writes nothing before its own buffers. -/
theorem kline8_above : (hostOps0_15 ++ hostOps0_16 : List (HloOp Cert.KernelIdeal.τ Cert.KernelIdeal.sig (Elt Ideal))).Forall (Above 595) := by
  rw [List.forall_append]; exact ⟨hostOps0_15_above, Above.mono hostOps0_16_above (by decide)⟩
/-- Line 8, with what later lines read. -/
theorem step8 (hA : Args VK VR) (h249 : AF (s := S16x1x2048) (VK Cert.KernelIdeal.main_v211) (VR Cert.ReferenceIdeal.main_v211)) (h459 : AF (s := S16x1x2048) (VK Cert.KernelIdeal.main_v397) (VR Cert.ReferenceIdeal.main_v397)) (h556 : AF (s := S16x80x2048) (VK Cert.KernelIdeal.main_v484) (VR Cert.ReferenceIdeal.main_v484)) (h589 : AF (s := S16x80x2048) (VK Cert.KernelIdeal.main_v512) (VR Cert.ReferenceIdeal.main_v512)) (h591 : AF (s := S160x80x5) (VK Cert.KernelIdeal.main_v514) (VR Cert.ReferenceIdeal.main_v514)) (h593 : AF (s := S160) (VK Cert.KernelIdeal.main_v516) (VR Cert.ReferenceIdeal.main_v516)) (h594 : AI (α := BitVec 32) (s := S_) (VK Cert.KernelIdeal.main_c_50) (VR Cert.ReferenceIdeal.main_c_50)) :
    Args (after (hostOps0_15 ++ hostOps0_16) VK) (after line8.1 VR)
      ∧ AF (s := S16x1x2048) ((after (hostOps0_15 ++ hostOps0_16) VK) Cert.KernelIdeal.main_v211) ((after line8.1 VR) Cert.ReferenceIdeal.main_v211)
      ∧ AF (s := S16x80x2048) ((after (hostOps0_15 ++ hostOps0_16) VK) Cert.KernelIdeal.main_v571) ((after line8.1 VR) Cert.ReferenceIdeal.main_v571)
      ∧ AF (s := S16x1x2048) ((after (hostOps0_15 ++ hostOps0_16) VK) Cert.KernelIdeal.main_v577) ((after line8.1 VR) Cert.ReferenceIdeal.main_v577)
      ∧ AF (s := S16x80x2048) ((after (hostOps0_15 ++ hostOps0_16) VK) Cert.KernelIdeal.main_v605) ((after line8.1 VR) Cert.ReferenceIdeal.main_v605)
      ∧ AF (s := S160x80x5) ((after (hostOps0_15 ++ hostOps0_16) VK) Cert.KernelIdeal.main_v607) ((after line8.1 VR) Cert.ReferenceIdeal.main_v607)
      ∧ AF (s := S160) ((after (hostOps0_15 ++ hostOps0_16) VK) Cert.KernelIdeal.main_v609) ((after line8.1 VR) Cert.ReferenceIdeal.main_v609)
      ∧ AI (α := BitVec 32) (s := S_) ((after (hostOps0_15 ++ hostOps0_16) VK) Cert.KernelIdeal.main_c_61) ((after line8.1 VR) Cert.ReferenceIdeal.main_c_61) := by
  obtain ⟨o653, o661, o694, o696, o698, o699⟩ := line8_sim VK VR hA.a7 hA.a8 hA.a9 hA.a10 hA.a11 hA.a12 h459 h556 h589 h591 h593 h594
  refine ⟨hA.after (Above.mono kline8_above (by decide)) (Above.mono line8_above (by decide)), ?_, o653, o661, o694, o696, o698, o699⟩
  · rw [after_above kline8_above _ (by decide), after_above line8_above _ (by decide)]; exact h249

/-- The kernel's line 9 writes nothing before its own buffers. -/
theorem kline9_above : (hostOps0_17 ++ hostOps0_18 : List (HloOp Cert.KernelIdeal.τ Cert.KernelIdeal.sig (Elt Ideal))).Forall (Above 700) := by
  rw [List.forall_append]; exact ⟨hostOps0_17_above, Above.mono hostOps0_18_above (by decide)⟩
/-- Line 9, with what later lines read. -/
theorem step9 (hA : Args VK VR) (h249 : AF (s := S16x1x2048) (VK Cert.KernelIdeal.main_v211) (VR Cert.ReferenceIdeal.main_v211)) (h653 : AF (s := S16x80x2048) (VK Cert.KernelIdeal.main_v571) (VR Cert.ReferenceIdeal.main_v571)) (h661 : AF (s := S16x1x2048) (VK Cert.KernelIdeal.main_v577) (VR Cert.ReferenceIdeal.main_v577)) (h694 : AF (s := S16x80x2048) (VK Cert.KernelIdeal.main_v605) (VR Cert.ReferenceIdeal.main_v605)) (h696 : AF (s := S160x80x5) (VK Cert.KernelIdeal.main_v607) (VR Cert.ReferenceIdeal.main_v607)) (h698 : AF (s := S160) (VK Cert.KernelIdeal.main_v609) (VR Cert.ReferenceIdeal.main_v609)) (h699 : AI (α := BitVec 32) (s := S_) (VK Cert.KernelIdeal.main_c_61) (VR Cert.ReferenceIdeal.main_c_61)) :
    Args (after (hostOps0_17 ++ hostOps0_18) VK) (after line9.1 VR)
      ∧ AF (s := S16x1x2048) ((after (hostOps0_17 ++ hostOps0_18) VK) Cert.KernelIdeal.main_v211) ((after line9.1 VR) Cert.ReferenceIdeal.main_v211)
      ∧ AF (s := S16x1x2048) ((after (hostOps0_17 ++ hostOps0_18) VK) Cert.KernelIdeal.main_v577) ((after line9.1 VR) Cert.ReferenceIdeal.main_v577)
      ∧ AF (s := S16x80x2048) ((after (hostOps0_17 ++ hostOps0_18) VK) Cert.KernelIdeal.main_v664) ((after line9.1 VR) Cert.ReferenceIdeal.main_v664)
      ∧ AF (s := S16x80x2048) ((after (hostOps0_17 ++ hostOps0_18) VK) Cert.KernelIdeal.main_v692) ((after line9.1 VR) Cert.ReferenceIdeal.main_v692)
      ∧ AF (s := S160x80x5) ((after (hostOps0_17 ++ hostOps0_18) VK) Cert.KernelIdeal.main_v694) ((after line9.1 VR) Cert.ReferenceIdeal.main_v694)
      ∧ AF (s := S160) ((after (hostOps0_17 ++ hostOps0_18) VK) Cert.KernelIdeal.main_v696) ((after line9.1 VR) Cert.ReferenceIdeal.main_v696)
      ∧ AI (α := BitVec 32) (s := S_) ((after (hostOps0_17 ++ hostOps0_18) VK) Cert.KernelIdeal.main_c_70) ((after line9.1 VR) Cert.ReferenceIdeal.main_c_70) := by
  obtain ⟨o758, o791, o793, o795, o796⟩ := line9_sim VK VR hA.a7 hA.a8 hA.a9 hA.a10 hA.a11 hA.a12 h653 h661 h694 h696 h698 h699
  refine ⟨hA.after (Above.mono kline9_above (by decide)) (Above.mono line9_above (by decide)), ?_, ?_, o758, o791, o793, o795, o796⟩
  · rw [after_above kline9_above _ (by decide), after_above line9_above _ (by decide)]; exact h249
  · rw [after_above kline9_above _ (by decide), after_above line9_above _ (by decide)]; exact h661

/-- The kernel's line 10 writes nothing before its own buffers. -/
theorem kline10_above : (hostOps0_19 ++ hostOps0_20 : List (HloOp Cert.KernelIdeal.τ Cert.KernelIdeal.sig (Elt Ideal))).Forall (Above 797) := by
  rw [List.forall_append]; exact ⟨hostOps0_19_above, Above.mono hostOps0_20_above (by decide)⟩
/-- Line 10, with what later lines read. -/
theorem step10 (hA : Args VK VR) (h249 : AF (s := S16x1x2048) (VK Cert.KernelIdeal.main_v211) (VR Cert.ReferenceIdeal.main_v211)) (h661 : AF (s := S16x1x2048) (VK Cert.KernelIdeal.main_v577) (VR Cert.ReferenceIdeal.main_v577)) (h758 : AF (s := S16x80x2048) (VK Cert.KernelIdeal.main_v664) (VR Cert.ReferenceIdeal.main_v664)) (h791 : AF (s := S16x80x2048) (VK Cert.KernelIdeal.main_v692) (VR Cert.ReferenceIdeal.main_v692)) (h793 : AF (s := S160x80x5) (VK Cert.KernelIdeal.main_v694) (VR Cert.ReferenceIdeal.main_v694)) (h795 : AF (s := S160) (VK Cert.KernelIdeal.main_v696) (VR Cert.ReferenceIdeal.main_v696)) (h796 : AI (α := BitVec 32) (s := S_) (VK Cert.KernelIdeal.main_c_70) (VR Cert.ReferenceIdeal.main_c_70)) :
    Args (after (hostOps0_19 ++ hostOps0_20) VK) (after line10.1 VR)
      ∧ AF (s := S16x1x2048) ((after (hostOps0_19 ++ hostOps0_20) VK) Cert.KernelIdeal.main_v211) ((after line10.1 VR) Cert.ReferenceIdeal.main_v211)
      ∧ AF (s := S16x80x2048) ((after (hostOps0_19 ++ hostOps0_20) VK) Cert.KernelIdeal.main_v751) ((after line10.1 VR) Cert.ReferenceIdeal.main_v751)
      ∧ AF (s := S16x1x2048) ((after (hostOps0_19 ++ hostOps0_20) VK) Cert.KernelIdeal.main_v757) ((after line10.1 VR) Cert.ReferenceIdeal.main_v757)
      ∧ AF (s := S16x80x2048) ((after (hostOps0_19 ++ hostOps0_20) VK) Cert.KernelIdeal.main_v785) ((after line10.1 VR) Cert.ReferenceIdeal.main_v785)
      ∧ AF (s := S160x80x5) ((after (hostOps0_19 ++ hostOps0_20) VK) Cert.KernelIdeal.main_v787) ((after line10.1 VR) Cert.ReferenceIdeal.main_v787)
      ∧ AF (s := S160) ((after (hostOps0_19 ++ hostOps0_20) VK) Cert.KernelIdeal.main_v789) ((after line10.1 VR) Cert.ReferenceIdeal.main_v789)
      ∧ AI (α := BitVec 32) (s := S_) ((after (hostOps0_19 ++ hostOps0_20) VK) Cert.KernelIdeal.main_c_81) ((after line10.1 VR) Cert.ReferenceIdeal.main_c_81) := by
  obtain ⟨o855, o863, o896, o898, o900, o901⟩ := line10_sim VK VR hA.a7 hA.a8 hA.a9 hA.a10 hA.a11 hA.a12 h661 h758 h791 h793 h795 h796
  refine ⟨hA.after (Above.mono kline10_above (by decide)) (Above.mono line10_above (by decide)), ?_, o855, o863, o896, o898, o900, o901⟩
  · rw [after_above kline10_above _ (by decide), after_above line10_above _ (by decide)]; exact h249

/-- The kernel's line 11 writes nothing before its own buffers. -/
theorem kline11_above : (hostOps0_21 ++ hostOps0_22 : List (HloOp Cert.KernelIdeal.τ Cert.KernelIdeal.sig (Elt Ideal))).Forall (Above 902) := by
  rw [List.forall_append]; exact ⟨hostOps0_21_above, Above.mono hostOps0_22_above (by decide)⟩
/-- Line 11, with what later lines read. -/
theorem step11 (hA : Args VK VR) (h249 : AF (s := S16x1x2048) (VK Cert.KernelIdeal.main_v211) (VR Cert.ReferenceIdeal.main_v211)) (h855 : AF (s := S16x80x2048) (VK Cert.KernelIdeal.main_v751) (VR Cert.ReferenceIdeal.main_v751)) (h863 : AF (s := S16x1x2048) (VK Cert.KernelIdeal.main_v757) (VR Cert.ReferenceIdeal.main_v757)) (h896 : AF (s := S16x80x2048) (VK Cert.KernelIdeal.main_v785) (VR Cert.ReferenceIdeal.main_v785)) (h898 : AF (s := S160x80x5) (VK Cert.KernelIdeal.main_v787) (VR Cert.ReferenceIdeal.main_v787)) (h900 : AF (s := S160) (VK Cert.KernelIdeal.main_v789) (VR Cert.ReferenceIdeal.main_v789)) (h901 : AI (α := BitVec 32) (s := S_) (VK Cert.KernelIdeal.main_c_81) (VR Cert.ReferenceIdeal.main_c_81)) :
    Args (after (hostOps0_21 ++ hostOps0_22) VK) (after line11.1 VR)
      ∧ AF (s := S16x1x2048) ((after (hostOps0_21 ++ hostOps0_22) VK) Cert.KernelIdeal.main_v211) ((after line11.1 VR) Cert.ReferenceIdeal.main_v211)
      ∧ AF (s := S16x1x2048) ((after (hostOps0_21 ++ hostOps0_22) VK) Cert.KernelIdeal.main_v757) ((after line11.1 VR) Cert.ReferenceIdeal.main_v757)
      ∧ AF (s := S16x80x2048) ((after (hostOps0_21 ++ hostOps0_22) VK) Cert.KernelIdeal.main_v844) ((after line11.1 VR) Cert.ReferenceIdeal.main_v844)
      ∧ AF (s := S16x80x2048) ((after (hostOps0_21 ++ hostOps0_22) VK) Cert.KernelIdeal.main_v872) ((after line11.1 VR) Cert.ReferenceIdeal.main_v872)
      ∧ AF (s := S160x80x5) ((after (hostOps0_21 ++ hostOps0_22) VK) Cert.KernelIdeal.main_v874) ((after line11.1 VR) Cert.ReferenceIdeal.main_v874)
      ∧ AF (s := S160) ((after (hostOps0_21 ++ hostOps0_22) VK) Cert.KernelIdeal.main_v876) ((after line11.1 VR) Cert.ReferenceIdeal.main_v876)
      ∧ AI (α := BitVec 32) (s := S_) ((after (hostOps0_21 ++ hostOps0_22) VK) Cert.KernelIdeal.main_c_90) ((after line11.1 VR) Cert.ReferenceIdeal.main_c_90) := by
  obtain ⟨o960, o993, o995, o997, o998⟩ := line11_sim VK VR hA.a7 hA.a8 hA.a9 hA.a10 hA.a11 hA.a12 h855 h863 h896 h898 h900 h901
  refine ⟨hA.after (Above.mono kline11_above (by decide)) (Above.mono line11_above (by decide)), ?_, ?_, o960, o993, o995, o997, o998⟩
  · rw [after_above kline11_above _ (by decide), after_above line11_above _ (by decide)]; exact h249
  · rw [after_above kline11_above _ (by decide), after_above line11_above _ (by decide)]; exact h863

/-- The kernel's line 12 writes nothing before its own buffers. -/
theorem kline12_above : (hostOps0_23 ++ hostOps0_24 : List (HloOp Cert.KernelIdeal.τ Cert.KernelIdeal.sig (Elt Ideal))).Forall (Above 999) := by
  rw [List.forall_append]; exact ⟨hostOps0_23_above, Above.mono hostOps0_24_above (by decide)⟩
/-- Line 12, with what later lines read. -/
theorem step12 (hA : Args VK VR) (h249 : AF (s := S16x1x2048) (VK Cert.KernelIdeal.main_v211) (VR Cert.ReferenceIdeal.main_v211)) (h863 : AF (s := S16x1x2048) (VK Cert.KernelIdeal.main_v757) (VR Cert.ReferenceIdeal.main_v757)) (h960 : AF (s := S16x80x2048) (VK Cert.KernelIdeal.main_v844) (VR Cert.ReferenceIdeal.main_v844)) (h993 : AF (s := S16x80x2048) (VK Cert.KernelIdeal.main_v872) (VR Cert.ReferenceIdeal.main_v872)) (h995 : AF (s := S160x80x5) (VK Cert.KernelIdeal.main_v874) (VR Cert.ReferenceIdeal.main_v874)) (h997 : AF (s := S160) (VK Cert.KernelIdeal.main_v876) (VR Cert.ReferenceIdeal.main_v876)) (h998 : AI (α := BitVec 32) (s := S_) (VK Cert.KernelIdeal.main_c_90) (VR Cert.ReferenceIdeal.main_c_90)) :
    Args (after (hostOps0_23 ++ hostOps0_24) VK) (after line12.1 VR)
      ∧ AF (s := S16x1x2048) ((after (hostOps0_23 ++ hostOps0_24) VK) Cert.KernelIdeal.main_v211) ((after line12.1 VR) Cert.ReferenceIdeal.main_v211)
      ∧ AF (s := S16x80x2048) ((after (hostOps0_23 ++ hostOps0_24) VK) Cert.KernelIdeal.main_v931) ((after line12.1 VR) Cert.ReferenceIdeal.main_v931)
      ∧ AF (s := S16x1x2048) ((after (hostOps0_23 ++ hostOps0_24) VK) Cert.KernelIdeal.main_v937) ((after line12.1 VR) Cert.ReferenceIdeal.main_v937)
      ∧ AF (s := S16x80x2048) ((after (hostOps0_23 ++ hostOps0_24) VK) Cert.KernelIdeal.main_v965) ((after line12.1 VR) Cert.ReferenceIdeal.main_v965)
      ∧ AF (s := S160x80x5) ((after (hostOps0_23 ++ hostOps0_24) VK) Cert.KernelIdeal.main_v967) ((after line12.1 VR) Cert.ReferenceIdeal.main_v967)
      ∧ AF (s := S160) ((after (hostOps0_23 ++ hostOps0_24) VK) Cert.KernelIdeal.main_v969) ((after line12.1 VR) Cert.ReferenceIdeal.main_v969)
      ∧ AI (α := BitVec 32) (s := S_) ((after (hostOps0_23 ++ hostOps0_24) VK) Cert.KernelIdeal.main_c_101) ((after line12.1 VR) Cert.ReferenceIdeal.main_c_101) := by
  obtain ⟨o1057, o1065, o1098, o1100, o1102, o1103⟩ := line12_sim VK VR hA.a7 hA.a8 hA.a9 hA.a10 hA.a11 hA.a12 h863 h960 h993 h995 h997 h998
  refine ⟨hA.after (Above.mono kline12_above (by decide)) (Above.mono line12_above (by decide)), ?_, o1057, o1065, o1098, o1100, o1102, o1103⟩
  · rw [after_above kline12_above _ (by decide), after_above line12_above _ (by decide)]; exact h249

/-- The kernel's line 13 writes nothing before its own buffers. -/
theorem kline13_above : (hostOps0_25 ++ hostOps0_26 : List (HloOp Cert.KernelIdeal.τ Cert.KernelIdeal.sig (Elt Ideal))).Forall (Above 1104) := by
  rw [List.forall_append]; exact ⟨hostOps0_25_above, Above.mono hostOps0_26_above (by decide)⟩
/-- Line 13, with what later lines read. -/
theorem step13 (hA : Args VK VR) (h249 : AF (s := S16x1x2048) (VK Cert.KernelIdeal.main_v211) (VR Cert.ReferenceIdeal.main_v211)) (h1057 : AF (s := S16x80x2048) (VK Cert.KernelIdeal.main_v931) (VR Cert.ReferenceIdeal.main_v931)) (h1065 : AF (s := S16x1x2048) (VK Cert.KernelIdeal.main_v937) (VR Cert.ReferenceIdeal.main_v937)) (h1098 : AF (s := S16x80x2048) (VK Cert.KernelIdeal.main_v965) (VR Cert.ReferenceIdeal.main_v965)) (h1100 : AF (s := S160x80x5) (VK Cert.KernelIdeal.main_v967) (VR Cert.ReferenceIdeal.main_v967)) (h1102 : AF (s := S160) (VK Cert.KernelIdeal.main_v969) (VR Cert.ReferenceIdeal.main_v969)) (h1103 : AI (α := BitVec 32) (s := S_) (VK Cert.KernelIdeal.main_c_101) (VR Cert.ReferenceIdeal.main_c_101)) :
    Args (after (hostOps0_25 ++ hostOps0_26) VK) (after line13.1 VR)
      ∧ AF (s := S16x1x2048) ((after (hostOps0_25 ++ hostOps0_26) VK) Cert.KernelIdeal.main_v211) ((after line13.1 VR) Cert.ReferenceIdeal.main_v211)
      ∧ AF (s := S16x1x2048) ((after (hostOps0_25 ++ hostOps0_26) VK) Cert.KernelIdeal.main_v937) ((after line13.1 VR) Cert.ReferenceIdeal.main_v937)
      ∧ AF (s := S16x80x2048) ((after (hostOps0_25 ++ hostOps0_26) VK) Cert.KernelIdeal.main_v1024) ((after line13.1 VR) Cert.ReferenceIdeal.main_v1024)
      ∧ AF (s := S16x80x2048) ((after (hostOps0_25 ++ hostOps0_26) VK) Cert.KernelIdeal.main_v1052) ((after line13.1 VR) Cert.ReferenceIdeal.main_v1052)
      ∧ AF (s := S160x80x5) ((after (hostOps0_25 ++ hostOps0_26) VK) Cert.KernelIdeal.main_v1054) ((after line13.1 VR) Cert.ReferenceIdeal.main_v1054)
      ∧ AF (s := S160) ((after (hostOps0_25 ++ hostOps0_26) VK) Cert.KernelIdeal.main_v1056) ((after line13.1 VR) Cert.ReferenceIdeal.main_v1056)
      ∧ AI (α := BitVec 32) (s := S_) ((after (hostOps0_25 ++ hostOps0_26) VK) Cert.KernelIdeal.main_c_110) ((after line13.1 VR) Cert.ReferenceIdeal.main_c_110) := by
  obtain ⟨o1162, o1195, o1197, o1199, o1200⟩ := line13_sim VK VR hA.a7 hA.a8 hA.a9 hA.a10 hA.a11 hA.a12 h1057 h1065 h1098 h1100 h1102 h1103
  refine ⟨hA.after (Above.mono kline13_above (by decide)) (Above.mono line13_above (by decide)), ?_, ?_, o1162, o1195, o1197, o1199, o1200⟩
  · rw [after_above kline13_above _ (by decide), after_above line13_above _ (by decide)]; exact h249
  · rw [after_above kline13_above _ (by decide), after_above line13_above _ (by decide)]; exact h1065

/-- The kernel's line 14 writes nothing before its own buffers. -/
theorem kline14_above : (hostOps0_27 ++ hostOps0_28 : List (HloOp Cert.KernelIdeal.τ Cert.KernelIdeal.sig (Elt Ideal))).Forall (Above 1201) := by
  rw [List.forall_append]; exact ⟨hostOps0_27_above, Above.mono hostOps0_28_above (by decide)⟩
/-- Line 14, with what later lines read. -/
theorem step14 (hA : Args VK VR) (h249 : AF (s := S16x1x2048) (VK Cert.KernelIdeal.main_v211) (VR Cert.ReferenceIdeal.main_v211)) (h1065 : AF (s := S16x1x2048) (VK Cert.KernelIdeal.main_v937) (VR Cert.ReferenceIdeal.main_v937)) (h1162 : AF (s := S16x80x2048) (VK Cert.KernelIdeal.main_v1024) (VR Cert.ReferenceIdeal.main_v1024)) (h1195 : AF (s := S16x80x2048) (VK Cert.KernelIdeal.main_v1052) (VR Cert.ReferenceIdeal.main_v1052)) (h1197 : AF (s := S160x80x5) (VK Cert.KernelIdeal.main_v1054) (VR Cert.ReferenceIdeal.main_v1054)) (h1199 : AF (s := S160) (VK Cert.KernelIdeal.main_v1056) (VR Cert.ReferenceIdeal.main_v1056)) (h1200 : AI (α := BitVec 32) (s := S_) (VK Cert.KernelIdeal.main_c_110) (VR Cert.ReferenceIdeal.main_c_110)) :
    Args (after (hostOps0_27 ++ hostOps0_28) VK) (after line14.1 VR)
      ∧ AF (s := S16x1x2048) ((after (hostOps0_27 ++ hostOps0_28) VK) Cert.KernelIdeal.main_v211) ((after line14.1 VR) Cert.ReferenceIdeal.main_v211)
      ∧ AF (s := S16x80x2048) ((after (hostOps0_27 ++ hostOps0_28) VK) Cert.KernelIdeal.main_v1139) ((after line14.1 VR) Cert.ReferenceIdeal.main_v1139)
      ∧ AI (α := BitVec 32) (s := S_) ((after (hostOps0_27 ++ hostOps0_28) VK) Cert.KernelIdeal.main_c_119) ((after line14.1 VR) Cert.ReferenceIdeal.main_c_119) := by
  obtain ⟨o1292, o1293⟩ := line14_sim VK VR hA.a11 hA.a12 hA.a13 hA.a14 h249 h1065 h1162 h1195 h1197 h1199 h1200
  refine ⟨hA.after (Above.mono kline14_above (by decide)) (Above.mono line14_above (by decide)), ?_, o1292, o1293⟩
  · rw [after_above kline14_above _ (by decide), after_above line14_above _ (by decide)]; exact h249

/-- The kernel's line 15 writes nothing before its own buffers. -/
theorem kline15_above : (hostOps0_29 ++ hostOps0_30 : List (HloOp Cert.KernelIdeal.τ Cert.KernelIdeal.sig (Elt Ideal))).Forall (Above 1294) := by
  rw [List.forall_append]; exact ⟨hostOps0_29_above, Above.mono hostOps0_30_above (by decide)⟩
/-- Line 15, with what later lines read. -/
theorem step15 (hA : Args VK VR) (h249 : AF (s := S16x1x2048) (VK Cert.KernelIdeal.main_v211) (VR Cert.ReferenceIdeal.main_v211)) (h1292 : AF (s := S16x80x2048) (VK Cert.KernelIdeal.main_v1139) (VR Cert.ReferenceIdeal.main_v1139)) (h1293 : AI (α := BitVec 32) (s := S_) (VK Cert.KernelIdeal.main_c_119) (VR Cert.ReferenceIdeal.main_c_119)) :
    Args (after (hostOps0_29 ++ hostOps0_30) VK) (after line15.1 VR)
      ∧ AF (s := S16x2048x256) ((after (hostOps0_29 ++ hostOps0_30) VK) Cert.KernelIdeal.main_v1163) ((after line15.1 VR) Cert.ReferenceIdeal.main_v1163) := by
  obtain o1318 := line15_sim VK VR hA.a15 hA.a16 h249 h1292 h1293
  refine ⟨hA.after (Above.mono kline15_above (by decide)) (Above.mono line15_above (by decide)), o1318⟩

/-- The whole encoder of the kernel's program, line after line. -/
def encK (V : Valuation Cert.KernelIdeal.τ Cert.KernelIdeal.sig (Elt Ideal)) : Valuation Cert.KernelIdeal.τ Cert.KernelIdeal.sig (Elt Ideal) :=
  after (hostOps0_29 ++ hostOps0_30) <| after (hostOps0_27 ++ hostOps0_28) <| after (hostOps0_25 ++ hostOps0_26) <| after (hostOps0_23 ++ hostOps0_24) <| after (hostOps0_21 ++ hostOps0_22) <| after (hostOps0_19 ++ hostOps0_20) <| after (hostOps0_17 ++ hostOps0_18) <| after (hostOps0_15 ++ hostOps0_16) <| after (hostOps0_13 ++ hostOps0_14) <| after (hostOps0_11 ++ hostOps0_12) <| after (hostOps0_9 ++ hostOps0_10) <| after (hostOps0_7 ++ hostOps0_8) <| after (hostOps0_5 ++ hostOps0_6) <| after (hostOps0_3 ++ hostOps0_4) <| after (hostOps0_1 ++ hostOps0_2) <| after (hostOps0) V

/-- The whole encoder of the reference, line after line. -/
def encR (V : Valuation Cert.ReferenceIdeal.τ Cert.ReferenceIdeal.sig (Elt Ideal)) : Valuation Cert.ReferenceIdeal.τ Cert.ReferenceIdeal.sig (Elt Ideal) :=
  after line15.1 <| after line14.1 <| after line13.1 <| after line12.1 <| after line11.1 <| after line10.1 <| after line9.1 <| after line8.1 <| after line7.1 <| after line6.1 <| after line5.1 <| after line4.1 <| after line3.1 <| after line2.1 <| after line1.1 <| after line0.1 V

/-- What both programs hand to the quantiser: the arguments as launched and one real tensor. -/
theorem enc_sim (hA : Args VK VR) : Args (encK VK) (encR VR) ∧ AF (s := S16x2048x256) ((encK VK) Cert.KernelIdeal.main_v1163) ((encR VR) Cert.ReferenceIdeal.main_v1163) := by
  unfold encK encR
  obtain ⟨hA1, s1_25, s1_26, s1_28, s1_30, s1_32, s1_33⟩ := step0 hA
  obtain ⟨hA2, s2_25, s2_81, s2_83, s2_85, s2_87, s2_88⟩ := step1 hA1 s1_25 s1_26 s1_28 s1_30 s1_32 s1_33
  obtain ⟨hA3, s3_25, s3_136, s3_138, s3_140, s3_142, s3_143⟩ := step2 hA2 s2_25 s2_81 s2_83 s2_85 s2_87 s2_88
  obtain ⟨hA4, s4_25, s4_191, s4_193, s4_195, s4_197, s4_198⟩ := step3 hA3 s3_25 s3_136 s3_138 s3_140 s3_142 s3_143
  obtain ⟨hA5, s5_241, s5_249, s5_257, s5_290, s5_292, s5_294, s5_295⟩ := step4 hA4 s4_25 s4_191 s4_193 s4_195 s4_197 s4_198
  obtain ⟨hA6, s6_249, s6_257, s6_354, s6_387, s6_389, s6_391, s6_392⟩ := step5 hA5 s5_241 s5_249 s5_257 s5_290 s5_292 s5_294 s5_295
  obtain ⟨hA7, s7_249, s7_451, s7_459, s7_492, s7_494, s7_496, s7_497⟩ := step6 hA6 s6_249 s6_257 s6_354 s6_387 s6_389 s6_391 s6_392
  obtain ⟨hA8, s8_249, s8_459, s8_556, s8_589, s8_591, s8_593, s8_594⟩ := step7 hA7 s7_249 s7_451 s7_459 s7_492 s7_494 s7_496 s7_497
  obtain ⟨hA9, s9_249, s9_653, s9_661, s9_694, s9_696, s9_698, s9_699⟩ := step8 hA8 s8_249 s8_459 s8_556 s8_589 s8_591 s8_593 s8_594
  obtain ⟨hA10, s10_249, s10_661, s10_758, s10_791, s10_793, s10_795, s10_796⟩ := step9 hA9 s9_249 s9_653 s9_661 s9_694 s9_696 s9_698 s9_699
  obtain ⟨hA11, s11_249, s11_855, s11_863, s11_896, s11_898, s11_900, s11_901⟩ := step10 hA10 s10_249 s10_661 s10_758 s10_791 s10_793 s10_795 s10_796
  obtain ⟨hA12, s12_249, s12_863, s12_960, s12_993, s12_995, s12_997, s12_998⟩ := step11 hA11 s11_249 s11_855 s11_863 s11_896 s11_898 s11_900 s11_901
  obtain ⟨hA13, s13_249, s13_1057, s13_1065, s13_1098, s13_1100, s13_1102, s13_1103⟩ := step12 hA12 s12_249 s12_863 s12_960 s12_993 s12_995 s12_997 s12_998
  obtain ⟨hA14, s14_249, s14_1065, s14_1162, s14_1195, s14_1197, s14_1199, s14_1200⟩ := step13 hA13 s13_249 s13_1057 s13_1065 s13_1098 s13_1100 s13_1102 s13_1103
  obtain ⟨hA15, s15_249, s15_1292, s15_1293⟩ := step14 hA14 s14_249 s14_1065 s14_1162 s14_1195 s14_1197 s14_1199 s14_1200
  obtain ⟨hA16, s16_1318⟩ := step15 hA15 s15_249 s15_1292 s15_1293
  exact ⟨hA16, s16_1318⟩

end Cert.Enc
-- ==== Proof.Books.lean ====
/- What the region is given: the encoder's rows, and the codebook four ways. -/
module

public import proofs.«01_k».proof.Proof.KVal
public import proofs.«01_k».proof.Proof.Enc

@[expose] public section

set_option maxRecDepth 16384

noncomputable section

namespace Cert.Books

open Idealize.ShloMosaic Cert.KernelIdeal Cert.KernelIdeal.Gen Idealize.ShloMosaic.Pointwise Idealize.ShloMosaic.TcCoe Idealize.ShloMosaic.StableHlo
open Cert.KernelIdeal.Around Cert.KVal Cert.Rel

section
variable (W : Valuation Cert.KernelIdeal.τ Cert.KernelIdeal.sig (Elt Ideal))

theorem book1 (d : Fin 256) (k : Fin 128) : (after (hostOps0_29 ++ hostOps0_30) W main_v1164 : S256x128.Idx → EReal) (ix2 d k) = (W main_arg17 : S128x256.Idx → EReal) (ix2 k d) := by
  after_reads_simp
  pointwise
theorem book2 (k : Fin 128) (d : Fin 256) : (after (hostOps0_29 ++ hostOps0_30) W main_v1165 : S128x256.Idx → EReal) (ix2 k d) = (W main_arg17 : S128x256.Idx → EReal) (ix2 k d) := by
  after_reads_simp
  pointwise
/-- An entry of the codebook. -/
abbrev ent (k : Fin 128) (d : Fin 256) : EReal := (W main_arg17 : S128x256.Idx → EReal) (ix2 k d)
theorem book3 (k : Fin 128) (d : Fin 256) : (after (hostOps0_29 ++ hostOps0_30) W main_v1168 : S128x256.Idx → EReal) (ix2 k d) = ent W k d - ent W k d := by
  after_reads_simp
  pointwise
theorem book4 (k : Fin 128) (d : Fin 256) : (after (hostOps0_29 ++ hostOps0_30) W main_v1171 : S128x256.Idx → EReal) (ix2 k d) = ent W k d - ent W k d - (ent W k d - ent W k d) := by
  after_reads_simp
  pointwise
end

theorem sub_self_real {x : EReal} (h : Is anyR x) : x - x = 0 := by
  obtain ⟨a, -, rfl⟩ := h
  rw [← EReal.coe_sub, sub_self, EReal.coe_zero]

variable (m : (ℓ : Loc nD Cert.KernelIdeal.τ Cert.KernelIdeal.sig) → Buf (Elt Ideal) ℓ) (c : Dev nD)

/-- The region finds the encoder's contents. -/
theorem V0_eq : V0 m c = Enc.encK (launchContents m c) := by
  unfold Enc.encK V0 launchContents
  simp only [List.flatten_cons, List.flatten_nil, List.append_nil, Base.after_append]

/-- A real codebook is given in full by its first part; the two remainders are zero. -/
theorem books (h : ∀ i, Is anyR ((m ((c : Thread nD Cert.KernelIdeal.τ).loc main_arg17) : S128x256.Idx → EReal) i)) :
    KVal.Books m c fun k d => (m ((c : Thread nD Cert.KernelIdeal.τ).loc main_arg17) : S128x256.Idx → EReal) (ix2 k d) := by
  obtain ⟨W, hW⟩ : ∃ W, V0 m c = after (hostOps0_29 ++ hostOps0_30) W := ⟨_, V0_eq m c⟩
  have ha : (hostOps0_29 ++ hostOps0_30 : List (HloOp Cert.KernelIdeal.τ Cert.KernelIdeal.sig (Elt Ideal))).Forall (Base.Above 18) := by
    rw [List.forall_append]
    exact ⟨Base.Above.mono hostOps0_29_above (by decide), Base.Above.mono hostOps0_30_above (by decide)⟩
  have e : W main_arg17 = m ((c : Thread nD Cert.KernelIdeal.τ).loc main_arg17) := by
    rw [← Base.after_above ha W (b := main_arg17) (by decide), ← hW]
    exact V_arg m c (by decide)
  have hs : ∀ k d, ent W k d - ent W k d = 0 := fun k d => sub_self_real (by unfold ent; rw [e]; exact h _)
  refine ⟨fun d k => ?_, fun k d => ?_, fun k d => ?_, fun k d => ?_⟩
  · unfold V; rw [hW, book1, e]
  · unfold V; rw [hW, book2, e]
  · unfold V; rw [hW, book3, hs]
  · unfold V; rw [hW, book4, hs, sub_zero]

end Cert.Books

end
-- ==== Proof.PreReal.lean ====
/- What the precondition says of an argument: its elements are real numbers. -/
module

public import proofs.«01_k».proof.Pre_finite
public import proofs.«01_k».proof.Proof.Rel
public import Idealize.ShloMosaic.Lib.Pointwise

@[expose] public section

noncomputable section

namespace Cert.PreReal

open Idealize.ShloMosaic Cert.Rel

/-- An extended real whose absolute value is below the infinite one is real. -/
theorem real_of_lt {x : EReal} (h : Ideal.cmp .olt (max x (-x)) (Ideal.ofBits .f32 0x7F800000#32) = 1#1) : Is anyR x := by
  have ht : Ideal.ofBits .f32 0x7F800000#32 = (⊤ : EReal) := by simp [Ideal.ofBits, Ideal.ieee]
  rw [ht] at h
  induction x with
  | bot => exact absurd h (by simp [Ideal.cmp])
  | top => exact absurd h (by simp [Ideal.cmp])
  | coe r => exact ⟨r, trivial, rfl⟩

theorem real {s : Shape} (x : FVec Ideal s .f32) (hb : Cert.Pre_finite.S_.BroadcastsInDim s ![])
    (h : cmpf .olt (Host.absf x) (broadcastInDim s ![] hb (constant Cert.Pre_finite.S_ .f32 0x7F800000#32)) = fun _ => 1#1) (i : s.Idx) : Is anyR (x i) :=
  real_of_lt (congrFun h i)

end Cert.PreReal

end
-- ==== Proof.Agree.lean ====
/- The two programs' results agree: the final statement of the value claim. -/
module

public import proofs.«01_k».proof.Defs
public import proofs.«01_k».proof.Proof.RRes
public import proofs.«01_k».proof.Proof.KRes
public import proofs.«01_k».proof.Proof.Books
public import proofs.«01_k».proof.Proof.PreReal
public import proofs.«01_k».proof.Proof.PreFacts

@[expose] public section

set_option maxRecDepth 16384

noncomputable section

namespace Cert.Agree

open Idealize.ShloMosaic Idealize.ShloMosaic.Pointwise Idealize.ShloMosaic.TcCoe Idealize.ShloMosaic.StableHlo Idealize.SL.Sem
open Cert.Rel Cert.PreReal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two launches hold the same arguments on device `c`. -/
abbrev Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

/-- The two launches' arguments agree and are real. -/
theorem args (hp : Cert.Pre_KernelIdeal_finite (hPre_finite := Cert.Pre_finite.Own.facts) m) (c : Dev Cert.KernelIdeal.nD) (h : Same m m' c) :
    Enc.Args (launchContents m c) (launchContents m' c) := by
  have p := hp c
  exact ⟨⟨h.1.symm, real _ _ p.1⟩,
    ⟨h.2.1.symm, real _ _ p.2.1⟩,
    ⟨h.2.2.1.symm, real _ _ p.2.2.1⟩,
    ⟨h.2.2.2.1.symm, real _ _ p.2.2.2.1⟩,
    ⟨h.2.2.2.2.1.symm, real _ _ p.2.2.2.2.1⟩,
    ⟨h.2.2.2.2.2.1.symm, real _ _ p.2.2.2.2.2.1⟩,
    ⟨h.2.2.2.2.2.2.1.symm, real _ _ p.2.2.2.2.2.2.1⟩,
    ⟨h.2.2.2.2.2.2.2.1.symm, real _ _ p.2.2.2.2.2.2.2.1⟩,
    ⟨h.2.2.2.2.2.2.2.2.1.symm, real _ _ p.2.2.2.2.2.2.2.2.1⟩,
    ⟨h.2.2.2.2.2.2.2.2.2.1.symm, real _ _ p.2.2.2.2.2.2.2.2.2.1⟩,
    ⟨h.2.2.2.2.2.2.2.2.2.2.1.symm, real _ _ p.2.2.2.2.2.2.2.2.2.2.1⟩,
    ⟨h.2.2.2.2.2.2.2.2.2.2.2.1.symm, real _ _ p.2.2.2.2.2.2.2.2.2.2.2.1⟩,
    ⟨h.2.2.2.2.2.2.2.2.2.2.2.2.1.symm, real _ _ p.2.2.2.2.2.2.2.2.2.2.2.2.1⟩,
    ⟨h.2.2.2.2.2.2.2.2.2.2.2.2.2.1.symm, real _ _ p.2.2.2.2.2.2.2.2.2.2.2.2.2.1⟩,
    ⟨h.2.2.2.2.2.2.2.2.2.2.2.2.2.2.1.symm, real _ _ p.2.2.2.2.2.2.2.2.2.2.2.2.2.2.1⟩,
    ⟨h.2.2.2.2.2.2.2.2.2.2.2.2.2.2.2.1.symm, real _ _ p.2.2.2.2.2.2.2.2.2.2.2.2.2.2.2.1⟩,
    ⟨h.2.2.2.2.2.2.2.2.2.2.2.2.2.2.2.2.1.symm, real _ _ p.2.2.2.2.2.2.2.2.2.2.2.2.2.2.2.2.1⟩,
    ⟨h.2.2.2.2.2.2.2.2.2.2.2.2.2.2.2.2.2.symm, real _ _ p.2.2.2.2.2.2.2.2.2.2.2.2.2.2.2.2.2⟩⟩

section
variable (c : Dev Cert.KernelIdeal.nD) (hA : Enc.Args (launchContents m c) (launchContents m' c))

/-- What the reference's last line finds. -/
abbrev WR : Valuation Cert.ReferenceIdeal.τ Cert.ReferenceIdeal.sig (Elt Ideal) := Enc.encR (launchContents m' c)

theorem ref_after : after (List.flatten Cert.ReferenceIdeal.Lines.lines) (launchContents m' c) = after Cert.ReferenceIdeal.Lines.line16.1 (WR m' c) := by
  unfold WR Enc.encR Cert.ReferenceIdeal.Lines.lines
  simp only [List.flatten_cons, List.flatten_nil, List.append_nil, Base.after_append]

/-- The codebook as launched. -/
abbrev C : Fin 128 → Fin 256 → EReal := fun k d => (m ((c.tc : Thread Cert.KernelIdeal.nD Cert.KernelIdeal.τ).loc Cert.KernelIdeal.main_arg17) : Cert.KernelIdeal.S128x256.Idx → EReal) (ix2 k d)

include hA

theorem books : KVal.Books m c (C m c) := Books.books m c hA.a17.2

theorem C_eq : RTail.C (WR m' c) = C m c := by
  have e := (Enc.enc_sim hA).1.a17.1
  have e' : Enc.encK (launchContents m c) Cert.KernelIdeal.main_arg17 = m ((c.tc : Thread Cert.KernelIdeal.nD Cert.KernelIdeal.τ).loc Cert.KernelIdeal.main_arg17) := by
    rw [← Books.V0_eq]; exact Cert.KernelIdeal.Around.V_arg m c (by decide)
  funext k d
  exact (congrFun (e.symm.trans e') (ix2 k d))

theorem X_eq : RTail.X (WR m' c) = KVal.X m c := by
  have e := (Enc.enc_sim hA).2.1
  funext b t d
  refine (congrFun e (ix3 b t d)).symm.trans ?_
  rw [← Books.V0_eq]

theorem X_real (b t d) : Is anyR (KVal.X m c b t d) := by
  have e := (Enc.enc_sim hA).2.2 (ix3 b t d)
  rw [← Books.V0_eq] at e
  exact e

/-- The quantised rows agree. -/
theorem z_agree : (after (List.flatten Cert.ReferenceIdeal.Lines.lines) (launchContents m' c) Cert.ReferenceIdeal.main_v1199 : Cert.ReferenceIdeal.S16x2048x256.Idx → EReal)
    = ((Cert.KernelIdeal.Around.dats m 0 c).arrAt 5 Cert.KernelIdeal.cfg0.N : Cert.KernelIdeal.S16x2048x256.Idx → EReal) := by
  rw [ref_after, KVal.arr5 m c (books m m' c hA)]
  funext i
  obtain ⟨b, t, d, rfl⟩ : ∃ (b : Fin 16) (t : Fin 2048) (d : Fin 256), i = ix3 b t d := ⟨i 0, i 1, i 2, ValueIdx.eq_ix3 i⟩
  refine (RTail.z_eq _ b t d).trans ?_
  rw [C_eq m m' c hA, X_eq m m' c hA]
  exact Quant.add_sub_self (X_real m m' c hA b t d) (hA.a17.2 _)

/-- The losses agree. -/
theorem loss_agree : (after (List.flatten Cert.ReferenceIdeal.Lines.lines) (launchContents m' c) Cert.ReferenceIdeal.main_v1197 : Cert.ReferenceIdeal.S_.Idx → EReal)
    = Pipeline.afterTail₀ Cert.KernelIdeal.cfgs (Cert.KernelIdeal.Around.dats m) 0 (Cert.KernelIdeal.Around.V0 m) [Cert.KernelIdeal.Gen.hostOps1] c Cert.KernelIdeal.main_v1180 := by
  rw [ref_after]
  funext i
  obtain rfl : i = ix0 := funext fun a => a.elim0
  refine (RTail.loss_eq _).trans ?_
  rw [C_eq m m' c hA, X_eq m m' c hA]
  exact (KRes.loss_eq m c (books m m' c hA)).symm

/-- The perplexities agree. -/
theorem ppl_agree : (after (List.flatten Cert.ReferenceIdeal.Lines.lines) (launchContents m' c) Cert.ReferenceIdeal.main_v1209 : Cert.ReferenceIdeal.S_.Idx → EReal)
    = Pipeline.afterTail₀ Cert.KernelIdeal.cfgs (Cert.KernelIdeal.Around.dats m) 0 (Cert.KernelIdeal.Around.V0 m) [Cert.KernelIdeal.Gen.hostOps1] c Cert.KernelIdeal.main_v1191 := by
  rw [ref_after]
  funext i
  obtain rfl : i = ix0 := funext fun a => a.elim0
  refine (RTail.ppl_eq _).trans ?_
  rw [C_eq m m' c hA, X_eq m m' c hA]
  exact (KRes.ppl_eq m c (books m m' c hA)).symm

end

/-- The value claim. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Own.facts) := by
  intro m g m' g' hp hs
  refine ⟨fun c => (Cert.KernelIdeal.Around.dats m 0 c).arrAt 5 Cert.KernelIdeal.cfg0.N,
    fun c => Pipeline.afterTail₀ Cert.KernelIdeal.cfgs (Cert.KernelIdeal.Around.dats m) 0 (Cert.KernelIdeal.Around.V0 m) [Cert.KernelIdeal.Gen.hostOps1] c Cert.KernelIdeal.main_v1180,
    fun c => Pipeline.afterTail₀ Cert.KernelIdeal.cfgs (Cert.KernelIdeal.Around.dats m) 0 (Cert.KernelIdeal.Around.V0 m) [Cert.KernelIdeal.Gen.hostOps1] c Cert.KernelIdeal.main_v1191, ?_, ?_⟩
  · refine (θ_run _ _ _).mono (fun r h c => ?_) (Cert.KernelIdeal.Around.run_main m g)
    exact ⟨(h c).1 5, (h c).2 Cert.KernelIdeal.main_v1180 (Pipeline.mem_restRefs_of Cert.KernelIdeal.main_v1180 (by decide) (by decide)),
      (h c).2 Cert.KernelIdeal.main_v1191 (Pipeline.mem_restRefs_of Cert.KernelIdeal.main_v1191 (by decide) (by decide)),
      Cert.KernelIdeal.Around.kept_of m (Cert.KernelIdeal.Around.dats m) h c⟩
  · refine (θ_run _ _ _).mono (fun r h c => ?_) (Cert.ReferenceIdeal.Lines.run m' g')
    have hA := args m m' hp c (hs c)
    exact ⟨(h c Cert.ReferenceIdeal.main_v1199).trans (z_agree m m' c hA), (h c Cert.ReferenceIdeal.main_v1197).trans (loss_agree m m' c hA),
      (h c Cert.ReferenceIdeal.main_v1209).trans (ppl_agree m m' c hA), (h c Cert.ReferenceIdeal.main_arg0).trans (Cert.ReferenceIdeal.Lines.arg_kept m' c (by decide)), (h c Cert.ReferenceIdeal.main_arg1).trans (Cert.ReferenceIdeal.Lines.arg_kept m' c (by decide)), (h c Cert.ReferenceIdeal.main_arg2).trans (Cert.ReferenceIdeal.Lines.arg_kept m' c (by decide)), (h c Cert.ReferenceIdeal.main_arg3).trans (Cert.ReferenceIdeal.Lines.arg_kept m' c (by decide)), (h c Cert.ReferenceIdeal.main_arg4).trans (Cert.ReferenceIdeal.Lines.arg_kept m' c (by decide)), (h c Cert.ReferenceIdeal.main_arg5).trans (Cert.ReferenceIdeal.Lines.arg_kept m' c (by decide)), (h c Cert.ReferenceIdeal.main_arg6).trans (Cert.ReferenceIdeal.Lines.arg_kept m' c (by decide)), (h c Cert.ReferenceIdeal.main_arg7).trans (Cert.ReferenceIdeal.Lines.arg_kept m' c (by decide)), (h c Cert.ReferenceIdeal.main_arg8).trans (Cert.ReferenceIdeal.Lines.arg_kept m' c (by decide)), (h c Cert.ReferenceIdeal.main_arg9).trans (Cert.ReferenceIdeal.Lines.arg_kept m' c (by decide)), (h c Cert.ReferenceIdeal.main_arg10).trans (Cert.ReferenceIdeal.Lines.arg_kept m' c (by decide)), (h c Cert.ReferenceIdeal.main_arg11).trans (Cert.ReferenceIdeal.Lines.arg_kept m' c (by decide)), (h c Cert.ReferenceIdeal.main_arg12).trans (Cert.ReferenceIdeal.Lines.arg_kept m' c (by decide)), (h c Cert.ReferenceIdeal.main_arg13).trans (Cert.ReferenceIdeal.Lines.arg_kept m' c (by decide)), (h c Cert.ReferenceIdeal.main_arg14).trans (Cert.ReferenceIdeal.Lines.arg_kept m' c (by decide)), (h c Cert.ReferenceIdeal.main_arg15).trans (Cert.ReferenceIdeal.Lines.arg_kept m' c (by decide)), (h c Cert.ReferenceIdeal.main_arg16).trans (Cert.ReferenceIdeal.Lines.arg_kept m' c (by decide)), (h c Cert.ReferenceIdeal.main_arg17).trans (Cert.ReferenceIdeal.Lines.arg_kept m' c (by decide))⟩

end Cert.Agree

end
-- ==== Proof.lean ====
module

public import proofs.«01_k».proof.Defs
public import proofs.«01_k».proof.Proof.KFrame
public import proofs.«01_k».proof.Proof.KIFrame
public import proofs.«01_k».proof.Proof.RLines
public import proofs.«01_k».proof.Proof.PreFacts
public import proofs.«01_k».proof.Proof.Agree
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Own.facts,
    fun m ρ _ => Cert.Kernel.Around.frame m ρ, fun m ρ _ => Cert.KernelIdeal.Around.frame m ρ, fun m ρ _ => Cert.KernelIdeal.Around.frame m ρ,
    fun m ρ _ => Cert.ReferenceIdeal.Lines.frame m ρ, fun m ρ _ => Cert.ReferenceIdeal.Lines.frame m ρ, trivial, Cert.Agree.algebraic⟩

end Cert.Proof

end
